-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_SsmDw (m : (ℓ : Loc Cert.SsmDw.nD Cert.SsmDw.τ Cert.SsmDw.sig) → Buf (Elt Bits) ℓ) : Prop :=
  True

def Pre_SsmDwIdeal (m : (ℓ : Loc Cert.SsmDwIdeal.nD Cert.SsmDwIdeal.τ Cert.SsmDwIdeal.sig) → Buf (Elt Ideal) ℓ) : Prop :=
  True

def Pre_SsmDwRefIdeal (m : (ℓ : Loc Cert.SsmDwRefIdeal.nD Cert.SsmDwRefIdeal.τ Cert.SsmDwRefIdeal.sig) → Buf (Elt Ideal) ℓ) : Prop :=
  True

def Pre_SsmDx (m : (ℓ : Loc Cert.SsmDx.nD Cert.SsmDx.τ Cert.SsmDx.sig) → Buf (Elt Bits) ℓ) : Prop :=
  True

def Pre_SsmDxIdeal (m : (ℓ : Loc Cert.SsmDxIdeal.nD Cert.SsmDxIdeal.τ Cert.SsmDxIdeal.sig) → Buf (Elt Ideal) ℓ) : Prop :=
  True

def Pre_SsmDxRefIdeal (m : (ℓ : Loc Cert.SsmDxRefIdeal.nD Cert.SsmDxRefIdeal.τ Cert.SsmDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qk [hPre_finite_qk : Cert.Pre_finite_qk.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qk [hPre_finite_qk : Cert.Pre_finite_qk.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxRefIdeal (m : (ℓ : Loc Cert.UqDxRefIdeal.nD Cert.UqDxRefIdeal.τ Cert.UqDxRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxRefIdeal (m : (ℓ : Loc Cert.UkvDxRefIdeal.nD Cert.UkvDxRefIdeal.τ Cert.UkvDxRefIdeal.sig) → Buf (Elt Ideal) ℓ) : Prop :=
  True

def Pre_MlaDx (m : (ℓ : Loc Cert.MlaDx.nD Cert.MlaDx.τ Cert.MlaDx.sig) → Buf (Elt Bits) ℓ) : Prop :=
  True

def Pre_MlaDxIdeal (m : (ℓ : Loc Cert.MlaDxIdeal.nD Cert.MlaDxIdeal.τ Cert.MlaDxIdeal.sig) → Buf (Elt Ideal) ℓ) : Prop :=
  True

def Pre_MlaDxRefIdeal (m : (ℓ : Loc Cert.MlaDxRefIdeal.nD Cert.MlaDxRefIdeal.τ Cert.MlaDxRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PleDw (m : (ℓ : Loc Cert.PleDw.nD Cert.PleDw.τ Cert.PleDw.sig) → Buf (Elt Bits) ℓ) : Prop :=
  True

def Pre_PleDwIdeal (m : (ℓ : Loc Cert.PleDwIdeal.nD Cert.PleDwIdeal.τ Cert.PleDwIdeal.sig) → Buf (Elt Ideal) ℓ) : Prop :=
  True

def Pre_PleDwRefIdeal (m : (ℓ : Loc Cert.PleDwRefIdeal.nD Cert.PleDwRefIdeal.τ Cert.PleDwRefIdeal.sig) → Buf (Elt Ideal) ℓ) : Prop :=
  True

def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_ReluBwd (m : (ℓ : Loc Cert.ReluBwd.nD Cert.ReluBwd.τ Cert.ReluBwd.sig) → Buf (Elt Bits) ℓ) : Prop :=
  True

def Pre_ReluBwdIdeal (m : (ℓ : Loc Cert.ReluBwdIdeal.nD Cert.ReluBwdIdeal.τ Cert.ReluBwdIdeal.sig) → Buf (Elt Ideal) ℓ) : Prop :=
  True

def Pre_ReluBwdRefIdeal (m : (ℓ : Loc Cert.ReluBwdRefIdeal.nD Cert.ReluBwdRefIdeal.τ Cert.ReluBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_PleMerge (m : (ℓ : Loc Cert.PleMerge.nD Cert.PleMerge.τ Cert.PleMerge.sig) → Buf (Elt Bits) ℓ) : Prop :=
  True

def Pre_PleMergeIdeal (m : (ℓ : Loc Cert.PleMergeIdeal.nD Cert.PleMergeIdeal.τ Cert.PleMergeIdeal.sig) → Buf (Elt Ideal) ℓ) : Prop :=
  True

def Pre_PleMergeRefIdeal (m : (ℓ : Loc Cert.PleMergeRefIdeal.nD Cert.PleMergeRefIdeal.τ Cert.PleMergeRefIdeal.sig) → Buf (Elt Ideal) ℓ) : Prop :=
  True

def Pre_PleMergeBwd (m : (ℓ : Loc Cert.PleMergeBwd.nD Cert.PleMergeBwd.τ Cert.PleMergeBwd.sig) → Buf (Elt Bits) ℓ) : Prop :=
  True

def Pre_PleMergeBwdIdeal (m : (ℓ : Loc Cert.PleMergeBwdIdeal.nD Cert.PleMergeBwdIdeal.τ Cert.PleMergeBwdIdeal.sig) → Buf (Elt Ideal) ℓ) : Prop :=
  True

def Pre_PleMergeBwdRefIdeal (m : (ℓ : Loc Cert.PleMergeBwdRefIdeal.nD Cert.PleMergeBwdRefIdeal.τ Cert.PleMergeBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def Pre_LatentBwd (m : (ℓ : Loc Cert.LatentBwd.nD Cert.LatentBwd.τ Cert.LatentBwd.sig) → Buf (Elt Bits) ℓ) : Prop :=
  True

def Pre_LatentBwdIdeal (m : (ℓ : Loc Cert.LatentBwdIdeal.nD Cert.LatentBwdIdeal.τ Cert.LatentBwdIdeal.sig) → Buf (Elt Ideal) ℓ) : Prop :=
  True

def Pre_LatentBwdRefIdeal (m : (ℓ : Loc Cert.LatentBwdRefIdeal.nD Cert.LatentBwdRefIdeal.τ Cert.LatentBwdRefIdeal.sig) → Buf (Elt Ideal) ℓ) : Prop :=
  True

def Pre_GatedNorm (m : (ℓ : Loc Cert.GatedNorm.nD Cert.GatedNorm.τ Cert.GatedNorm.sig) → Buf (Elt Bits) ℓ) : Prop :=
  True

def Pre_GatedNormIdeal (m : (ℓ : Loc Cert.GatedNormIdeal.nD Cert.GatedNormIdeal.τ Cert.GatedNormIdeal.sig) → Buf (Elt Ideal) ℓ) : Prop :=
  True

def Pre_GatedNormRefIdeal (m : (ℓ : Loc Cert.GatedNormRefIdeal.nD Cert.GatedNormRefIdeal.τ Cert.GatedNormRefIdeal.sig) → Buf (Elt Ideal) ℓ) : Prop :=
  True

def Pre_GatedNormBwd (m : (ℓ : Loc Cert.GatedNormBwd.nD Cert.GatedNormBwd.τ Cert.GatedNormBwd.sig) → Buf (Elt Bits) ℓ) : Prop :=
  True

def Pre_GatedNormBwdIdeal (m : (ℓ : Loc Cert.GatedNormBwdIdeal.nD Cert.GatedNormBwdIdeal.τ Cert.GatedNormBwdIdeal.sig) → Buf (Elt Ideal) ℓ) : Prop :=
  True

def Pre_GatedNormBwdRefIdeal (m : (ℓ : Loc Cert.GatedNormBwdRefIdeal.nD Cert.GatedNormBwdRefIdeal.τ Cert.GatedNormBwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtRefIdeal (m : (ℓ : Loc Cert.DtRefIdeal.nD Cert.DtRefIdeal.τ Cert.DtRefIdeal.sig) → Buf (Elt Ideal) ℓ) : Prop :=
  True

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormRefIdeal (m : (ℓ : Loc Cert.QNormRefIdeal.nD Cert.QNormRefIdeal.τ Cert.QNormRefIdeal.sig) → Buf (Elt Ideal) ℓ) : Prop :=
  True

def Pre_KNorm (m : (ℓ : Loc Cert.KNorm.nD Cert.KNorm.τ Cert.KNorm.sig) → Buf (Elt Bits) ℓ) : Prop :=
  True

def Pre_KNormIdeal (m : (ℓ : Loc Cert.KNormIdeal.nD Cert.KNormIdeal.τ Cert.KNormIdeal.sig) → Buf (Elt Ideal) ℓ) : Prop :=
  True

def Pre_KNormRefIdeal (m : (ℓ : Loc Cert.KNormRefIdeal.nD Cert.KNormRefIdeal.τ Cert.KNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_SsmDw [hSsmDw : Cert.SsmDw.Facts] : Prop :=
  ∀ (m : (ℓ : Loc Cert.SsmDw.nD Cert.SsmDw.τ Cert.SsmDw.sig) → Buf (Elt Bits) ℓ) (g : Dev Cert.SsmDw.nD → PrngReg), Pre_SsmDw m →
    θ_run (Cert.SsmDw.defs (F := Bits)) (onTc (τ := Cert.SsmDw.τ) (Cert.SsmDw.main (F := Bits))) ⟨m, fun _ => 0, g⟩ (fun r => (∀ c : Dev Cert.SsmDw.nD,
      r.2.mem ((c.tc : Thread Cert.SsmDw.nD Cert.SsmDw.τ).loc Cert.SsmDw.main_arg0) = m ((c.tc : Thread Cert.SsmDw.nD Cert.SsmDw.τ).loc Cert.SsmDw.main_arg0)
      ∧ r.2.mem ((c.tc : Thread Cert.SsmDw.nD Cert.SsmDw.τ).loc Cert.SsmDw.main_arg1) = m ((c.tc : Thread Cert.SsmDw.nD Cert.SsmDw.τ).loc Cert.SsmDw.main_arg1))
      ∧ r.2.sem = fun _ => 0)

def quiescent_SsmDwIdeal [hSsmDwIdeal : Cert.SsmDwIdeal.Facts] : Prop :=
  ∀ (m : (ℓ : Loc Cert.SsmDwIdeal.nD Cert.SsmDwIdeal.τ Cert.SsmDwIdeal.sig) → Buf (Elt Ideal) ℓ) (g : Dev Cert.SsmDwIdeal.nD → PrngReg), Pre_SsmDwIdeal m →
    θ_run (Cert.SsmDwIdeal.defs (F := Ideal)) (onTc (τ := Cert.SsmDwIdeal.τ) (Cert.SsmDwIdeal.main (F := Ideal))) ⟨m, fun _ => 0, g⟩ (fun r => (∀ c : Dev Cert.SsmDwIdeal.nD,
      r.2.mem ((c.tc : Thread Cert.SsmDwIdeal.nD Cert.SsmDwIdeal.τ).loc Cert.SsmDwIdeal.main_arg0) = m ((c.tc : Thread Cert.SsmDwIdeal.nD Cert.SsmDwIdeal.τ).loc Cert.SsmDwIdeal.main_arg0)
      ∧ r.2.mem ((c.tc : Thread Cert.SsmDwIdeal.nD Cert.SsmDwIdeal.τ).loc Cert.SsmDwIdeal.main_arg1) = m ((c.tc : Thread Cert.SsmDwIdeal.nD Cert.SsmDwIdeal.τ).loc Cert.SsmDwIdeal.main_arg1))
      ∧ r.2.sem = fun _ => 0)

def quiescent_SsmDwRefIdeal [hSsmDwRefIdeal : Cert.SsmDwRefIdeal.Facts] : Prop :=
  ∀ (m : (ℓ : Loc Cert.SsmDwRefIdeal.nD Cert.SsmDwRefIdeal.τ Cert.SsmDwRefIdeal.sig) → Buf (Elt Ideal) ℓ) (g : Dev Cert.SsmDwRefIdeal.nD → PrngReg), Pre_SsmDwRefIdeal m →
    θ_run (Cert.SsmDwRefIdeal.defs (F := Ideal)) (onTc (τ := Cert.SsmDwRefIdeal.τ) (Cert.SsmDwRefIdeal.main (F := Ideal))) ⟨m, fun _ => 0, g⟩ (fun r => (∀ c : Dev Cert.SsmDwRefIdeal.nD,
      r.2.mem ((c.tc : Thread Cert.SsmDwRefIdeal.nD Cert.SsmDwRefIdeal.τ).loc Cert.SsmDwRefIdeal.main_arg0) = m ((c.tc : Thread Cert.SsmDwRefIdeal.nD Cert.SsmDwRefIdeal.τ).loc Cert.SsmDwRefIdeal.main_arg0)
      ∧ r.2.mem ((c.tc : Thread Cert.SsmDwRefIdeal.nD Cert.SsmDwRefIdeal.τ).loc Cert.SsmDwRefIdeal.main_arg1) = m ((c.tc : Thread Cert.SsmDwRefIdeal.nD Cert.SsmDwRefIdeal.τ).loc Cert.SsmDwRefIdeal.main_arg1))
      ∧ r.2.sem = fun _ => 0)

def quiescent_SsmDx [hSsmDx : Cert.SsmDx.Facts] : Prop :=
  ∀ (m : (ℓ : Loc Cert.SsmDx.nD Cert.SsmDx.τ Cert.SsmDx.sig) → Buf (Elt Bits) ℓ) (g : Dev Cert.SsmDx.nD → PrngReg), Pre_SsmDx m →
    θ_run (Cert.SsmDx.defs (F := Bits)) (onTc (τ := Cert.SsmDx.τ) (Cert.SsmDx.main (F := Bits))) ⟨m, fun _ => 0, g⟩ (fun r => (∀ c : Dev Cert.SsmDx.nD,
      r.2.mem ((c.tc : Thread Cert.SsmDx.nD Cert.SsmDx.τ).loc Cert.SsmDx.main_arg0) = m ((c.tc : Thread Cert.SsmDx.nD Cert.SsmDx.τ).loc Cert.SsmDx.main_arg0)
      ∧ r.2.mem ((c.tc : Thread Cert.SsmDx.nD Cert.SsmDx.τ).loc Cert.SsmDx.main_arg1) = m ((c.tc : Thread Cert.SsmDx.nD Cert.SsmDx.τ).loc Cert.SsmDx.main_arg1))
      ∧ r.2.sem = fun _ => 0)

def quiescent_SsmDxIdeal [hSsmDxIdeal : Cert.SsmDxIdeal.Facts] : Prop :=
  ∀ (m : (ℓ : Loc Cert.SsmDxIdeal.nD Cert.SsmDxIdeal.τ Cert.SsmDxIdeal.sig) → Buf (Elt Ideal) ℓ) (g : Dev Cert.SsmDxIdeal.nD → PrngReg), Pre_SsmDxIdeal m →
    θ_run (Cert.SsmDxIdeal.defs (F := Ideal)) (onTc (τ := Cert.SsmDxIdeal.τ) (Cert.SsmDxIdeal.main (F := Ideal))) ⟨m, fun _ => 0, g⟩ (fun r => (∀ c : Dev Cert.SsmDxIdeal.nD,
      r.2.mem ((c.tc : Thread Cert.SsmDxIdeal.nD Cert.SsmDxIdeal.τ).loc Cert.SsmDxIdeal.main_arg0) = m ((c.tc : Thread Cert.SsmDxIdeal.nD Cert.SsmDxIdeal.τ).loc Cert.SsmDxIdeal.main_arg0)
      ∧ r.2.mem ((c.tc : Thread Cert.SsmDxIdeal.nD Cert.SsmDxIdeal.τ).loc Cert.SsmDxIdeal.main_arg1) = m ((c.tc : Thread Cert.SsmDxIdeal.nD Cert.SsmDxIdeal.τ).loc Cert.SsmDxIdeal.main_arg1))
      ∧ r.2.sem = fun _ => 0)

def quiescent_SsmDxRefIdeal [hSsmDxRefIdeal : Cert.SsmDxRefIdeal.Facts] : Prop :=
  ∀ (m : (ℓ : Loc Cert.SsmDxRefIdeal.nD Cert.SsmDxRefIdeal.τ Cert.SsmDxRefIdeal.sig) → Buf (Elt Ideal) ℓ) (g : Dev Cert.SsmDxRefIdeal.nD → PrngReg), Pre_SsmDxRefIdeal m →
    θ_run (Cert.SsmDxRefIdeal.defs (F := Ideal)) (onTc (τ := Cert.SsmDxRefIdeal.τ) (Cert.SsmDxRefIdeal.main (F := Ideal))) ⟨m, fun _ => 0, g⟩ (fun r => (∀ c : Dev Cert.SsmDxRefIdeal.nD,
      r.2.mem ((c.tc : Thread Cert.SsmDxRefIdeal.nD Cert.SsmDxRefIdeal.τ).loc Cert.SsmDxRefIdeal.main_arg0) = m ((c.tc : Thread Cert.SsmDxRefIdeal.nD Cert.SsmDxRefIdeal.τ).loc Cert.SsmDxRefIdeal.main_arg0)
      ∧ r.2.mem ((c.tc : Thread Cert.SsmDxRefIdeal.nD Cert.SsmDxRefIdeal.τ).loc Cert.SsmDxRefIdeal.main_arg1) = m ((c.tc : Thread Cert.SsmDxRefIdeal.nD Cert.SsmDxRefIdeal.τ).loc Cert.SsmDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_qk [hAttnFwdIdeal : Cert.AttnFwdIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qk m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_qk [hAttnFwdRefIdeal : Cert.AttnFwdRefIdeal.Facts] [hPre_finite_qk : Cert.Pre_finite_qk.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qk m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ r.2.sem = fun _ => 0)

def quiescent_UqDxRefIdeal [hUqDxRefIdeal : Cert.UqDxRefIdeal.Facts] : Prop :=
  ∀ (m : (ℓ : Loc Cert.UqDxRefIdeal.nD Cert.UqDxRefIdeal.τ Cert.UqDxRefIdeal.sig) → Buf (Elt Ideal) ℓ) (g : Dev Cert.UqDxRefIdeal.nD → PrngReg), Pre_UqDxRefIdeal m →
    θ_run (Cert.UqDxRefIdeal.defs (F := Ideal)) (onTc (τ := Cert.UqDxRefIdeal.τ) (Cert.UqDxRefIdeal.main (F := Ideal))) ⟨m, fun _ => 0, g⟩ (fun r => (∀ c : Dev Cert.UqDxRefIdeal.nD,
      r.2.mem ((c.tc : Thread Cert.UqDxRefIdeal.nD Cert.UqDxRefIdeal.τ).loc Cert.UqDxRefIdeal.main_arg0) = m ((c.tc : Thread Cert.UqDxRefIdeal.nD Cert.UqDxRefIdeal.τ).loc Cert.UqDxRefIdeal.main_arg0)
      ∧ r.2.mem ((c.tc : Thread Cert.UqDxRefIdeal.nD Cert.UqDxRefIdeal.τ).loc Cert.UqDxRefIdeal.main_arg1) = m ((c.tc : Thread Cert.UqDxRefIdeal.nD Cert.UqDxRefIdeal.τ).loc Cert.UqDxRefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ r.2.sem = fun _ => 0)

def quiescent_UkvDxRefIdeal [hUkvDxRefIdeal : Cert.UkvDxRefIdeal.Facts] : Prop :=
  ∀ (m : (ℓ : Loc Cert.UkvDxRefIdeal.nD Cert.UkvDxRefIdeal.τ Cert.UkvDxRefIdeal.sig) → Buf (Elt Ideal) ℓ) (g : Dev Cert.UkvDxRefIdeal.nD → PrngReg), Pre_UkvDxRefIdeal m →
    θ_run (Cert.UkvDxRefIdeal.defs (F := Ideal)) (onTc (τ := Cert.UkvDxRefIdeal.τ) (Cert.UkvDxRefIdeal.main (F := Ideal))) ⟨m, fun _ => 0, g⟩ (fun r => (∀ c : Dev Cert.UkvDxRefIdeal.nD,
      r.2.mem ((c.tc : Thread Cert.UkvDxRefIdeal.nD Cert.UkvDxRefIdeal.τ).loc Cert.UkvDxRefIdeal.main_arg0) = m ((c.tc : Thread Cert.UkvDxRefIdeal.nD Cert.UkvDxRefIdeal.τ).loc Cert.UkvDxRefIdeal.main_arg0)
      ∧ r.2.mem ((c.tc : Thread Cert.UkvDxRefIdeal.nD Cert.UkvDxRefIdeal.τ).loc Cert.UkvDxRefIdeal.main_arg1) = m ((c.tc : Thread Cert.UkvDxRefIdeal.nD Cert.UkvDxRefIdeal.τ).loc Cert.UkvDxRefIdeal.main_arg1))
      ∧ r.2.sem = fun _ => 0)

def quiescent_MlaDx [hMlaDx : Cert.MlaDx.Facts] : Prop :=
  ∀ (m : (ℓ : Loc Cert.MlaDx.nD Cert.MlaDx.τ Cert.MlaDx.sig) → Buf (Elt Bits) ℓ) (g : Dev Cert.MlaDx.nD → PrngReg), Pre_MlaDx m →
    θ_run (Cert.MlaDx.defs (F := Bits)) (onTc (τ := Cert.MlaDx.τ) (Cert.MlaDx.main (F := Bits))) ⟨m, fun _ => 0, g⟩ (fun r => (∀ c : Dev Cert.MlaDx.nD,
      r.2.mem ((c.tc : Thread Cert.MlaDx.nD Cert.MlaDx.τ).loc Cert.MlaDx.main_arg0) = m ((c.tc : Thread Cert.MlaDx.nD Cert.MlaDx.τ).loc Cert.MlaDx.main_arg0)
      ∧ r.2.mem ((c.tc : Thread Cert.MlaDx.nD Cert.MlaDx.τ).loc Cert.MlaDx.main_arg1) = m ((c.tc : Thread Cert.MlaDx.nD Cert.MlaDx.τ).loc Cert.MlaDx.main_arg1))
      ∧ r.2.sem = fun _ => 0)

def quiescent_MlaDxIdeal [hMlaDxIdeal : Cert.MlaDxIdeal.Facts] : Prop :=
  ∀ (m : (ℓ : Loc Cert.MlaDxIdeal.nD Cert.MlaDxIdeal.τ Cert.MlaDxIdeal.sig) → Buf (Elt Ideal) ℓ) (g : Dev Cert.MlaDxIdeal.nD → PrngReg), Pre_MlaDxIdeal m →
    θ_run (Cert.MlaDxIdeal.defs (F := Ideal)) (onTc (τ := Cert.MlaDxIdeal.τ) (Cert.MlaDxIdeal.main (F := Ideal))) ⟨m, fun _ => 0, g⟩ (fun r => (∀ c : Dev Cert.MlaDxIdeal.nD,
      r.2.mem ((c.tc : Thread Cert.MlaDxIdeal.nD Cert.MlaDxIdeal.τ).loc Cert.MlaDxIdeal.main_arg0) = m ((c.tc : Thread Cert.MlaDxIdeal.nD Cert.MlaDxIdeal.τ).loc Cert.MlaDxIdeal.main_arg0)
      ∧ r.2.mem ((c.tc : Thread Cert.MlaDxIdeal.nD Cert.MlaDxIdeal.τ).loc Cert.MlaDxIdeal.main_arg1) = m ((c.tc : Thread Cert.MlaDxIdeal.nD Cert.MlaDxIdeal.τ).loc Cert.MlaDxIdeal.main_arg1))
      ∧ r.2.sem = fun _ => 0)

def quiescent_MlaDxRefIdeal [hMlaDxRefIdeal : Cert.MlaDxRefIdeal.Facts] : Prop :=
  ∀ (m : (ℓ : Loc Cert.MlaDxRefIdeal.nD Cert.MlaDxRefIdeal.τ Cert.MlaDxRefIdeal.sig) → Buf (Elt Ideal) ℓ) (g : Dev Cert.MlaDxRefIdeal.nD → PrngReg), Pre_MlaDxRefIdeal m →
    θ_run (Cert.MlaDxRefIdeal.defs (F := Ideal)) (onTc (τ := Cert.MlaDxRefIdeal.τ) (Cert.MlaDxRefIdeal.main (F := Ideal))) ⟨m, fun _ => 0, g⟩ (fun r => (∀ c : Dev Cert.MlaDxRefIdeal.nD,
      r.2.mem ((c.tc : Thread Cert.MlaDxRefIdeal.nD Cert.MlaDxRefIdeal.τ).loc Cert.MlaDxRefIdeal.main_arg0) = m ((c.tc : Thread Cert.MlaDxRefIdeal.nD Cert.MlaDxRefIdeal.τ).loc Cert.MlaDxRefIdeal.main_arg0)
      ∧ r.2.mem ((c.tc : Thread Cert.MlaDxRefIdeal.nD Cert.MlaDxRefIdeal.τ).loc Cert.MlaDxRefIdeal.main_arg1) = m ((c.tc : Thread Cert.MlaDxRefIdeal.nD Cert.MlaDxRefIdeal.τ).loc Cert.MlaDxRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1))
      ∧ r.2.sem = fun _ => 0)

def quiescent_PleDw [hPleDw : Cert.PleDw.Facts] : Prop :=
  ∀ (m : (ℓ : Loc Cert.PleDw.nD Cert.PleDw.τ Cert.PleDw.sig) → Buf (Elt Bits) ℓ) (g : Dev Cert.PleDw.nD → PrngReg), Pre_PleDw m →
    θ_run (Cert.PleDw.defs (F := Bits)) (onTc (τ := Cert.PleDw.τ) (Cert.PleDw.main (F := Bits))) ⟨m, fun _ => 0, g⟩ (fun r => (∀ c : Dev Cert.PleDw.nD,
      r.2.mem ((c.tc : Thread Cert.PleDw.nD Cert.PleDw.τ).loc Cert.PleDw.main_arg0) = m ((c.tc : Thread Cert.PleDw.nD Cert.PleDw.τ).loc Cert.PleDw.main_arg0)
      ∧ r.2.mem ((c.tc : Thread Cert.PleDw.nD Cert.PleDw.τ).loc Cert.PleDw.main_arg1) = m ((c.tc : Thread Cert.PleDw.nD Cert.PleDw.τ).loc Cert.PleDw.main_arg1))
      ∧ r.2.sem = fun _ => 0)

def quiescent_PleDwIdeal [hPleDwIdeal : Cert.PleDwIdeal.Facts] : Prop :=
  ∀ (m : (ℓ : Loc Cert.PleDwIdeal.nD Cert.PleDwIdeal.τ Cert.PleDwIdeal.sig) → Buf (Elt Ideal) ℓ) (g : Dev Cert.PleDwIdeal.nD → PrngReg), Pre_PleDwIdeal m →
    θ_run (Cert.PleDwIdeal.defs (F := Ideal)) (onTc (τ := Cert.PleDwIdeal.τ) (Cert.PleDwIdeal.main (F := Ideal))) ⟨m, fun _ => 0, g⟩ (fun r => (∀ c : Dev Cert.PleDwIdeal.nD,
      r.2.mem ((c.tc : Thread Cert.PleDwIdeal.nD Cert.PleDwIdeal.τ).loc Cert.PleDwIdeal.main_arg0) = m ((c.tc : Thread Cert.PleDwIdeal.nD Cert.PleDwIdeal.τ).loc Cert.PleDwIdeal.main_arg0)
      ∧ r.2.mem ((c.tc : Thread Cert.PleDwIdeal.nD Cert.PleDwIdeal.τ).loc Cert.PleDwIdeal.main_arg1) = m ((c.tc : Thread Cert.PleDwIdeal.nD Cert.PleDwIdeal.τ).loc Cert.PleDwIdeal.main_arg1))
      ∧ r.2.sem = fun _ => 0)

def quiescent_PleDwRefIdeal [hPleDwRefIdeal : Cert.PleDwRefIdeal.Facts] : Prop :=
  ∀ (m : (ℓ : Loc Cert.PleDwRefIdeal.nD Cert.PleDwRefIdeal.τ Cert.PleDwRefIdeal.sig) → Buf (Elt Ideal) ℓ) (g : Dev Cert.PleDwRefIdeal.nD → PrngReg), Pre_PleDwRefIdeal m →
    θ_run (Cert.PleDwRefIdeal.defs (F := Ideal)) (onTc (τ := Cert.PleDwRefIdeal.τ) (Cert.PleDwRefIdeal.main (F := Ideal))) ⟨m, fun _ => 0, g⟩ (fun r => (∀ c : Dev Cert.PleDwRefIdeal.nD,
      r.2.mem ((c.tc : Thread Cert.PleDwRefIdeal.nD Cert.PleDwRefIdeal.τ).loc Cert.PleDwRefIdeal.main_arg0) = m ((c.tc : Thread Cert.PleDwRefIdeal.nD Cert.PleDwRefIdeal.τ).loc Cert.PleDwRefIdeal.main_arg0)
      ∧ r.2.mem ((c.tc : Thread Cert.PleDwRefIdeal.nD Cert.PleDwRefIdeal.τ).loc Cert.PleDwRefIdeal.main_arg1) = m ((c.tc : Thread Cert.PleDwRefIdeal.nD Cert.PleDwRefIdeal.τ).loc Cert.PleDwRefIdeal.main_arg1))
      ∧ r.2.sem = fun _ => 0)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0))
      ∧ r.2.sem = fun _ => 0)

def quiescent_ReluBwd [hReluBwd : Cert.ReluBwd.Facts] : Prop :=
  ∀ (m : (ℓ : Loc Cert.ReluBwd.nD Cert.ReluBwd.τ Cert.ReluBwd.sig) → Buf (Elt Bits) ℓ) (g : Dev Cert.ReluBwd.nD → PrngReg), Pre_ReluBwd m →
    θ_run (Cert.ReluBwd.defs (F := Bits)) (onTc (τ := Cert.ReluBwd.τ) (Cert.ReluBwd.main (F := Bits))) ⟨m, fun _ => 0, g⟩ (fun r => (∀ c : Dev Cert.ReluBwd.nD,
      r.2.mem ((c.tc : Thread Cert.ReluBwd.nD Cert.ReluBwd.τ).loc Cert.ReluBwd.main_arg0) = m ((c.tc : Thread Cert.ReluBwd.nD Cert.ReluBwd.τ).loc Cert.ReluBwd.main_arg0)
      ∧ r.2.mem ((c.tc : Thread Cert.ReluBwd.nD Cert.ReluBwd.τ).loc Cert.ReluBwd.main_arg1) = m ((c.tc : Thread Cert.ReluBwd.nD Cert.ReluBwd.τ).loc Cert.ReluBwd.main_arg1))
      ∧ r.2.sem = fun _ => 0)

def quiescent_ReluBwdIdeal [hReluBwdIdeal : Cert.ReluBwdIdeal.Facts] : Prop :=
  ∀ (m : (ℓ : Loc Cert.ReluBwdIdeal.nD Cert.ReluBwdIdeal.τ Cert.ReluBwdIdeal.sig) → Buf (Elt Ideal) ℓ) (g : Dev Cert.ReluBwdIdeal.nD → PrngReg), Pre_ReluBwdIdeal m →
    θ_run (Cert.ReluBwdIdeal.defs (F := Ideal)) (onTc (τ := Cert.ReluBwdIdeal.τ) (Cert.ReluBwdIdeal.main (F := Ideal))) ⟨m, fun _ => 0, g⟩ (fun r => (∀ c : Dev Cert.ReluBwdIdeal.nD,
      r.2.mem ((c.tc : Thread Cert.ReluBwdIdeal.nD Cert.ReluBwdIdeal.τ).loc Cert.ReluBwdIdeal.main_arg0) = m ((c.tc : Thread Cert.ReluBwdIdeal.nD Cert.ReluBwdIdeal.τ).loc Cert.ReluBwdIdeal.main_arg0)
      ∧ r.2.mem ((c.tc : Thread Cert.ReluBwdIdeal.nD Cert.ReluBwdIdeal.τ).loc Cert.ReluBwdIdeal.main_arg1) = m ((c.tc : Thread Cert.ReluBwdIdeal.nD Cert.ReluBwdIdeal.τ).loc Cert.ReluBwdIdeal.main_arg1))
      ∧ r.2.sem = fun _ => 0)

def quiescent_ReluBwdRefIdeal [hReluBwdRefIdeal : Cert.ReluBwdRefIdeal.Facts] : Prop :=
  ∀ (m : (ℓ : Loc Cert.ReluBwdRefIdeal.nD Cert.ReluBwdRefIdeal.τ Cert.ReluBwdRefIdeal.sig) → Buf (Elt Ideal) ℓ) (g : Dev Cert.ReluBwdRefIdeal.nD → PrngReg), Pre_ReluBwdRefIdeal m →
    θ_run (Cert.ReluBwdRefIdeal.defs (F := Ideal)) (onTc (τ := Cert.ReluBwdRefIdeal.τ) (Cert.ReluBwdRefIdeal.main (F := Ideal))) ⟨m, fun _ => 0, g⟩ (fun r => (∀ c : Dev Cert.ReluBwdRefIdeal.nD,
      r.2.mem ((c.tc : Thread Cert.ReluBwdRefIdeal.nD Cert.ReluBwdRefIdeal.τ).loc Cert.ReluBwdRefIdeal.main_arg0) = m ((c.tc : Thread Cert.ReluBwdRefIdeal.nD Cert.ReluBwdRefIdeal.τ).loc Cert.ReluBwdRefIdeal.main_arg0)
      ∧ r.2.mem ((c.tc : Thread Cert.ReluBwdRefIdeal.nD Cert.ReluBwdRefIdeal.τ).loc Cert.ReluBwdRefIdeal.main_arg1) = m ((c.tc : Thread Cert.ReluBwdRefIdeal.nD Cert.ReluBwdRefIdeal.τ).loc Cert.ReluBwdRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_PleMerge [hPleMerge : Cert.PleMerge.Facts] : Prop :=
  ∀ (m : (ℓ : Loc Cert.PleMerge.nD Cert.PleMerge.τ Cert.PleMerge.sig) → Buf (Elt Bits) ℓ) (g : Dev Cert.PleMerge.nD → PrngReg), Pre_PleMerge m →
    θ_run (Cert.PleMerge.defs (F := Bits)) (onTc (τ := Cert.PleMerge.τ) (Cert.PleMerge.main (F := Bits))) ⟨m, fun _ => 0, g⟩ (fun r => (∀ c : Dev Cert.PleMerge.nD,
      r.2.mem ((c.tc : Thread Cert.PleMerge.nD Cert.PleMerge.τ).loc Cert.PleMerge.main_arg0) = m ((c.tc : Thread Cert.PleMerge.nD Cert.PleMerge.τ).loc Cert.PleMerge.main_arg0)
      ∧ r.2.mem ((c.tc : Thread Cert.PleMerge.nD Cert.PleMerge.τ).loc Cert.PleMerge.main_arg1) = m ((c.tc : Thread Cert.PleMerge.nD Cert.PleMerge.τ).loc Cert.PleMerge.main_arg1)
      ∧ r.2.mem ((c.tc : Thread Cert.PleMerge.nD Cert.PleMerge.τ).loc Cert.PleMerge.main_arg2) = m ((c.tc : Thread Cert.PleMerge.nD Cert.PleMerge.τ).loc Cert.PleMerge.main_arg2))
      ∧ r.2.sem = fun _ => 0)

def quiescent_PleMergeIdeal [hPleMergeIdeal : Cert.PleMergeIdeal.Facts] : Prop :=
  ∀ (m : (ℓ : Loc Cert.PleMergeIdeal.nD Cert.PleMergeIdeal.τ Cert.PleMergeIdeal.sig) → Buf (Elt Ideal) ℓ) (g : Dev Cert.PleMergeIdeal.nD → PrngReg), Pre_PleMergeIdeal m →
    θ_run (Cert.PleMergeIdeal.defs (F := Ideal)) (onTc (τ := Cert.PleMergeIdeal.τ) (Cert.PleMergeIdeal.main (F := Ideal))) ⟨m, fun _ => 0, g⟩ (fun r => (∀ c : Dev Cert.PleMergeIdeal.nD,
      r.2.mem ((c.tc : Thread Cert.PleMergeIdeal.nD Cert.PleMergeIdeal.τ).loc Cert.PleMergeIdeal.main_arg0) = m ((c.tc : Thread Cert.PleMergeIdeal.nD Cert.PleMergeIdeal.τ).loc Cert.PleMergeIdeal.main_arg0)
      ∧ r.2.mem ((c.tc : Thread Cert.PleMergeIdeal.nD Cert.PleMergeIdeal.τ).loc Cert.PleMergeIdeal.main_arg1) = m ((c.tc : Thread Cert.PleMergeIdeal.nD Cert.PleMergeIdeal.τ).loc Cert.PleMergeIdeal.main_arg1)
      ∧ r.2.mem ((c.tc : Thread Cert.PleMergeIdeal.nD Cert.PleMergeIdeal.τ).loc Cert.PleMergeIdeal.main_arg2) = m ((c.tc : Thread Cert.PleMergeIdeal.nD Cert.PleMergeIdeal.τ).loc Cert.PleMergeIdeal.main_arg2))
      ∧ r.2.sem = fun _ => 0)

def quiescent_PleMergeRefIdeal [hPleMergeRefIdeal : Cert.PleMergeRefIdeal.Facts] : Prop :=
  ∀ (m : (ℓ : Loc Cert.PleMergeRefIdeal.nD Cert.PleMergeRefIdeal.τ Cert.PleMergeRefIdeal.sig) → Buf (Elt Ideal) ℓ) (g : Dev Cert.PleMergeRefIdeal.nD → PrngReg), Pre_PleMergeRefIdeal m →
    θ_run (Cert.PleMergeRefIdeal.defs (F := Ideal)) (onTc (τ := Cert.PleMergeRefIdeal.τ) (Cert.PleMergeRefIdeal.main (F := Ideal))) ⟨m, fun _ => 0, g⟩ (fun r => (∀ c : Dev Cert.PleMergeRefIdeal.nD,
      r.2.mem ((c.tc : Thread Cert.PleMergeRefIdeal.nD Cert.PleMergeRefIdeal.τ).loc Cert.PleMergeRefIdeal.main_arg0) = m ((c.tc : Thread Cert.PleMergeRefIdeal.nD Cert.PleMergeRefIdeal.τ).loc Cert.PleMergeRefIdeal.main_arg0)
      ∧ r.2.mem ((c.tc : Thread Cert.PleMergeRefIdeal.nD Cert.PleMergeRefIdeal.τ).loc Cert.PleMergeRefIdeal.main_arg1) = m ((c.tc : Thread Cert.PleMergeRefIdeal.nD Cert.PleMergeRefIdeal.τ).loc Cert.PleMergeRefIdeal.main_arg1)
      ∧ r.2.mem ((c.tc : Thread Cert.PleMergeRefIdeal.nD Cert.PleMergeRefIdeal.τ).loc Cert.PleMergeRefIdeal.main_arg2) = m ((c.tc : Thread Cert.PleMergeRefIdeal.nD Cert.PleMergeRefIdeal.τ).loc Cert.PleMergeRefIdeal.main_arg2))
      ∧ r.2.sem = fun _ => 0)

def quiescent_PleMergeBwd [hPleMergeBwd : Cert.PleMergeBwd.Facts] : Prop :=
  ∀ (m : (ℓ : Loc Cert.PleMergeBwd.nD Cert.PleMergeBwd.τ Cert.PleMergeBwd.sig) → Buf (Elt Bits) ℓ) (g : Dev Cert.PleMergeBwd.nD → PrngReg), Pre_PleMergeBwd m →
    θ_run (Cert.PleMergeBwd.defs (F := Bits)) (onTc (τ := Cert.PleMergeBwd.τ) (Cert.PleMergeBwd.main (F := Bits))) ⟨m, fun _ => 0, g⟩ (fun r => (∀ c : Dev Cert.PleMergeBwd.nD,
      r.2.mem ((c.tc : Thread Cert.PleMergeBwd.nD Cert.PleMergeBwd.τ).loc Cert.PleMergeBwd.main_arg0) = m ((c.tc : Thread Cert.PleMergeBwd.nD Cert.PleMergeBwd.τ).loc Cert.PleMergeBwd.main_arg0)
      ∧ r.2.mem ((c.tc : Thread Cert.PleMergeBwd.nD Cert.PleMergeBwd.τ).loc Cert.PleMergeBwd.main_arg1) = m ((c.tc : Thread Cert.PleMergeBwd.nD Cert.PleMergeBwd.τ).loc Cert.PleMergeBwd.main_arg1)
      ∧ r.2.mem ((c.tc : Thread Cert.PleMergeBwd.nD Cert.PleMergeBwd.τ).loc Cert.PleMergeBwd.main_arg2) = m ((c.tc : Thread Cert.PleMergeBwd.nD Cert.PleMergeBwd.τ).loc Cert.PleMergeBwd.main_arg2)
      ∧ r.2.mem ((c.tc : Thread Cert.PleMergeBwd.nD Cert.PleMergeBwd.τ).loc Cert.PleMergeBwd.main_arg3) = m ((c.tc : Thread Cert.PleMergeBwd.nD Cert.PleMergeBwd.τ).loc Cert.PleMergeBwd.main_arg3))
      ∧ r.2.sem = fun _ => 0)

def quiescent_PleMergeBwdIdeal [hPleMergeBwdIdeal : Cert.PleMergeBwdIdeal.Facts] : Prop :=
  ∀ (m : (ℓ : Loc Cert.PleMergeBwdIdeal.nD Cert.PleMergeBwdIdeal.τ Cert.PleMergeBwdIdeal.sig) → Buf (Elt Ideal) ℓ) (g : Dev Cert.PleMergeBwdIdeal.nD → PrngReg), Pre_PleMergeBwdIdeal m →
    θ_run (Cert.PleMergeBwdIdeal.defs (F := Ideal)) (onTc (τ := Cert.PleMergeBwdIdeal.τ) (Cert.PleMergeBwdIdeal.main (F := Ideal))) ⟨m, fun _ => 0, g⟩ (fun r => (∀ c : Dev Cert.PleMergeBwdIdeal.nD,
      r.2.mem ((c.tc : Thread Cert.PleMergeBwdIdeal.nD Cert.PleMergeBwdIdeal.τ).loc Cert.PleMergeBwdIdeal.main_arg0) = m ((c.tc : Thread Cert.PleMergeBwdIdeal.nD Cert.PleMergeBwdIdeal.τ).loc Cert.PleMergeBwdIdeal.main_arg0)
      ∧ r.2.mem ((c.tc : Thread Cert.PleMergeBwdIdeal.nD Cert.PleMergeBwdIdeal.τ).loc Cert.PleMergeBwdIdeal.main_arg1) = m ((c.tc : Thread Cert.PleMergeBwdIdeal.nD Cert.PleMergeBwdIdeal.τ).loc Cert.PleMergeBwdIdeal.main_arg1)
      ∧ r.2.mem ((c.tc : Thread Cert.PleMergeBwdIdeal.nD Cert.PleMergeBwdIdeal.τ).loc Cert.PleMergeBwdIdeal.main_arg2) = m ((c.tc : Thread Cert.PleMergeBwdIdeal.nD Cert.PleMergeBwdIdeal.τ).loc Cert.PleMergeBwdIdeal.main_arg2)
      ∧ r.2.mem ((c.tc : Thread Cert.PleMergeBwdIdeal.nD Cert.PleMergeBwdIdeal.τ).loc Cert.PleMergeBwdIdeal.main_arg3) = m ((c.tc : Thread Cert.PleMergeBwdIdeal.nD Cert.PleMergeBwdIdeal.τ).loc Cert.PleMergeBwdIdeal.main_arg3))
      ∧ r.2.sem = fun _ => 0)

def quiescent_PleMergeBwdRefIdeal [hPleMergeBwdRefIdeal : Cert.PleMergeBwdRefIdeal.Facts] : Prop :=
  ∀ (m : (ℓ : Loc Cert.PleMergeBwdRefIdeal.nD Cert.PleMergeBwdRefIdeal.τ Cert.PleMergeBwdRefIdeal.sig) → Buf (Elt Ideal) ℓ) (g : Dev Cert.PleMergeBwdRefIdeal.nD → PrngReg), Pre_PleMergeBwdRefIdeal m →
    θ_run (Cert.PleMergeBwdRefIdeal.defs (F := Ideal)) (onTc (τ := Cert.PleMergeBwdRefIdeal.τ) (Cert.PleMergeBwdRefIdeal.main (F := Ideal))) ⟨m, fun _ => 0, g⟩ (fun r => (∀ c : Dev Cert.PleMergeBwdRefIdeal.nD,
      r.2.mem ((c.tc : Thread Cert.PleMergeBwdRefIdeal.nD Cert.PleMergeBwdRefIdeal.τ).loc Cert.PleMergeBwdRefIdeal.main_arg0) = m ((c.tc : Thread Cert.PleMergeBwdRefIdeal.nD Cert.PleMergeBwdRefIdeal.τ).loc Cert.PleMergeBwdRefIdeal.main_arg0)
      ∧ r.2.mem ((c.tc : Thread Cert.PleMergeBwdRefIdeal.nD Cert.PleMergeBwdRefIdeal.τ).loc Cert.PleMergeBwdRefIdeal.main_arg1) = m ((c.tc : Thread Cert.PleMergeBwdRefIdeal.nD Cert.PleMergeBwdRefIdeal.τ).loc Cert.PleMergeBwdRefIdeal.main_arg1)
      ∧ r.2.mem ((c.tc : Thread Cert.PleMergeBwdRefIdeal.nD Cert.PleMergeBwdRefIdeal.τ).loc Cert.PleMergeBwdRefIdeal.main_arg2) = m ((c.tc : Thread Cert.PleMergeBwdRefIdeal.nD Cert.PleMergeBwdRefIdeal.τ).loc Cert.PleMergeBwdRefIdeal.main_arg2)
      ∧ r.2.mem ((c.tc : Thread Cert.PleMergeBwdRefIdeal.nD Cert.PleMergeBwdRefIdeal.τ).loc Cert.PleMergeBwdRefIdeal.main_arg3) = m ((c.tc : Thread Cert.PleMergeBwdRefIdeal.nD Cert.PleMergeBwdRefIdeal.τ).loc Cert.PleMergeBwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_LatentBwd [hLatentBwd : Cert.LatentBwd.Facts] : Prop :=
  ∀ (m : (ℓ : Loc Cert.LatentBwd.nD Cert.LatentBwd.τ Cert.LatentBwd.sig) → Buf (Elt Bits) ℓ) (g : Dev Cert.LatentBwd.nD → PrngReg), Pre_LatentBwd m →
    θ_run (Cert.LatentBwd.defs (F := Bits)) (onTc (τ := Cert.LatentBwd.τ) (Cert.LatentBwd.main (F := Bits))) ⟨m, fun _ => 0, g⟩ (fun r => (∀ c : Dev Cert.LatentBwd.nD,
      r.2.mem ((c.tc : Thread Cert.LatentBwd.nD Cert.LatentBwd.τ).loc Cert.LatentBwd.main_arg0) = m ((c.tc : Thread Cert.LatentBwd.nD Cert.LatentBwd.τ).loc Cert.LatentBwd.main_arg0)
      ∧ r.2.mem ((c.tc : Thread Cert.LatentBwd.nD Cert.LatentBwd.τ).loc Cert.LatentBwd.main_arg1) = m ((c.tc : Thread Cert.LatentBwd.nD Cert.LatentBwd.τ).loc Cert.LatentBwd.main_arg1)
      ∧ r.2.mem ((c.tc : Thread Cert.LatentBwd.nD Cert.LatentBwd.τ).loc Cert.LatentBwd.main_arg2) = m ((c.tc : Thread Cert.LatentBwd.nD Cert.LatentBwd.τ).loc Cert.LatentBwd.main_arg2)
      ∧ r.2.mem ((c.tc : Thread Cert.LatentBwd.nD Cert.LatentBwd.τ).loc Cert.LatentBwd.main_arg3) = m ((c.tc : Thread Cert.LatentBwd.nD Cert.LatentBwd.τ).loc Cert.LatentBwd.main_arg3)
      ∧ r.2.mem ((c.tc : Thread Cert.LatentBwd.nD Cert.LatentBwd.τ).loc Cert.LatentBwd.main_arg4) = m ((c.tc : Thread Cert.LatentBwd.nD Cert.LatentBwd.τ).loc Cert.LatentBwd.main_arg4)
      ∧ r.2.mem ((c.tc : Thread Cert.LatentBwd.nD Cert.LatentBwd.τ).loc Cert.LatentBwd.main_arg5) = m ((c.tc : Thread Cert.LatentBwd.nD Cert.LatentBwd.τ).loc Cert.LatentBwd.main_arg5))
      ∧ r.2.sem = fun _ => 0)

def quiescent_LatentBwdIdeal [hLatentBwdIdeal : Cert.LatentBwdIdeal.Facts] : Prop :=
  ∀ (m : (ℓ : Loc Cert.LatentBwdIdeal.nD Cert.LatentBwdIdeal.τ Cert.LatentBwdIdeal.sig) → Buf (Elt Ideal) ℓ) (g : Dev Cert.LatentBwdIdeal.nD → PrngReg), Pre_LatentBwdIdeal m →
    θ_run (Cert.LatentBwdIdeal.defs (F := Ideal)) (onTc (τ := Cert.LatentBwdIdeal.τ) (Cert.LatentBwdIdeal.main (F := Ideal))) ⟨m, fun _ => 0, g⟩ (fun r => (∀ c : Dev Cert.LatentBwdIdeal.nD,
      r.2.mem ((c.tc : Thread Cert.LatentBwdIdeal.nD Cert.LatentBwdIdeal.τ).loc Cert.LatentBwdIdeal.main_arg0) = m ((c.tc : Thread Cert.LatentBwdIdeal.nD Cert.LatentBwdIdeal.τ).loc Cert.LatentBwdIdeal.main_arg0)
      ∧ r.2.mem ((c.tc : Thread Cert.LatentBwdIdeal.nD Cert.LatentBwdIdeal.τ).loc Cert.LatentBwdIdeal.main_arg1) = m ((c.tc : Thread Cert.LatentBwdIdeal.nD Cert.LatentBwdIdeal.τ).loc Cert.LatentBwdIdeal.main_arg1)
      ∧ r.2.mem ((c.tc : Thread Cert.LatentBwdIdeal.nD Cert.LatentBwdIdeal.τ).loc Cert.LatentBwdIdeal.main_arg2) = m ((c.tc : Thread Cert.LatentBwdIdeal.nD Cert.LatentBwdIdeal.τ).loc Cert.LatentBwdIdeal.main_arg2)
      ∧ r.2.mem ((c.tc : Thread Cert.LatentBwdIdeal.nD Cert.LatentBwdIdeal.τ).loc Cert.LatentBwdIdeal.main_arg3) = m ((c.tc : Thread Cert.LatentBwdIdeal.nD Cert.LatentBwdIdeal.τ).loc Cert.LatentBwdIdeal.main_arg3)
      ∧ r.2.mem ((c.tc : Thread Cert.LatentBwdIdeal.nD Cert.LatentBwdIdeal.τ).loc Cert.LatentBwdIdeal.main_arg4) = m ((c.tc : Thread Cert.LatentBwdIdeal.nD Cert.LatentBwdIdeal.τ).loc Cert.LatentBwdIdeal.main_arg4)
      ∧ r.2.mem ((c.tc : Thread Cert.LatentBwdIdeal.nD Cert.LatentBwdIdeal.τ).loc Cert.LatentBwdIdeal.main_arg5) = m ((c.tc : Thread Cert.LatentBwdIdeal.nD Cert.LatentBwdIdeal.τ).loc Cert.LatentBwdIdeal.main_arg5))
      ∧ r.2.sem = fun _ => 0)

def quiescent_LatentBwdRefIdeal [hLatentBwdRefIdeal : Cert.LatentBwdRefIdeal.Facts] : Prop :=
  ∀ (m : (ℓ : Loc Cert.LatentBwdRefIdeal.nD Cert.LatentBwdRefIdeal.τ Cert.LatentBwdRefIdeal.sig) → Buf (Elt Ideal) ℓ) (g : Dev Cert.LatentBwdRefIdeal.nD → PrngReg), Pre_LatentBwdRefIdeal m →
    θ_run (Cert.LatentBwdRefIdeal.defs (F := Ideal)) (onTc (τ := Cert.LatentBwdRefIdeal.τ) (Cert.LatentBwdRefIdeal.main (F := Ideal))) ⟨m, fun _ => 0, g⟩ (fun r => (∀ c : Dev Cert.LatentBwdRefIdeal.nD,
      r.2.mem ((c.tc : Thread Cert.LatentBwdRefIdeal.nD Cert.LatentBwdRefIdeal.τ).loc Cert.LatentBwdRefIdeal.main_arg0) = m ((c.tc : Thread Cert.LatentBwdRefIdeal.nD Cert.LatentBwdRefIdeal.τ).loc Cert.LatentBwdRefIdeal.main_arg0)
      ∧ r.2.mem ((c.tc : Thread Cert.LatentBwdRefIdeal.nD Cert.LatentBwdRefIdeal.τ).loc Cert.LatentBwdRefIdeal.main_arg1) = m ((c.tc : Thread Cert.LatentBwdRefIdeal.nD Cert.LatentBwdRefIdeal.τ).loc Cert.LatentBwdRefIdeal.main_arg1)
      ∧ r.2.mem ((c.tc : Thread Cert.LatentBwdRefIdeal.nD Cert.LatentBwdRefIdeal.τ).loc Cert.LatentBwdRefIdeal.main_arg2) = m ((c.tc : Thread Cert.LatentBwdRefIdeal.nD Cert.LatentBwdRefIdeal.τ).loc Cert.LatentBwdRefIdeal.main_arg2)
      ∧ r.2.mem ((c.tc : Thread Cert.LatentBwdRefIdeal.nD Cert.LatentBwdRefIdeal.τ).loc Cert.LatentBwdRefIdeal.main_arg3) = m ((c.tc : Thread Cert.LatentBwdRefIdeal.nD Cert.LatentBwdRefIdeal.τ).loc Cert.LatentBwdRefIdeal.main_arg3)
      ∧ r.2.mem ((c.tc : Thread Cert.LatentBwdRefIdeal.nD Cert.LatentBwdRefIdeal.τ).loc Cert.LatentBwdRefIdeal.main_arg4) = m ((c.tc : Thread Cert.LatentBwdRefIdeal.nD Cert.LatentBwdRefIdeal.τ).loc Cert.LatentBwdRefIdeal.main_arg4)
      ∧ r.2.mem ((c.tc : Thread Cert.LatentBwdRefIdeal.nD Cert.LatentBwdRefIdeal.τ).loc Cert.LatentBwdRefIdeal.main_arg5) = m ((c.tc : Thread Cert.LatentBwdRefIdeal.nD Cert.LatentBwdRefIdeal.τ).loc Cert.LatentBwdRefIdeal.main_arg5))
      ∧ r.2.sem = fun _ => 0)

def quiescent_GatedNorm [hGatedNorm : Cert.GatedNorm.Facts] : Prop :=
  ∀ (m : (ℓ : Loc Cert.GatedNorm.nD Cert.GatedNorm.τ Cert.GatedNorm.sig) → Buf (Elt Bits) ℓ) (g : Dev Cert.GatedNorm.nD → PrngReg), Pre_GatedNorm m →
    θ_run (Cert.GatedNorm.defs (F := Bits)) (onTc (τ := Cert.GatedNorm.τ) (Cert.GatedNorm.main (F := Bits))) ⟨m, fun _ => 0, g⟩ (fun r => (∀ c : Dev Cert.GatedNorm.nD,
      r.2.mem ((c.tc : Thread Cert.GatedNorm.nD Cert.GatedNorm.τ).loc Cert.GatedNorm.main_arg0) = m ((c.tc : Thread Cert.GatedNorm.nD Cert.GatedNorm.τ).loc Cert.GatedNorm.main_arg0)
      ∧ r.2.mem ((c.tc : Thread Cert.GatedNorm.nD Cert.GatedNorm.τ).loc Cert.GatedNorm.main_arg1) = m ((c.tc : Thread Cert.GatedNorm.nD Cert.GatedNorm.τ).loc Cert.GatedNorm.main_arg1)
      ∧ r.2.mem ((c.tc : Thread Cert.GatedNorm.nD Cert.GatedNorm.τ).loc Cert.GatedNorm.main_arg2) = m ((c.tc : Thread Cert.GatedNorm.nD Cert.GatedNorm.τ).loc Cert.GatedNorm.main_arg2))
      ∧ r.2.sem = fun _ => 0)

def quiescent_GatedNormIdeal [hGatedNormIdeal : Cert.GatedNormIdeal.Facts] : Prop :=
  ∀ (m : (ℓ : Loc Cert.GatedNormIdeal.nD Cert.GatedNormIdeal.τ Cert.GatedNormIdeal.sig) → Buf (Elt Ideal) ℓ) (g : Dev Cert.GatedNormIdeal.nD → PrngReg), Pre_GatedNormIdeal m →
    θ_run (Cert.GatedNormIdeal.defs (F := Ideal)) (onTc (τ := Cert.GatedNormIdeal.τ) (Cert.GatedNormIdeal.main (F := Ideal))) ⟨m, fun _ => 0, g⟩ (fun r => (∀ c : Dev Cert.GatedNormIdeal.nD,
      r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
      ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
      ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2))
      ∧ r.2.sem = fun _ => 0)

def quiescent_GatedNormRefIdeal [hGatedNormRefIdeal : Cert.GatedNormRefIdeal.Facts] : Prop :=
  ∀ (m : (ℓ : Loc Cert.GatedNormRefIdeal.nD Cert.GatedNormRefIdeal.τ Cert.GatedNormRefIdeal.sig) → Buf (Elt Ideal) ℓ) (g : Dev Cert.GatedNormRefIdeal.nD → PrngReg), Pre_GatedNormRefIdeal m →
    θ_run (Cert.GatedNormRefIdeal.defs (F := Ideal)) (onTc (τ := Cert.GatedNormRefIdeal.τ) (Cert.GatedNormRefIdeal.main (F := Ideal))) ⟨m, fun _ => 0, g⟩ (fun r => (∀ c : Dev Cert.GatedNormRefIdeal.nD,
      r.2.mem ((c.tc : Thread Cert.GatedNormRefIdeal.nD Cert.GatedNormRefIdeal.τ).loc Cert.GatedNormRefIdeal.main_arg0) = m ((c.tc : Thread Cert.GatedNormRefIdeal.nD Cert.GatedNormRefIdeal.τ).loc Cert.GatedNormRefIdeal.main_arg0)
      ∧ r.2.mem ((c.tc : Thread Cert.GatedNormRefIdeal.nD Cert.GatedNormRefIdeal.τ).loc Cert.GatedNormRefIdeal.main_arg1) = m ((c.tc : Thread Cert.GatedNormRefIdeal.nD Cert.GatedNormRefIdeal.τ).loc Cert.GatedNormRefIdeal.main_arg1)
      ∧ r.2.mem ((c.tc : Thread Cert.GatedNormRefIdeal.nD Cert.GatedNormRefIdeal.τ).loc Cert.GatedNormRefIdeal.main_arg2) = m ((c.tc : Thread Cert.GatedNormRefIdeal.nD Cert.GatedNormRefIdeal.τ).loc Cert.GatedNormRefIdeal.main_arg2))
      ∧ r.2.sem = fun _ => 0)

def quiescent_GatedNormBwd [hGatedNormBwd : Cert.GatedNormBwd.Facts] : Prop :=
  ∀ (m : (ℓ : Loc Cert.GatedNormBwd.nD Cert.GatedNormBwd.τ Cert.GatedNormBwd.sig) → Buf (Elt Bits) ℓ) (g : Dev Cert.GatedNormBwd.nD → PrngReg), Pre_GatedNormBwd m →
    θ_run (Cert.GatedNormBwd.defs (F := Bits)) (onTc (τ := Cert.GatedNormBwd.τ) (Cert.GatedNormBwd.main (F := Bits))) ⟨m, fun _ => 0, g⟩ (fun r => (∀ c : Dev Cert.GatedNormBwd.nD,
      r.2.mem ((c.tc : Thread Cert.GatedNormBwd.nD Cert.GatedNormBwd.τ).loc Cert.GatedNormBwd.main_arg0) = m ((c.tc : Thread Cert.GatedNormBwd.nD Cert.GatedNormBwd.τ).loc Cert.GatedNormBwd.main_arg0)
      ∧ r.2.mem ((c.tc : Thread Cert.GatedNormBwd.nD Cert.GatedNormBwd.τ).loc Cert.GatedNormBwd.main_arg1) = m ((c.tc : Thread Cert.GatedNormBwd.nD Cert.GatedNormBwd.τ).loc Cert.GatedNormBwd.main_arg1)
      ∧ r.2.mem ((c.tc : Thread Cert.GatedNormBwd.nD Cert.GatedNormBwd.τ).loc Cert.GatedNormBwd.main_arg2) = m ((c.tc : Thread Cert.GatedNormBwd.nD Cert.GatedNormBwd.τ).loc Cert.GatedNormBwd.main_arg2)
      ∧ r.2.mem ((c.tc : Thread Cert.GatedNormBwd.nD Cert.GatedNormBwd.τ).loc Cert.GatedNormBwd.main_arg3) = m ((c.tc : Thread Cert.GatedNormBwd.nD Cert.GatedNormBwd.τ).loc Cert.GatedNormBwd.main_arg3))
      ∧ r.2.sem = fun _ => 0)

def quiescent_GatedNormBwdIdeal [hGatedNormBwdIdeal : Cert.GatedNormBwdIdeal.Facts] : Prop :=
  ∀ (m : (ℓ : Loc Cert.GatedNormBwdIdeal.nD Cert.GatedNormBwdIdeal.τ Cert.GatedNormBwdIdeal.sig) → Buf (Elt Ideal) ℓ) (g : Dev Cert.GatedNormBwdIdeal.nD → PrngReg), Pre_GatedNormBwdIdeal m →
    θ_run (Cert.GatedNormBwdIdeal.defs (F := Ideal)) (onTc (τ := Cert.GatedNormBwdIdeal.τ) (Cert.GatedNormBwdIdeal.main (F := Ideal))) ⟨m, fun _ => 0, g⟩ (fun r => (∀ c : Dev Cert.GatedNormBwdIdeal.nD,
      r.2.mem ((c.tc : Thread Cert.GatedNormBwdIdeal.nD Cert.GatedNormBwdIdeal.τ).loc Cert.GatedNormBwdIdeal.main_arg0) = m ((c.tc : Thread Cert.GatedNormBwdIdeal.nD Cert.GatedNormBwdIdeal.τ).loc Cert.GatedNormBwdIdeal.main_arg0)
      ∧ r.2.mem ((c.tc : Thread Cert.GatedNormBwdIdeal.nD Cert.GatedNormBwdIdeal.τ).loc Cert.GatedNormBwdIdeal.main_arg1) = m ((c.tc : Thread Cert.GatedNormBwdIdeal.nD Cert.GatedNormBwdIdeal.τ).loc Cert.GatedNormBwdIdeal.main_arg1)
      ∧ r.2.mem ((c.tc : Thread Cert.GatedNormBwdIdeal.nD Cert.GatedNormBwdIdeal.τ).loc Cert.GatedNormBwdIdeal.main_arg2) = m ((c.tc : Thread Cert.GatedNormBwdIdeal.nD Cert.GatedNormBwdIdeal.τ).loc Cert.GatedNormBwdIdeal.main_arg2)
      ∧ r.2.mem ((c.tc : Thread Cert.GatedNormBwdIdeal.nD Cert.GatedNormBwdIdeal.τ).loc Cert.GatedNormBwdIdeal.main_arg3) = m ((c.tc : Thread Cert.GatedNormBwdIdeal.nD Cert.GatedNormBwdIdeal.τ).loc Cert.GatedNormBwdIdeal.main_arg3))
      ∧ r.2.sem = fun _ => 0)

def quiescent_GatedNormBwdRefIdeal [hGatedNormBwdRefIdeal : Cert.GatedNormBwdRefIdeal.Facts] : Prop :=
  ∀ (m : (ℓ : Loc Cert.GatedNormBwdRefIdeal.nD Cert.GatedNormBwdRefIdeal.τ Cert.GatedNormBwdRefIdeal.sig) → Buf (Elt Ideal) ℓ) (g : Dev Cert.GatedNormBwdRefIdeal.nD → PrngReg), Pre_GatedNormBwdRefIdeal m →
    θ_run (Cert.GatedNormBwdRefIdeal.defs (F := Ideal)) (onTc (τ := Cert.GatedNormBwdRefIdeal.τ) (Cert.GatedNormBwdRefIdeal.main (F := Ideal))) ⟨m, fun _ => 0, g⟩ (fun r => (∀ c : Dev Cert.GatedNormBwdRefIdeal.nD,
      r.2.mem ((c.tc : Thread Cert.GatedNormBwdRefIdeal.nD Cert.GatedNormBwdRefIdeal.τ).loc Cert.GatedNormBwdRefIdeal.main_arg0) = m ((c.tc : Thread Cert.GatedNormBwdRefIdeal.nD Cert.GatedNormBwdRefIdeal.τ).loc Cert.GatedNormBwdRefIdeal.main_arg0)
      ∧ r.2.mem ((c.tc : Thread Cert.GatedNormBwdRefIdeal.nD Cert.GatedNormBwdRefIdeal.τ).loc Cert.GatedNormBwdRefIdeal.main_arg1) = m ((c.tc : Thread Cert.GatedNormBwdRefIdeal.nD Cert.GatedNormBwdRefIdeal.τ).loc Cert.GatedNormBwdRefIdeal.main_arg1)
      ∧ r.2.mem ((c.tc : Thread Cert.GatedNormBwdRefIdeal.nD Cert.GatedNormBwdRefIdeal.τ).loc Cert.GatedNormBwdRefIdeal.main_arg2) = m ((c.tc : Thread Cert.GatedNormBwdRefIdeal.nD Cert.GatedNormBwdRefIdeal.τ).loc Cert.GatedNormBwdRefIdeal.main_arg2)
      ∧ r.2.mem ((c.tc : Thread Cert.GatedNormBwdRefIdeal.nD Cert.GatedNormBwdRefIdeal.τ).loc Cert.GatedNormBwdRefIdeal.main_arg3) = m ((c.tc : Thread Cert.GatedNormBwdRefIdeal.nD Cert.GatedNormBwdRefIdeal.τ).loc Cert.GatedNormBwdRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1)
      ∧ r.2.mem ((c.tc : Thread Cert.Dt.nD Cert.Dt.τ).loc Cert.Dt.main_arg2) = m ((c.tc : Thread Cert.Dt.nD Cert.Dt.τ).loc Cert.Dt.main_arg2))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1)
      ∧ r.2.mem ((c.tc : Thread Cert.DtIdeal.nD Cert.DtIdeal.τ).loc Cert.DtIdeal.main_arg2) = m ((c.tc : Thread Cert.DtIdeal.nD Cert.DtIdeal.τ).loc Cert.DtIdeal.main_arg2))
      ∧ r.2.sem = fun _ => 0)

def quiescent_DtRefIdeal [hDtRefIdeal : Cert.DtRefIdeal.Facts] : Prop :=
  ∀ (m : (ℓ : Loc Cert.DtRefIdeal.nD Cert.DtRefIdeal.τ Cert.DtRefIdeal.sig) → Buf (Elt Ideal) ℓ) (g : Dev Cert.DtRefIdeal.nD → PrngReg), Pre_DtRefIdeal m →
    θ_run (Cert.DtRefIdeal.defs (F := Ideal)) (onTc (τ := Cert.DtRefIdeal.τ) (Cert.DtRefIdeal.main (F := Ideal))) ⟨m, fun _ => 0, g⟩ (fun r => (∀ c : Dev Cert.DtRefIdeal.nD,
      r.2.mem ((c.tc : Thread Cert.DtRefIdeal.nD Cert.DtRefIdeal.τ).loc Cert.DtRefIdeal.main_arg0) = m ((c.tc : Thread Cert.DtRefIdeal.nD Cert.DtRefIdeal.τ).loc Cert.DtRefIdeal.main_arg0)
      ∧ r.2.mem ((c.tc : Thread Cert.DtRefIdeal.nD Cert.DtRefIdeal.τ).loc Cert.DtRefIdeal.main_arg1) = m ((c.tc : Thread Cert.DtRefIdeal.nD Cert.DtRefIdeal.τ).loc Cert.DtRefIdeal.main_arg1)
      ∧ r.2.mem ((c.tc : Thread Cert.DtRefIdeal.nD Cert.DtRefIdeal.τ).loc Cert.DtRefIdeal.main_arg2) = m ((c.tc : Thread Cert.DtRefIdeal.nD Cert.DtRefIdeal.τ).loc Cert.DtRefIdeal.main_arg2))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1)
      ∧ r.2.mem ((c.tc : Thread Cert.QNorm.nD Cert.QNorm.τ).loc Cert.QNorm.main_arg2) = m ((c.tc : Thread Cert.QNorm.nD Cert.QNorm.τ).loc Cert.QNorm.main_arg2)
      ∧ r.2.mem ((c.tc : Thread Cert.QNorm.nD Cert.QNorm.τ).loc Cert.QNorm.main_arg3) = m ((c.tc : Thread Cert.QNorm.nD Cert.QNorm.τ).loc Cert.QNorm.main_arg3)
      ∧ r.2.mem ((c.tc : Thread Cert.QNorm.nD Cert.QNorm.τ).loc Cert.QNorm.main_arg4) = m ((c.tc : Thread Cert.QNorm.nD Cert.QNorm.τ).loc Cert.QNorm.main_arg4)
      ∧ r.2.mem ((c.tc : Thread Cert.QNorm.nD Cert.QNorm.τ).loc Cert.QNorm.main_arg5) = m ((c.tc : Thread Cert.QNorm.nD Cert.QNorm.τ).loc Cert.QNorm.main_arg5)
      ∧ r.2.mem ((c.tc : Thread Cert.QNorm.nD Cert.QNorm.τ).loc Cert.QNorm.main_arg6) = m ((c.tc : Thread Cert.QNorm.nD Cert.QNorm.τ).loc Cert.QNorm.main_arg6)
      ∧ r.2.mem ((c.tc : Thread Cert.QNorm.nD Cert.QNorm.τ).loc Cert.QNorm.main_arg7) = m ((c.tc : Thread Cert.QNorm.nD Cert.QNorm.τ).loc Cert.QNorm.main_arg7))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
      ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
      ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3)
      ∧ r.2.mem ((c.tc : Thread Cert.QNormIdeal.nD Cert.QNormIdeal.τ).loc Cert.QNormIdeal.main_arg4) = m ((c.tc : Thread Cert.QNormIdeal.nD Cert.QNormIdeal.τ).loc Cert.QNormIdeal.main_arg4)
      ∧ r.2.mem ((c.tc : Thread Cert.QNormIdeal.nD Cert.QNormIdeal.τ).loc Cert.QNormIdeal.main_arg5) = m ((c.tc : Thread Cert.QNormIdeal.nD Cert.QNormIdeal.τ).loc Cert.QNormIdeal.main_arg5)
      ∧ r.2.mem ((c.tc : Thread Cert.QNormIdeal.nD Cert.QNormIdeal.τ).loc Cert.QNormIdeal.main_arg6) = m ((c.tc : Thread Cert.QNormIdeal.nD Cert.QNormIdeal.τ).loc Cert.QNormIdeal.main_arg6)
      ∧ r.2.mem ((c.tc : Thread Cert.QNormIdeal.nD Cert.QNormIdeal.τ).loc Cert.QNormIdeal.main_arg7) = m ((c.tc : Thread Cert.QNormIdeal.nD Cert.QNormIdeal.τ).loc Cert.QNormIdeal.main_arg7))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1)
      ∧ r.2.mem ((c.tc : Thread Cert.QNormRefIdeal.nD Cert.QNormRefIdeal.τ).loc Cert.QNormRefIdeal.main_arg2) = m ((c.tc : Thread Cert.QNormRefIdeal.nD Cert.QNormRefIdeal.τ).loc Cert.QNormRefIdeal.main_arg2)
      ∧ r.2.mem ((c.tc : Thread Cert.QNormRefIdeal.nD Cert.QNormRefIdeal.τ).loc Cert.QNormRefIdeal.main_arg3) = m ((c.tc : Thread Cert.QNormRefIdeal.nD Cert.QNormRefIdeal.τ).loc Cert.QNormRefIdeal.main_arg3)
      ∧ r.2.mem ((c.tc : Thread Cert.QNormRefIdeal.nD Cert.QNormRefIdeal.τ).loc Cert.QNormRefIdeal.main_arg4) = m ((c.tc : Thread Cert.QNormRefIdeal.nD Cert.QNormRefIdeal.τ).loc Cert.QNormRefIdeal.main_arg4)
      ∧ r.2.mem ((c.tc : Thread Cert.QNormRefIdeal.nD Cert.QNormRefIdeal.τ).loc Cert.QNormRefIdeal.main_arg5) = m ((c.tc : Thread Cert.QNormRefIdeal.nD Cert.QNormRefIdeal.τ).loc Cert.QNormRefIdeal.main_arg5)
      ∧ r.2.mem ((c.tc : Thread Cert.QNormRefIdeal.nD Cert.QNormRefIdeal.τ).loc Cert.QNormRefIdeal.main_arg6) = m ((c.tc : Thread Cert.QNormRefIdeal.nD Cert.QNormRefIdeal.τ).loc Cert.QNormRefIdeal.main_arg6)
      ∧ r.2.mem ((c.tc : Thread Cert.QNormRefIdeal.nD Cert.QNormRefIdeal.τ).loc Cert.QNormRefIdeal.main_arg7) = m ((c.tc : Thread Cert.QNormRefIdeal.nD Cert.QNormRefIdeal.τ).loc Cert.QNormRefIdeal.main_arg7))
      ∧ r.2.sem = fun _ => 0)

def quiescent_KNorm [hKNorm : Cert.KNorm.Facts] : Prop :=
  ∀ (m : (ℓ : Loc Cert.KNorm.nD Cert.KNorm.τ Cert.KNorm.sig) → Buf (Elt Bits) ℓ) (g : Dev Cert.KNorm.nD → PrngReg), Pre_KNorm m →
    θ_run (Cert.KNorm.defs (F := Bits)) (onTc (τ := Cert.KNorm.τ) (Cert.KNorm.main (F := Bits))) ⟨m, fun _ => 0, g⟩ (fun r => (∀ c : Dev Cert.KNorm.nD,
      r.2.mem ((c.tc : Thread Cert.KNorm.nD Cert.KNorm.τ).loc Cert.KNorm.main_arg0) = m ((c.tc : Thread Cert.KNorm.nD Cert.KNorm.τ).loc Cert.KNorm.main_arg0)
      ∧ r.2.mem ((c.tc : Thread Cert.KNorm.nD Cert.KNorm.τ).loc Cert.KNorm.main_arg1) = m ((c.tc : Thread Cert.KNorm.nD Cert.KNorm.τ).loc Cert.KNorm.main_arg1)
      ∧ r.2.mem ((c.tc : Thread Cert.KNorm.nD Cert.KNorm.τ).loc Cert.KNorm.main_arg2) = m ((c.tc : Thread Cert.KNorm.nD Cert.KNorm.τ).loc Cert.KNorm.main_arg2)
      ∧ r.2.mem ((c.tc : Thread Cert.KNorm.nD Cert.KNorm.τ).loc Cert.KNorm.main_arg3) = m ((c.tc : Thread Cert.KNorm.nD Cert.KNorm.τ).loc Cert.KNorm.main_arg3)
      ∧ r.2.mem ((c.tc : Thread Cert.KNorm.nD Cert.KNorm.τ).loc Cert.KNorm.main_arg4) = m ((c.tc : Thread Cert.KNorm.nD Cert.KNorm.τ).loc Cert.KNorm.main_arg4)
      ∧ r.2.mem ((c.tc : Thread Cert.KNorm.nD Cert.KNorm.τ).loc Cert.KNorm.main_arg5) = m ((c.tc : Thread Cert.KNorm.nD Cert.KNorm.τ).loc Cert.KNorm.main_arg5)
      ∧ r.2.mem ((c.tc : Thread Cert.KNorm.nD Cert.KNorm.τ).loc Cert.KNorm.main_arg6) = m ((c.tc : Thread Cert.KNorm.nD Cert.KNorm.τ).loc Cert.KNorm.main_arg6)
      ∧ r.2.mem ((c.tc : Thread Cert.KNorm.nD Cert.KNorm.τ).loc Cert.KNorm.main_arg7) = m ((c.tc : Thread Cert.KNorm.nD Cert.KNorm.τ).loc Cert.KNorm.main_arg7))
      ∧ r.2.sem = fun _ => 0)

def quiescent_KNormIdeal [hKNormIdeal : Cert.KNormIdeal.Facts] : Prop :=
  ∀ (m : (ℓ : Loc Cert.KNormIdeal.nD Cert.KNormIdeal.τ Cert.KNormIdeal.sig) → Buf (Elt Ideal) ℓ) (g : Dev Cert.KNormIdeal.nD → PrngReg), Pre_KNormIdeal m →
    θ_run (Cert.KNormIdeal.defs (F := Ideal)) (onTc (τ := Cert.KNormIdeal.τ) (Cert.KNormIdeal.main (F := Ideal))) ⟨m, fun _ => 0, g⟩ (fun r => (∀ c : Dev Cert.KNormIdeal.nD,
      r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
      ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1)
      ∧ r.2.mem ((c.tc : Thread Cert.KNormIdeal.nD Cert.KNormIdeal.τ).loc Cert.KNormIdeal.main_arg2) = m ((c.tc : Thread Cert.KNormIdeal.nD Cert.KNormIdeal.τ).loc Cert.KNormIdeal.main_arg2)
      ∧ r.2.mem ((c.tc : Thread Cert.KNormIdeal.nD Cert.KNormIdeal.τ).loc Cert.KNormIdeal.main_arg3) = m ((c.tc : Thread Cert.KNormIdeal.nD Cert.KNormIdeal.τ).loc Cert.KNormIdeal.main_arg3)
      ∧ r.2.mem ((c.tc : Thread Cert.KNormIdeal.nD Cert.KNormIdeal.τ).loc Cert.KNormIdeal.main_arg4) = m ((c.tc : Thread Cert.KNormIdeal.nD Cert.KNormIdeal.τ).loc Cert.KNormIdeal.main_arg4)
      ∧ r.2.mem ((c.tc : Thread Cert.KNormIdeal.nD Cert.KNormIdeal.τ).loc Cert.KNormIdeal.main_arg5) = m ((c.tc : Thread Cert.KNormIdeal.nD Cert.KNormIdeal.τ).loc Cert.KNormIdeal.main_arg5)
      ∧ r.2.mem ((c.tc : Thread Cert.KNormIdeal.nD Cert.KNormIdeal.τ).loc Cert.KNormIdeal.main_arg6) = m ((c.tc : Thread Cert.KNormIdeal.nD Cert.KNormIdeal.τ).loc Cert.KNormIdeal.main_arg6)
      ∧ r.2.mem ((c.tc : Thread Cert.KNormIdeal.nD Cert.KNormIdeal.τ).loc Cert.KNormIdeal.main_arg7) = m ((c.tc : Thread Cert.KNormIdeal.nD Cert.KNormIdeal.τ).loc Cert.KNormIdeal.main_arg7))
      ∧ r.2.sem = fun _ => 0)

def quiescent_KNormRefIdeal [hKNormRefIdeal : Cert.KNormRefIdeal.Facts] : Prop :=
  ∀ (m : (ℓ : Loc Cert.KNormRefIdeal.nD Cert.KNormRefIdeal.τ Cert.KNormRefIdeal.sig) → Buf (Elt Ideal) ℓ) (g : Dev Cert.KNormRefIdeal.nD → PrngReg), Pre_KNormRefIdeal m →
    θ_run (Cert.KNormRefIdeal.defs (F := Ideal)) (onTc (τ := Cert.KNormRefIdeal.τ) (Cert.KNormRefIdeal.main (F := Ideal))) ⟨m, fun _ => 0, g⟩ (fun r => (∀ c : Dev Cert.KNormRefIdeal.nD,
      r.2.mem ((c.tc : Thread Cert.KNormRefIdeal.nD Cert.KNormRefIdeal.τ).loc Cert.KNormRefIdeal.main_arg0) = m ((c.tc : Thread Cert.KNormRefIdeal.nD Cert.KNormRefIdeal.τ).loc Cert.KNormRefIdeal.main_arg0)
      ∧ r.2.mem ((c.tc : Thread Cert.KNormRefIdeal.nD Cert.KNormRefIdeal.τ).loc Cert.KNormRefIdeal.main_arg1) = m ((c.tc : Thread Cert.KNormRefIdeal.nD Cert.KNormRefIdeal.τ).loc Cert.KNormRefIdeal.main_arg1)
      ∧ r.2.mem ((c.tc : Thread Cert.KNormRefIdeal.nD Cert.KNormRefIdeal.τ).loc Cert.KNormRefIdeal.main_arg2) = m ((c.tc : Thread Cert.KNormRefIdeal.nD Cert.KNormRefIdeal.τ).loc Cert.KNormRefIdeal.main_arg2)
      ∧ r.2.mem ((c.tc : Thread Cert.KNormRefIdeal.nD Cert.KNormRefIdeal.τ).loc Cert.KNormRefIdeal.main_arg3) = m ((c.tc : Thread Cert.KNormRefIdeal.nD Cert.KNormRefIdeal.τ).loc Cert.KNormRefIdeal.main_arg3)
      ∧ r.2.mem ((c.tc : Thread Cert.KNormRefIdeal.nD Cert.KNormRefIdeal.τ).loc Cert.KNormRefIdeal.main_arg4) = m ((c.tc : Thread Cert.KNormRefIdeal.nD Cert.KNormRefIdeal.τ).loc Cert.KNormRefIdeal.main_arg4)
      ∧ r.2.mem ((c.tc : Thread Cert.KNormRefIdeal.nD Cert.KNormRefIdeal.τ).loc Cert.KNormRefIdeal.main_arg5) = m ((c.tc : Thread Cert.KNormRefIdeal.nD Cert.KNormRefIdeal.τ).loc Cert.KNormRefIdeal.main_arg5)
      ∧ r.2.mem ((c.tc : Thread Cert.KNormRefIdeal.nD Cert.KNormRefIdeal.τ).loc Cert.KNormRefIdeal.main_arg6) = m ((c.tc : Thread Cert.KNormRefIdeal.nD Cert.KNormRefIdeal.τ).loc Cert.KNormRefIdeal.main_arg6)
      ∧ r.2.mem ((c.tc : Thread Cert.KNormRefIdeal.nD Cert.KNormRefIdeal.τ).loc Cert.KNormRefIdeal.main_arg7) = m ((c.tc : Thread Cert.KNormRefIdeal.nD Cert.KNormRefIdeal.τ).loc Cert.KNormRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_SsmDw_SsmDwIdeal : Prop :=
  True

def algebraic_SsmDwIdeal_SsmDwRefIdeal [hSsmDwIdeal : Cert.SsmDwIdeal.Facts] [hSsmDwRefIdeal : Cert.SsmDwRefIdeal.Facts] : Prop :=
  ∀ (m : (ℓ : Loc Cert.SsmDwIdeal.nD Cert.SsmDwIdeal.τ Cert.SsmDwIdeal.sig) → Buf (Elt Ideal) ℓ) (g : Dev Cert.SsmDwIdeal.nD → PrngReg)
    (m' : (ℓ : Loc Cert.SsmDwRefIdeal.nD Cert.SsmDwRefIdeal.τ Cert.SsmDwRefIdeal.sig) → Buf (Elt Ideal) ℓ) (g' : Dev Cert.SsmDwRefIdeal.nD → PrngReg), Pre_SsmDwIdeal m →
    (∀ c : Dev Cert.SsmDwIdeal.nD,
      m' ((c.tc : Thread Cert.SsmDwRefIdeal.nD Cert.SsmDwRefIdeal.τ).loc Cert.SsmDwRefIdeal.main_arg0) = m ((c.tc : Thread Cert.SsmDwIdeal.nD Cert.SsmDwIdeal.τ).loc Cert.SsmDwIdeal.main_arg0)
      ∧ m' ((c.tc : Thread Cert.SsmDwRefIdeal.nD Cert.SsmDwRefIdeal.τ).loc Cert.SsmDwRefIdeal.main_arg1) = m ((c.tc : Thread Cert.SsmDwIdeal.nD Cert.SsmDwIdeal.τ).loc Cert.SsmDwIdeal.main_arg1)) →
    ∃ (v0 : (c : Dev Cert.SsmDwIdeal.nD) → Buf (Elt Ideal) ((c.tc : Thread Cert.SsmDwIdeal.nD Cert.SsmDwIdeal.τ).loc Cert.SsmDwIdeal.main_v0)),
      θ_run (Cert.SsmDwIdeal.defs (F := Ideal)) (onTc (τ := Cert.SsmDwIdeal.τ) (Cert.SsmDwIdeal.main (F := Ideal))) ⟨m, fun _ => 0, g⟩ (fun r => ∀ c : Dev Cert.SsmDwIdeal.nD,
          r.2.mem ((c.tc : Thread Cert.SsmDwIdeal.nD Cert.SsmDwIdeal.τ).loc Cert.SsmDwIdeal.main_v0) = v0 c
          ∧ r.2.mem ((c.tc : Thread Cert.SsmDwIdeal.nD Cert.SsmDwIdeal.τ).loc Cert.SsmDwIdeal.main_arg0) = m ((c.tc : Thread Cert.SsmDwIdeal.nD Cert.SsmDwIdeal.τ).loc Cert.SsmDwIdeal.main_arg0)
          ∧ r.2.mem ((c.tc : Thread Cert.SsmDwIdeal.nD Cert.SsmDwIdeal.τ).loc Cert.SsmDwIdeal.main_arg1) = m ((c.tc : Thread Cert.SsmDwIdeal.nD Cert.SsmDwIdeal.τ).loc Cert.SsmDwIdeal.main_arg1))
      ∧ θ_run (Cert.SsmDwRefIdeal.defs (F := Ideal)) (onTc (τ := Cert.SsmDwRefIdeal.τ) (Cert.SsmDwRefIdeal.main (F := Ideal))) ⟨m', fun _ => 0, g'⟩ (fun r => ∀ c : Dev Cert.SsmDwRefIdeal.nD,
          r.2.mem ((c.tc : Thread Cert.SsmDwRefIdeal.nD Cert.SsmDwRefIdeal.τ).loc Cert.SsmDwRefIdeal.main_v5) = v0 c
          ∧ r.2.mem ((c.tc : Thread Cert.SsmDwRefIdeal.nD Cert.SsmDwRefIdeal.τ).loc Cert.SsmDwRefIdeal.main_arg0) = m' ((c.tc : Thread Cert.SsmDwRefIdeal.nD Cert.SsmDwRefIdeal.τ).loc Cert.SsmDwRefIdeal.main_arg0)
          ∧ r.2.mem ((c.tc : Thread Cert.SsmDwRefIdeal.nD Cert.SsmDwRefIdeal.τ).loc Cert.SsmDwRefIdeal.main_arg1) = m' ((c.tc : Thread Cert.SsmDwRefIdeal.nD Cert.SsmDwRefIdeal.τ).loc Cert.SsmDwRefIdeal.main_arg1))

def preserves_SsmDx_SsmDxIdeal : Prop :=
  True

def algebraic_SsmDxIdeal_SsmDxRefIdeal [hSsmDxIdeal : Cert.SsmDxIdeal.Facts] [hSsmDxRefIdeal : Cert.SsmDxRefIdeal.Facts] : Prop :=
  ∀ (m : (ℓ : Loc Cert.SsmDxIdeal.nD Cert.SsmDxIdeal.τ Cert.SsmDxIdeal.sig) → Buf (Elt Ideal) ℓ) (g : Dev Cert.SsmDxIdeal.nD → PrngReg)
    (m' : (ℓ : Loc Cert.SsmDxRefIdeal.nD Cert.SsmDxRefIdeal.τ Cert.SsmDxRefIdeal.sig) → Buf (Elt Ideal) ℓ) (g' : Dev Cert.SsmDxRefIdeal.nD → PrngReg), Pre_SsmDxIdeal m →
    (∀ c : Dev Cert.SsmDxIdeal.nD,
      m' ((c.tc : Thread Cert.SsmDxRefIdeal.nD Cert.SsmDxRefIdeal.τ).loc Cert.SsmDxRefIdeal.main_arg0) = m ((c.tc : Thread Cert.SsmDxIdeal.nD Cert.SsmDxIdeal.τ).loc Cert.SsmDxIdeal.main_arg0)
      ∧ m' ((c.tc : Thread Cert.SsmDxRefIdeal.nD Cert.SsmDxRefIdeal.τ).loc Cert.SsmDxRefIdeal.main_arg1) = m ((c.tc : Thread Cert.SsmDxIdeal.nD Cert.SsmDxIdeal.τ).loc Cert.SsmDxIdeal.main_arg1)) →
    ∃ (v0 : (c : Dev Cert.SsmDxIdeal.nD) → Buf (Elt Ideal) ((c.tc : Thread Cert.SsmDxIdeal.nD Cert.SsmDxIdeal.τ).loc Cert.SsmDxIdeal.main_v0)),
      θ_run (Cert.SsmDxIdeal.defs (F := Ideal)) (onTc (τ := Cert.SsmDxIdeal.τ) (Cert.SsmDxIdeal.main (F := Ideal))) ⟨m, fun _ => 0, g⟩ (fun r => ∀ c : Dev Cert.SsmDxIdeal.nD,
          r.2.mem ((c.tc : Thread Cert.SsmDxIdeal.nD Cert.SsmDxIdeal.τ).loc Cert.SsmDxIdeal.main_v0) = v0 c
          ∧ r.2.mem ((c.tc : Thread Cert.SsmDxIdeal.nD Cert.SsmDxIdeal.τ).loc Cert.SsmDxIdeal.main_arg0) = m ((c.tc : Thread Cert.SsmDxIdeal.nD Cert.SsmDxIdeal.τ).loc Cert.SsmDxIdeal.main_arg0)
          ∧ r.2.mem ((c.tc : Thread Cert.SsmDxIdeal.nD Cert.SsmDxIdeal.τ).loc Cert.SsmDxIdeal.main_arg1) = m ((c.tc : Thread Cert.SsmDxIdeal.nD Cert.SsmDxIdeal.τ).loc Cert.SsmDxIdeal.main_arg1))
      ∧ θ_run (Cert.SsmDxRefIdeal.defs (F := Ideal)) (onTc (τ := Cert.SsmDxRefIdeal.τ) (Cert.SsmDxRefIdeal.main (F := Ideal))) ⟨m', fun _ => 0, g'⟩ (fun r => ∀ c : Dev Cert.SsmDxRefIdeal.nD,
          r.2.mem ((c.tc : Thread Cert.SsmDxRefIdeal.nD Cert.SsmDxRefIdeal.τ).loc Cert.SsmDxRefIdeal.main_v4) = v0 c
          ∧ r.2.mem ((c.tc : Thread Cert.SsmDxRefIdeal.nD Cert.SsmDxRefIdeal.τ).loc Cert.SsmDxRefIdeal.main_arg0) = m' ((c.tc : Thread Cert.SsmDxRefIdeal.nD Cert.SsmDxRefIdeal.τ).loc Cert.SsmDxRefIdeal.main_arg0)
          ∧ r.2.mem ((c.tc : Thread Cert.SsmDxRefIdeal.nD Cert.SsmDxRefIdeal.τ).loc Cert.SsmDxRefIdeal.main_arg1) = m' ((c.tc : Thread Cert.SsmDxRefIdeal.nD Cert.SsmDxRefIdeal.τ).loc Cert.SsmDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)) →
    ∃ (v0 : (c : Dev Cert.SsmIdeal.nD) → Buf (Elt Ideal) ((c.tc : Thread Cert.SsmIdeal.nD Cert.SsmIdeal.τ).loc Cert.SsmIdeal.main_v0)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v0) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v2) = v0 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v2) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_AttnFwd_AttnFwdIdeal : Prop :=
  True

def algebraic_AttnFwdIdeal_AttnFwdRefIdeal_pre_finite_qk [hAttnFwdIdeal : Cert.AttnFwdIdeal.Facts] [hAttnFwdRefIdeal : Cert.AttnFwdRefIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qk m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v28) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v2) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v5) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1))

def preserves_UqDx_UqDxIdeal : Prop :=
  True

def algebraic_UqDxIdeal_UqDxRefIdeal [hUqDxIdeal : Cert.UqDxIdeal.Facts] [hUqDxRefIdeal : Cert.UqDxRefIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxRefIdeal.nD Cert.UqDxRefIdeal.τ Cert.UqDxRefIdeal.sig) → Buf (Elt Ideal) ℓ) (g' : Dev Cert.UqDxRefIdeal.nD → PrngReg), Pre_UqDxIdeal m →
    (∀ c : Dev Cert.UqDxIdeal.nD,
      m' ((c.tc : Thread Cert.UqDxRefIdeal.nD Cert.UqDxRefIdeal.τ).loc Cert.UqDxRefIdeal.main_arg0) = m ((c.tc : Thread Cert.UqDxIdeal.nD Cert.UqDxIdeal.τ).loc Cert.UqDxIdeal.main_arg0)
      ∧ m' ((c.tc : Thread Cert.UqDxRefIdeal.nD Cert.UqDxRefIdeal.τ).loc Cert.UqDxRefIdeal.main_arg1) = m ((c.tc : Thread Cert.UqDxIdeal.nD Cert.UqDxIdeal.τ).loc Cert.UqDxIdeal.main_arg1)) →
    ∃ (v0 : (c : Dev Cert.UqDxIdeal.nD) → Buf (Elt Ideal) ((c.tc : Thread Cert.UqDxIdeal.nD Cert.UqDxIdeal.τ).loc Cert.UqDxIdeal.main_v0)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v0) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ θ_run (Cert.UqDxRefIdeal.defs (F := Ideal)) (onTc (τ := Cert.UqDxRefIdeal.τ) (Cert.UqDxRefIdeal.main (F := Ideal))) ⟨m', fun _ => 0, g'⟩ (fun r => ∀ c : Dev Cert.UqDxRefIdeal.nD,
          r.2.mem ((c.tc : Thread Cert.UqDxRefIdeal.nD Cert.UqDxRefIdeal.τ).loc Cert.UqDxRefIdeal.main_v4) = v0 c
          ∧ r.2.mem ((c.tc : Thread Cert.UqDxRefIdeal.nD Cert.UqDxRefIdeal.τ).loc Cert.UqDxRefIdeal.main_arg0) = m' ((c.tc : Thread Cert.UqDxRefIdeal.nD Cert.UqDxRefIdeal.τ).loc Cert.UqDxRefIdeal.main_arg0)
          ∧ r.2.mem ((c.tc : Thread Cert.UqDxRefIdeal.nD Cert.UqDxRefIdeal.τ).loc Cert.UqDxRefIdeal.main_arg1) = m' ((c.tc : Thread Cert.UqDxRefIdeal.nD Cert.UqDxRefIdeal.τ).loc Cert.UqDxRefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v2) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_UkvDw_UkvDwIdeal : Prop :=
  True

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v5) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1))

def preserves_UkvDx_UkvDxIdeal : Prop :=
  True

def algebraic_UkvDxIdeal_UkvDxRefIdeal [hUkvDxIdeal : Cert.UkvDxIdeal.Facts] [hUkvDxRefIdeal : Cert.UkvDxRefIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxRefIdeal.nD Cert.UkvDxRefIdeal.τ Cert.UkvDxRefIdeal.sig) → Buf (Elt Ideal) ℓ) (g' : Dev Cert.UkvDxRefIdeal.nD → PrngReg), Pre_UkvDxIdeal m →
    (∀ c : Dev Cert.UkvDxIdeal.nD,
      m' ((c.tc : Thread Cert.UkvDxRefIdeal.nD Cert.UkvDxRefIdeal.τ).loc Cert.UkvDxRefIdeal.main_arg0) = m ((c.tc : Thread Cert.UkvDxIdeal.nD Cert.UkvDxIdeal.τ).loc Cert.UkvDxIdeal.main_arg0)
      ∧ m' ((c.tc : Thread Cert.UkvDxRefIdeal.nD Cert.UkvDxRefIdeal.τ).loc Cert.UkvDxRefIdeal.main_arg1) = m ((c.tc : Thread Cert.UkvDxIdeal.nD Cert.UkvDxIdeal.τ).loc Cert.UkvDxIdeal.main_arg1)) →
    ∃ (v0 : (c : Dev Cert.UkvDxIdeal.nD) → Buf (Elt Ideal) ((c.tc : Thread Cert.UkvDxIdeal.nD Cert.UkvDxIdeal.τ).loc Cert.UkvDxIdeal.main_v0)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v0) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ θ_run (Cert.UkvDxRefIdeal.defs (F := Ideal)) (onTc (τ := Cert.UkvDxRefIdeal.τ) (Cert.UkvDxRefIdeal.main (F := Ideal))) ⟨m', fun _ => 0, g'⟩ (fun r => ∀ c : Dev Cert.UkvDxRefIdeal.nD,
          r.2.mem ((c.tc : Thread Cert.UkvDxRefIdeal.nD Cert.UkvDxRefIdeal.τ).loc Cert.UkvDxRefIdeal.main_v4) = v0 c
          ∧ r.2.mem ((c.tc : Thread Cert.UkvDxRefIdeal.nD Cert.UkvDxRefIdeal.τ).loc Cert.UkvDxRefIdeal.main_arg0) = m' ((c.tc : Thread Cert.UkvDxRefIdeal.nD Cert.UkvDxRefIdeal.τ).loc Cert.UkvDxRefIdeal.main_arg0)
          ∧ r.2.mem ((c.tc : Thread Cert.UkvDxRefIdeal.nD Cert.UkvDxRefIdeal.τ).loc Cert.UkvDxRefIdeal.main_arg1) = m' ((c.tc : Thread Cert.UkvDxRefIdeal.nD Cert.UkvDxRefIdeal.τ).loc Cert.UkvDxRefIdeal.main_arg1))

def preserves_MlaDx_MlaDxIdeal : Prop :=
  True

def algebraic_MlaDxIdeal_MlaDxRefIdeal [hMlaDxIdeal : Cert.MlaDxIdeal.Facts] [hMlaDxRefIdeal : Cert.MlaDxRefIdeal.Facts] : Prop :=
  ∀ (m : (ℓ : Loc Cert.MlaDxIdeal.nD Cert.MlaDxIdeal.τ Cert.MlaDxIdeal.sig) → Buf (Elt Ideal) ℓ) (g : Dev Cert.MlaDxIdeal.nD → PrngReg)
    (m' : (ℓ : Loc Cert.MlaDxRefIdeal.nD Cert.MlaDxRefIdeal.τ Cert.MlaDxRefIdeal.sig) → Buf (Elt Ideal) ℓ) (g' : Dev Cert.MlaDxRefIdeal.nD → PrngReg), Pre_MlaDxIdeal m →
    (∀ c : Dev Cert.MlaDxIdeal.nD,
      m' ((c.tc : Thread Cert.MlaDxRefIdeal.nD Cert.MlaDxRefIdeal.τ).loc Cert.MlaDxRefIdeal.main_arg0) = m ((c.tc : Thread Cert.MlaDxIdeal.nD Cert.MlaDxIdeal.τ).loc Cert.MlaDxIdeal.main_arg0)
      ∧ m' ((c.tc : Thread Cert.MlaDxRefIdeal.nD Cert.MlaDxRefIdeal.τ).loc Cert.MlaDxRefIdeal.main_arg1) = m ((c.tc : Thread Cert.MlaDxIdeal.nD Cert.MlaDxIdeal.τ).loc Cert.MlaDxIdeal.main_arg1)) →
    ∃ (v0 : (c : Dev Cert.MlaDxIdeal.nD) → Buf (Elt Ideal) ((c.tc : Thread Cert.MlaDxIdeal.nD Cert.MlaDxIdeal.τ).loc Cert.MlaDxIdeal.main_v0)),
      θ_run (Cert.MlaDxIdeal.defs (F := Ideal)) (onTc (τ := Cert.MlaDxIdeal.τ) (Cert.MlaDxIdeal.main (F := Ideal))) ⟨m, fun _ => 0, g⟩ (fun r => ∀ c : Dev Cert.MlaDxIdeal.nD,
          r.2.mem ((c.tc : Thread Cert.MlaDxIdeal.nD Cert.MlaDxIdeal.τ).loc Cert.MlaDxIdeal.main_v0) = v0 c
          ∧ r.2.mem ((c.tc : Thread Cert.MlaDxIdeal.nD Cert.MlaDxIdeal.τ).loc Cert.MlaDxIdeal.main_arg0) = m ((c.tc : Thread Cert.MlaDxIdeal.nD Cert.MlaDxIdeal.τ).loc Cert.MlaDxIdeal.main_arg0)
          ∧ r.2.mem ((c.tc : Thread Cert.MlaDxIdeal.nD Cert.MlaDxIdeal.τ).loc Cert.MlaDxIdeal.main_arg1) = m ((c.tc : Thread Cert.MlaDxIdeal.nD Cert.MlaDxIdeal.τ).loc Cert.MlaDxIdeal.main_arg1))
      ∧ θ_run (Cert.MlaDxRefIdeal.defs (F := Ideal)) (onTc (τ := Cert.MlaDxRefIdeal.τ) (Cert.MlaDxRefIdeal.main (F := Ideal))) ⟨m', fun _ => 0, g'⟩ (fun r => ∀ c : Dev Cert.MlaDxRefIdeal.nD,
          r.2.mem ((c.tc : Thread Cert.MlaDxRefIdeal.nD Cert.MlaDxRefIdeal.τ).loc Cert.MlaDxRefIdeal.main_v5) = v0 c
          ∧ r.2.mem ((c.tc : Thread Cert.MlaDxRefIdeal.nD Cert.MlaDxRefIdeal.τ).loc Cert.MlaDxRefIdeal.main_arg0) = m' ((c.tc : Thread Cert.MlaDxRefIdeal.nD Cert.MlaDxRefIdeal.τ).loc Cert.MlaDxRefIdeal.main_arg0)
          ∧ r.2.mem ((c.tc : Thread Cert.MlaDxRefIdeal.nD Cert.MlaDxRefIdeal.τ).loc Cert.MlaDxRefIdeal.main_arg1) = m' ((c.tc : Thread Cert.MlaDxRefIdeal.nD Cert.MlaDxRefIdeal.τ).loc Cert.MlaDxRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v2) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1))

def preserves_PleDw_PleDwIdeal : Prop :=
  True

def algebraic_PleDwIdeal_PleDwRefIdeal [hPleDwIdeal : Cert.PleDwIdeal.Facts] [hPleDwRefIdeal : Cert.PleDwRefIdeal.Facts] : Prop :=
  ∀ (m : (ℓ : Loc Cert.PleDwIdeal.nD Cert.PleDwIdeal.τ Cert.PleDwIdeal.sig) → Buf (Elt Ideal) ℓ) (g : Dev Cert.PleDwIdeal.nD → PrngReg)
    (m' : (ℓ : Loc Cert.PleDwRefIdeal.nD Cert.PleDwRefIdeal.τ Cert.PleDwRefIdeal.sig) → Buf (Elt Ideal) ℓ) (g' : Dev Cert.PleDwRefIdeal.nD → PrngReg), Pre_PleDwIdeal m →
    (∀ c : Dev Cert.PleDwIdeal.nD,
      m' ((c.tc : Thread Cert.PleDwRefIdeal.nD Cert.PleDwRefIdeal.τ).loc Cert.PleDwRefIdeal.main_arg0) = m ((c.tc : Thread Cert.PleDwIdeal.nD Cert.PleDwIdeal.τ).loc Cert.PleDwIdeal.main_arg0)
      ∧ m' ((c.tc : Thread Cert.PleDwRefIdeal.nD Cert.PleDwRefIdeal.τ).loc Cert.PleDwRefIdeal.main_arg1) = m ((c.tc : Thread Cert.PleDwIdeal.nD Cert.PleDwIdeal.τ).loc Cert.PleDwIdeal.main_arg1)) →
    ∃ (v0 : (c : Dev Cert.PleDwIdeal.nD) → Buf (Elt Ideal) ((c.tc : Thread Cert.PleDwIdeal.nD Cert.PleDwIdeal.τ).loc Cert.PleDwIdeal.main_v0)),
      θ_run (Cert.PleDwIdeal.defs (F := Ideal)) (onTc (τ := Cert.PleDwIdeal.τ) (Cert.PleDwIdeal.main (F := Ideal))) ⟨m, fun _ => 0, g⟩ (fun r => ∀ c : Dev Cert.PleDwIdeal.nD,
          r.2.mem ((c.tc : Thread Cert.PleDwIdeal.nD Cert.PleDwIdeal.τ).loc Cert.PleDwIdeal.main_v0) = v0 c
          ∧ r.2.mem ((c.tc : Thread Cert.PleDwIdeal.nD Cert.PleDwIdeal.τ).loc Cert.PleDwIdeal.main_arg0) = m ((c.tc : Thread Cert.PleDwIdeal.nD Cert.PleDwIdeal.τ).loc Cert.PleDwIdeal.main_arg0)
          ∧ r.2.mem ((c.tc : Thread Cert.PleDwIdeal.nD Cert.PleDwIdeal.τ).loc Cert.PleDwIdeal.main_arg1) = m ((c.tc : Thread Cert.PleDwIdeal.nD Cert.PleDwIdeal.τ).loc Cert.PleDwIdeal.main_arg1))
      ∧ θ_run (Cert.PleDwRefIdeal.defs (F := Ideal)) (onTc (τ := Cert.PleDwRefIdeal.τ) (Cert.PleDwRefIdeal.main (F := Ideal))) ⟨m', fun _ => 0, g'⟩ (fun r => ∀ c : Dev Cert.PleDwRefIdeal.nD,
          r.2.mem ((c.tc : Thread Cert.PleDwRefIdeal.nD Cert.PleDwRefIdeal.τ).loc Cert.PleDwRefIdeal.main_v5) = v0 c
          ∧ r.2.mem ((c.tc : Thread Cert.PleDwRefIdeal.nD Cert.PleDwRefIdeal.τ).loc Cert.PleDwRefIdeal.main_arg0) = m' ((c.tc : Thread Cert.PleDwRefIdeal.nD Cert.PleDwRefIdeal.τ).loc Cert.PleDwRefIdeal.main_arg0)
          ∧ r.2.mem ((c.tc : Thread Cert.PleDwRefIdeal.nD Cert.PleDwRefIdeal.τ).loc Cert.PleDwRefIdeal.main_arg1) = m' ((c.tc : Thread Cert.PleDwRefIdeal.nD Cert.PleDwRefIdeal.τ).loc Cert.PleDwRefIdeal.main_arg1))

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)) →
    ∃ (v0 : (c : Dev Cert.ReluIdeal.nD) → Buf (Elt Ideal) ((c.tc : Thread Cert.ReluIdeal.nD Cert.ReluIdeal.τ).loc Cert.ReluIdeal.main_v0)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v0) = v0 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v2) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0))

def preserves_ReluBwd_ReluBwdIdeal : Prop :=
  True

def algebraic_ReluBwdIdeal_ReluBwdRefIdeal [hReluBwdIdeal : Cert.ReluBwdIdeal.Facts] [hReluBwdRefIdeal : Cert.ReluBwdRefIdeal.Facts] : Prop :=
  ∀ (m : (ℓ : Loc Cert.ReluBwdIdeal.nD Cert.ReluBwdIdeal.τ Cert.ReluBwdIdeal.sig) → Buf (Elt Ideal) ℓ) (g : Dev Cert.ReluBwdIdeal.nD → PrngReg)
    (m' : (ℓ : Loc Cert.ReluBwdRefIdeal.nD Cert.ReluBwdRefIdeal.τ Cert.ReluBwdRefIdeal.sig) → Buf (Elt Ideal) ℓ) (g' : Dev Cert.ReluBwdRefIdeal.nD → PrngReg), Pre_ReluBwdIdeal m →
    (∀ c : Dev Cert.ReluBwdIdeal.nD,
      m' ((c.tc : Thread Cert.ReluBwdRefIdeal.nD Cert.ReluBwdRefIdeal.τ).loc Cert.ReluBwdRefIdeal.main_arg0) = m ((c.tc : Thread Cert.ReluBwdIdeal.nD Cert.ReluBwdIdeal.τ).loc Cert.ReluBwdIdeal.main_arg0)
      ∧ m' ((c.tc : Thread Cert.ReluBwdRefIdeal.nD Cert.ReluBwdRefIdeal.τ).loc Cert.ReluBwdRefIdeal.main_arg1) = m ((c.tc : Thread Cert.ReluBwdIdeal.nD Cert.ReluBwdIdeal.τ).loc Cert.ReluBwdIdeal.main_arg1)) →
    ∃ (v0 : (c : Dev Cert.ReluBwdIdeal.nD) → Buf (Elt Ideal) ((c.tc : Thread Cert.ReluBwdIdeal.nD Cert.ReluBwdIdeal.τ).loc Cert.ReluBwdIdeal.main_v0)),
      θ_run (Cert.ReluBwdIdeal.defs (F := Ideal)) (onTc (τ := Cert.ReluBwdIdeal.τ) (Cert.ReluBwdIdeal.main (F := Ideal))) ⟨m, fun _ => 0, g⟩ (fun r => ∀ c : Dev Cert.ReluBwdIdeal.nD,
          r.2.mem ((c.tc : Thread Cert.ReluBwdIdeal.nD Cert.ReluBwdIdeal.τ).loc Cert.ReluBwdIdeal.main_v0) = v0 c
          ∧ r.2.mem ((c.tc : Thread Cert.ReluBwdIdeal.nD Cert.ReluBwdIdeal.τ).loc Cert.ReluBwdIdeal.main_arg0) = m ((c.tc : Thread Cert.ReluBwdIdeal.nD Cert.ReluBwdIdeal.τ).loc Cert.ReluBwdIdeal.main_arg0)
          ∧ r.2.mem ((c.tc : Thread Cert.ReluBwdIdeal.nD Cert.ReluBwdIdeal.τ).loc Cert.ReluBwdIdeal.main_arg1) = m ((c.tc : Thread Cert.ReluBwdIdeal.nD Cert.ReluBwdIdeal.τ).loc Cert.ReluBwdIdeal.main_arg1))
      ∧ θ_run (Cert.ReluBwdRefIdeal.defs (F := Ideal)) (onTc (τ := Cert.ReluBwdRefIdeal.τ) (Cert.ReluBwdRefIdeal.main (F := Ideal))) ⟨m', fun _ => 0, g'⟩ (fun r => ∀ c : Dev Cert.ReluBwdRefIdeal.nD,
          r.2.mem ((c.tc : Thread Cert.ReluBwdRefIdeal.nD Cert.ReluBwdRefIdeal.τ).loc Cert.ReluBwdRefIdeal.main_v10) = v0 c
          ∧ r.2.mem ((c.tc : Thread Cert.ReluBwdRefIdeal.nD Cert.ReluBwdRefIdeal.τ).loc Cert.ReluBwdRefIdeal.main_arg0) = m' ((c.tc : Thread Cert.ReluBwdRefIdeal.nD Cert.ReluBwdRefIdeal.τ).loc Cert.ReluBwdRefIdeal.main_arg0)
          ∧ r.2.mem ((c.tc : Thread Cert.ReluBwdRefIdeal.nD Cert.ReluBwdRefIdeal.τ).loc Cert.ReluBwdRefIdeal.main_arg1) = m' ((c.tc : Thread Cert.ReluBwdRefIdeal.nD Cert.ReluBwdRefIdeal.τ).loc Cert.ReluBwdRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v15) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v29) = v0 c
          ∧ r.2.mem ((c.tc : Thread Cert.MergeBwdRefIdeal.nD Cert.MergeBwdRefIdeal.τ).loc Cert.MergeBwdRefIdeal.main_v30) = v1 c
          ∧ r.2.mem ((c.tc : Thread Cert.MergeBwdRefIdeal.nD Cert.MergeBwdRefIdeal.τ).loc Cert.MergeBwdRefIdeal.main_v31) = v2 c
          ∧ r.2.mem ((c.tc : Thread Cert.MergeBwdRefIdeal.nD Cert.MergeBwdRefIdeal.τ).loc Cert.MergeBwdRefIdeal.main_v32) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_PleMerge_PleMergeIdeal : Prop :=
  True

def algebraic_PleMergeIdeal_PleMergeRefIdeal [hPleMergeIdeal : Cert.PleMergeIdeal.Facts] [hPleMergeRefIdeal : Cert.PleMergeRefIdeal.Facts] : Prop :=
  ∀ (m : (ℓ : Loc Cert.PleMergeIdeal.nD Cert.PleMergeIdeal.τ Cert.PleMergeIdeal.sig) → Buf (Elt Ideal) ℓ) (g : Dev Cert.PleMergeIdeal.nD → PrngReg)
    (m' : (ℓ : Loc Cert.PleMergeRefIdeal.nD Cert.PleMergeRefIdeal.τ Cert.PleMergeRefIdeal.sig) → Buf (Elt Ideal) ℓ) (g' : Dev Cert.PleMergeRefIdeal.nD → PrngReg), Pre_PleMergeIdeal m →
    (∀ c : Dev Cert.PleMergeIdeal.nD,
      m' ((c.tc : Thread Cert.PleMergeRefIdeal.nD Cert.PleMergeRefIdeal.τ).loc Cert.PleMergeRefIdeal.main_arg0) = m ((c.tc : Thread Cert.PleMergeIdeal.nD Cert.PleMergeIdeal.τ).loc Cert.PleMergeIdeal.main_arg0)
      ∧ m' ((c.tc : Thread Cert.PleMergeRefIdeal.nD Cert.PleMergeRefIdeal.τ).loc Cert.PleMergeRefIdeal.main_arg1) = m ((c.tc : Thread Cert.PleMergeIdeal.nD Cert.PleMergeIdeal.τ).loc Cert.PleMergeIdeal.main_arg1)
      ∧ m' ((c.tc : Thread Cert.PleMergeRefIdeal.nD Cert.PleMergeRefIdeal.τ).loc Cert.PleMergeRefIdeal.main_arg2) = m ((c.tc : Thread Cert.PleMergeIdeal.nD Cert.PleMergeIdeal.τ).loc Cert.PleMergeIdeal.main_arg2)) →
    ∃ (v0 : (c : Dev Cert.PleMergeIdeal.nD) → Buf (Elt Ideal) ((c.tc : Thread Cert.PleMergeIdeal.nD Cert.PleMergeIdeal.τ).loc Cert.PleMergeIdeal.main_v0)),
      θ_run (Cert.PleMergeIdeal.defs (F := Ideal)) (onTc (τ := Cert.PleMergeIdeal.τ) (Cert.PleMergeIdeal.main (F := Ideal))) ⟨m, fun _ => 0, g⟩ (fun r => ∀ c : Dev Cert.PleMergeIdeal.nD,
          r.2.mem ((c.tc : Thread Cert.PleMergeIdeal.nD Cert.PleMergeIdeal.τ).loc Cert.PleMergeIdeal.main_v0) = v0 c
          ∧ r.2.mem ((c.tc : Thread Cert.PleMergeIdeal.nD Cert.PleMergeIdeal.τ).loc Cert.PleMergeIdeal.main_arg0) = m ((c.tc : Thread Cert.PleMergeIdeal.nD Cert.PleMergeIdeal.τ).loc Cert.PleMergeIdeal.main_arg0)
          ∧ r.2.mem ((c.tc : Thread Cert.PleMergeIdeal.nD Cert.PleMergeIdeal.τ).loc Cert.PleMergeIdeal.main_arg1) = m ((c.tc : Thread Cert.PleMergeIdeal.nD Cert.PleMergeIdeal.τ).loc Cert.PleMergeIdeal.main_arg1)
          ∧ r.2.mem ((c.tc : Thread Cert.PleMergeIdeal.nD Cert.PleMergeIdeal.τ).loc Cert.PleMergeIdeal.main_arg2) = m ((c.tc : Thread Cert.PleMergeIdeal.nD Cert.PleMergeIdeal.τ).loc Cert.PleMergeIdeal.main_arg2))
      ∧ θ_run (Cert.PleMergeRefIdeal.defs (F := Ideal)) (onTc (τ := Cert.PleMergeRefIdeal.τ) (Cert.PleMergeRefIdeal.main (F := Ideal))) ⟨m', fun _ => 0, g'⟩ (fun r => ∀ c : Dev Cert.PleMergeRefIdeal.nD,
          r.2.mem ((c.tc : Thread Cert.PleMergeRefIdeal.nD Cert.PleMergeRefIdeal.τ).loc Cert.PleMergeRefIdeal.main_v7) = v0 c
          ∧ r.2.mem ((c.tc : Thread Cert.PleMergeRefIdeal.nD Cert.PleMergeRefIdeal.τ).loc Cert.PleMergeRefIdeal.main_arg0) = m' ((c.tc : Thread Cert.PleMergeRefIdeal.nD Cert.PleMergeRefIdeal.τ).loc Cert.PleMergeRefIdeal.main_arg0)
          ∧ r.2.mem ((c.tc : Thread Cert.PleMergeRefIdeal.nD Cert.PleMergeRefIdeal.τ).loc Cert.PleMergeRefIdeal.main_arg1) = m' ((c.tc : Thread Cert.PleMergeRefIdeal.nD Cert.PleMergeRefIdeal.τ).loc Cert.PleMergeRefIdeal.main_arg1)
          ∧ r.2.mem ((c.tc : Thread Cert.PleMergeRefIdeal.nD Cert.PleMergeRefIdeal.τ).loc Cert.PleMergeRefIdeal.main_arg2) = m' ((c.tc : Thread Cert.PleMergeRefIdeal.nD Cert.PleMergeRefIdeal.τ).loc Cert.PleMergeRefIdeal.main_arg2))

def preserves_PleMergeBwd_PleMergeBwdIdeal : Prop :=
  True

def algebraic_PleMergeBwdIdeal_PleMergeBwdRefIdeal [hPleMergeBwdIdeal : Cert.PleMergeBwdIdeal.Facts] [hPleMergeBwdRefIdeal : Cert.PleMergeBwdRefIdeal.Facts] : Prop :=
  ∀ (m : (ℓ : Loc Cert.PleMergeBwdIdeal.nD Cert.PleMergeBwdIdeal.τ Cert.PleMergeBwdIdeal.sig) → Buf (Elt Ideal) ℓ) (g : Dev Cert.PleMergeBwdIdeal.nD → PrngReg)
    (m' : (ℓ : Loc Cert.PleMergeBwdRefIdeal.nD Cert.PleMergeBwdRefIdeal.τ Cert.PleMergeBwdRefIdeal.sig) → Buf (Elt Ideal) ℓ) (g' : Dev Cert.PleMergeBwdRefIdeal.nD → PrngReg), Pre_PleMergeBwdIdeal m →
    (∀ c : Dev Cert.PleMergeBwdIdeal.nD,
      m' ((c.tc : Thread Cert.PleMergeBwdRefIdeal.nD Cert.PleMergeBwdRefIdeal.τ).loc Cert.PleMergeBwdRefIdeal.main_arg0) = m ((c.tc : Thread Cert.PleMergeBwdIdeal.nD Cert.PleMergeBwdIdeal.τ).loc Cert.PleMergeBwdIdeal.main_arg0)
      ∧ m' ((c.tc : Thread Cert.PleMergeBwdRefIdeal.nD Cert.PleMergeBwdRefIdeal.τ).loc Cert.PleMergeBwdRefIdeal.main_arg1) = m ((c.tc : Thread Cert.PleMergeBwdIdeal.nD Cert.PleMergeBwdIdeal.τ).loc Cert.PleMergeBwdIdeal.main_arg1)
      ∧ m' ((c.tc : Thread Cert.PleMergeBwdRefIdeal.nD Cert.PleMergeBwdRefIdeal.τ).loc Cert.PleMergeBwdRefIdeal.main_arg2) = m ((c.tc : Thread Cert.PleMergeBwdIdeal.nD Cert.PleMergeBwdIdeal.τ).loc Cert.PleMergeBwdIdeal.main_arg2)
      ∧ m' ((c.tc : Thread Cert.PleMergeBwdRefIdeal.nD Cert.PleMergeBwdRefIdeal.τ).loc Cert.PleMergeBwdRefIdeal.main_arg3) = m ((c.tc : Thread Cert.PleMergeBwdIdeal.nD Cert.PleMergeBwdIdeal.τ).loc Cert.PleMergeBwdIdeal.main_arg3)) →
    ∃ (v0 : (c : Dev Cert.PleMergeBwdIdeal.nD) → Buf (Elt Ideal) ((c.tc : Thread Cert.PleMergeBwdIdeal.nD Cert.PleMergeBwdIdeal.τ).loc Cert.PleMergeBwdIdeal.main_v0_0)) (v1 : (c : Dev Cert.PleMergeBwdIdeal.nD) → Buf (Elt Ideal) ((c.tc : Thread Cert.PleMergeBwdIdeal.nD Cert.PleMergeBwdIdeal.τ).loc Cert.PleMergeBwdIdeal.main_v0_1)) (v2 : (c : Dev Cert.PleMergeBwdIdeal.nD) → Buf (Elt Ideal) ((c.tc : Thread Cert.PleMergeBwdIdeal.nD Cert.PleMergeBwdIdeal.τ).loc Cert.PleMergeBwdIdeal.main_v0_2)),
      θ_run (Cert.PleMergeBwdIdeal.defs (F := Ideal)) (onTc (τ := Cert.PleMergeBwdIdeal.τ) (Cert.PleMergeBwdIdeal.main (F := Ideal))) ⟨m, fun _ => 0, g⟩ (fun r => ∀ c : Dev Cert.PleMergeBwdIdeal.nD,
          r.2.mem ((c.tc : Thread Cert.PleMergeBwdIdeal.nD Cert.PleMergeBwdIdeal.τ).loc Cert.PleMergeBwdIdeal.main_v0_0) = v0 c
          ∧ r.2.mem ((c.tc : Thread Cert.PleMergeBwdIdeal.nD Cert.PleMergeBwdIdeal.τ).loc Cert.PleMergeBwdIdeal.main_v0_1) = v1 c
          ∧ r.2.mem ((c.tc : Thread Cert.PleMergeBwdIdeal.nD Cert.PleMergeBwdIdeal.τ).loc Cert.PleMergeBwdIdeal.main_v0_2) = v2 c
          ∧ r.2.mem ((c.tc : Thread Cert.PleMergeBwdIdeal.nD Cert.PleMergeBwdIdeal.τ).loc Cert.PleMergeBwdIdeal.main_arg0) = m ((c.tc : Thread Cert.PleMergeBwdIdeal.nD Cert.PleMergeBwdIdeal.τ).loc Cert.PleMergeBwdIdeal.main_arg0)
          ∧ r.2.mem ((c.tc : Thread Cert.PleMergeBwdIdeal.nD Cert.PleMergeBwdIdeal.τ).loc Cert.PleMergeBwdIdeal.main_arg1) = m ((c.tc : Thread Cert.PleMergeBwdIdeal.nD Cert.PleMergeBwdIdeal.τ).loc Cert.PleMergeBwdIdeal.main_arg1)
          ∧ r.2.mem ((c.tc : Thread Cert.PleMergeBwdIdeal.nD Cert.PleMergeBwdIdeal.τ).loc Cert.PleMergeBwdIdeal.main_arg2) = m ((c.tc : Thread Cert.PleMergeBwdIdeal.nD Cert.PleMergeBwdIdeal.τ).loc Cert.PleMergeBwdIdeal.main_arg2)
          ∧ r.2.mem ((c.tc : Thread Cert.PleMergeBwdIdeal.nD Cert.PleMergeBwdIdeal.τ).loc Cert.PleMergeBwdIdeal.main_arg3) = m ((c.tc : Thread Cert.PleMergeBwdIdeal.nD Cert.PleMergeBwdIdeal.τ).loc Cert.PleMergeBwdIdeal.main_arg3))
      ∧ θ_run (Cert.PleMergeBwdRefIdeal.defs (F := Ideal)) (onTc (τ := Cert.PleMergeBwdRefIdeal.τ) (Cert.PleMergeBwdRefIdeal.main (F := Ideal))) ⟨m', fun _ => 0, g'⟩ (fun r => ∀ c : Dev Cert.PleMergeBwdRefIdeal.nD,
          r.2.mem ((c.tc : Thread Cert.PleMergeBwdRefIdeal.nD Cert.PleMergeBwdRefIdeal.τ).loc Cert.PleMergeBwdRefIdeal.main_arg3) = v0 c
          ∧ r.2.mem ((c.tc : Thread Cert.PleMergeBwdRefIdeal.nD Cert.PleMergeBwdRefIdeal.τ).loc Cert.PleMergeBwdRefIdeal.main_v15) = v1 c
          ∧ r.2.mem ((c.tc : Thread Cert.PleMergeBwdRefIdeal.nD Cert.PleMergeBwdRefIdeal.τ).loc Cert.PleMergeBwdRefIdeal.main_v16) = v2 c
          ∧ r.2.mem ((c.tc : Thread Cert.PleMergeBwdRefIdeal.nD Cert.PleMergeBwdRefIdeal.τ).loc Cert.PleMergeBwdRefIdeal.main_arg0) = m' ((c.tc : Thread Cert.PleMergeBwdRefIdeal.nD Cert.PleMergeBwdRefIdeal.τ).loc Cert.PleMergeBwdRefIdeal.main_arg0)
          ∧ r.2.mem ((c.tc : Thread Cert.PleMergeBwdRefIdeal.nD Cert.PleMergeBwdRefIdeal.τ).loc Cert.PleMergeBwdRefIdeal.main_arg1) = m' ((c.tc : Thread Cert.PleMergeBwdRefIdeal.nD Cert.PleMergeBwdRefIdeal.τ).loc Cert.PleMergeBwdRefIdeal.main_arg1)
          ∧ r.2.mem ((c.tc : Thread Cert.PleMergeBwdRefIdeal.nD Cert.PleMergeBwdRefIdeal.τ).loc Cert.PleMergeBwdRefIdeal.main_arg2) = m' ((c.tc : Thread Cert.PleMergeBwdRefIdeal.nD Cert.PleMergeBwdRefIdeal.τ).loc Cert.PleMergeBwdRefIdeal.main_arg2)
          ∧ r.2.mem ((c.tc : Thread Cert.PleMergeBwdRefIdeal.nD Cert.PleMergeBwdRefIdeal.τ).loc Cert.PleMergeBwdRefIdeal.main_arg3) = m' ((c.tc : Thread Cert.PleMergeBwdRefIdeal.nD Cert.PleMergeBwdRefIdeal.τ).loc Cert.PleMergeBwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Latent_LatentIdeal : Prop :=
  True

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v0_0)) (v1 : (c : Dev Cert.LatentIdeal.nD) → Buf (Elt Ideal) ((c.tc : Thread Cert.LatentIdeal.nD Cert.LatentIdeal.τ).loc Cert.LatentIdeal.main_v0_1)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0_0) = v0 c
          ∧ r.2.mem ((c.tc : Thread Cert.LatentIdeal.nD Cert.LatentIdeal.τ).loc Cert.LatentIdeal.main_v0_1) = v1 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v12) = v0 c
          ∧ r.2.mem ((c.tc : Thread Cert.LatentRefIdeal.nD Cert.LatentRefIdeal.τ).loc Cert.LatentRefIdeal.main_v25) = v1 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3))

def preserves_LatentBwd_LatentBwdIdeal : Prop :=
  True

def algebraic_LatentBwdIdeal_LatentBwdRefIdeal [hLatentBwdIdeal : Cert.LatentBwdIdeal.Facts] [hLatentBwdRefIdeal : Cert.LatentBwdRefIdeal.Facts] : Prop :=
  ∀ (m : (ℓ : Loc Cert.LatentBwdIdeal.nD Cert.LatentBwdIdeal.τ Cert.LatentBwdIdeal.sig) → Buf (Elt Ideal) ℓ) (g : Dev Cert.LatentBwdIdeal.nD → PrngReg)
    (m' : (ℓ : Loc Cert.LatentBwdRefIdeal.nD Cert.LatentBwdRefIdeal.τ Cert.LatentBwdRefIdeal.sig) → Buf (Elt Ideal) ℓ) (g' : Dev Cert.LatentBwdRefIdeal.nD → PrngReg), Pre_LatentBwdIdeal m →
    (∀ c : Dev Cert.LatentBwdIdeal.nD,
      m' ((c.tc : Thread Cert.LatentBwdRefIdeal.nD Cert.LatentBwdRefIdeal.τ).loc Cert.LatentBwdRefIdeal.main_arg0) = m ((c.tc : Thread Cert.LatentBwdIdeal.nD Cert.LatentBwdIdeal.τ).loc Cert.LatentBwdIdeal.main_arg0)
      ∧ m' ((c.tc : Thread Cert.LatentBwdRefIdeal.nD Cert.LatentBwdRefIdeal.τ).loc Cert.LatentBwdRefIdeal.main_arg1) = m ((c.tc : Thread Cert.LatentBwdIdeal.nD Cert.LatentBwdIdeal.τ).loc Cert.LatentBwdIdeal.main_arg1)
      ∧ m' ((c.tc : Thread Cert.LatentBwdRefIdeal.nD Cert.LatentBwdRefIdeal.τ).loc Cert.LatentBwdRefIdeal.main_arg2) = m ((c.tc : Thread Cert.LatentBwdIdeal.nD Cert.LatentBwdIdeal.τ).loc Cert.LatentBwdIdeal.main_arg2)
      ∧ m' ((c.tc : Thread Cert.LatentBwdRefIdeal.nD Cert.LatentBwdRefIdeal.τ).loc Cert.LatentBwdRefIdeal.main_arg3) = m ((c.tc : Thread Cert.LatentBwdIdeal.nD Cert.LatentBwdIdeal.τ).loc Cert.LatentBwdIdeal.main_arg3)
      ∧ m' ((c.tc : Thread Cert.LatentBwdRefIdeal.nD Cert.LatentBwdRefIdeal.τ).loc Cert.LatentBwdRefIdeal.main_arg4) = m ((c.tc : Thread Cert.LatentBwdIdeal.nD Cert.LatentBwdIdeal.τ).loc Cert.LatentBwdIdeal.main_arg4)
      ∧ m' ((c.tc : Thread Cert.LatentBwdRefIdeal.nD Cert.LatentBwdRefIdeal.τ).loc Cert.LatentBwdRefIdeal.main_arg5) = m ((c.tc : Thread Cert.LatentBwdIdeal.nD Cert.LatentBwdIdeal.τ).loc Cert.LatentBwdIdeal.main_arg5)) →
    ∃ (v0 : (c : Dev Cert.LatentBwdIdeal.nD) → Buf (Elt Ideal) ((c.tc : Thread Cert.LatentBwdIdeal.nD Cert.LatentBwdIdeal.τ).loc Cert.LatentBwdIdeal.main_v0_0)) (v1 : (c : Dev Cert.LatentBwdIdeal.nD) → Buf (Elt Ideal) ((c.tc : Thread Cert.LatentBwdIdeal.nD Cert.LatentBwdIdeal.τ).loc Cert.LatentBwdIdeal.main_v0_1)) (v2 : (c : Dev Cert.LatentBwdIdeal.nD) → Buf (Elt Ideal) ((c.tc : Thread Cert.LatentBwdIdeal.nD Cert.LatentBwdIdeal.τ).loc Cert.LatentBwdIdeal.main_v0_2)) (v3 : (c : Dev Cert.LatentBwdIdeal.nD) → Buf (Elt Ideal) ((c.tc : Thread Cert.LatentBwdIdeal.nD Cert.LatentBwdIdeal.τ).loc Cert.LatentBwdIdeal.main_v0_3)),
      θ_run (Cert.LatentBwdIdeal.defs (F := Ideal)) (onTc (τ := Cert.LatentBwdIdeal.τ) (Cert.LatentBwdIdeal.main (F := Ideal))) ⟨m, fun _ => 0, g⟩ (fun r => ∀ c : Dev Cert.LatentBwdIdeal.nD,
          r.2.mem ((c.tc : Thread Cert.LatentBwdIdeal.nD Cert.LatentBwdIdeal.τ).loc Cert.LatentBwdIdeal.main_v0_0) = v0 c
          ∧ r.2.mem ((c.tc : Thread Cert.LatentBwdIdeal.nD Cert.LatentBwdIdeal.τ).loc Cert.LatentBwdIdeal.main_v0_1) = v1 c
          ∧ r.2.mem ((c.tc : Thread Cert.LatentBwdIdeal.nD Cert.LatentBwdIdeal.τ).loc Cert.LatentBwdIdeal.main_v0_2) = v2 c
          ∧ r.2.mem ((c.tc : Thread Cert.LatentBwdIdeal.nD Cert.LatentBwdIdeal.τ).loc Cert.LatentBwdIdeal.main_v0_3) = v3 c
          ∧ r.2.mem ((c.tc : Thread Cert.LatentBwdIdeal.nD Cert.LatentBwdIdeal.τ).loc Cert.LatentBwdIdeal.main_arg0) = m ((c.tc : Thread Cert.LatentBwdIdeal.nD Cert.LatentBwdIdeal.τ).loc Cert.LatentBwdIdeal.main_arg0)
          ∧ r.2.mem ((c.tc : Thread Cert.LatentBwdIdeal.nD Cert.LatentBwdIdeal.τ).loc Cert.LatentBwdIdeal.main_arg1) = m ((c.tc : Thread Cert.LatentBwdIdeal.nD Cert.LatentBwdIdeal.τ).loc Cert.LatentBwdIdeal.main_arg1)
          ∧ r.2.mem ((c.tc : Thread Cert.LatentBwdIdeal.nD Cert.LatentBwdIdeal.τ).loc Cert.LatentBwdIdeal.main_arg2) = m ((c.tc : Thread Cert.LatentBwdIdeal.nD Cert.LatentBwdIdeal.τ).loc Cert.LatentBwdIdeal.main_arg2)
          ∧ r.2.mem ((c.tc : Thread Cert.LatentBwdIdeal.nD Cert.LatentBwdIdeal.τ).loc Cert.LatentBwdIdeal.main_arg3) = m ((c.tc : Thread Cert.LatentBwdIdeal.nD Cert.LatentBwdIdeal.τ).loc Cert.LatentBwdIdeal.main_arg3)
          ∧ r.2.mem ((c.tc : Thread Cert.LatentBwdIdeal.nD Cert.LatentBwdIdeal.τ).loc Cert.LatentBwdIdeal.main_arg4) = m ((c.tc : Thread Cert.LatentBwdIdeal.nD Cert.LatentBwdIdeal.τ).loc Cert.LatentBwdIdeal.main_arg4)
          ∧ r.2.mem ((c.tc : Thread Cert.LatentBwdIdeal.nD Cert.LatentBwdIdeal.τ).loc Cert.LatentBwdIdeal.main_arg5) = m ((c.tc : Thread Cert.LatentBwdIdeal.nD Cert.LatentBwdIdeal.τ).loc Cert.LatentBwdIdeal.main_arg5))
      ∧ θ_run (Cert.LatentBwdRefIdeal.defs (F := Ideal)) (onTc (τ := Cert.LatentBwdRefIdeal.τ) (Cert.LatentBwdRefIdeal.main (F := Ideal))) ⟨m', fun _ => 0, g'⟩ (fun r => ∀ c : Dev Cert.LatentBwdRefIdeal.nD,
          r.2.mem ((c.tc : Thread Cert.LatentBwdRefIdeal.nD Cert.LatentBwdRefIdeal.τ).loc Cert.LatentBwdRefIdeal.main_v68) = v0 c
          ∧ r.2.mem ((c.tc : Thread Cert.LatentBwdRefIdeal.nD Cert.LatentBwdRefIdeal.τ).loc Cert.LatentBwdRefIdeal.main_v69) = v1 c
          ∧ r.2.mem ((c.tc : Thread Cert.LatentBwdRefIdeal.nD Cert.LatentBwdRefIdeal.τ).loc Cert.LatentBwdRefIdeal.main_v17) = v2 c
          ∧ r.2.mem ((c.tc : Thread Cert.LatentBwdRefIdeal.nD Cert.LatentBwdRefIdeal.τ).loc Cert.LatentBwdRefIdeal.main_v51) = v3 c
          ∧ r.2.mem ((c.tc : Thread Cert.LatentBwdRefIdeal.nD Cert.LatentBwdRefIdeal.τ).loc Cert.LatentBwdRefIdeal.main_arg0) = m' ((c.tc : Thread Cert.LatentBwdRefIdeal.nD Cert.LatentBwdRefIdeal.τ).loc Cert.LatentBwdRefIdeal.main_arg0)
          ∧ r.2.mem ((c.tc : Thread Cert.LatentBwdRefIdeal.nD Cert.LatentBwdRefIdeal.τ).loc Cert.LatentBwdRefIdeal.main_arg1) = m' ((c.tc : Thread Cert.LatentBwdRefIdeal.nD Cert.LatentBwdRefIdeal.τ).loc Cert.LatentBwdRefIdeal.main_arg1)
          ∧ r.2.mem ((c.tc : Thread Cert.LatentBwdRefIdeal.nD Cert.LatentBwdRefIdeal.τ).loc Cert.LatentBwdRefIdeal.main_arg2) = m' ((c.tc : Thread Cert.LatentBwdRefIdeal.nD Cert.LatentBwdRefIdeal.τ).loc Cert.LatentBwdRefIdeal.main_arg2)
          ∧ r.2.mem ((c.tc : Thread Cert.LatentBwdRefIdeal.nD Cert.LatentBwdRefIdeal.τ).loc Cert.LatentBwdRefIdeal.main_arg3) = m' ((c.tc : Thread Cert.LatentBwdRefIdeal.nD Cert.LatentBwdRefIdeal.τ).loc Cert.LatentBwdRefIdeal.main_arg3)
          ∧ r.2.mem ((c.tc : Thread Cert.LatentBwdRefIdeal.nD Cert.LatentBwdRefIdeal.τ).loc Cert.LatentBwdRefIdeal.main_arg4) = m' ((c.tc : Thread Cert.LatentBwdRefIdeal.nD Cert.LatentBwdRefIdeal.τ).loc Cert.LatentBwdRefIdeal.main_arg4)
          ∧ r.2.mem ((c.tc : Thread Cert.LatentBwdRefIdeal.nD Cert.LatentBwdRefIdeal.τ).loc Cert.LatentBwdRefIdeal.main_arg5) = m' ((c.tc : Thread Cert.LatentBwdRefIdeal.nD Cert.LatentBwdRefIdeal.τ).loc Cert.LatentBwdRefIdeal.main_arg5))

def preserves_GatedNorm_GatedNormIdeal : Prop :=
  True

def algebraic_GatedNormIdeal_GatedNormRefIdeal [hGatedNormIdeal : Cert.GatedNormIdeal.Facts] [hGatedNormRefIdeal : Cert.GatedNormRefIdeal.Facts] : Prop :=
  ∀ (m : (ℓ : Loc Cert.GatedNormIdeal.nD Cert.GatedNormIdeal.τ Cert.GatedNormIdeal.sig) → Buf (Elt Ideal) ℓ) (g : Dev Cert.GatedNormIdeal.nD → PrngReg)
    (m' : (ℓ : Loc Cert.GatedNormRefIdeal.nD Cert.GatedNormRefIdeal.τ Cert.GatedNormRefIdeal.sig) → Buf (Elt Ideal) ℓ) (g' : Dev Cert.GatedNormRefIdeal.nD → PrngReg), Pre_GatedNormIdeal m →
    (∀ c : Dev Cert.GatedNormIdeal.nD,
      m' ((c.tc : Thread Cert.GatedNormRefIdeal.nD Cert.GatedNormRefIdeal.τ).loc Cert.GatedNormRefIdeal.main_arg0) = m ((c.tc : Thread Cert.GatedNormIdeal.nD Cert.GatedNormIdeal.τ).loc Cert.GatedNormIdeal.main_arg0)
      ∧ m' ((c.tc : Thread Cert.GatedNormRefIdeal.nD Cert.GatedNormRefIdeal.τ).loc Cert.GatedNormRefIdeal.main_arg1) = m ((c.tc : Thread Cert.GatedNormIdeal.nD Cert.GatedNormIdeal.τ).loc Cert.GatedNormIdeal.main_arg1)
      ∧ m' ((c.tc : Thread Cert.GatedNormRefIdeal.nD Cert.GatedNormRefIdeal.τ).loc Cert.GatedNormRefIdeal.main_arg2) = m ((c.tc : Thread Cert.GatedNormIdeal.nD Cert.GatedNormIdeal.τ).loc Cert.GatedNormIdeal.main_arg2)) →
    ∃ (v0 : (c : Dev Cert.GatedNormIdeal.nD) → Buf (Elt Ideal) ((c.tc : Thread Cert.GatedNormIdeal.nD Cert.GatedNormIdeal.τ).loc Cert.GatedNormIdeal.main_v0)),
      θ_run (Cert.GatedNormIdeal.defs (F := Ideal)) (onTc (τ := Cert.GatedNormIdeal.τ) (Cert.GatedNormIdeal.main (F := Ideal))) ⟨m, fun _ => 0, g⟩ (fun r => ∀ c : Dev Cert.GatedNormIdeal.nD,
          r.2.mem ((c.tc : Thread Cert.GatedNormIdeal.nD Cert.GatedNormIdeal.τ).loc Cert.GatedNormIdeal.main_v0) = v0 c
          ∧ r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
          ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
          ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2))
      ∧ θ_run (Cert.GatedNormRefIdeal.defs (F := Ideal)) (onTc (τ := Cert.GatedNormRefIdeal.τ) (Cert.GatedNormRefIdeal.main (F := Ideal))) ⟨m', fun _ => 0, g'⟩ (fun r => ∀ c : Dev Cert.GatedNormRefIdeal.nD,
          r.2.mem ((c.tc : Thread Cert.GatedNormRefIdeal.nD Cert.GatedNormRefIdeal.τ).loc Cert.GatedNormRefIdeal.main_v16) = v0 c
          ∧ r.2.mem ((c.tc : Thread Cert.GatedNormRefIdeal.nD Cert.GatedNormRefIdeal.τ).loc Cert.GatedNormRefIdeal.main_arg0) = m' ((c.tc : Thread Cert.GatedNormRefIdeal.nD Cert.GatedNormRefIdeal.τ).loc Cert.GatedNormRefIdeal.main_arg0)
          ∧ r.2.mem ((c.tc : Thread Cert.GatedNormRefIdeal.nD Cert.GatedNormRefIdeal.τ).loc Cert.GatedNormRefIdeal.main_arg1) = m' ((c.tc : Thread Cert.GatedNormRefIdeal.nD Cert.GatedNormRefIdeal.τ).loc Cert.GatedNormRefIdeal.main_arg1)
          ∧ r.2.mem ((c.tc : Thread Cert.GatedNormRefIdeal.nD Cert.GatedNormRefIdeal.τ).loc Cert.GatedNormRefIdeal.main_arg2) = m' ((c.tc : Thread Cert.GatedNormRefIdeal.nD Cert.GatedNormRefIdeal.τ).loc Cert.GatedNormRefIdeal.main_arg2))

def preserves_GatedNormBwd_GatedNormBwdIdeal : Prop :=
  True

def algebraic_GatedNormBwdIdeal_GatedNormBwdRefIdeal [hGatedNormBwdIdeal : Cert.GatedNormBwdIdeal.Facts] [hGatedNormBwdRefIdeal : Cert.GatedNormBwdRefIdeal.Facts] : Prop :=
  ∀ (m : (ℓ : Loc Cert.GatedNormBwdIdeal.nD Cert.GatedNormBwdIdeal.τ Cert.GatedNormBwdIdeal.sig) → Buf (Elt Ideal) ℓ) (g : Dev Cert.GatedNormBwdIdeal.nD → PrngReg)
    (m' : (ℓ : Loc Cert.GatedNormBwdRefIdeal.nD Cert.GatedNormBwdRefIdeal.τ Cert.GatedNormBwdRefIdeal.sig) → Buf (Elt Ideal) ℓ) (g' : Dev Cert.GatedNormBwdRefIdeal.nD → PrngReg), Pre_GatedNormBwdIdeal m →
    (∀ c : Dev Cert.GatedNormBwdIdeal.nD,
      m' ((c.tc : Thread Cert.GatedNormBwdRefIdeal.nD Cert.GatedNormBwdRefIdeal.τ).loc Cert.GatedNormBwdRefIdeal.main_arg0) = m ((c.tc : Thread Cert.GatedNormBwdIdeal.nD Cert.GatedNormBwdIdeal.τ).loc Cert.GatedNormBwdIdeal.main_arg0)
      ∧ m' ((c.tc : Thread Cert.GatedNormBwdRefIdeal.nD Cert.GatedNormBwdRefIdeal.τ).loc Cert.GatedNormBwdRefIdeal.main_arg1) = m ((c.tc : Thread Cert.GatedNormBwdIdeal.nD Cert.GatedNormBwdIdeal.τ).loc Cert.GatedNormBwdIdeal.main_arg1)
      ∧ m' ((c.tc : Thread Cert.GatedNormBwdRefIdeal.nD Cert.GatedNormBwdRefIdeal.τ).loc Cert.GatedNormBwdRefIdeal.main_arg2) = m ((c.tc : Thread Cert.GatedNormBwdIdeal.nD Cert.GatedNormBwdIdeal.τ).loc Cert.GatedNormBwdIdeal.main_arg2)
      ∧ m' ((c.tc : Thread Cert.GatedNormBwdRefIdeal.nD Cert.GatedNormBwdRefIdeal.τ).loc Cert.GatedNormBwdRefIdeal.main_arg3) = m ((c.tc : Thread Cert.GatedNormBwdIdeal.nD Cert.GatedNormBwdIdeal.τ).loc Cert.GatedNormBwdIdeal.main_arg3)) →
    ∃ (v0 : (c : Dev Cert.GatedNormBwdIdeal.nD) → Buf (Elt Ideal) ((c.tc : Thread Cert.GatedNormBwdIdeal.nD Cert.GatedNormBwdIdeal.τ).loc Cert.GatedNormBwdIdeal.main_v0_0)) (v1 : (c : Dev Cert.GatedNormBwdIdeal.nD) → Buf (Elt Ideal) ((c.tc : Thread Cert.GatedNormBwdIdeal.nD Cert.GatedNormBwdIdeal.τ).loc Cert.GatedNormBwdIdeal.main_v0_1)) (v2 : (c : Dev Cert.GatedNormBwdIdeal.nD) → Buf (Elt Ideal) ((c.tc : Thread Cert.GatedNormBwdIdeal.nD Cert.GatedNormBwdIdeal.τ).loc Cert.GatedNormBwdIdeal.main_v0_2)),
      θ_run (Cert.GatedNormBwdIdeal.defs (F := Ideal)) (onTc (τ := Cert.GatedNormBwdIdeal.τ) (Cert.GatedNormBwdIdeal.main (F := Ideal))) ⟨m, fun _ => 0, g⟩ (fun r => ∀ c : Dev Cert.GatedNormBwdIdeal.nD,
          r.2.mem ((c.tc : Thread Cert.GatedNormBwdIdeal.nD Cert.GatedNormBwdIdeal.τ).loc Cert.GatedNormBwdIdeal.main_v0_0) = v0 c
          ∧ r.2.mem ((c.tc : Thread Cert.GatedNormBwdIdeal.nD Cert.GatedNormBwdIdeal.τ).loc Cert.GatedNormBwdIdeal.main_v0_1) = v1 c
          ∧ r.2.mem ((c.tc : Thread Cert.GatedNormBwdIdeal.nD Cert.GatedNormBwdIdeal.τ).loc Cert.GatedNormBwdIdeal.main_v0_2) = v2 c
          ∧ r.2.mem ((c.tc : Thread Cert.GatedNormBwdIdeal.nD Cert.GatedNormBwdIdeal.τ).loc Cert.GatedNormBwdIdeal.main_arg0) = m ((c.tc : Thread Cert.GatedNormBwdIdeal.nD Cert.GatedNormBwdIdeal.τ).loc Cert.GatedNormBwdIdeal.main_arg0)
          ∧ r.2.mem ((c.tc : Thread Cert.GatedNormBwdIdeal.nD Cert.GatedNormBwdIdeal.τ).loc Cert.GatedNormBwdIdeal.main_arg1) = m ((c.tc : Thread Cert.GatedNormBwdIdeal.nD Cert.GatedNormBwdIdeal.τ).loc Cert.GatedNormBwdIdeal.main_arg1)
          ∧ r.2.mem ((c.tc : Thread Cert.GatedNormBwdIdeal.nD Cert.GatedNormBwdIdeal.τ).loc Cert.GatedNormBwdIdeal.main_arg2) = m ((c.tc : Thread Cert.GatedNormBwdIdeal.nD Cert.GatedNormBwdIdeal.τ).loc Cert.GatedNormBwdIdeal.main_arg2)
          ∧ r.2.mem ((c.tc : Thread Cert.GatedNormBwdIdeal.nD Cert.GatedNormBwdIdeal.τ).loc Cert.GatedNormBwdIdeal.main_arg3) = m ((c.tc : Thread Cert.GatedNormBwdIdeal.nD Cert.GatedNormBwdIdeal.τ).loc Cert.GatedNormBwdIdeal.main_arg3))
      ∧ θ_run (Cert.GatedNormBwdRefIdeal.defs (F := Ideal)) (onTc (τ := Cert.GatedNormBwdRefIdeal.τ) (Cert.GatedNormBwdRefIdeal.main (F := Ideal))) ⟨m', fun _ => 0, g'⟩ (fun r => ∀ c : Dev Cert.GatedNormBwdRefIdeal.nD,
          r.2.mem ((c.tc : Thread Cert.GatedNormBwdRefIdeal.nD Cert.GatedNormBwdRefIdeal.τ).loc Cert.GatedNormBwdRefIdeal.main_v41) = v0 c
          ∧ r.2.mem ((c.tc : Thread Cert.GatedNormBwdRefIdeal.nD Cert.GatedNormBwdRefIdeal.τ).loc Cert.GatedNormBwdRefIdeal.main_v43) = v1 c
          ∧ r.2.mem ((c.tc : Thread Cert.GatedNormBwdRefIdeal.nD Cert.GatedNormBwdRefIdeal.τ).loc Cert.GatedNormBwdRefIdeal.main_v21) = v2 c
          ∧ r.2.mem ((c.tc : Thread Cert.GatedNormBwdRefIdeal.nD Cert.GatedNormBwdRefIdeal.τ).loc Cert.GatedNormBwdRefIdeal.main_arg0) = m' ((c.tc : Thread Cert.GatedNormBwdRefIdeal.nD Cert.GatedNormBwdRefIdeal.τ).loc Cert.GatedNormBwdRefIdeal.main_arg0)
          ∧ r.2.mem ((c.tc : Thread Cert.GatedNormBwdRefIdeal.nD Cert.GatedNormBwdRefIdeal.τ).loc Cert.GatedNormBwdRefIdeal.main_arg1) = m' ((c.tc : Thread Cert.GatedNormBwdRefIdeal.nD Cert.GatedNormBwdRefIdeal.τ).loc Cert.GatedNormBwdRefIdeal.main_arg1)
          ∧ r.2.mem ((c.tc : Thread Cert.GatedNormBwdRefIdeal.nD Cert.GatedNormBwdRefIdeal.τ).loc Cert.GatedNormBwdRefIdeal.main_arg2) = m' ((c.tc : Thread Cert.GatedNormBwdRefIdeal.nD Cert.GatedNormBwdRefIdeal.τ).loc Cert.GatedNormBwdRefIdeal.main_arg2)
          ∧ r.2.mem ((c.tc : Thread Cert.GatedNormBwdRefIdeal.nD Cert.GatedNormBwdRefIdeal.τ).loc Cert.GatedNormBwdRefIdeal.main_arg3) = m' ((c.tc : Thread Cert.GatedNormBwdRefIdeal.nD Cert.GatedNormBwdRefIdeal.τ).loc Cert.GatedNormBwdRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v23) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v0_0)) (v1 : (c : Dev Cert.RopeIdeal.nD) → Buf (Elt Ideal) ((c.tc : Thread Cert.RopeIdeal.nD Cert.RopeIdeal.τ).loc Cert.RopeIdeal.main_v0_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v0_0) = v0 c
          ∧ r.2.mem ((c.tc : Thread Cert.RopeIdeal.nD Cert.RopeIdeal.τ).loc Cert.RopeIdeal.main_v0_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v3) = v0 c
          ∧ r.2.mem ((c.tc : Thread Cert.RopeRefIdeal.nD Cert.RopeRefIdeal.τ).loc Cert.RopeRefIdeal.main_v4) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_Dt_DtIdeal : Prop :=
  True

def algebraic_DtIdeal_DtRefIdeal [hDtIdeal : Cert.DtIdeal.Facts] [hDtRefIdeal : Cert.DtRefIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtRefIdeal.nD Cert.DtRefIdeal.τ Cert.DtRefIdeal.sig) → Buf (Elt Ideal) ℓ) (g' : Dev Cert.DtRefIdeal.nD → PrngReg), Pre_DtIdeal m →
    (∀ c : Dev Cert.DtIdeal.nD,
      m' ((c.tc : Thread Cert.DtRefIdeal.nD Cert.DtRefIdeal.τ).loc Cert.DtRefIdeal.main_arg0) = m ((c.tc : Thread Cert.DtIdeal.nD Cert.DtIdeal.τ).loc Cert.DtIdeal.main_arg0)
      ∧ m' ((c.tc : Thread Cert.DtRefIdeal.nD Cert.DtRefIdeal.τ).loc Cert.DtRefIdeal.main_arg1) = m ((c.tc : Thread Cert.DtIdeal.nD Cert.DtIdeal.τ).loc Cert.DtIdeal.main_arg1)
      ∧ m' ((c.tc : Thread Cert.DtRefIdeal.nD Cert.DtRefIdeal.τ).loc Cert.DtRefIdeal.main_arg2) = m ((c.tc : Thread Cert.DtIdeal.nD Cert.DtIdeal.τ).loc Cert.DtIdeal.main_arg2)) →
    ∃ (v0 : (c : Dev Cert.DtIdeal.nD) → Buf (Elt Ideal) ((c.tc : Thread Cert.DtIdeal.nD Cert.DtIdeal.τ).loc Cert.DtIdeal.main_v0_0)) (v1 : (c : Dev Cert.DtIdeal.nD) → Buf (Elt Ideal) ((c.tc : Thread Cert.DtIdeal.nD Cert.DtIdeal.τ).loc Cert.DtIdeal.main_v0_1)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v0_0) = v0 c
          ∧ r.2.mem ((c.tc : Thread Cert.DtIdeal.nD Cert.DtIdeal.τ).loc Cert.DtIdeal.main_v0_1) = v1 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1)
          ∧ r.2.mem ((c.tc : Thread Cert.DtIdeal.nD Cert.DtIdeal.τ).loc Cert.DtIdeal.main_arg2) = m ((c.tc : Thread Cert.DtIdeal.nD Cert.DtIdeal.τ).loc Cert.DtIdeal.main_arg2))
      ∧ θ_run (Cert.DtRefIdeal.defs (F := Ideal)) (onTc (τ := Cert.DtRefIdeal.τ) (Cert.DtRefIdeal.main (F := Ideal))) ⟨m', fun _ => 0, g'⟩ (fun r => ∀ c : Dev Cert.DtRefIdeal.nD,
          r.2.mem ((c.tc : Thread Cert.DtRefIdeal.nD Cert.DtRefIdeal.τ).loc Cert.DtRefIdeal.main_v2) = v0 c
          ∧ r.2.mem ((c.tc : Thread Cert.DtRefIdeal.nD Cert.DtRefIdeal.τ).loc Cert.DtRefIdeal.main_v6) = v1 c
          ∧ r.2.mem ((c.tc : Thread Cert.DtRefIdeal.nD Cert.DtRefIdeal.τ).loc Cert.DtRefIdeal.main_arg0) = m' ((c.tc : Thread Cert.DtRefIdeal.nD Cert.DtRefIdeal.τ).loc Cert.DtRefIdeal.main_arg0)
          ∧ r.2.mem ((c.tc : Thread Cert.DtRefIdeal.nD Cert.DtRefIdeal.τ).loc Cert.DtRefIdeal.main_arg1) = m' ((c.tc : Thread Cert.DtRefIdeal.nD Cert.DtRefIdeal.τ).loc Cert.DtRefIdeal.main_arg1)
          ∧ r.2.mem ((c.tc : Thread Cert.DtRefIdeal.nD Cert.DtRefIdeal.τ).loc Cert.DtRefIdeal.main_arg2) = m' ((c.tc : Thread Cert.DtRefIdeal.nD Cert.DtRefIdeal.τ).loc Cert.DtRefIdeal.main_arg2))

def preserves_QNorm_QNormIdeal : Prop :=
  True

def algebraic_QNormIdeal_QNormRefIdeal [hQNormIdeal : Cert.QNormIdeal.Facts] [hQNormRefIdeal : Cert.QNormRefIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)
      ∧ m' ((c.tc : Thread Cert.QNormRefIdeal.nD Cert.QNormRefIdeal.τ).loc Cert.QNormRefIdeal.main_arg2) = m ((c.tc : Thread Cert.QNormIdeal.nD Cert.QNormIdeal.τ).loc Cert.QNormIdeal.main_arg2)
      ∧ m' ((c.tc : Thread Cert.QNormRefIdeal.nD Cert.QNormRefIdeal.τ).loc Cert.QNormRefIdeal.main_arg3) = m ((c.tc : Thread Cert.QNormIdeal.nD Cert.QNormIdeal.τ).loc Cert.QNormIdeal.main_arg3)
      ∧ m' ((c.tc : Thread Cert.QNormRefIdeal.nD Cert.QNormRefIdeal.τ).loc Cert.QNormRefIdeal.main_arg4) = m ((c.tc : Thread Cert.QNormIdeal.nD Cert.QNormIdeal.τ).loc Cert.QNormIdeal.main_arg4)
      ∧ m' ((c.tc : Thread Cert.QNormRefIdeal.nD Cert.QNormRefIdeal.τ).loc Cert.QNormRefIdeal.main_arg5) = m ((c.tc : Thread Cert.QNormIdeal.nD Cert.QNormIdeal.τ).loc Cert.QNormIdeal.main_arg5)
      ∧ m' ((c.tc : Thread Cert.QNormRefIdeal.nD Cert.QNormRefIdeal.τ).loc Cert.QNormRefIdeal.main_arg6) = m ((c.tc : Thread Cert.QNormIdeal.nD Cert.QNormIdeal.τ).loc Cert.QNormIdeal.main_arg6)
      ∧ m' ((c.tc : Thread Cert.QNormRefIdeal.nD Cert.QNormRefIdeal.τ).loc Cert.QNormRefIdeal.main_arg7) = m ((c.tc : Thread Cert.QNormIdeal.nD Cert.QNormIdeal.τ).loc Cert.QNormIdeal.main_arg7)) →
    ∃ (v0 : (c : Dev Cert.QNormIdeal.nD) → Buf (Elt Ideal) ((c.tc : Thread Cert.QNormIdeal.nD Cert.QNormIdeal.τ).loc Cert.QNormIdeal.main_v0_0)) (v1 : (c : Dev Cert.QNormIdeal.nD) → Buf (Elt Ideal) ((c.tc : Thread Cert.QNormIdeal.nD Cert.QNormIdeal.τ).loc Cert.QNormIdeal.main_v0_1)) (v2 : (c : Dev Cert.QNormIdeal.nD) → Buf (Elt Ideal) ((c.tc : Thread Cert.QNormIdeal.nD Cert.QNormIdeal.τ).loc Cert.QNormIdeal.main_v0_2)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v0_0) = v0 c
          ∧ r.2.mem ((c.tc : Thread Cert.QNormIdeal.nD Cert.QNormIdeal.τ).loc Cert.QNormIdeal.main_v0_1) = v1 c
          ∧ r.2.mem ((c.tc : Thread Cert.QNormIdeal.nD Cert.QNormIdeal.τ).loc Cert.QNormIdeal.main_v0_2) = v2 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
          ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
          ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3)
          ∧ r.2.mem ((c.tc : Thread Cert.QNormIdeal.nD Cert.QNormIdeal.τ).loc Cert.QNormIdeal.main_arg4) = m ((c.tc : Thread Cert.QNormIdeal.nD Cert.QNormIdeal.τ).loc Cert.QNormIdeal.main_arg4)
          ∧ r.2.mem ((c.tc : Thread Cert.QNormIdeal.nD Cert.QNormIdeal.τ).loc Cert.QNormIdeal.main_arg5) = m ((c.tc : Thread Cert.QNormIdeal.nD Cert.QNormIdeal.τ).loc Cert.QNormIdeal.main_arg5)
          ∧ r.2.mem ((c.tc : Thread Cert.QNormIdeal.nD Cert.QNormIdeal.τ).loc Cert.QNormIdeal.main_arg6) = m ((c.tc : Thread Cert.QNormIdeal.nD Cert.QNormIdeal.τ).loc Cert.QNormIdeal.main_arg6)
          ∧ r.2.mem ((c.tc : Thread Cert.QNormIdeal.nD Cert.QNormIdeal.τ).loc Cert.QNormIdeal.main_arg7) = m ((c.tc : Thread Cert.QNormIdeal.nD Cert.QNormIdeal.τ).loc Cert.QNormIdeal.main_arg7))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v32) = v0 c
          ∧ r.2.mem ((c.tc : Thread Cert.QNormRefIdeal.nD Cert.QNormRefIdeal.τ).loc Cert.QNormRefIdeal.main_v33) = v1 c
          ∧ r.2.mem ((c.tc : Thread Cert.QNormRefIdeal.nD Cert.QNormRefIdeal.τ).loc Cert.QNormRefIdeal.main_v34) = v2 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1)
          ∧ r.2.mem ((c.tc : Thread Cert.QNormRefIdeal.nD Cert.QNormRefIdeal.τ).loc Cert.QNormRefIdeal.main_arg2) = m' ((c.tc : Thread Cert.QNormRefIdeal.nD Cert.QNormRefIdeal.τ).loc Cert.QNormRefIdeal.main_arg2)
          ∧ r.2.mem ((c.tc : Thread Cert.QNormRefIdeal.nD Cert.QNormRefIdeal.τ).loc Cert.QNormRefIdeal.main_arg3) = m' ((c.tc : Thread Cert.QNormRefIdeal.nD Cert.QNormRefIdeal.τ).loc Cert.QNormRefIdeal.main_arg3)
          ∧ r.2.mem ((c.tc : Thread Cert.QNormRefIdeal.nD Cert.QNormRefIdeal.τ).loc Cert.QNormRefIdeal.main_arg4) = m' ((c.tc : Thread Cert.QNormRefIdeal.nD Cert.QNormRefIdeal.τ).loc Cert.QNormRefIdeal.main_arg4)
          ∧ r.2.mem ((c.tc : Thread Cert.QNormRefIdeal.nD Cert.QNormRefIdeal.τ).loc Cert.QNormRefIdeal.main_arg5) = m' ((c.tc : Thread Cert.QNormRefIdeal.nD Cert.QNormRefIdeal.τ).loc Cert.QNormRefIdeal.main_arg5)
          ∧ r.2.mem ((c.tc : Thread Cert.QNormRefIdeal.nD Cert.QNormRefIdeal.τ).loc Cert.QNormRefIdeal.main_arg6) = m' ((c.tc : Thread Cert.QNormRefIdeal.nD Cert.QNormRefIdeal.τ).loc Cert.QNormRefIdeal.main_arg6)
          ∧ r.2.mem ((c.tc : Thread Cert.QNormRefIdeal.nD Cert.QNormRefIdeal.τ).loc Cert.QNormRefIdeal.main_arg7) = m' ((c.tc : Thread Cert.QNormRefIdeal.nD Cert.QNormRefIdeal.τ).loc Cert.QNormRefIdeal.main_arg7))

def preserves_KNorm_KNormIdeal : Prop :=
  True

def algebraic_KNormIdeal_KNormRefIdeal [hKNormIdeal : Cert.KNormIdeal.Facts] [hKNormRefIdeal : Cert.KNormRefIdeal.Facts] : Prop :=
  ∀ (m : (ℓ : Loc Cert.KNormIdeal.nD Cert.KNormIdeal.τ Cert.KNormIdeal.sig) → Buf (Elt Ideal) ℓ) (g : Dev Cert.KNormIdeal.nD → PrngReg)
    (m' : (ℓ : Loc Cert.KNormRefIdeal.nD Cert.KNormRefIdeal.τ Cert.KNormRefIdeal.sig) → Buf (Elt Ideal) ℓ) (g' : Dev Cert.KNormRefIdeal.nD → PrngReg), Pre_KNormIdeal m →
    (∀ c : Dev Cert.KNormIdeal.nD,
      m' ((c.tc : Thread Cert.KNormRefIdeal.nD Cert.KNormRefIdeal.τ).loc Cert.KNormRefIdeal.main_arg0) = m ((c.tc : Thread Cert.KNormIdeal.nD Cert.KNormIdeal.τ).loc Cert.KNormIdeal.main_arg0)
      ∧ m' ((c.tc : Thread Cert.KNormRefIdeal.nD Cert.KNormRefIdeal.τ).loc Cert.KNormRefIdeal.main_arg1) = m ((c.tc : Thread Cert.KNormIdeal.nD Cert.KNormIdeal.τ).loc Cert.KNormIdeal.main_arg1)
      ∧ m' ((c.tc : Thread Cert.KNormRefIdeal.nD Cert.KNormRefIdeal.τ).loc Cert.KNormRefIdeal.main_arg2) = m ((c.tc : Thread Cert.KNormIdeal.nD Cert.KNormIdeal.τ).loc Cert.KNormIdeal.main_arg2)
      ∧ m' ((c.tc : Thread Cert.KNormRefIdeal.nD Cert.KNormRefIdeal.τ).loc Cert.KNormRefIdeal.main_arg3) = m ((c.tc : Thread Cert.KNormIdeal.nD Cert.KNormIdeal.τ).loc Cert.KNormIdeal.main_arg3)
      ∧ m' ((c.tc : Thread Cert.KNormRefIdeal.nD Cert.KNormRefIdeal.τ).loc Cert.KNormRefIdeal.main_arg4) = m ((c.tc : Thread Cert.KNormIdeal.nD Cert.KNormIdeal.τ).loc Cert.KNormIdeal.main_arg4)
      ∧ m' ((c.tc : Thread Cert.KNormRefIdeal.nD Cert.KNormRefIdeal.τ).loc Cert.KNormRefIdeal.main_arg5) = m ((c.tc : Thread Cert.KNormIdeal.nD Cert.KNormIdeal.τ).loc Cert.KNormIdeal.main_arg5)
      ∧ m' ((c.tc : Thread Cert.KNormRefIdeal.nD Cert.KNormRefIdeal.τ).loc Cert.KNormRefIdeal.main_arg6) = m ((c.tc : Thread Cert.KNormIdeal.nD Cert.KNormIdeal.τ).loc Cert.KNormIdeal.main_arg6)
      ∧ m' ((c.tc : Thread Cert.KNormRefIdeal.nD Cert.KNormRefIdeal.τ).loc Cert.KNormRefIdeal.main_arg7) = m ((c.tc : Thread Cert.KNormIdeal.nD Cert.KNormIdeal.τ).loc Cert.KNormIdeal.main_arg7)) →
    ∃ (v0 : (c : Dev Cert.KNormIdeal.nD) → Buf (Elt Ideal) ((c.tc : Thread Cert.KNormIdeal.nD Cert.KNormIdeal.τ).loc Cert.KNormIdeal.main_v0_0)) (v1 : (c : Dev Cert.KNormIdeal.nD) → Buf (Elt Ideal) ((c.tc : Thread Cert.KNormIdeal.nD Cert.KNormIdeal.τ).loc Cert.KNormIdeal.main_v0_1)) (v2 : (c : Dev Cert.KNormIdeal.nD) → Buf (Elt Ideal) ((c.tc : Thread Cert.KNormIdeal.nD Cert.KNormIdeal.τ).loc Cert.KNormIdeal.main_v0_2)),
      θ_run (Cert.KNormIdeal.defs (F := Ideal)) (onTc (τ := Cert.KNormIdeal.τ) (Cert.KNormIdeal.main (F := Ideal))) ⟨m, fun _ => 0, g⟩ (fun r => ∀ c : Dev Cert.KNormIdeal.nD,
          r.2.mem ((c.tc : Thread Cert.KNormIdeal.nD Cert.KNormIdeal.τ).loc Cert.KNormIdeal.main_v0_0) = v0 c
          ∧ r.2.mem ((c.tc : Thread Cert.KNormIdeal.nD Cert.KNormIdeal.τ).loc Cert.KNormIdeal.main_v0_1) = v1 c
          ∧ r.2.mem ((c.tc : Thread Cert.KNormIdeal.nD Cert.KNormIdeal.τ).loc Cert.KNormIdeal.main_v0_2) = v2 c
          ∧ r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
          ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1)
          ∧ r.2.mem ((c.tc : Thread Cert.KNormIdeal.nD Cert.KNormIdeal.τ).loc Cert.KNormIdeal.main_arg2) = m ((c.tc : Thread Cert.KNormIdeal.nD Cert.KNormIdeal.τ).loc Cert.KNormIdeal.main_arg2)
          ∧ r.2.mem ((c.tc : Thread Cert.KNormIdeal.nD Cert.KNormIdeal.τ).loc Cert.KNormIdeal.main_arg3) = m ((c.tc : Thread Cert.KNormIdeal.nD Cert.KNormIdeal.τ).loc Cert.KNormIdeal.main_arg3)
          ∧ r.2.mem ((c.tc : Thread Cert.KNormIdeal.nD Cert.KNormIdeal.τ).loc Cert.KNormIdeal.main_arg4) = m ((c.tc : Thread Cert.KNormIdeal.nD Cert.KNormIdeal.τ).loc Cert.KNormIdeal.main_arg4)
          ∧ r.2.mem ((c.tc : Thread Cert.KNormIdeal.nD Cert.KNormIdeal.τ).loc Cert.KNormIdeal.main_arg5) = m ((c.tc : Thread Cert.KNormIdeal.nD Cert.KNormIdeal.τ).loc Cert.KNormIdeal.main_arg5)
          ∧ r.2.mem ((c.tc : Thread Cert.KNormIdeal.nD Cert.KNormIdeal.τ).loc Cert.KNormIdeal.main_arg6) = m ((c.tc : Thread Cert.KNormIdeal.nD Cert.KNormIdeal.τ).loc Cert.KNormIdeal.main_arg6)
          ∧ r.2.mem ((c.tc : Thread Cert.KNormIdeal.nD Cert.KNormIdeal.τ).loc Cert.KNormIdeal.main_arg7) = m ((c.tc : Thread Cert.KNormIdeal.nD Cert.KNormIdeal.τ).loc Cert.KNormIdeal.main_arg7))
      ∧ θ_run (Cert.KNormRefIdeal.defs (F := Ideal)) (onTc (τ := Cert.KNormRefIdeal.τ) (Cert.KNormRefIdeal.main (F := Ideal))) ⟨m', fun _ => 0, g'⟩ (fun r => ∀ c : Dev Cert.KNormRefIdeal.nD,
          r.2.mem ((c.tc : Thread Cert.KNormRefIdeal.nD Cert.KNormRefIdeal.τ).loc Cert.KNormRefIdeal.main_v36) = v0 c
          ∧ r.2.mem ((c.tc : Thread Cert.KNormRefIdeal.nD Cert.KNormRefIdeal.τ).loc Cert.KNormRefIdeal.main_v37) = v1 c
          ∧ r.2.mem ((c.tc : Thread Cert.KNormRefIdeal.nD Cert.KNormRefIdeal.τ).loc Cert.KNormRefIdeal.main_v38) = v2 c
          ∧ r.2.mem ((c.tc : Thread Cert.KNormRefIdeal.nD Cert.KNormRefIdeal.τ).loc Cert.KNormRefIdeal.main_arg0) = m' ((c.tc : Thread Cert.KNormRefIdeal.nD Cert.KNormRefIdeal.τ).loc Cert.KNormRefIdeal.main_arg0)
          ∧ r.2.mem ((c.tc : Thread Cert.KNormRefIdeal.nD Cert.KNormRefIdeal.τ).loc Cert.KNormRefIdeal.main_arg1) = m' ((c.tc : Thread Cert.KNormRefIdeal.nD Cert.KNormRefIdeal.τ).loc Cert.KNormRefIdeal.main_arg1)
          ∧ r.2.mem ((c.tc : Thread Cert.KNormRefIdeal.nD Cert.KNormRefIdeal.τ).loc Cert.KNormRefIdeal.main_arg2) = m' ((c.tc : Thread Cert.KNormRefIdeal.nD Cert.KNormRefIdeal.τ).loc Cert.KNormRefIdeal.main_arg2)
          ∧ r.2.mem ((c.tc : Thread Cert.KNormRefIdeal.nD Cert.KNormRefIdeal.τ).loc Cert.KNormRefIdeal.main_arg3) = m' ((c.tc : Thread Cert.KNormRefIdeal.nD Cert.KNormRefIdeal.τ).loc Cert.KNormRefIdeal.main_arg3)
          ∧ r.2.mem ((c.tc : Thread Cert.KNormRefIdeal.nD Cert.KNormRefIdeal.τ).loc Cert.KNormRefIdeal.main_arg4) = m' ((c.tc : Thread Cert.KNormRefIdeal.nD Cert.KNormRefIdeal.τ).loc Cert.KNormRefIdeal.main_arg4)
          ∧ r.2.mem ((c.tc : Thread Cert.KNormRefIdeal.nD Cert.KNormRefIdeal.τ).loc Cert.KNormRefIdeal.main_arg5) = m' ((c.tc : Thread Cert.KNormRefIdeal.nD Cert.KNormRefIdeal.τ).loc Cert.KNormRefIdeal.main_arg5)
          ∧ r.2.mem ((c.tc : Thread Cert.KNormRefIdeal.nD Cert.KNormRefIdeal.τ).loc Cert.KNormRefIdeal.main_arg6) = m' ((c.tc : Thread Cert.KNormRefIdeal.nD Cert.KNormRefIdeal.τ).loc Cert.KNormRefIdeal.main_arg6)
          ∧ r.2.mem ((c.tc : Thread Cert.KNormRefIdeal.nD Cert.KNormRefIdeal.τ).loc Cert.KNormRefIdeal.main_arg7) = m' ((c.tc : Thread Cert.KNormRefIdeal.nD Cert.KNormRefIdeal.τ).loc Cert.KNormRefIdeal.main_arg7))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hSsmDw : Cert.SsmDw.Facts) (hSsmDwIdeal : Cert.SsmDwIdeal.Facts) (hSsmDwRefIdeal : Cert.SsmDwRefIdeal.Facts) (hSsmDx : Cert.SsmDx.Facts) (hSsmDxIdeal : Cert.SsmDxIdeal.Facts) (hSsmDxRefIdeal : Cert.SsmDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSsm : Cert.Ssm.Facts) (hSsmIdeal : Cert.SsmIdeal.Facts) (hSsmRefIdeal : Cert.SsmRefIdeal.Facts) (hGate : Cert.Gate.Facts) (hGateIdeal : Cert.GateIdeal.Facts) (hGateRefIdeal : Cert.GateRefIdeal.Facts) (hAttnFwd : Cert.AttnFwd.Facts) (hAttnFwdIdeal : Cert.AttnFwdIdeal.Facts) (hAttnFwdRefIdeal : Cert.AttnFwdRefIdeal.Facts) (hUq : Cert.Uq.Facts) (hUqIdeal : Cert.UqIdeal.Facts) (hUqRefIdeal : Cert.UqRefIdeal.Facts) (hUqDw : Cert.UqDw.Facts) (hUqDwIdeal : Cert.UqDwIdeal.Facts) (hUqDwRefIdeal : Cert.UqDwRefIdeal.Facts) (hUqDx : Cert.UqDx.Facts) (hUqDxIdeal : Cert.UqDxIdeal.Facts) (hUqDxRefIdeal : Cert.UqDxRefIdeal.Facts) (hUkv : Cert.Ukv.Facts) (hUkvIdeal : Cert.UkvIdeal.Facts) (hUkvRefIdeal : Cert.UkvRefIdeal.Facts) (hUkvDw : Cert.UkvDw.Facts) (hUkvDwIdeal : Cert.UkvDwIdeal.Facts) (hUkvDwRefIdeal : Cert.UkvDwRefIdeal.Facts) (hUkvDx : Cert.UkvDx.Facts) (hUkvDxIdeal : Cert.UkvDxIdeal.Facts) (hUkvDxRefIdeal : Cert.UkvDxRefIdeal.Facts) (hMlaDx : Cert.MlaDx.Facts) (hMlaDxIdeal : Cert.MlaDxIdeal.Facts) (hMlaDxRefIdeal : Cert.MlaDxRefIdeal.Facts) (hOut : Cert.Out.Facts) (hOutIdeal : Cert.OutIdeal.Facts) (hOutRefIdeal : Cert.OutRefIdeal.Facts) (hPle : Cert.Ple.Facts) (hPleIdeal : Cert.PleIdeal.Facts) (hPleRefIdeal : Cert.PleRefIdeal.Facts) (hPleDw : Cert.PleDw.Facts) (hPleDwIdeal : Cert.PleDwIdeal.Facts) (hPleDwRefIdeal : Cert.PleDwRefIdeal.Facts) (hRelu : Cert.Relu.Facts) (hReluIdeal : Cert.ReluIdeal.Facts) (hReluRefIdeal : Cert.ReluRefIdeal.Facts) (hReluBwd : Cert.ReluBwd.Facts) (hReluBwdIdeal : Cert.ReluBwdIdeal.Facts) (hReluBwdRefIdeal : Cert.ReluBwdRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hPleMerge : Cert.PleMerge.Facts) (hPleMergeIdeal : Cert.PleMergeIdeal.Facts) (hPleMergeRefIdeal : Cert.PleMergeRefIdeal.Facts) (hPleMergeBwd : Cert.PleMergeBwd.Facts) (hPleMergeBwdIdeal : Cert.PleMergeBwdIdeal.Facts) (hPleMergeBwdRefIdeal : Cert.PleMergeBwdRefIdeal.Facts) (hNorm : Cert.Norm.Facts) (hNormIdeal : Cert.NormIdeal.Facts) (hNormRefIdeal : Cert.NormRefIdeal.Facts) (hNormBwd : Cert.NormBwd.Facts) (hNormBwdIdeal : Cert.NormBwdIdeal.Facts) (hNormBwdRefIdeal : Cert.NormBwdRefIdeal.Facts) (hLatent : Cert.Latent.Facts) (hLatentIdeal : Cert.LatentIdeal.Facts) (hLatentRefIdeal : Cert.LatentRefIdeal.Facts) (hLatentBwd : Cert.LatentBwd.Facts) (hLatentBwdIdeal : Cert.LatentBwdIdeal.Facts) (hLatentBwdRefIdeal : Cert.LatentBwdRefIdeal.Facts) (hGatedNorm : Cert.GatedNorm.Facts) (hGatedNormIdeal : Cert.GatedNormIdeal.Facts) (hGatedNormRefIdeal : Cert.GatedNormRefIdeal.Facts) (hGatedNormBwd : Cert.GatedNormBwd.Facts) (hGatedNormBwdIdeal : Cert.GatedNormBwdIdeal.Facts) (hGatedNormBwdRefIdeal : Cert.GatedNormBwdRefIdeal.Facts) (hConv : Cert.Conv.Facts) (hConvIdeal : Cert.ConvIdeal.Facts) (hConvRefIdeal : Cert.ConvRefIdeal.Facts) (hLoss : Cert.Loss.Facts) (hLossIdeal : Cert.LossIdeal.Facts) (hLossRefIdeal : Cert.LossRefIdeal.Facts) (hRope : Cert.Rope.Facts) (hRopeIdeal : Cert.RopeIdeal.Facts) (hRopeRefIdeal : Cert.RopeRefIdeal.Facts) (hDt : Cert.Dt.Facts) (hDtIdeal : Cert.DtIdeal.Facts) (hDtRefIdeal : Cert.DtRefIdeal.Facts) (hQNorm : Cert.QNorm.Facts) (hQNormIdeal : Cert.QNormIdeal.Facts) (hQNormRefIdeal : Cert.QNormRefIdeal.Facts) (hKNorm : Cert.KNorm.Facts) (hKNormIdeal : Cert.KNormIdeal.Facts) (hKNormRefIdeal : Cert.KNormRefIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_SsmDw (hSsmDw := hSsmDw)
    ∧ quiescent_SsmDwIdeal (hSsmDwIdeal := hSsmDwIdeal)
    ∧ quiescent_SsmDwRefIdeal (hSsmDwRefIdeal := hSsmDwRefIdeal)
    ∧ quiescent_SsmDx (hSsmDx := hSsmDx)
    ∧ quiescent_SsmDxIdeal (hSsmDxIdeal := hSsmDxIdeal)
    ∧ quiescent_SsmDxRefIdeal (hSsmDxRefIdeal := hSsmDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_In (hIn := hIn)
    ∧ quiescent_InIdeal (hInIdeal := hInIdeal)
    ∧ quiescent_InRefIdeal (hInRefIdeal := hInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Ssm (hSsm := hSsm)
    ∧ quiescent_SsmIdeal (hSsmIdeal := hSsmIdeal)
    ∧ quiescent_SsmRefIdeal (hSsmRefIdeal := hSsmRefIdeal)
    ∧ quiescent_Gate (hGate := hGate)
    ∧ quiescent_GateIdeal (hGateIdeal := hGateIdeal)
    ∧ quiescent_GateRefIdeal (hGateRefIdeal := hGateRefIdeal)
    ∧ quiescent_AttnFwd (hAttnFwd := hAttnFwd)
    ∧ quiescent_AttnFwdIdeal (hAttnFwdIdeal := hAttnFwdIdeal)
    ∧ quiescent_AttnFwdIdeal_pre_finite_qk (hAttnFwdIdeal := hAttnFwdIdeal) (hPre_finite_qk := hPre_finite_qk)
    ∧ quiescent_AttnFwdRefIdeal (hAttnFwdRefIdeal := hAttnFwdRefIdeal)
    ∧ quiescent_AttnFwdRefIdeal_pre_finite_qk (hAttnFwdRefIdeal := hAttnFwdRefIdeal) (hPre_finite_qk := hPre_finite_qk)
    ∧ quiescent_Uq (hUq := hUq)
    ∧ quiescent_UqIdeal (hUqIdeal := hUqIdeal)
    ∧ quiescent_UqRefIdeal (hUqRefIdeal := hUqRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_UqDx (hUqDx := hUqDx)
    ∧ quiescent_UqDxIdeal (hUqDxIdeal := hUqDxIdeal)
    ∧ quiescent_UqDxRefIdeal (hUqDxRefIdeal := hUqDxRefIdeal)
    ∧ quiescent_Ukv (hUkv := hUkv)
    ∧ quiescent_UkvIdeal (hUkvIdeal := hUkvIdeal)
    ∧ quiescent_UkvRefIdeal (hUkvRefIdeal := hUkvRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_UkvDx (hUkvDx := hUkvDx)
    ∧ quiescent_UkvDxIdeal (hUkvDxIdeal := hUkvDxIdeal)
    ∧ quiescent_UkvDxRefIdeal (hUkvDxRefIdeal := hUkvDxRefIdeal)
    ∧ quiescent_MlaDx (hMlaDx := hMlaDx)
    ∧ quiescent_MlaDxIdeal (hMlaDxIdeal := hMlaDxIdeal)
    ∧ quiescent_MlaDxRefIdeal (hMlaDxRefIdeal := hMlaDxRefIdeal)
    ∧ quiescent_Out (hOut := hOut)
    ∧ quiescent_OutIdeal (hOutIdeal := hOutIdeal)
    ∧ quiescent_OutRefIdeal (hOutRefIdeal := hOutRefIdeal)
    ∧ quiescent_Ple (hPle := hPle)
    ∧ quiescent_PleIdeal (hPleIdeal := hPleIdeal)
    ∧ quiescent_PleRefIdeal (hPleRefIdeal := hPleRefIdeal)
    ∧ quiescent_PleDw (hPleDw := hPleDw)
    ∧ quiescent_PleDwIdeal (hPleDwIdeal := hPleDwIdeal)
    ∧ quiescent_PleDwRefIdeal (hPleDwRefIdeal := hPleDwRefIdeal)
    ∧ quiescent_Relu (hRelu := hRelu)
    ∧ quiescent_ReluIdeal (hReluIdeal := hReluIdeal)
    ∧ quiescent_ReluRefIdeal (hReluRefIdeal := hReluRefIdeal)
    ∧ quiescent_ReluBwd (hReluBwd := hReluBwd)
    ∧ quiescent_ReluBwdIdeal (hReluBwdIdeal := hReluBwdIdeal)
    ∧ quiescent_ReluBwdRefIdeal (hReluBwdRefIdeal := hReluBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_PleMerge (hPleMerge := hPleMerge)
    ∧ quiescent_PleMergeIdeal (hPleMergeIdeal := hPleMergeIdeal)
    ∧ quiescent_PleMergeRefIdeal (hPleMergeRefIdeal := hPleMergeRefIdeal)
    ∧ quiescent_PleMergeBwd (hPleMergeBwd := hPleMergeBwd)
    ∧ quiescent_PleMergeBwdIdeal (hPleMergeBwdIdeal := hPleMergeBwdIdeal)
    ∧ quiescent_PleMergeBwdRefIdeal (hPleMergeBwdRefIdeal := hPleMergeBwdRefIdeal)
    ∧ quiescent_Norm (hNorm := hNorm)
    ∧ quiescent_NormIdeal (hNormIdeal := hNormIdeal)
    ∧ quiescent_NormRefIdeal (hNormRefIdeal := hNormRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Latent (hLatent := hLatent)
    ∧ quiescent_LatentIdeal (hLatentIdeal := hLatentIdeal)
    ∧ quiescent_LatentRefIdeal (hLatentRefIdeal := hLatentRefIdeal)
    ∧ quiescent_LatentBwd (hLatentBwd := hLatentBwd)
    ∧ quiescent_LatentBwdIdeal (hLatentBwdIdeal := hLatentBwdIdeal)
    ∧ quiescent_LatentBwdRefIdeal (hLatentBwdRefIdeal := hLatentBwdRefIdeal)
    ∧ quiescent_GatedNorm (hGatedNorm := hGatedNorm)
    ∧ quiescent_GatedNormIdeal (hGatedNormIdeal := hGatedNormIdeal)
    ∧ quiescent_GatedNormRefIdeal (hGatedNormRefIdeal := hGatedNormRefIdeal)
    ∧ quiescent_GatedNormBwd (hGatedNormBwd := hGatedNormBwd)
    ∧ quiescent_GatedNormBwdIdeal (hGatedNormBwdIdeal := hGatedNormBwdIdeal)
    ∧ quiescent_GatedNormBwdRefIdeal (hGatedNormBwdRefIdeal := hGatedNormBwdRefIdeal)
    ∧ quiescent_Conv (hConv := hConv)
    ∧ quiescent_ConvIdeal (hConvIdeal := hConvIdeal)
    ∧ quiescent_ConvRefIdeal (hConvRefIdeal := hConvRefIdeal)
    ∧ quiescent_Loss (hLoss := hLoss)
    ∧ quiescent_LossIdeal (hLossIdeal := hLossIdeal)
    ∧ quiescent_LossRefIdeal (hLossRefIdeal := hLossRefIdeal)
    ∧ quiescent_Rope (hRope := hRope)
    ∧ quiescent_RopeIdeal (hRopeIdeal := hRopeIdeal)
    ∧ quiescent_RopeRefIdeal (hRopeRefIdeal := hRopeRefIdeal)
    ∧ quiescent_Dt (hDt := hDt)
    ∧ quiescent_DtIdeal (hDtIdeal := hDtIdeal)
    ∧ quiescent_DtRefIdeal (hDtRefIdeal := hDtRefIdeal)
    ∧ quiescent_QNorm (hQNorm := hQNorm)
    ∧ quiescent_QNormIdeal (hQNormIdeal := hQNormIdeal)
    ∧ quiescent_QNormRefIdeal (hQNormRefIdeal := hQNormRefIdeal)
    ∧ quiescent_KNorm (hKNorm := hKNorm)
    ∧ quiescent_KNormIdeal (hKNormIdeal := hKNormIdeal)
    ∧ quiescent_KNormRefIdeal (hKNormRefIdeal := hKNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_SsmDw_SsmDwIdeal
    ∧ algebraic_SsmDwIdeal_SsmDwRefIdeal (hSsmDwIdeal := hSsmDwIdeal) (hSsmDwRefIdeal := hSsmDwRefIdeal)
    ∧ preserves_SsmDx_SsmDxIdeal
    ∧ algebraic_SsmDxIdeal_SsmDxRefIdeal (hSsmDxIdeal := hSsmDxIdeal) (hSsmDxRefIdeal := hSsmDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_In_InIdeal
    ∧ algebraic_InIdeal_InRefIdeal (hInIdeal := hInIdeal) (hInRefIdeal := hInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Ssm_SsmIdeal
    ∧ algebraic_SsmIdeal_SsmRefIdeal (hSsmIdeal := hSsmIdeal) (hSsmRefIdeal := hSsmRefIdeal)
    ∧ preserves_Gate_GateIdeal
    ∧ algebraic_GateIdeal_GateRefIdeal (hGateIdeal := hGateIdeal) (hGateRefIdeal := hGateRefIdeal)
    ∧ preserves_AttnFwd_AttnFwdIdeal
    ∧ algebraic_AttnFwdIdeal_AttnFwdRefIdeal_pre_finite_qk (hAttnFwdIdeal := hAttnFwdIdeal) (hAttnFwdRefIdeal := hAttnFwdRefIdeal) (hPre_finite_qk := hPre_finite_qk)
    ∧ preserves_Uq_UqIdeal
    ∧ algebraic_UqIdeal_UqRefIdeal (hUqIdeal := hUqIdeal) (hUqRefIdeal := hUqRefIdeal)
    ∧ preserves_UqDw_UqDwIdeal
    ∧ algebraic_UqDwIdeal_UqDwRefIdeal (hUqDwIdeal := hUqDwIdeal) (hUqDwRefIdeal := hUqDwRefIdeal)
    ∧ preserves_UqDx_UqDxIdeal
    ∧ algebraic_UqDxIdeal_UqDxRefIdeal (hUqDxIdeal := hUqDxIdeal) (hUqDxRefIdeal := hUqDxRefIdeal)
    ∧ preserves_Ukv_UkvIdeal
    ∧ algebraic_UkvIdeal_UkvRefIdeal (hUkvIdeal := hUkvIdeal) (hUkvRefIdeal := hUkvRefIdeal)
    ∧ preserves_UkvDw_UkvDwIdeal
    ∧ algebraic_UkvDwIdeal_UkvDwRefIdeal (hUkvDwIdeal := hUkvDwIdeal) (hUkvDwRefIdeal := hUkvDwRefIdeal)
    ∧ preserves_UkvDx_UkvDxIdeal
    ∧ algebraic_UkvDxIdeal_UkvDxRefIdeal (hUkvDxIdeal := hUkvDxIdeal) (hUkvDxRefIdeal := hUkvDxRefIdeal)
    ∧ preserves_MlaDx_MlaDxIdeal
    ∧ algebraic_MlaDxIdeal_MlaDxRefIdeal (hMlaDxIdeal := hMlaDxIdeal) (hMlaDxRefIdeal := hMlaDxRefIdeal)
    ∧ preserves_Out_OutIdeal
    ∧ algebraic_OutIdeal_OutRefIdeal (hOutIdeal := hOutIdeal) (hOutRefIdeal := hOutRefIdeal)
    ∧ preserves_Ple_PleIdeal
    ∧ algebraic_PleIdeal_PleRefIdeal (hPleIdeal := hPleIdeal) (hPleRefIdeal := hPleRefIdeal)
    ∧ preserves_PleDw_PleDwIdeal
    ∧ algebraic_PleDwIdeal_PleDwRefIdeal (hPleDwIdeal := hPleDwIdeal) (hPleDwRefIdeal := hPleDwRefIdeal)
    ∧ preserves_Relu_ReluIdeal
    ∧ algebraic_ReluIdeal_ReluRefIdeal (hReluIdeal := hReluIdeal) (hReluRefIdeal := hReluRefIdeal)
    ∧ preserves_ReluBwd_ReluBwdIdeal
    ∧ algebraic_ReluBwdIdeal_ReluBwdRefIdeal (hReluBwdIdeal := hReluBwdIdeal) (hReluBwdRefIdeal := hReluBwdRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_PleMerge_PleMergeIdeal
    ∧ algebraic_PleMergeIdeal_PleMergeRefIdeal (hPleMergeIdeal := hPleMergeIdeal) (hPleMergeRefIdeal := hPleMergeRefIdeal)
    ∧ preserves_PleMergeBwd_PleMergeBwdIdeal
    ∧ algebraic_PleMergeBwdIdeal_PleMergeBwdRefIdeal (hPleMergeBwdIdeal := hPleMergeBwdIdeal) (hPleMergeBwdRefIdeal := hPleMergeBwdRefIdeal)
    ∧ preserves_Norm_NormIdeal
    ∧ algebraic_NormIdeal_NormRefIdeal (hNormIdeal := hNormIdeal) (hNormRefIdeal := hNormRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Latent_LatentIdeal
    ∧ algebraic_LatentIdeal_LatentRefIdeal (hLatentIdeal := hLatentIdeal) (hLatentRefIdeal := hLatentRefIdeal)
    ∧ preserves_LatentBwd_LatentBwdIdeal
    ∧ algebraic_LatentBwdIdeal_LatentBwdRefIdeal (hLatentBwdIdeal := hLatentBwdIdeal) (hLatentBwdRefIdeal := hLatentBwdRefIdeal)
    ∧ preserves_GatedNorm_GatedNormIdeal
    ∧ algebraic_GatedNormIdeal_GatedNormRefIdeal (hGatedNormIdeal := hGatedNormIdeal) (hGatedNormRefIdeal := hGatedNormRefIdeal)
    ∧ preserves_GatedNormBwd_GatedNormBwdIdeal
    ∧ algebraic_GatedNormBwdIdeal_GatedNormBwdRefIdeal (hGatedNormBwdIdeal := hGatedNormBwdIdeal) (hGatedNormBwdRefIdeal := hGatedNormBwdRefIdeal)
    ∧ preserves_Conv_ConvIdeal
    ∧ algebraic_ConvIdeal_ConvRefIdeal (hConvIdeal := hConvIdeal) (hConvRefIdeal := hConvRefIdeal)
    ∧ preserves_Loss_LossIdeal
    ∧ algebraic_LossIdeal_LossRefIdeal (hLossIdeal := hLossIdeal) (hLossRefIdeal := hLossRefIdeal)
    ∧ preserves_Rope_RopeIdeal
    ∧ algebraic_RopeIdeal_RopeRefIdeal (hRopeIdeal := hRopeIdeal) (hRopeRefIdeal := hRopeRefIdeal)
    ∧ preserves_Dt_DtIdeal
    ∧ algebraic_DtIdeal_DtRefIdeal (hDtIdeal := hDtIdeal) (hDtRefIdeal := hDtRefIdeal)
    ∧ preserves_QNorm_QNormIdeal
    ∧ algebraic_QNormIdeal_QNormRefIdeal (hQNormIdeal := hQNormIdeal) (hQNormRefIdeal := hQNormRefIdeal)
    ∧ preserves_KNorm_KNormIdeal
    ∧ algebraic_KNormIdeal_KNormRefIdeal (hKNormIdeal := hKNormIdeal) (hKNormRefIdeal := hKNormRefIdeal)
-- ==== Pre_finite.lean ====
abbrev S16x4096x192 : Shape := ⟨3, ![16, 4096, 192]⟩
abbrev S16x4096x128 : Shape := ⟨3, ![16, 4096, 128]⟩
abbrev S4096x2048 : Shape := ⟨2, ![4096, 2048]⟩
abbrev S_ : Shape := ⟨0, ![]⟩

class Facts : Prop where
  bcast_S_S16x4096x192 : S_.BroadcastsInDim S16x4096x192 (![] : Fin 0 → Fin S16x4096x192.rank)
  bcast_S_S16x4096x128 : S_.BroadcastsInDim S16x4096x128 (![] : Fin 0 → Fin S16x4096x128.rank)
  bcast_S_S4096x2048 : S_.BroadcastsInDim S4096x2048 (![] : Fin 0 → Fin S4096x2048.rank)

variable [Facts]

def fn {F : FTy → Type} [FloatOps F] (main_arg0 : FVec F S16x4096x192 .bf16) (main_arg1 : FVec F S16x4096x192 .bf16) (main_arg2 : FVec F S16x4096x128 .bf16) (main_arg3 : FVec F S4096x2048 .bf16) : IVec S16x4096x192 1 × IVec S16x4096x192 1 × IVec S16x4096x128 1 × IVec S4096x2048 1 :=
  let main_v0 : FVec F S16x4096x192 .bf16 := Host.absf main_arg0
  let main_cst : FVec F S_ .bf16 := constant S_ .bf16 0x7F80#16
  let main_v1 : FVec F S16x4096x192 .bf16 := broadcastInDim S16x4096x192 ![] bcast_S_S16x4096x192 main_cst
  let main_v2 : IVec S16x4096x192 1 := cmpf .olt main_v0 main_v1
  let main_v3 : FVec F S16x4096x192 .bf16 := Host.absf main_arg1
  let main_cst_0 : FVec F S_ .bf16 := constant S_ .bf16 0x7F80#16
  let main_v4 : FVec F S16x4096x192 .bf16 := broadcastInDim S16x4096x192 ![] bcast_S_S16x4096x192 main_cst_0
  let main_v5 : IVec S16x4096x192 1 := cmpf .olt main_v3 main_v4
  let main_v6 : FVec F S16x4096x128 .bf16 := Host.absf main_arg2
  let main_cst_1 : FVec F S_ .bf16 := constant S_ .bf16 0x7F80#16
  let main_v7 : FVec F S16x4096x128 .bf16 := broadcastInDim S16x4096x128 ![] bcast_S_S16x4096x128 main_cst_1
  let main_v8 : IVec S16x4096x128 1 := cmpf .olt main_v6 main_v7
  let main_v9 : FVec F S4096x2048 .bf16 := Host.absf main_arg3
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  (main_v2, main_v5, main_v8, main_v11)
-- ==== Pre_finite_qk.lean ====
abbrev S16x4096x192 : Shape := ⟨3, ![16, 4096, 192]⟩
abbrev S16x4096x128 : Shape := ⟨3, ![16, 4096, 128]⟩
abbrev S_ : Shape := ⟨0, ![]⟩

class Facts : Prop where
  bcast_S_S16x4096x192 : S_.BroadcastsInDim S16x4096x192 (![] : Fin 0 → Fin S16x4096x192.rank)

variable [Facts]

def fn {F : FTy → Type} [FloatOps F] (main_arg0 : FVec F S16x4096x192 .bf16) (main_arg1 : FVec F S16x4096x192 .bf16) (main_arg2 : FVec F S16x4096x128 .bf16) : IVec S16x4096x192 1 × IVec S16x4096x192 1 :=
  let main_v0 : FVec F S16x4096x192 .bf16 := Host.absf main_arg0
  let main_cst : FVec F S_ .bf16 := constant S_ .bf16 0x7F80#16
  let main_v1 : FVec F S16x4096x192 .bf16 := broadcastInDim S16x4096x192 ![] bcast_S_S16x4096x192 main_cst
  let main_v2 : IVec S16x4096x192 1 := cmpf .olt main_v0 main_v1
  let main_v3 : FVec F S16x4096x192 .bf16 := Host.absf main_arg1
  let main_cst_0 : FVec F S_ .bf16 := constant S_ .bf16 0x7F80#16
  let main_v4 : FVec F S16x4096x192 .bf16 := broadcastInDim S16x4096x192 ![] bcast_S_S16x4096x192 main_cst_0
  let main_v5 : IVec S16x4096x192 1 := cmpf .olt main_v3 main_v4
  (main_v2, main_v5)
-- ==== Kernel.lean ====
abbrev S16x4096x192 : Shape := ⟨3, ![16, 4096, 192]⟩
abbrev S16x4096x128 : Shape := ⟨3, ![16, 4096, 128]⟩
abbrev S4096x2048 : Shape := ⟨2, ![4096, 2048]⟩
abbrev S1x256x192 : Shape := ⟨3, ![1, 256, 192]⟩
abbrev S1x4096x192 : Shape := ⟨3, ![1, 4096, 192]⟩
abbrev S1x4096x128 : Shape := ⟨3, ![1, 4096, 128]⟩
abbrev S256x128 : Shape := ⟨2, ![256, 128]⟩
abbrev S4096x192 : Shape := ⟨2, ![4096, 192]⟩
abbrev S4096x128 : Shape := ⟨2, ![4096, 128]⟩
abbrev S256x192 : Shape := ⟨2, ![256, 192]⟩
abbrev S1x512x192 : Shape := ⟨3, ![1, 512, 192]⟩
abbrev S512x192 : Shape := ⟨2, ![512, 192]⟩
abbrev S1x512x128 : Shape := ⟨3, ![1, 512, 128]⟩
abbrev S512x128 : Shape := ⟨2, ![512, 128]⟩
abbrev S256x512 : Shape := ⟨2, ![256, 512]⟩
abbrev S256x1 : Shape := ⟨2, ![256, 1]⟩
abbrev S1x512 : Shape := ⟨2, ![1, 512]⟩
abbrev S256 : Shape := ⟨1, ![256]⟩
abbrev S1x1024x192 : Shape := ⟨3, ![1, 1024, 192]⟩
abbrev S1024x192 : Shape := ⟨2, ![1024, 192]⟩
abbrev S1x1024x128 : Shape := ⟨3, ![1, 1024, 128]⟩
abbrev S1024x128 : Shape := ⟨2, ![1024, 128]⟩
abbrev S256x1024 : Shape := ⟨2, ![256, 1024]⟩
abbrev S1x1024 : Shape := ⟨2, ![1, 1024]⟩
abbrev S1x1536x192 : Shape := ⟨3, ![1, 1536, 192]⟩
abbrev S1536x192 : Shape := ⟨2, ![1536, 192]⟩
abbrev S1x1536x128 : Shape := ⟨3, ![1, 1536, 128]⟩
abbrev S1536x128 : Shape := ⟨2, ![1536, 128]⟩
abbrev S256x1536 : Shape := ⟨2, ![256, 1536]⟩
abbrev S1x1536 : Shape := ⟨2, ![1, 1536]⟩
abbrev S1x2048x192 : Shape := ⟨3, ![1, 2048, 192]⟩
abbrev S2048x192 : Shape := ⟨2, ![2048, 192]⟩
abbrev S1x2048x128 : Shape := ⟨3, ![1, 2048, 128]⟩
abbrev S2048x128 : Shape := ⟨2, ![2048, 128]⟩
abbrev S256x2048 : Shape := ⟨2, ![256, 2048]⟩
abbrev S1x2048 : Shape := ⟨2, ![1, 2048]⟩
abbrev S1x2560x192 : Shape := ⟨3, ![1, 2560, 192]⟩
abbrev S2560x192 : Shape := ⟨2, ![2560, 192]⟩
abbrev S1x2560x128 : Shape := ⟨3, ![1, 2560, 128]⟩
abbrev S2560x128 : Shape := ⟨2, ![2560, 128]⟩
abbrev S256x2560 : Shape := ⟨2, ![256, 2560]⟩
abbrev S1x2560 : Shape := ⟨2, ![1, 2560]⟩
abbrev S1x3072x192 : Shape := ⟨3, ![1, 3072, 192]⟩
abbrev S3072x192 : Shape := ⟨2, ![3072, 192]⟩
abbrev S1x3072x128 : Shape := ⟨3, ![1, 3072, 128]⟩
abbrev S3072x128 : Shape := ⟨2, ![3072, 128]⟩
abbrev S256x3072 : Shape := ⟨2, ![256, 3072]⟩
abbrev S1x3072 : Shape := ⟨2, ![1, 3072]⟩
abbrev S1x3584x192 : Shape := ⟨3, ![1, 3584, 192]⟩
abbrev S3584x192 : Shape := ⟨2, ![3584, 192]⟩
abbrev S1x3584x128 : Shape := ⟨3, ![1, 3584, 128]⟩
abbrev S3584x128 : Shape := ⟨2, ![3584, 128]⟩
abbrev S256x3584 : Shape := ⟨2, ![256, 3584]⟩
abbrev S1x3584 : Shape := ⟨2, ![1, 3584]⟩
abbrev S256x4096 : Shape := ⟨2, ![256, 4096]⟩
abbrev S1x4096 : Shape := ⟨2, ![1, 4096]⟩

abbrev nBuf : Space → Nat
  | .hbm => 7
  | .vmem => 14
  | .smem => 0
  | _ => 0

abbrev bufTy : (tb : Table) → Fin (tcTables nBuf tb) → BufTy
  | .hbm, ⟨0, _⟩ => ⟨S16x4096x192, .bf16⟩
  | .hbm, ⟨1, _⟩ => ⟨S16x4096x192, .bf16⟩
  | .hbm, ⟨2, _⟩ => ⟨S16x4096x128, .bf16⟩
  | .hbm, ⟨3, _⟩ => ⟨S4096x2048, .bf16⟩
  | .hbm, ⟨4, _⟩ => ⟨S16x4096x192, .f32⟩
  | .hbm, ⟨5, _⟩ => ⟨S16x4096x192, .f32⟩
  | .hbm, ⟨6, _⟩ => ⟨S16x4096x128, .f32⟩
  | .local _ .vmem, ⟨0, _⟩ => ⟨S1x256x192, .bf16⟩
  | .local _ .vmem, ⟨1, _⟩ => ⟨S1x256x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x128, .bf16⟩
  | .local _ .vmem, ⟨7, _⟩ => ⟨S256x128, .bf16⟩
  | .local _ .vmem, ⟨8, _⟩ => ⟨S1x256x192, .f32⟩
  | .local _ .vmem, ⟨9, _⟩ => ⟨S1x256x192, .f32⟩
  | .local _ .vmem, ⟨10, _⟩ => ⟨S1x4096x192, .f32⟩
  | .local _ .vmem, ⟨11, _⟩ => ⟨S1x4096x192, .f32⟩
  | .local _ .vmem, ⟨12, _⟩ => ⟨S1x4096x128, .f32⟩
  | .local _ .vmem, ⟨13, _⟩ => ⟨S1x4096x128, .f32⟩
  | _, _ => ⟨S16x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c256_i32 : BitVec 32 := 256#32
  let v0 : BitVec 32 := Scalar.muli arg1 c256_i32
  let c512_i32 : BitVec 32 := 512#32
  let v4 : BitVec 32 := Scalar.divsi v0 c512_i32
  let c0_i32_1 : BitVec 32 := 0#32
  let v5 : BitVec 1 := Scalar.cmpi .eq v4 c0_i32_1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c256_i32 : BitVec 32 := 256#32
  let v0 : BitVec 32 := Scalar.muli arg1 c256_i32
  let c512_i32_3 : BitVec 32 := 512#32
  let v8 : BitVec 32 := Scalar.divsi v0 c512_i32_3
  let c1_i32 : BitVec 32 := 1#32
  let v9 : BitVec 1 := Scalar.cmpi .eq v8 c1_i32
  let v10 : BitVec 32 := Scalar.extui v9
  let c0_i32_4 : BitVec 32 := 0#32
  let v11 : BitVec 1 := Scalar.cmpi .ne v10 c0_i32_4
  v11

def k0_cond4 (i : grid0.Coords) : BitVec 1 :=
  let arg1 : BitVec 32 := BitVec.ofNat 32 (i 1).val
  let c256_i32 : BitVec 32 := 256#32
  let v0 : BitVec 32 := Scalar.muli arg1 c256_i32
  let c512_i32_5 : BitVec 32 := 512#32
  let v12 : BitVec 32 := Scalar.divsi v0 c512_i32_5
  let c2_i32 : BitVec 32 := 2#32
  let v13 : BitVec 1 := Scalar.cmpi .eq v12 c2_i32
  let v14 : BitVec 32 := Scalar.extui v13
  let c0_i32_6 : BitVec 32 := 0#32
  let v15 : BitVec 1 := Scalar.cmpi .ne v14 c0_i32_6
  v15

def k0_cond5 (i : grid0.Coords) : BitVec 1 :=
  let arg1 : BitVec 32 := BitVec.ofNat 32 (i 1).val
  let c256_i32 : BitVec 32 := 256#32
  let v0 : BitVec 32 := Scalar.muli arg1 c256_i32
  let c512_i32_7 : BitVec 32 := 512#32
  let v16 : BitVec 32 := Scalar.divsi v0 c512_i32_7
  let c3_i32 : BitVec 32 := 3#32
  let v17 : BitVec 1 := Scalar.cmpi .eq v16 c3_i32
  let v18 : BitVec 32 := Scalar.extui v17
  let c0_i32_8 : BitVec 32 := 0#32
  let v19 : BitVec 1 := Scalar.cmpi .ne v18 c0_i32_8
  v19

def k0_cond6 (i : grid0.Coords) : BitVec 1 :=
  let arg1 : BitVec 32 := BitVec.ofNat 32 (i 1).val
  let c256_i32 : BitVec 32 := 256#32
  let v0 : BitVec 32 := Scalar.muli arg1 c256_i32
  let c512_i32_9 : BitVec 32 := 512#32
  let v20 : BitVec 32 := Scalar.divsi v0 c512_i32_9
  let c4_i32 : BitVec 32 := 4#32
  let v21 : BitVec 1 := Scalar.cmpi .eq v20 c4_i32
  let v22 : BitVec 32 := Scalar.extui v21
  let c0_i32_10 : BitVec 32 := 0#32
  let v23 : BitVec 1 := Scalar.cmpi .ne v22 c0_i32_10
  v23

def k0_cond7 (i : grid0.Coords) : BitVec 1 :=
  let arg1 : BitVec 32 := BitVec.ofNat 32 (i 1).val
  let c256_i32 : BitVec 32 := 256#32
  let v0 : BitVec 32 := Scalar.muli arg1 c256_i32
  let c512_i32_11 : BitVec 32 := 512#32
  let v24 : BitVec 32 := Scalar.divsi v0 c512_i32_11
  let c5_i32 : BitVec 32 := 5#32
  let v25 : BitVec 1 := Scalar.cmpi .eq v24 c5_i32
  let v26 : BitVec 32 := Scalar.extui v25
  let c0_i32_12 : BitVec 32 := 0#32
  let v27 : BitVec 1 := Scalar.cmpi .ne v26 c0_i32_12
  v27

def k0_cond8 (i : grid0.Coords) : BitVec 1 :=
  let arg1 : BitVec 32 := BitVec.ofNat 32 (i 1).val
  let c256_i32 : BitVec 32 := 256#32
  let v0 : BitVec 32 := Scalar.muli arg1 c256_i32
  let c512_i32_13 : BitVec 32 := 512#32
  let v28 : BitVec 32 := Scalar.divsi v0 c512_i32_13
  let c6_i32 : BitVec 32 := 6#32
  let v29 : BitVec 1 := Scalar.cmpi .eq v28 c6_i32
  let v30 : BitVec 32 := Scalar.extui v29
  let c0_i32_14 : BitVec 32 := 0#32
  let v31 : BitVec 1 := Scalar.cmpi .ne v30 c0_i32_14
  v31

def k0_cond9 (i : grid0.Coords) : BitVec 1 :=
  let arg1 : BitVec 32 := BitVec.ofNat 32 (i 1).val
  let c256_i32 : BitVec 32 := 256#32
  let v0 : BitVec 32 := Scalar.muli arg1 c256_i32
  let c512_i32_15 : BitVec 32 := 512#32
  let v32 : BitVec 32 := Scalar.divsi v0 c512_i32_15
  let c7_i32 : BitVec 32 := 7#32
  let v33 : BitVec 1 := Scalar.cmpi .eq v32 c7_i32
  let v34 : BitVec 32 := Scalar.extui v33
  let c0_i32_16 : BitVec 32 := 0#32
  let v35 : BitVec 1 := Scalar.cmpi .ne v34 c0_i32_16
  v35

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16x4096x192 : Shape := ⟨3, ![16, 4096, 192]⟩
abbrev S16x4096x128 : Shape := ⟨3, ![16, 4096, 128]⟩
abbrev S4096x2048 : Shape := ⟨2, ![4096, 2048]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S4096x16x128 : Shape := ⟨3, ![4096, 16, 128]⟩
abbrev S16x128x4096 : Shape := ⟨3, ![16, 128, 4096]⟩

abbrev nBuf : Space → Nat
  | .hbm => 111
  | .vmem => 0
  | .smem => 0
  | _ => 0

abbrev bufTy : (tb : Table) → Fin (tcTables nBuf tb) → BufTy
  | .hbm, ⟨0, _⟩ => ⟨S16x4096x192, .bf16⟩
  | .hbm, ⟨1, _⟩ => ⟨S16x4096x192, .bf16⟩
  | .hbm, ⟨2, _⟩ => ⟨S16x4096x128, .bf16⟩
  | .hbm, ⟨3, _⟩ => ⟨S4096x2048, .bf16⟩
  | .hbm, ⟨4, _⟩ => ⟨S16x4096x192, .f32⟩
  | .hbm, ⟨5, _⟩ => ⟨S16x4096x192, .f32⟩
  | .hbm, ⟨6, _⟩ => ⟨S16x4096x128, .f32⟩
  | .hbm, ⟨7, _⟩ => ⟨S4096x2048, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S16x4096x1, .f32⟩
  | .hbm, ⟨46, _⟩ => ⟨S16x4096x4096, .f32⟩
  | .hbm, ⟨47, _⟩ => ⟨S16x4096x4096, .i1⟩
  | .hbm, ⟨48, _⟩ => ⟨S16x4096x4096, .f32⟩
  | .hbm, ⟨49, _⟩ => ⟨S_, .f32⟩
  | .hbm, ⟨50, _⟩ => ⟨S16x4096, .f32⟩
  | .hbm, ⟨51, _⟩ => ⟨S_, .f32⟩
  | .hbm, ⟨52, _⟩ => ⟨S16x4096, .f32⟩
  | .hbm, ⟨53, _⟩ => ⟨S16x4096, .f32⟩
  | .hbm, ⟨54, _⟩ => ⟨S_, .f32⟩
  | .hbm, ⟨55, _⟩ => ⟨S16x4096, .f32⟩
  | .hbm, ⟨56, _⟩ => ⟨S16x4096, .i1⟩
  | .hbm, ⟨57, _⟩ => ⟨S_, .f32⟩
  | .hbm, ⟨58, _⟩ => ⟨S16x4096, .f32⟩
  | .hbm, ⟨59, _⟩ => ⟨S16x4096, .i1⟩
  | .hbm, ⟨60, _⟩ => ⟨S_, .f32⟩
  | .hbm, ⟨61, _⟩ => ⟨S16x4096, .f32⟩
  | .hbm, ⟨62, _⟩ => ⟨S_, .f32⟩
  | .hbm, ⟨63, _⟩ => ⟨S16x4096, .f32⟩
  | .hbm, ⟨64, _⟩ => ⟨S_, .f32⟩
  | .hbm, ⟨65, _⟩ => ⟨S16x4096, .f32⟩
  | .hbm, ⟨66, _⟩ => ⟨S16x4096, .f32⟩
  | .hbm, ⟨67, _⟩ => ⟨S16x4096, .f32⟩
  | .hbm, ⟨68, _⟩ => ⟨S16x4096x1, .f32⟩
  | .hbm, ⟨69, _⟩ => ⟨S16x4096x4096, .f32⟩
  | .hbm, ⟨70, _⟩ => ⟨S16x4096x4096, .f32⟩
  | .hbm, ⟨71, _⟩ => ⟨S16x4096x4096, .f32⟩
  | .hbm, ⟨72, _⟩ => ⟨S_, .f32⟩
  | .hbm, ⟨73, _⟩ => ⟨S16x4096, .f32⟩
  | .hbm, ⟨74, _⟩ => ⟨S16x4096x1, .f32⟩
  | .hbm, ⟨75, _⟩ => ⟨S16x4096x4096, .f32⟩
  | .hbm, ⟨76, _⟩ => ⟨S16x4096x4096, .f32⟩
  | .hbm, ⟨77, _⟩ => ⟨S16x4096x1, .f32⟩
  | .hbm, ⟨78, _⟩ => ⟨S_, .f32⟩
  | .hbm, ⟨79, _⟩ => ⟨S16x4096x1, .f32⟩
  | .hbm, ⟨80, _⟩ => ⟨S16x4096x1, .f32⟩
  | .hbm, ⟨81, _⟩ => ⟨S16x4096x128, .f32⟩
  | .hbm, ⟨82, _⟩ => ⟨S4096x16x128, .f32⟩
  | .hbm, ⟨83, _⟩ => ⟨S4096x2048, .f32⟩
  | .hbm, ⟨84, _⟩ => ⟨S4096x16x128, .f32⟩
  | .hbm, ⟨85, _⟩ => ⟨S16x4096x128, .f32⟩
  | .hbm, ⟨86, _⟩ => ⟨S16x128x4096, .f32⟩
  | .hbm, ⟨87, _⟩ => ⟨S16x4096x128, .f32⟩
  | .hbm, ⟨88, _⟩ => ⟨S16x4096x4096, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x1, .f32⟩
  | .hbm, ⟨95, _⟩ => ⟨S16x4096x1, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096, .f32⟩
  | .hbm, ⟨100, _⟩ => ⟨S16x4096x4096, .f32⟩
  | .hbm, ⟨101, _⟩ => ⟨S16x4096x4096, .f32⟩
  | .hbm, ⟨102, _⟩ => ⟨S16x4096x4096, .f32⟩
  | .hbm, ⟨103, _⟩ => ⟨S_, .f32⟩
  | .hbm, ⟨104, _⟩ => ⟨S16x4096x4096, .f32⟩
  | .hbm, ⟨105, _⟩ => ⟨S16x4096x4096, .f32⟩
  | .hbm, ⟨106, _⟩ => ⟨S_, .f32⟩
  | .hbm, ⟨107, _⟩ => ⟨S16x4096x4096, .f32⟩
  | .hbm, ⟨108, _⟩ => ⟨S16x4096x4096, .f32⟩
  | .hbm, ⟨109, _⟩ => ⟨S16x4096x192, .f32⟩
  | .hbm, ⟨110, _⟩ => ⟨S16x4096x192, .f32⟩
  | _, _ => ⟨S16x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_0 : Ref sig .tc := ⟨.hbm, 36, rfl⟩
abbrev main_call1_v0 : Ref sig .tc := ⟨.hbm, 37, rfl⟩
abbrev main_v14_1 : Ref sig .tc := ⟨.hbm, 38, rfl⟩
abbrev main_call1_v2 : Ref sig .tc := ⟨.hbm, 39, rfl⟩
abbrev main_v14_0 : Ref sig .tc := ⟨.hbm, 40, rfl⟩
abbrev main_call1_cst : Ref sig .tc := ⟨.hbm, 41, rfl⟩
abbrev main_v14_2 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_cst_7 : Ref sig .tc := ⟨.hbm, 62, rfl⟩
abbrev main_v28 : Ref sig .tc := ⟨.hbm, 63, rfl⟩
abbrev main_cst_8 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_10 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call2_cst : Ref sig .tc := ⟨.hbm, 103, rfl⟩
abbrev main_call2_v0 : Ref sig .tc := ⟨.hbm, 104, rfl⟩
abbrev main_v63 : Ref sig .tc := ⟨.hbm, 105, rfl⟩
abbrev main_cst_13 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩

abbrev nD : Nat := 1
abbrev τ : Topo := Topo.v7x

variable {F : FTy → Type} [FloatOps F]
-- ==== UpDw.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2048 : Shape := ⟨2, ![4096, 2048]⟩
abbrev S8192x2048 : Shape := ⟨2, ![8192, 2048]⟩
abbrev S_ : Shape := ⟨0, ![]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S_, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | .hbm, ⟨7, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S4096x2048 : Shape := ⟨2, ![4096, 2048]⟩
abbrev S4096x15488 : Shape := ⟨2, ![4096, 15488]⟩
abbrev S2048x15488 : Shape := ⟨2, ![2048, 15488]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x15488, .bf16⟩
  | .hbm, ⟨2, _⟩ => ⟨S2048x15488, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x2048 : Shape := ⟨2, ![4096, 2048]⟩
abbrev S4096x15488 : Shape := ⟨2, ![4096, 15488]⟩
abbrev S_ : Shape := ⟨0, ![]⟩
abbrev S2048x15488 : Shape := ⟨2, ![2048, 15488]⟩
abbrev S15488x2048 : Shape := ⟨2, ![15488, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x15488, .bf16⟩
  | .hbm, ⟨2, _⟩ => ⟨S_, .f32⟩
  | .hbm, ⟨3, _⟩ => ⟨S2048x15488, .f32⟩
  | .hbm, ⟨4, _⟩ => ⟨S4096x2048, .f32⟩
  | .hbm, ⟨5, _⟩ => ⟨S4096x15488, .f32⟩
  | .hbm, ⟨6, _⟩ => ⟨S4096x15488, .f32⟩
  | .hbm, ⟨7, _⟩ => ⟨S15488x2048, .f32⟩
  | .hbm, ⟨8, _⟩ => ⟨S2048x15488, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S4096x15488 : Shape := ⟨2, ![4096, 15488]⟩
abbrev S2048x15488 : Shape := ⟨2, ![2048, 15488]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x15488, .bf16⟩
  | .hbm, ⟨1, _⟩ => ⟨S2048x15488, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x15488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x15488 : Shape := ⟨2, ![4096, 15488]⟩
abbrev S2048x15488 : Shape := ⟨2, ![2048, 15488]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x15488, .bf16⟩
  | .hbm, ⟨1, _⟩ => ⟨S2048x15488, .bf16⟩
  | .hbm, ⟨2, _⟩ => ⟨S_, .f32⟩
  | .hbm, ⟨3, _⟩ => ⟨S4096x2048, .f32⟩
  | .hbm, ⟨4, _⟩ => ⟨S2048x15488, .f32⟩
  | .hbm, ⟨5, _⟩ => ⟨S4096x15488, .f32⟩
  | .hbm, ⟨6, _⟩ => ⟨S4096x15488, .f32⟩
  | .hbm, ⟨7, _⟩ => ⟨S4096x2048, .f32⟩
  | _, _ => ⟨S4096x15488, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmDw.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwRefIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmDx.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDxRefIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In.lean ====
abbrev S4096x2048 : Shape := ⟨2, ![4096, 2048]⟩
abbrev S2048x15488 : Shape := ⟨2, ![2048, 15488]⟩
abbrev S4096x15488 : Shape := ⟨2, ![4096, 15488]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x15488, .bf16⟩
  | .hbm, ⟨2, _⟩ => ⟨S4096x15488, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x2048 : Shape := ⟨2, ![4096, 2048]⟩
abbrev S2048x15488 : Shape := ⟨2, ![2048, 15488]⟩
abbrev S4096x15488 : Shape := ⟨2, ![4096, 15488]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x15488, .bf16⟩
  | .hbm, ⟨2, _⟩ => ⟨S4096x2048, .f32⟩
  | .hbm, ⟨3, _⟩ => ⟨S2048x15488, .f32⟩
  | .hbm, ⟨4, _⟩ => ⟨S4096x15488, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ssm.lean ====
abbrev S4096x4096 : Shape := ⟨2, ![4096, 4096]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmRefIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnFwd.lean ====
abbrev S16x4096x192 : Shape := ⟨3, ![16, 4096, 192]⟩
abbrev S16x4096x128 : Shape := ⟨3, ![16, 4096, 128]⟩
abbrev S4096x2048 : Shape := ⟨2, ![4096, 2048]⟩
abbrev S1x256x192 : Shape := ⟨3, ![1, 256, 192]⟩
abbrev S1x4096x192 : Shape := ⟨3, ![1, 4096, 192]⟩
abbrev S1x4096x128 : Shape := ⟨3, ![1, 4096, 128]⟩
abbrev S256x128 : Shape := ⟨2, ![256, 128]⟩
abbrev S256x192 : Shape := ⟨2, ![256, 192]⟩
abbrev S1x512x192 : Shape := ⟨3, ![1, 512, 192]⟩
abbrev S512x192 : Shape := ⟨2, ![512, 192]⟩
abbrev S1x512x128 : Shape := ⟨3, ![1, 512, 128]⟩
abbrev S512x128 : Shape := ⟨2, ![512, 128]⟩
abbrev S256x512 : Shape := ⟨2, ![256, 512]⟩
abbrev S256x1 : Shape := ⟨2, ![256, 1]⟩
abbrev S1x512 : Shape := ⟨2, ![1, 512]⟩
abbrev S256 : Shape := ⟨1, ![256]⟩
abbrev S1x1024x192 : Shape := ⟨3, ![1, 1024, 192]⟩
abbrev S1024x192 : Shape := ⟨2, ![1024, 192]⟩
abbrev S1x1024x128 : Shape := ⟨3, ![1, 1024, 128]⟩
abbrev S1024x128 : Shape := ⟨2, ![1024, 128]⟩
abbrev S256x1024 : Shape := ⟨2, ![256, 1024]⟩
abbrev S1x1024 : Shape := ⟨2, ![1, 1024]⟩
abbrev S1x1536x192 : Shape := ⟨3, ![1, 1536, 192]⟩
abbrev S1536x192 : Shape := ⟨2, ![1536, 192]⟩
abbrev S1x1536x128 : Shape := ⟨3, ![1, 1536, 128]⟩
abbrev S1536x128 : Shape := ⟨2, ![1536, 128]⟩
abbrev S256x1536 : Shape := ⟨2, ![256, 1536]⟩
abbrev S1x1536 : Shape := ⟨2, ![1, 1536]⟩
abbrev S1x2048x192 : Shape := ⟨3, ![1, 2048, 192]⟩
abbrev S2048x192 : Shape := ⟨2, ![2048, 192]⟩
abbrev S1x2048x128 : Shape := ⟨3, ![1, 2048, 128]⟩
abbrev S2048x128 : Shape := ⟨2, ![2048, 128]⟩
abbrev S256x2048 : Shape := ⟨2, ![256, 2048]⟩
abbrev S1x2048 : Shape := ⟨2, ![1, 2048]⟩
abbrev S1x2560x192 : Shape := ⟨3, ![1, 2560, 192]⟩
abbrev S2560x192 : Shape := ⟨2, ![2560, 192]⟩
abbrev S1x2560x128 : Shape := ⟨3, ![1, 2560, 128]⟩
abbrev S2560x128 : Shape := ⟨2, ![2560, 128]⟩
abbrev S256x2560 : Shape := ⟨2, ![256, 2560]⟩
abbrev S1x2560 : Shape := ⟨2, ![1, 2560]⟩
abbrev S1x3072x192 : Shape := ⟨3, ![1, 3072, 192]⟩
abbrev S3072x192 : Shape := ⟨2, ![3072, 192]⟩
abbrev S1x3072x128 : Shape := ⟨3, ![1, 3072, 128]⟩
abbrev S3072x128 : Shape := ⟨2, ![3072, 128]⟩
abbrev S256x3072 : Shape := ⟨2, ![256, 3072]⟩
abbrev S1x3072 : Shape := ⟨2, ![1, 3072]⟩
abbrev S1x3584x192 : Shape := ⟨3, ![1, 3584, 192]⟩
abbrev S3584x192 : Shape := ⟨2, ![3584, 192]⟩
abbrev S1x3584x128 : Shape := ⟨3, ![1, 3584, 128]⟩
abbrev S3584x128 : Shape := ⟨2, ![3584, 128]⟩
abbrev S256x3584 : Shape := ⟨2, ![256, 3584]⟩
abbrev S1x3584 : Shape := ⟨2, ![1, 3584]⟩
abbrev S4096x192 : Shape := ⟨2, ![4096, 192]⟩
abbrev S4096x128 : Shape := ⟨2, ![4096, 128]⟩
abbrev S256x4096 : Shape := ⟨2, ![256, 4096]⟩
abbrev S1x4096 : Shape := ⟨2, ![1, 4096]⟩

abbrev nBuf : Space → Nat
  | .hbm => 4
  | .vmem => 8
  | .smem => 0
  | _ => 0

abbrev bufTy : (tb : Table) → Fin (tcTables nBuf tb) → BufTy
  | .hbm, ⟨0, _⟩ => ⟨S16x4096x192, .bf16⟩
  | .hbm, ⟨1, _⟩ => ⟨S16x4096x192, .bf16⟩
  | .hbm, ⟨2, _⟩ => ⟨S16x4096x128, .bf16⟩
  | .hbm, ⟨3, _⟩ => ⟨S4096x2048, .bf16⟩
  | .local _ .vmem, ⟨0, _⟩ => ⟨S1x256x192, .bf16⟩
  | .local _ .vmem, ⟨1, _⟩ => ⟨S1x256x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x128, .bf16⟩
  | .local _ .vmem, ⟨7, _⟩ => ⟨S256x128, .bf16⟩
  | _, _ => ⟨S16x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c256_i32 : BitVec 32 := 256#32
  let v0 : BitVec 32 := Scalar.muli arg1 c256_i32
  let c512_i32 : BitVec 32 := 512#32
  let v1 : BitVec 32 := Scalar.divsi v0 c512_i32
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c256_i32 : BitVec 32 := 256#32
  let v0 : BitVec 32 := Scalar.muli arg1 c256_i32
  let c512_i32_1 : BitVec 32 := 512#32
  let v5 : BitVec 32 := Scalar.divsi v0 c512_i32_1
  let c1_i32 : BitVec 32 := 1#32
  let v6 : BitVec 1 := Scalar.cmpi .eq v5 c1_i32
  let v7 : BitVec 32 := Scalar.extui v6
  let c0_i32_2 : BitVec 32 := 0#32
  let v8 : BitVec 1 := Scalar.cmpi .ne v7 c0_i32_2
  v8

def k0_cond3 (i : grid0.Coords) : BitVec 1 :=
  let arg1 : BitVec 32 := BitVec.ofNat 32 (i 1).val
  let c256_i32 : BitVec 32 := 256#32
  let v0 : BitVec 32 := Scalar.muli arg1 c256_i32
  let c512_i32_3 : BitVec 32 := 512#32
  let v9 : BitVec 32 := Scalar.divsi v0 c512_i32_3
  let c2_i32 : BitVec 32 := 2#32
  let v10 : BitVec 1 := Scalar.cmpi .eq v9 c2_i32
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c256_i32 : BitVec 32 := 256#32
  let v0 : BitVec 32 := Scalar.muli arg1 c256_i32
  let c512_i32_5 : BitVec 32 := 512#32
  let v13 : BitVec 32 := Scalar.divsi v0 c512_i32_5
  let c3_i32 : BitVec 32 := 3#32
  let v14 : BitVec 1 := Scalar.cmpi .eq v13 c3_i32
  let v15 : BitVec 32 := Scalar.extui v14
  let c0_i32_6 : BitVec 32 := 0#32
  let v16 : BitVec 1 := Scalar.cmpi .ne v15 c0_i32_6
  v16

def k0_cond5 (i : grid0.Coords) : BitVec 1 :=
  let arg1 : BitVec 32 := BitVec.ofNat 32 (i 1).val
  let c256_i32 : BitVec 32 := 256#32
  let v0 : BitVec 32 := Scalar.muli arg1 c256_i32
  let c512_i32_7 : BitVec 32 := 512#32
  let v17 : BitVec 32 := Scalar.divsi v0 c512_i32_7
  let c4_i32 : BitVec 32 := 4#32
  let v18 : BitVec 1 := Scalar.cmpi .eq v17 c4_i32
  let v19 : BitVec 32 := Scalar.extui v18
  let c0_i32_8 : BitVec 32 := 0#32
  let v20 : BitVec 1 := Scalar.cmpi .ne v19 c0_i32_8
  v20

def k0_cond6 (i : grid0.Coords) : BitVec 1 :=
  let arg1 : BitVec 32 := BitVec.ofNat 32 (i 1).val
  let c256_i32 : BitVec 32 := 256#32
  let v0 : BitVec 32 := Scalar.muli arg1 c256_i32
  let c512_i32_9 : BitVec 32 := 512#32
  let v21 : BitVec 32 := Scalar.divsi v0 c512_i32_9
  let c5_i32 : BitVec 32 := 5#32
  let v22 : BitVec 1 := Scalar.cmpi .eq v21 c5_i32
  let v23 : BitVec 32 := Scalar.extui v22
  let c0_i32_10 : BitVec 32 := 0#32
  let v24 : BitVec 1 := Scalar.cmpi .ne v23 c0_i32_10
  v24

def k0_cond7 (i : grid0.Coords) : BitVec 1 :=
  let arg1 : BitVec 32 := BitVec.ofNat 32 (i 1).val
  let c256_i32 : BitVec 32 := 256#32
  let v0 : BitVec 32 := Scalar.muli arg1 c256_i32
  let c512_i32_11 : BitVec 32 := 512#32
  let v25 : BitVec 32 := Scalar.divsi v0 c512_i32_11
  let c6_i32 : BitVec 32 := 6#32
  let v26 : BitVec 1 := Scalar.cmpi .eq v25 c6_i32
  let v27 : BitVec 32 := Scalar.extui v26
  let c0_i32_12 : BitVec 32 := 0#32
  let v28 : BitVec 1 := Scalar.cmpi .ne v27 c0_i32_12
  v28

def k0_cond8 (i : grid0.Coords) : BitVec 1 :=
  let arg1 : BitVec 32 := BitVec.ofNat 32 (i 1).val
  let c256_i32 : BitVec 32 := 256#32
  let v0 : BitVec 32 := Scalar.muli arg1 c256_i32
  let c512_i32_13 : BitVec 32 := 512#32
  let v29 : BitVec 32 := Scalar.divsi v0 c512_i32_13
  let c7_i32 : BitVec 32 := 7#32
  let v30 : BitVec 1 := Scalar.cmpi .eq v29 c7_i32
  let v31 : BitVec 32 := Scalar.extui v30
  let c0_i32_14 : BitVec 32 := 0#32
  let v32 : BitVec 1 := Scalar.cmpi .ne v31 c0_i32_14
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdRefIdeal.lean ====
abbrev S16x4096x192 : Shape := ⟨3, ![16, 4096, 192]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S4096x16x128 : Shape := ⟨3, ![4096, 16, 128]⟩
abbrev S4096x2048 : Shape := ⟨2, ![4096, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16x4096x192, .bf16⟩
  | .hbm, ⟨1, _⟩ => ⟨S16x4096x192, .bf16⟩
  | .hbm, ⟨2, _⟩ => ⟨S16x4096x128, .bf16⟩
  | .hbm, ⟨3, _⟩ => ⟨S16x4096x192, .f32⟩
  | .hbm, ⟨4, _⟩ => ⟨S16x4096x192, .f32⟩
  | .hbm, ⟨5, _⟩ => ⟨S16x4096x128, .f32⟩
  | .hbm, ⟨6, _⟩ => ⟨S16x4096x4096, .f32⟩
  | .hbm, ⟨7, _⟩ => ⟨S_, .f32⟩
  | .hbm, ⟨8, _⟩ => ⟨S16x4096x4096, .f32⟩
  | .hbm, ⟨9, _⟩ => ⟨S16x4096x4096, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S16x4096x4096, .i1⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S16x4096x1, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096, .f32⟩
  | .hbm, ⟨50, _⟩ => ⟨S16x4096x1, .f32⟩
  | .hbm, ⟨51, _⟩ => ⟨S16x4096x4096, .f32⟩
  | .hbm, ⟨52, _⟩ => ⟨S16x4096x4096, .f32⟩
  | .hbm, ⟨53, _⟩ => ⟨S16x4096x128, .f32⟩
  | .hbm, ⟨54, _⟩ => ⟨S4096x16x128, .f32⟩
  | .hbm, ⟨55, _⟩ => ⟨S4096x2048, .f32⟩
  | .hbm, ⟨56, _⟩ => ⟨S4096x2048, .bf16⟩
  | _, _ => ⟨S16x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩

abbrev nD : Nat := 1
abbrev τ : Topo := Topo.v7x

variable {F : FTy → Type} [FloatOps F]
-- ==== Uq.lean ====
abbrev S4096x512 : Shape := ⟨2, ![4096, 512]⟩
abbrev S512x3072 : Shape := ⟨2, ![512, 3072]⟩
abbrev S4096x3072 : Shape := ⟨2, ![4096, 3072]⟩
abbrev S1024x512 : Shape := ⟨2, ![1024, 512]⟩
abbrev S512x1536 : Shape := ⟨2, ![512, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x3072, .f32⟩
  | .local _ .vmem, ⟨0, _⟩ => ⟨S1024x512, .bf16⟩
  | .local _ .vmem, ⟨1, _⟩ => ⟨S1024x512, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4096x512 : Shape := ⟨2, ![4096, 512]⟩
abbrev S512x3072 : Shape := ⟨2, ![512, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x512, .f32⟩
  | .hbm, ⟨3, _⟩ => ⟨S512x3072, .f32⟩
  | .hbm, ⟨4, _⟩ => ⟨S4096x3072, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UqDw.lean ====
abbrev S4096x512 : Shape := ⟨2, ![4096, 512]⟩
abbrev S4096x3072 : Shape := ⟨2, ![4096, 3072]⟩
abbrev S512x3072 : Shape := ⟨2, ![512, 3072]⟩
abbrev S2048x512 : Shape := ⟨2, ![2048, 512]⟩
abbrev S2048x1536 : Shape := ⟨2, ![2048, 1536]⟩
abbrev S512x1536 : Shape := ⟨2, ![512, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x3072, .bf16⟩
  | .hbm, ⟨2, _⟩ => ⟨S512x3072, .f32⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwRefIdeal.lean ====
abbrev S4096x512 : Shape := ⟨2, ![4096, 512]⟩
abbrev S4096x3072 : Shape := ⟨2, ![4096, 3072]⟩
abbrev S_ : Shape := ⟨0, ![]⟩
abbrev S512x3072 : Shape := ⟨2, ![512, 3072]⟩
abbrev S3072x512 : Shape := ⟨2, ![3072, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x3072, .bf16⟩
  | .hbm, ⟨2, _⟩ => ⟨S_, .f32⟩
  | .hbm, ⟨3, _⟩ => ⟨S512x3072, .f32⟩
  | .hbm, ⟨4, _⟩ => ⟨S4096x512, .f32⟩
  | .hbm, ⟨5, _⟩ => ⟨S4096x3072, .f32⟩
  | .hbm, ⟨6, _⟩ => ⟨S4096x3072, .f32⟩
  | .hbm, ⟨7, _⟩ => ⟨S3072x512, .f32⟩
  | .hbm, ⟨8, _⟩ => ⟨S512x3072, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UqDx.lean ====
abbrev S4096x3072 : Shape := ⟨2, ![4096, 3072]⟩
abbrev S512x3072 : Shape := ⟨2, ![512, 3072]⟩
abbrev S4096x512 : Shape := ⟨2, ![4096, 512]⟩
abbrev S1024x1536 : Shape := ⟨2, ![1024, 1536]⟩
abbrev S512x1536 : Shape := ⟨2, ![512, 1536]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S512x3072, .bf16⟩
  | .hbm, ⟨2, _⟩ => ⟨S4096x512, .f32⟩
  | .local _ .vmem, ⟨0, _⟩ => ⟨S1024x1536, .bf16⟩
  | .local _ .vmem, ⟨1, _⟩ => ⟨S1024x1536, .bf16⟩
  | .local _ .vmem, ⟨2, _⟩ => ⟨S512x1536, .bf16⟩
  | .local _ .vmem, ⟨3, _⟩ => ⟨S512x1536, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxRefIdeal.lean ====
abbrev S4096x3072 : Shape := ⟨2, ![4096, 3072]⟩
abbrev S512x3072 : Shape := ⟨2, ![512, 3072]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S512x3072, .bf16⟩
  | .hbm, ⟨2, _⟩ => ⟨S_, .f32⟩
  | .hbm, ⟨3, _⟩ => ⟨S4096x512, .f32⟩
  | .hbm, ⟨4, _⟩ => ⟨S512x3072, .f32⟩
  | .hbm, ⟨5, _⟩ => ⟨S4096x3072, .f32⟩
  | .hbm, ⟨6, _⟩ => ⟨S4096x3072, .f32⟩
  | .hbm, ⟨7, _⟩ => ⟨S4096x512, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ukv.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UkvDw.lean ====
abbrev S4096x512 : Shape := ⟨2, ![4096, 512]⟩
abbrev S4096x4096 : Shape := ⟨2, ![4096, 4096]⟩
abbrev S512x4096 : Shape := ⟨2, ![512, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDwRefIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S512x4096, .f32⟩
  | .hbm, ⟨4, _⟩ => ⟨S4096x512, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UkvDx.lean ====
abbrev S4096x4096 : Shape := ⟨2, ![4096, 4096]⟩
abbrev S512x4096 : Shape := ⟨2, ![512, 4096]⟩
abbrev S4096x512 : Shape := ⟨2, ![4096, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxRefIdeal.lean ====
abbrev S4096x4096 : Shape := ⟨2, ![4096, 4096]⟩
abbrev S512x4096 : Shape := ⟨2, ![512, 4096]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S_, .f32⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ple.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x256, .f32⟩
  | .hbm, ⟨3, _⟩ => ⟨S256x2048, .f32⟩
  | .hbm, ⟨4, _⟩ => ⟨S4096x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleDw.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleDwRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Relu.lean ====
abbrev S4096x8192 : Shape := ⟨2, ![4096, 8192]⟩
abbrev S128x8192 : Shape := ⟨2, ![128, 8192]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .bf16⟩
  | .local _ .vmem, ⟨0, _⟩ => ⟨S128x8192, .f32⟩
  | .local _ .vmem, ⟨1, _⟩ => ⟨S128x8192, .f32⟩
  | .local _ .vmem, ⟨2, _⟩ => ⟨S128x8192, .bf16⟩
  | .local _ .vmem, ⟨3, _⟩ => ⟨S128x8192, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReluRefIdeal.lean ====
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ReluBwd.lean ====
abbrev S4096x8192 : Shape := ⟨2, ![4096, 8192]⟩
abbrev S128x8192 : Shape := ⟨2, ![128, 8192]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .bf16⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .bf16⟩
  | .local _ .vmem, ⟨5, _⟩ => ⟨S128x8192, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReluBwdRefIdeal.lean ====
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .i1⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Merge.lean ====
abbrev S4096x2048 : Shape := ⟨2, ![4096, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MergeRefIdeal.lean ====
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== MergeBwd.lean ====
abbrev S4096x2048 : Shape := ⟨2, ![4096, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MergeBwdRefIdeal.lean ====
abbrev S4096x2048 : Shape := ⟨2, ![4096, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .bf16⟩
  | .hbm, ⟨41, _⟩ => ⟨S4096x2048, .bf16⟩
  | .hbm, ⟨42, _⟩ => ⟨S4096x2048, .bf16⟩
  | .hbm, ⟨43, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== PleMerge.lean ====
abbrev S4096x2048 : Shape := ⟨2, ![4096, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== PleMergeRefIdeal.lean ====
abbrev S4096x2048 : Shape := ⟨2, ![4096, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== PleMergeBwd.lean ====
abbrev S4096x2048 : Shape := ⟨2, ![4096, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PleMergeBwdRefIdeal.lean ====
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | .hbm, ⟨23, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let arg0 : BitVec 32 := BitVec.ofNat 32 (i 0).val
  let c0_i32_16 : BitVec 32 := 0#32
  let v40 : BitVec 1 := Scalar.cmpi .eq arg0 c0_i32_16
  let v41 : BitVec 1 := Scalar.andi v39 v40
  let v42 : BitVec 32 := Scalar.extui v41
  let c0_i32_17 : BitVec 32 := 0#32
  let v43 : BitVec 1 := Scalar.cmpi .ne v42 c0_i32_17
  v43

def k0_cond2 (i : grid0.Coords) : BitVec 1 :=
  let arg1 : BitVec 32 := BitVec.ofNat 32 (i 1).val
  let c0_i32 : BitVec 32 := 0#32
  let v39 : BitVec 1 := Scalar.cmpi .eq arg1 c0_i32
  let arg0 : BitVec 32 := BitVec.ofNat 32 (i 0).val
  let c0_i32_16 : BitVec 32 := 0#32
  let v40 : BitVec 1 := Scalar.cmpi .eq arg0 c0_i32_16
  let v41 : BitVec 1 := Scalar.andi v39 v40
  let v_true : BitVec 1 := 1#1
  let v44 : BitVec 1 := Scalar.xori v41 v_true
  let v45 : BitVec 32 := Scalar.extui v44
  let c0_i32_18 : BitVec 32 := 0#32
  let v46 : BitVec 1 := Scalar.cmpi .ne v45 c0_i32_18
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== NormBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Latent.lean ====
abbrev S4096x512 : Shape := ⟨2, ![4096, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x512, .bf16⟩
  | .hbm, ⟨5, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== LatentRefIdeal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .bf16⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== LatentBwd.lean ====
abbrev S4096x512 : Shape := ⟨2, ![4096, 512]⟩
abbrev S1x512 : Shape := ⟨2, ![1, 512]⟩
abbrev S128x512 : Shape := ⟨2, ![128, 512]⟩
abbrev S128 : Shape := ⟨1, ![128]⟩
abbrev S128x1 : Shape := ⟨2, ![128, 1]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S4096x512, .bf16⟩
  | .hbm, ⟨8, _⟩ => ⟨S1x512, .f32⟩
  | .hbm, ⟨9, _⟩ => ⟨S1x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S1x512, .f32⟩
  | .local _ .vmem, ⟨15, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v76 : BitVec 1 := Scalar.cmpi .eq arg1 c0_i32
  let arg0 : BitVec 32 := BitVec.ofNat 32 (i 0).val
  let c0_i32_30 : BitVec 32 := 0#32
  let v77 : BitVec 1 := Scalar.cmpi .eq arg0 c0_i32_30
  let v78 : BitVec 1 := Scalar.andi v76 v77
  let v79 : BitVec 32 := Scalar.extui v78
  let c0_i32_31 : BitVec 32 := 0#32
  let v80 : BitVec 1 := Scalar.cmpi .ne v79 c0_i32_31
  v80

def k0_cond2 (i : grid0.Coords) : BitVec 1 :=
  let arg1 : BitVec 32 := BitVec.ofNat 32 (i 1).val
  let c0_i32 : BitVec 32 := 0#32
  let v76 : BitVec 1 := Scalar.cmpi .eq arg1 c0_i32
  let arg0 : BitVec 32 := BitVec.ofNat 32 (i 0).val
  let c0_i32_30 : BitVec 32 := 0#32
  let v77 : BitVec 1 := Scalar.cmpi .eq arg0 c0_i32_30
  let v78 : BitVec 1 := Scalar.andi v76 v77
  let v_true : BitVec 1 := 1#1
  let v81 : BitVec 1 := Scalar.xori v78 v_true
  let v82 : BitVec 32 := Scalar.extui v81
  let c0_i32_32 : BitVec 32 := 0#32
  let v83 : BitVec 1 := Scalar.cmpi .ne v82 c0_i32_32
  v83

def k0_cond3 (i : grid0.Coords) : BitVec 1 :=
  let arg1 : BitVec 32 := BitVec.ofNat 32 (i 1).val
  let c0_i32_33 : BitVec 32 := 0#32
  let v84 : BitVec 1 := Scalar.cmpi .eq arg1 c0_i32_33
  let arg0 : BitVec 32 := BitVec.ofNat 32 (i 0).val
  let c0_i32_34 : BitVec 32 := 0#32
  let v85 : BitVec 1 := Scalar.cmpi .eq arg0 c0_i32_34
  let v86 : BitVec 1 := Scalar.andi v84 v85
  let v87 : BitVec 32 := Scalar.extui v86
  let c0_i32_35 : BitVec 32 := 0#32
  let v88 : BitVec 1 := Scalar.cmpi .ne v87 c0_i32_35
  v88

def k0_cond4 (i : grid0.Coords) : BitVec 1 :=
  let arg1 : BitVec 32 := BitVec.ofNat 32 (i 1).val
  let c0_i32_33 : BitVec 32 := 0#32
  let v84 : BitVec 1 := Scalar.cmpi .eq arg1 c0_i32_33
  let arg0 : BitVec 32 := BitVec.ofNat 32 (i 0).val
  let c0_i32_34 : BitVec 32 := 0#32
  let v85 : BitVec 1 := Scalar.cmpi .eq arg0 c0_i32_34
  let v86 : BitVec 1 := Scalar.andi v84 v85
  let true_36 : BitVec 1 := 1#1
  let v89 : BitVec 1 := Scalar.xori v86 true_36
  let v90 : BitVec 32 := Scalar.extui v89
  let c0_i32_37 : BitVec 32 := 0#32
  let v91 : BitVec 1 := Scalar.cmpi .ne v90 c0_i32_37
  v91

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== LatentBwdRefIdeal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 92
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S_, .f32⟩
  | .hbm, ⟨69, _⟩ => ⟨S512, .f32⟩
  | .hbm, ⟨70, _⟩ => ⟨S1x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x512, .f32⟩
  | .hbm, ⟨78, _⟩ => ⟨S4096x512, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .bf16⟩
  | .hbm, ⟨91, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== GatedNorm.lean ====
abbrev S4096x4096 : Shape := ⟨2, ![4096, 4096]⟩
abbrev S1x4096 : Shape := ⟨2, ![1, 4096]⟩
abbrev S1024x512 : Shape := ⟨2, ![1024, 512]⟩
abbrev S1x512 : Shape := ⟨2, ![1, 512]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatedNormRefIdeal.lean ====
abbrev S4096x4096 : Shape := ⟨2, ![4096, 4096]⟩
abbrev S1x4096 : Shape := ⟨2, ![1, 4096]⟩
abbrev S_ : Shape := ⟨0, ![]⟩
abbrev S4096x8x512 : Shape := ⟨3, ![4096, 8, 512]⟩
abbrev S4096x8 : Shape := ⟨2, ![4096, 8]⟩
abbrev S4096x8x1 : Shape := ⟨3, ![4096, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x8x512, .f32⟩
  | .hbm, ⟨14, _⟩ => ⟨S4096x8x512, .f32⟩
  | .hbm, ⟨15, _⟩ => ⟨S_, .f32⟩
  | .hbm, ⟨16, _⟩ => ⟨S4096x8, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S4096x8x1, .f32⟩
  | .hbm, ⟨25, _⟩ => ⟨S4096x8x512, .f32⟩
  | .hbm, ⟨26, _⟩ => ⟨S4096x8x512, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== GatedNormBwd.lean ====
abbrev S4096x4096 : Shape := ⟨2, ![4096, 4096]⟩
abbrev S1x4096 : Shape := ⟨2, ![1, 4096]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v65 : BitVec 1 := Scalar.cmpi .eq arg1 c0_i32
  let v66 : BitVec 32 := Scalar.extui v65
  let c0_i32_25 : BitVec 32 := 0#32
  let v67 : BitVec 1 := Scalar.cmpi .ne v66 c0_i32_25
  v67

def k0_cond2 (i : grid0.Coords) : BitVec 1 :=
  let arg1 : BitVec 32 := BitVec.ofNat 32 (i 1).val
  let c0_i32 : BitVec 32 := 0#32
  let v65 : BitVec 1 := Scalar.cmpi .eq arg1 c0_i32
  let v_true : BitVec 1 := 1#1
  let v68 : BitVec 1 := Scalar.xori v65 v_true
  let v69 : BitVec 32 := Scalar.extui v68
  let c0_i32_26 : BitVec 32 := 0#32
  let v70 : BitVec 1 := Scalar.cmpi .ne v69 c0_i32_26
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GatedNormBwdRefIdeal.lean ====
abbrev S4096x4096 : Shape := ⟨2, ![4096, 4096]⟩
abbrev S1x4096 : Shape := ⟨2, ![1, 4096]⟩
abbrev S_ : Shape := ⟨0, ![]⟩
abbrev S4096x8x512 : Shape := ⟨3, ![4096, 8, 512]⟩
abbrev S4096x8 : Shape := ⟨2, ![4096, 8]⟩
abbrev S4096x8x1 : Shape := ⟨3, ![4096, 8, 1]⟩
abbrev S4096 : Shape := ⟨1, ![4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x8x512, .f32⟩
  | .hbm, ⟨19, _⟩ => ⟨S4096x8x512, .f32⟩
  | .hbm, ⟨20, _⟩ => ⟨S_, .f32⟩
  | .hbm, ⟨21, _⟩ => ⟨S4096x8, .f32⟩
  | .hbm, ⟨22, _⟩ => ⟨S4096x8x1, .f32⟩
  | .hbm, ⟨23, _⟩ => ⟨S_, .f32⟩
  | .hbm, ⟨24, _⟩ => ⟨S4096x8x1, .f32⟩
  | .hbm, ⟨25, _⟩ => ⟨S4096x8x1, .f32⟩
  | .hbm, ⟨26, _⟩ => ⟨S_, .f32⟩
  | .hbm, ⟨27, _⟩ => ⟨S4096x8x1, .f32⟩
  | .hbm, ⟨28, _⟩ => ⟨S4096x8x1, .f32⟩
  | .hbm, ⟨29, _⟩ => ⟨S4096x8x1, .f32⟩
  | .hbm, ⟨30, _⟩ => ⟨S4096x8x1, .f32⟩
  | .hbm, ⟨31, _⟩ => ⟨S_, .f32⟩
  | .hbm, ⟨32, _⟩ => ⟨S4096x8x1, .f32⟩
  | .hbm, ⟨33, _⟩ => ⟨S4096x8x1, .f32⟩
  | .hbm, ⟨34, _⟩ => ⟨S4096x8x512, .f32⟩
  | .hbm, ⟨35, _⟩ => ⟨S4096x8x512, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x8x512, .f32⟩
  | .hbm, ⟨46, _⟩ => ⟨S4096x8x512, .f32⟩
  | .hbm, ⟨47, _⟩ => ⟨S_, .f32⟩
  | .hbm, ⟨48, _⟩ => ⟨S4096x8, .f32⟩
  | .hbm, ⟨49, _⟩ => ⟨S4096x8x1, .f32⟩
  | .hbm, ⟨50, _⟩ => ⟨S4096x8x512, .f32⟩
  | .hbm, ⟨51, _⟩ => ⟨S4096x8x512, .f32⟩
  | .hbm, ⟨52, _⟩ => ⟨S4096x8x1, .f32⟩
  | .hbm, ⟨53, _⟩ => ⟨S_, .f32⟩
  | .hbm, ⟨54, _⟩ => ⟨S4096x8x1, .f32⟩
  | .hbm, ⟨55, _⟩ => ⟨S4096x8x1, .f32⟩
  | .hbm, ⟨56, _⟩ => ⟨S_, .f32⟩
  | .hbm, ⟨57, _⟩ => ⟨S4096x8, .f32⟩
  | .hbm, ⟨58, _⟩ => ⟨S4096x8x512, .f32⟩
  | .hbm, ⟨59, _⟩ => ⟨S4096x8x512, .f32⟩
  | .hbm, ⟨60, _⟩ => ⟨S4096x8x512, .f32⟩
  | .hbm, ⟨61, _⟩ => ⟨S4096x8x512, .f32⟩
  | .hbm, ⟨62, _⟩ => ⟨S4096x8x512, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== Conv.lean ====
abbrev S4096x6144 : Shape := ⟨2, ![4096, 6144]⟩
abbrev S4x6144 : Shape := ⟨2, ![4, 6144]⟩
abbrev S1x6144 : Shape := ⟨2, ![1, 6144]⟩
abbrev S4096x128 : Shape := ⟨2, ![4096, 128]⟩
abbrev S4x128 : Shape := ⟨2, ![4, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x6144, .f32⟩
  | .hbm, ⟨1, _⟩ => ⟨S4x6144, .f32⟩
  | .hbm, ⟨2, _⟩ => ⟨S1x6144, .f32⟩
  | .hbm, ⟨3, _⟩ => ⟨S4096x6144, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvRefIdeal.lean ====
abbrev S4096x6144 : Shape := ⟨2, ![4096, 6144]⟩
abbrev S4x6144 : Shape := ⟨2, ![4, 6144]⟩
abbrev S1x6144 : Shape := ⟨2, ![1, 6144]⟩
abbrev S_ : Shape := ⟨0, ![]⟩
abbrev S3x6144 : Shape := ⟨2, ![3, 6144]⟩
abbrev S4099x6144 : Shape := ⟨2, ![4099, 6144]⟩

abbrev nBuf : Space → Nat
  | .hbm => 36
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4x6144, .f32⟩
  | .hbm, ⟨2, _⟩ => ⟨S1x6144, .f32⟩
  | .hbm, ⟨3, _⟩ => ⟨S_, .f32⟩
  | .hbm, ⟨4, _⟩ => ⟨S3x6144, .f32⟩
  | .hbm, ⟨5, _⟩ => ⟨S4099x6144, .f32⟩
  | .hbm, ⟨6, _⟩ => ⟨S4096x6144, .f32⟩
  | .hbm, ⟨7, _⟩ => ⟨S1x6144, .f32⟩
  | .hbm, ⟨8, _⟩ => ⟨S4096x6144, .f32⟩
  | .hbm, ⟨9, _⟩ => ⟨S4096x6144, .f32⟩
  | .hbm, ⟨10, _⟩ => ⟨S4096x6144, .f32⟩
  | .hbm, ⟨11, _⟩ => ⟨S1x6144, .f32⟩
  | .hbm, ⟨12, _⟩ => ⟨S4096x6144, .f32⟩
  | .hbm, ⟨13, _⟩ => ⟨S4096x6144, .f32⟩
  | .hbm, ⟨14, _⟩ => ⟨S4096x6144, .f32⟩
  | .hbm, ⟨15, _⟩ => ⟨S4096x6144, .f32⟩
  | .hbm, ⟨16, _⟩ => ⟨S1x6144, .f32⟩
  | .hbm, ⟨17, _⟩ => ⟨S4096x6144, .f32⟩
  | .hbm, ⟨18, _⟩ => ⟨S4096x6144, .f32⟩
  | .hbm, ⟨19, _⟩ => ⟨S4096x6144, .f32⟩
  | .hbm, ⟨20, _⟩ => ⟨S4096x6144, .f32⟩
  | .hbm, ⟨21, _⟩ => ⟨S1x6144, .f32⟩
  | .hbm, ⟨22, _⟩ => ⟨S4096x6144, .f32⟩
  | .hbm, ⟨23, _⟩ => ⟨S4096x6144, .f32⟩
  | .hbm, ⟨24, _⟩ => ⟨S4096x6144, .f32⟩
  | .hbm, ⟨25, _⟩ => ⟨S4096x6144, .f32⟩
  | .hbm, ⟨26, _⟩ => ⟨S4096x6144, .f32⟩
  | .hbm, ⟨27, _⟩ => ⟨S4096x6144, .f32⟩
  | .hbm, ⟨28, _⟩ => ⟨S4096x6144, .f32⟩
  | .hbm, ⟨29, _⟩ => ⟨S_, .f32⟩
  | .hbm, ⟨30, _⟩ => ⟨S4096x6144, .f32⟩
  | .hbm, ⟨31, _⟩ => ⟨S4096x6144, .f32⟩
  | .hbm, ⟨32, _⟩ => ⟨S_, .f32⟩
  | .hbm, ⟨33, _⟩ => ⟨S4096x6144, .f32⟩
  | .hbm, ⟨34, _⟩ => ⟨S4096x6144, .f32⟩
  | .hbm, ⟨35, _⟩ => ⟨S4096x6144, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Loss.lean ====
abbrev S4096x2048 : Shape := ⟨2, ![4096, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_8 : BitVec 32 := 0#32
  let v16 : BitVec 1 := Scalar.cmpi .ne arg0 c0_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Rope.lean ====
abbrev S4096x1 : Shape := ⟨2, ![4096, 1]⟩
abbrev S1x32 : Shape := ⟨2, ![1, 32]⟩
abbrev S4096x32 : Shape := ⟨2, ![4096, 32]⟩
abbrev S256x1 : Shape := ⟨2, ![256, 1]⟩
abbrev S256x32 : Shape := ⟨2, ![256, 32]⟩

abbrev nBuf : Space → Nat
  | .hbm => 4
  | .vmem => 7
  | .smem => 0
  | _ => 0

abbrev bufTy : (tb : Table) → Fin (tcTables nBuf tb) → BufTy
  | .hbm, ⟨0, _⟩ => ⟨S4096x1, .f32⟩
  | .hbm, ⟨1, _⟩ => ⟨S1x32, .f32⟩
  | .hbm, ⟨2, _⟩ => ⟨S4096x32, .f32⟩
  | .hbm, ⟨3, _⟩ => ⟨S4096x32, .f32⟩
  | .local _ .vmem, ⟨0, _⟩ => ⟨S256x1, .f32⟩
  | .local _ .vmem, ⟨1, _⟩ => ⟨S256x1, .f32⟩
  | .local _ .vmem, ⟨2, _⟩ => ⟨S1x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x32, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RopeRefIdeal.lean ====
abbrev S4096x1 : Shape := ⟨2, ![4096, 1]⟩
abbrev S1x32 : Shape := ⟨2, ![1, 32]⟩
abbrev S4096x32 : Shape := ⟨2, ![4096, 32]⟩

abbrev nBuf : Space → Nat
  | .hbm => 7
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S1x32, .f32⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S4096x32, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dt.lean ====
abbrev S4096x64 : Shape := ⟨2, ![4096, 64]⟩
abbrev S1x64 : Shape := ⟨2, ![1, 64]⟩
abbrev S256x64 : Shape := ⟨2, ![256, 64]⟩

abbrev nBuf : Space → Nat
  | .hbm => 5
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S1x64, .f32⟩
  | .hbm, ⟨2, _⟩ => ⟨S1x64, .f32⟩
  | .hbm, ⟨3, _⟩ => ⟨S4096x64, .f32⟩
  | .hbm, ⟨4, _⟩ => ⟨S4096x64, .f32⟩
  | .local _ .vmem, ⟨0, _⟩ => ⟨S256x64, .f32⟩
  | .local _ .vmem, ⟨1, _⟩ => ⟨S256x64, .f32⟩
  | .local _ .vmem, ⟨2, _⟩ => ⟨S1x64, .f32⟩
  | .local _ .vmem, ⟨3, _⟩ => ⟨S1x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DtRefIdeal.lean ====
abbrev S4096x64 : Shape := ⟨2, ![4096, 64]⟩
abbrev S1x64 : Shape := ⟨2, ![1, 64]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S1x64, .f32⟩
  | .hbm, ⟨2, _⟩ => ⟨S1x64, .f32⟩
  | .hbm, ⟨3, _⟩ => ⟨S4096x64, .f32⟩
  | .hbm, ⟨4, _⟩ => ⟨S4096x64, .f32⟩
  | .hbm, ⟨5, _⟩ => ⟨S_, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .i1⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S1x64, .f32⟩
  | .hbm, ⟨20, _⟩ => ⟨S1x64, .f32⟩
  | .hbm, ⟨21, _⟩ => ⟨S4096x64, .f32⟩
  | .hbm, ⟨22, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩

abbrev nD : Nat := 1
abbrev τ : Topo := Topo.v7x

variable {F : FTy → Type} [FloatOps F]
-- ==== QNorm.lean ====
abbrev S16x4096x128 : Shape := ⟨3, ![16, 4096, 128]⟩
abbrev S16x4096x32 : Shape := ⟨3, ![16, 4096, 32]⟩
abbrev S4096x32 : Shape := ⟨2, ![4096, 32]⟩
abbrev S1x128 : Shape := ⟨2, ![1, 128]⟩
abbrev S1x32 : Shape := ⟨2, ![1, 32]⟩
abbrev S16x256x128 : Shape := ⟨3, ![16, 256, 128]⟩
abbrev S16x256x32 : Shape := ⟨3, ![16, 256, 32]⟩
abbrev S256x32 : Shape := ⟨2, ![256, 32]⟩
abbrev S16x256 : Shape := ⟨2, ![16, 256]⟩
abbrev S16x256x1 : Shape := ⟨3, ![16, 256, 1]⟩
abbrev S1x1x32 : Shape := ⟨3, ![1, 1, 32]⟩
abbrev S1x1x128 : Shape := ⟨3, ![1, 1, 128]⟩
abbrev S1x256x32 : Shape := ⟨3, ![1, 256, 32]⟩

abbrev nBuf : Space → Nat
  | .hbm => 11
  | .vmem => 19
  | .smem => 0
  | _ => 0

abbrev bufTy : (tb : Table) → Fin (tcTables nBuf tb) → BufTy
  | .hbm, ⟨0, _⟩ => ⟨S16x4096x128, .f32⟩
  | .hbm, ⟨1, _⟩ => ⟨S16x4096x32, .f32⟩
  | .hbm, ⟨2, _⟩ => ⟨S16x4096x32, .f32⟩
  | .hbm, ⟨3, _⟩ => ⟨S4096x32, .f32⟩
  | .hbm, ⟨4, _⟩ => ⟨S4096x32, .f32⟩
  | .hbm, ⟨5, _⟩ => ⟨S1x128, .f32⟩
  | .hbm, ⟨6, _⟩ => ⟨S1x32, .f32⟩
  | .hbm, ⟨7, _⟩ => ⟨S1x32, .f32⟩
  | .hbm, ⟨8, _⟩ => ⟨S16x4096x128, .bf16⟩
  | .hbm, ⟨9, _⟩ => ⟨S16x4096x32, .bf16⟩
  | .hbm, ⟨10, _⟩ => ⟨S16x4096x32, .bf16⟩
  | .local _ .vmem, ⟨0, _⟩ => ⟨S16x256x128, .f32⟩
  | .local _ .vmem, ⟨1, _⟩ => ⟨S16x256x128, .f32⟩
  | .local _ .vmem, ⟨2, _⟩ => ⟨S16x256x32, .f32⟩
  | .local _ .vmem, ⟨3, _⟩ => ⟨S16x256x32, .f32⟩
  | .local _ .vmem, ⟨4, _⟩ => ⟨S16x256x32, .f32⟩
  | .local _ .vmem, ⟨5, _⟩ => ⟨S16x256x32, .f32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S1x128, .f32⟩
  | .local _ .vmem, ⟨11, _⟩ => ⟨S1x32, .f32⟩
  | .local _ .vmem, ⟨12, _⟩ => ⟨S1x32, .f32⟩
  | .local _ .vmem, ⟨13, _⟩ => ⟨S16x256x128, .bf16⟩
  | .local _ .vmem, ⟨14, _⟩ => ⟨S16x256x128, .bf16⟩
  | .local _ .vmem, ⟨15, _⟩ => ⟨S16x256x32, .bf16⟩
  | .local _ .vmem, ⟨16, _⟩ => ⟨S16x256x32, .bf16⟩
  | .local _ .vmem, ⟨17, _⟩ => ⟨S16x256x32, .bf16⟩
  | .local _ .vmem, ⟨18, _⟩ => ⟨S16x256x32, .bf16⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x256x32 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x256x32 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QNormRefIdeal.lean ====
abbrev S16x4096x128 : Shape := ⟨3, ![16, 4096, 128]⟩
abbrev S16x4096x32 : Shape := ⟨3, ![16, 4096, 32]⟩
abbrev S4096x32 : Shape := ⟨2, ![4096, 32]⟩
abbrev S1x128 : Shape := ⟨2, ![1, 128]⟩
abbrev S1x32 : Shape := ⟨2, ![1, 32]⟩
abbrev S16x4096x192 : Shape := ⟨3, ![16, 4096, 192]⟩
abbrev S1x192 : Shape := ⟨2, ![1, 192]⟩
abbrev S_ : Shape := ⟨0, ![]⟩
abbrev S16x4096 : Shape := ⟨2, ![16, 4096]⟩
abbrev S16x4096x1 : Shape := ⟨3, ![16, 4096, 1]⟩
abbrev S1x1x192 : Shape := ⟨3, ![1, 1, 192]⟩
abbrev S1x4096x32 : Shape := ⟨3, ![1, 4096, 32]⟩

abbrev nBuf : Space → Nat
  | .hbm => 46
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096x32, .f32⟩
  | .hbm, ⟨2, _⟩ => ⟨S16x4096x32, .f32⟩
  | .hbm, ⟨3, _⟩ => ⟨S4096x32, .f32⟩
  | .hbm, ⟨4, _⟩ => ⟨S4096x32, .f32⟩
  | .hbm, ⟨5, _⟩ => ⟨S1x128, .f32⟩
  | .hbm, ⟨6, _⟩ => ⟨S1x32, .f32⟩
  | .hbm, ⟨7, _⟩ => ⟨S1x32, .f32⟩
  | .hbm, ⟨8, _⟩ => ⟨S16x4096x192, .f32⟩
  | .hbm, ⟨9, _⟩ => ⟨S1x192, .f32⟩
  | .hbm, ⟨10, _⟩ => ⟨S16x4096x192, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x192, .f32⟩
  | .hbm, ⟨22, _⟩ => ⟨S16x4096x192, .f32⟩
  | .hbm, ⟨23, _⟩ => ⟨S1x1x192, .f32⟩
  | .hbm, ⟨24, _⟩ => ⟨S16x4096x192, .f32⟩
  | .hbm, ⟨25, _⟩ => ⟨S16x4096x192, .f32⟩
  | .hbm, ⟨26, _⟩ => ⟨S16x4096x32, .f32⟩
  | .hbm, ⟨27, _⟩ => ⟨S16x4096x32, .f32⟩
  | .hbm, ⟨28, _⟩ => ⟨S16x4096x128, .f32⟩
  | .hbm, ⟨29, _⟩ => ⟨S1x4096x32, .f32⟩
  | .hbm, ⟨30, _⟩ => ⟨S16x4096x32, .f32⟩
  | .hbm, ⟨31, _⟩ => ⟨S16x4096x32, .f32⟩
  | .hbm, ⟨32, _⟩ => ⟨S1x4096x32, .f32⟩
  | .hbm, ⟨33, _⟩ => ⟨S16x4096x32, .f32⟩
  | .hbm, ⟨34, _⟩ => ⟨S16x4096x32, .f32⟩
  | .hbm, ⟨35, _⟩ => ⟨S16x4096x32, .f32⟩
  | .hbm, ⟨36, _⟩ => ⟨S1x4096x32, .f32⟩
  | .hbm, ⟨37, _⟩ => ⟨S16x4096x32, .f32⟩
  | .hbm, ⟨38, _⟩ => ⟨S16x4096x32, .f32⟩
  | .hbm, ⟨39, _⟩ => ⟨S1x4096x32, .f32⟩
  | .hbm, ⟨40, _⟩ => ⟨S16x4096x32, .f32⟩
  | .hbm, ⟨41, _⟩ => ⟨S16x4096x32, .f32⟩
  | .hbm, ⟨42, _⟩ => ⟨S16x4096x32, .f32⟩
  | .hbm, ⟨43, _⟩ => ⟨S16x4096x128, .bf16⟩
  | .hbm, ⟨44, _⟩ => ⟨S16x4096x32, .bf16⟩
  | .hbm, ⟨45, _⟩ => ⟨S16x4096x32, .bf16⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KNorm.lean ====
abbrev S16x4096x128 : Shape := ⟨3, ![16, 4096, 128]⟩
abbrev S4096x32 : Shape := ⟨2, ![4096, 32]⟩
abbrev S1x128 : Shape := ⟨2, ![1, 128]⟩
abbrev S1x32 : Shape := ⟨2, ![1, 32]⟩
abbrev S16x4096x32 : Shape := ⟨3, ![16, 4096, 32]⟩
abbrev S16x256x128 : Shape := ⟨3, ![16, 256, 128]⟩
abbrev S256x32 : Shape := ⟨2, ![256, 32]⟩
abbrev S16x256x32 : Shape := ⟨3, ![16, 256, 32]⟩
abbrev S16x256 : Shape := ⟨2, ![16, 256]⟩
abbrev S16x256x1 : Shape := ⟨3, ![16, 256, 1]⟩
abbrev S256 : Shape := ⟨1, ![256]⟩
abbrev S256x1 : Shape := ⟨2, ![256, 1]⟩
abbrev S1x256x1 : Shape := ⟨3, ![1, 256, 1]⟩
abbrev S1x256x32 : Shape := ⟨3, ![1, 256, 32]⟩
abbrev S1x1x32 : Shape := ⟨3, ![1, 1, 32]⟩
abbrev S1x1x128 : Shape := ⟨3, ![1, 1, 128]⟩

abbrev nBuf : Space → Nat
  | .hbm => 11
  | .vmem => 19
  | .smem => 0
  | _ => 0

abbrev bufTy : (tb : Table) → Fin (tcTables nBuf tb) → BufTy
  | .hbm, ⟨0, _⟩ => ⟨S16x4096x128, .f32⟩
  | .hbm, ⟨1, _⟩ => ⟨S4096x32, .f32⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S1x128, .f32⟩
  | .hbm, ⟨6, _⟩ => ⟨S1x32, .f32⟩
  | .hbm, ⟨7, _⟩ => ⟨S1x32, .f32⟩
  | .hbm, ⟨8, _⟩ => ⟨S16x4096x128, .bf16⟩
  | .hbm, ⟨9, _⟩ => ⟨S16x4096x32, .bf16⟩
  | .hbm, ⟨10, _⟩ => ⟨S16x4096x32, .bf16⟩
  | .local _ .vmem, ⟨0, _⟩ => ⟨S16x256x128, .f32⟩
  | .local _ .vmem, ⟨1, _⟩ => ⟨S16x256x128, .f32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S1x128, .f32⟩
  | .local _ .vmem, ⟨11, _⟩ => ⟨S1x32, .f32⟩
  | .local _ .vmem, ⟨12, _⟩ => ⟨S1x32, .f32⟩
  | .local _ .vmem, ⟨13, _⟩ => ⟨S16x256x128, .bf16⟩
  | .local _ .vmem, ⟨14, _⟩ => ⟨S16x256x128, .bf16⟩
  | .local _ .vmem, ⟨15, _⟩ => ⟨S16x256x32, .bf16⟩
  | .local _ .vmem, ⟨16, _⟩ => ⟨S16x256x32, .bf16⟩
  | .local _ .vmem, ⟨17, _⟩ => ⟨S16x256x32, .bf16⟩
  | .local _ .vmem, ⟨18, _⟩ => ⟨S16x256x32, .bf16⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x256x32 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x256x32 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KNormRefIdeal.lean ====
abbrev S16x4096x128 : Shape := ⟨3, ![16, 4096, 128]⟩
abbrev S4096x32 : Shape := ⟨2, ![4096, 32]⟩
abbrev S1x128 : Shape := ⟨2, ![1, 128]⟩
abbrev S1x32 : Shape := ⟨2, ![1, 32]⟩
abbrev S1x4096x32 : Shape := ⟨3, ![1, 4096, 32]⟩
abbrev S16x4096x32 : Shape := ⟨3, ![16, 4096, 32]⟩
abbrev S16x4096x192 : Shape := ⟨3, ![16, 4096, 192]⟩
abbrev S1x192 : Shape := ⟨2, ![1, 192]⟩
abbrev S_ : Shape := ⟨0, ![]⟩
abbrev S16x4096 : Shape := ⟨2, ![16, 4096]⟩
abbrev S16x4096x1 : Shape := ⟨3, ![16, 4096, 1]⟩
abbrev S1x1x192 : Shape := ⟨3, ![1, 1, 192]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S4096x32, .f32⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S1x128, .f32⟩
  | .hbm, ⟨6, _⟩ => ⟨S1x32, .f32⟩
  | .hbm, ⟨7, _⟩ => ⟨S1x32, .f32⟩
  | .hbm, ⟨8, _⟩ => ⟨S1x4096x32, .f32⟩
  | .hbm, ⟨9, _⟩ => ⟨S16x4096x32, .f32⟩
  | .hbm, ⟨10, _⟩ => ⟨S1x4096x32, .f32⟩
  | .hbm, ⟨11, _⟩ => ⟨S16x4096x32, .f32⟩
  | .hbm, ⟨12, _⟩ => ⟨S16x4096x192, .f32⟩
  | .hbm, ⟨13, _⟩ => ⟨S1x192, .f32⟩
  | .hbm, ⟨14, _⟩ => ⟨S16x4096x192, .f32⟩
  | .hbm, ⟨15, _⟩ => ⟨S_, .f32⟩
  | .hbm, ⟨16, _⟩ => ⟨S16x4096, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1, .f32⟩
  | .hbm, ⟨25, _⟩ => ⟨S16x4096x192, .f32⟩
  | .hbm, ⟨26, _⟩ => ⟨S16x4096x192, .f32⟩
  | .hbm, ⟨27, _⟩ => ⟨S1x1x192, .f32⟩
  | .hbm, ⟨28, _⟩ => ⟨S16x4096x192, .f32⟩
  | .hbm, ⟨29, _⟩ => ⟨S16x4096x192, .f32⟩
  | .hbm, ⟨30, _⟩ => ⟨S16x4096x32, .f32⟩
  | .hbm, ⟨31, _⟩ => ⟨S16x4096x32, .f32⟩
  | .hbm, ⟨32, _⟩ => ⟨S16x4096x128, .f32⟩
  | .hbm, ⟨33, _⟩ => ⟨S1x4096x32, .f32⟩
  | .hbm, ⟨34, _⟩ => ⟨S16x4096x32, .f32⟩
  | .hbm, ⟨35, _⟩ => ⟨S16x4096x32, .f32⟩
  | .hbm, ⟨36, _⟩ => ⟨S1x4096x32, .f32⟩
  | .hbm, ⟨37, _⟩ => ⟨S16x4096x32, .f32⟩
  | .hbm, ⟨38, _⟩ => ⟨S16x4096x32, .f32⟩
  | .hbm, ⟨39, _⟩ => ⟨S16x4096x32, .f32⟩
  | .hbm, ⟨40, _⟩ => ⟨S1x4096x32, .f32⟩
  | .hbm, ⟨41, _⟩ => ⟨S16x4096x32, .f32⟩
  | .hbm, ⟨42, _⟩ => ⟨S16x4096x32, .f32⟩
  | .hbm, ⟨43, _⟩ => ⟨S1x4096x32, .f32⟩
  | .hbm, ⟨44, _⟩ => ⟨S16x4096x32, .f32⟩
  | .hbm, ⟨45, _⟩ => ⟨S16x4096x32, .f32⟩
  | .hbm, ⟨46, _⟩ => ⟨S16x4096x32, .f32⟩
  | .hbm, ⟨47, _⟩ => ⟨S16x4096x128, .bf16⟩
  | .hbm, ⟨48, _⟩ => ⟨S16x4096x32, .bf16⟩
  | .hbm, ⟨49, _⟩ => ⟨S16x4096x32, .bf16⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Band.lean ====
/- One band of the attention gradient's body, for every number of keys `L` at once. The kernel's body prints eight
   bands, one per key length 512, 1024, …, 4096; they are the same text at different lengths. Here that text is written
   once over `L`, and the printed body is shown to be the eight instances of it in turn. -/
module

public import proofs.«01_k».proof.Proof.Gen.KernelIdeal.Skeleton

@[expose] public section

noncomputable section

namespace Cert.KernelIdeal.Band

open Idealize.ShloMosaic Idealize.SL.Sem
open Cert.KernelIdeal.Gen

variable {F : FTy → Type} [FloatOps F]

/-- The shapes that vary with the number of keys read. -/
abbrev K3 (L : ℕ) : Shape := ⟨3, ![1, L, 192]⟩
abbrev K2 (L : ℕ) : Shape := ⟨2, ![L, 192]⟩
abbrev V3 (L : ℕ) : Shape := ⟨3, ![1, L, 128]⟩
abbrev V2 (L : ℕ) : Shape := ⟨2, ![L, 128]⟩
abbrev SC (L : ℕ) : Shape := ⟨2, ![256, L]⟩
abbrev R1 (L : ℕ) : Shape := ⟨2, ![1, L]⟩

/-- The side conditions one band's text cites. -/
structure Ok (L : ℕ) : Prop where
  inbK : ∀ a, (![0, 0, 0] : Fin 3 → Nat) a + (K3 L).size a ≤ S1x4096x192.size a
  hK : 0 < (K3 L).numel
  castK : (K3 L).ShapeCasts (K2 L)
  inbV : ∀ a, (![0, 0, 0] : Fin 3 → Nat) a + (V3 L).size a ≤ S1x4096x128.size a
  hV : 0 < (V3 L).numel
  castV : (V3 L).ShapeCasts (V2 L)
  iotaR : (R1 L).Iotas .tc 32 [1]
  bcR : (R1 L).Broadcasts (SC L)
  bcC : S256x1.Broadcasts (SC L)
  red : (SC L).Reduces [1] S256
  backK : (K2 L).ShapeCasts (K3 L)
  backV : (V2 L).ShapeCasts (V3 L)
  dQK : DotDims.WF S256x192 (K2 L) (SC L) [1] [1] [0] [0] [] []
  dPV : DotDims.WF (SC L) (V2 L) S256x128 [1] [0] [0] [1] [] []
  dOV : DotDims.WF S256x128 (V2 L) (SC L) [1] [1] [0] [0] [] []
  dPO : DotDims.WF (SC L) S256x128 (V2 L) [0] [0] [1] [1] [] []
  dSK : DotDims.WF (SC L) (K2 L) S256x192 [1] [0] [0] [1] [] []
  dSQ : DotDims.WF (SC L) S256x192 (K2 L) [0] [0] [1] [1] [] []

section
variable {L : ℕ} (o : Ok L)

def dotQK : DotDims S256x192 (K2 L) (SC L) := ⟨[1], [1], [0], [0], [], [], o.dQK⟩
def dotPV : DotDims (SC L) (V2 L) S256x128 := ⟨[1], [0], [0], [1], [], [], o.dPV⟩
def dotOV : DotDims S256x128 (V2 L) (SC L) := ⟨[1], [1], [0], [0], [], [], o.dOV⟩
def dotPO : DotDims (SC L) S256x128 (V2 L) := ⟨[0], [0], [1], [1], [], [], o.dPO⟩
def dotSK : DotDims (SC L) (K2 L) S256x192 := ⟨[1], [0], [0], [1], [], [], o.dSK⟩
def dotSQ : DotDims (SC L) S256x192 (K2 L) := ⟨[0], [0], [1], [1], [], [], o.dSQ⟩

/-- The tile's queries, the keys and the values, as matrices. -/
def qm (q : Vec F S1x256x192 .bf16) : FVec F S256x192 .f32 :=
  extf .f32 (shapeCast S256x192 q shapeCasts_S1x256x192_S256x192) bitsLt_bf16_f32
def km (k : Vec F (K3 L) .bf16) : FVec F (K2 L) .f32 := extf .f32 (shapeCast (K2 L) k o.castK) bitsLt_bf16_f32
def vm (v : Vec F (V3 L) .bf16) : FVec F (V2 L) .f32 := extf .f32 (shapeCast (V2 L) v o.castV) bitsLt_bf16_f32

/-- Which key a query may read: the key's chunk of 64 is not after the query's. -/
def mask (v0 : BitVec 32) : IVec (SC L) 1 :=
  cmpi .sle (broadcastTo (SC L) (shrsi (iota .tc (R1 L) 32 [1] o.iotaR) (broadcast (R1 L) 6#32)) o.bcR)
    (broadcastTo (SC L)
      (shrsi (addi (broadcast S256x1 v0) (iota .tc S256x1 32 [0] iota_S256x1_d0_w32)) (broadcast S256x1 6#32)) o.bcC)

/-- The masked scores. -/
def score (v0 : BitVec 32) (q : Vec F S1x256x192 .bf16) (k : Vec F (K3 L) .bf16) : FVec F (SC L) .f32 :=
  select (mask o v0)
    (mulf (matmul (dotQK o) none (truncf .bf16 (qm q) bitsLt_bf16_f32) (truncf .bf16 (km o k) bitsLt_bf16_f32)
      (constant (SC L) .f32 0x00000000#32)) (broadcast (SC L) (Scalar.ofBits .f32 0x3D93CD3A#32)))
    (broadcast (SC L) (Scalar.ofBits .f32 0xFF800000#32))

/-- The unnormalised weights. -/
def wt (v0 : BitVec 32) (q : Vec F S1x256x192 .bf16) (k : Vec F (K3 L) .bf16) : FVec F (SC L) .f32 :=
  exp (subf (score o v0 q k) (broadcastTo (SC L)
    (shapeCast S256x1 (multiReduction .maximumf [1] S256 (score o v0 q k) 0xFF800000#32 o.red (.inl rfl) rfl)
      shapeCasts_S256_S256x1) o.bcC))

/-- The weights' row sums. -/
def den (v0 : BitVec 32) (q : Vec F S1x256x192 .bf16) (k : Vec F (K3 L) .bf16) : FVec F S256x1 .f32 :=
  shapeCast S256x1 (multiReduction .add [1] S256 (wt o v0 q k) 0x00000000#32 o.red (.inl rfl) rfl)
    shapeCasts_S256_S256x1

def ones : FVec F S256x1 .f32 := broadcast S256x1 (Scalar.ofBits .f32 0x3F800000#32)

/-- The reciprocal of the row sums. -/
def inv (v0 : BitVec 32) (q : Vec F S1x256x192 .bf16) (k : Vec F (K3 L) .bf16) : FVec F S256x1 .f32 :=
  divf ones (den o v0 q k)

/-- The weights times the values, before the division. -/
def out (v0 : BitVec 32) (q : Vec F S1x256x192 .bf16) (k : Vec F (K3 L) .bf16) (v : Vec F (V3 L) .bf16) :
    FVec F S256x128 .f32 :=
  matmul (dotPV o) none (truncf .bf16 (wt o v0 q k) bitsLt_bf16_f32) (truncf .bf16 (vm o v) bitsLt_bf16_f32)
    (constant S256x128 .f32 0x00000000#32)

/-- The incoming gradient over the row sums. -/
def dn (v0 : BitVec 32) (q : Vec F S1x256x192 .bf16) (k : Vec F (K3 L) .bf16) (d : Vec F S256x128 .bf16) :
    FVec F S256x128 .f32 :=
  mulf (extf .f32 d bitsLt_bf16_f32) (broadcastTo S256x128 (inv o v0 q k) broadcasts_S256x1_S256x128)

/-- The gradient of the values of this tile. -/
def gV (v0 : BitVec 32) (q : Vec F S1x256x192 .bf16) (k : Vec F (K3 L) .bf16) (d : Vec F S256x128 .bf16) :
    FVec F (V2 L) .f32 :=
  matmul (dotPO o) none (truncf .bf16 (wt o v0 q k) bitsLt_bf16_f32) (truncf .bf16 (dn o v0 q k d) bitsLt_bf16_f32)
    (constant (V2 L) .f32 0x00000000#32)

/-- The row sums' own gradient: what dividing by them costs. -/
def gDen (v0 : BitVec 32) (q : Vec F S1x256x192 .bf16) (k : Vec F (K3 L) .bf16) (v : Vec F (V3 L) .bf16)
    (d : Vec F S256x128 .bf16) : FVec F S256x1 .f32 :=
  shapeCast S256x1 (multiReduction .add [1] S256
    (subf (broadcast S256x1 (Scalar.ofBits .f32 0x00000000#32))
      (mulf (mulf (shapeCast S256x1 (multiReduction .add [1] S256
          (mulf (out o v0 q k v) (extf .f32 d bitsLt_bf16_f32)) 0x00000000#32 reduces_S256x128_S256 (.inl rfl) rfl)
          shapeCasts_S256_S256x1)
        (divf ones (mulf (den o v0 q k) (den o v0 q k)))) ones))
    0x00000000#32 reduces_S256x1_S256 (.inl rfl) rfl) shapeCasts_S256_S256x1

/-- The gradient of the scores before the mask and the scale: of the products `q · k`. -/
def gS (v0 : BitVec 32) (q : Vec F S1x256x192 .bf16) (k : Vec F (K3 L) .bf16) (v : Vec F (V3 L) .bf16)
    (d : Vec F S256x128 .bf16) : FVec F (SC L) .f32 :=
  mulf (select (mask o v0)
    (mulf (addf (broadcastTo (SC L) (gDen o v0 q k v d) o.bcC)
      (matmul (dotOV o) none (truncf .bf16 (dn o v0 q k d) bitsLt_bf16_f32) (truncf .bf16 (vm o v) bitsLt_bf16_f32)
        (constant (SC L) .f32 0x00000000#32))) (wt o v0 q k))
    (broadcast (SC L) (Scalar.ofBits .f32 0x00000000#32))) (broadcast (SC L) (Scalar.ofBits .f32 0x3D93CD3A#32))

/-- The gradients of the queries and of the keys of this tile. -/
def gQ (v0 : BitVec 32) (q : Vec F S1x256x192 .bf16) (k : Vec F (K3 L) .bf16) (v : Vec F (V3 L) .bf16)
    (d : Vec F S256x128 .bf16) : FVec F S1x256x192 .f32 :=
  shapeCast S1x256x192 (matmul (dotSK o) none (truncf .bf16 (gS o v0 q k v d) bitsLt_bf16_f32)
    (truncf .bf16 (km o k) bitsLt_bf16_f32) (constant S256x192 .f32 0x00000000#32)) shapeCasts_S256x192_S1x256x192
def gK (v0 : BitVec 32) (q : Vec F S1x256x192 .bf16) (k : Vec F (K3 L) .bf16) (v : Vec F (V3 L) .bf16)
    (d : Vec F S256x128 .bf16) : FVec F (K2 L) .f32 :=
  matmul (dotSQ o) none (truncf .bf16 (gS o v0 q k v d) bitsLt_bf16_f32) (truncf .bf16 (qm q) bitsLt_bf16_f32)
    (constant (K2 L) .f32 0x00000000#32)

/-- What a store adds its contribution to: `x` as a matrix, plus the contribution, as a window again. -/
def accK (x : Vec F (K3 L) .f32) (g : FVec F (K2 L) .f32) : FVec F (K3 L) .f32 :=
  shapeCast (K3 L) (addf (shapeCast (K2 L) x o.castK) g) o.backK
def accV (x : Vec F (V3 L) .f32) (g : FVec F (V2 L) .f32) : FVec F (V3 L) .f32 :=
  shapeCast (V3 L) (addf (shapeCast (V2 L) x o.castV) g) o.backV

/-- The rectangles: the first `L` keys of a head. -/
abbrev rK : Rect S1x4096x192 := Rect.unit (s := S1x4096x192) ![0, 0, 0] (K3 L).size o.inbK
abbrev rV : Rect S1x4096x128 := Rect.unit (s := S1x4096x128) ![0, 0, 0] (V3 L).size o.inbV
end

/-- The loads and stores of one band, in the printed order. -/
def prog {L : ℕ} (o : Ok L) (arg2 : Memref sig .tc .vmem S1x256x192 .bf16) (arg3 : Memref sig .tc .vmem S1x4096x192 .bf16)
    (arg4 : Memref sig .tc .vmem S1x4096x128 .bf16) (arg5 : Memref sig .tc .vmem S256x128 .bf16)
    (arg6 : Memref sig .tc .vmem S1x256x192 .f32) (arg7 : Memref sig .tc .vmem S1x4096x192 .f32)
    (arg8 : Memref sig .tc .vmem S1x4096x128 .f32) (v0 : BitVec 32) :
    Prog (TpuEff nD τ sig (Elt F) Λ₀ .tc) PUnit := do
  let q : Vec F S1x256x192 .bf16 ← Prog.lift (.load arg2 (Rect.unit (s := S1x256x192) ![0, 0, 0] S1x256x192.size inb_S1x256x192_S1x256x192_0_0_0).toLoadRect (View.loadsAt_vmem h_S1x256x192))
  let k : Vec F (K3 L) .bf16 ← Prog.lift (.load arg3 (rK o).toLoadRect (View.loadsAt_vmem o.hK))
  let v : Vec F (V3 L) .bf16 ← Prog.lift (.load arg4 (rV o).toLoadRect (View.loadsAt_vmem o.hV))
  let d : Vec F S256x128 .bf16 ← Prog.lift (.load arg5 (Rect.unit (s := S256x128) ![0, 0] S256x128.size inb_S256x128_S256x128_0_0).toLoadRect (View.loadsAt_vmem h_S256x128))
  let _ : Vec F S1x256x192 .f32 ← Prog.lift (.load arg6 (Rect.unit (s := S1x256x192) ![0, 0, 0] S1x256x192.size inb_S1x256x192_S1x256x192_0_0_0).toLoadRect (View.loadsAt_vmem h_S1x256x192))
  Prog.lift (.store arg6 (Rect.unit (s := S1x256x192) ![0, 0, 0] S1x256x192.size inb_S1x256x192_S1x256x192_0_0_0) (gQ o v0 q k v d) Finset.univ (View.stores_vmem_bits_univ h_S1x256x192 rfl) (.inl rfl))
  let x : Vec F (K3 L) .f32 ← Prog.lift (.load arg7 (rK o).toLoadRect (View.loadsAt_vmem o.hK))
  let _ : Vec F (K3 L) .f32 ← Prog.lift (.load arg7 (rK o).toLoadRect (View.loadsAt_vmem o.hK))
  Prog.lift (.store arg7 (rK o) (accK o x (gK o v0 q k v d)) Finset.univ (View.stores_vmem_bits_univ o.hK rfl) (.inl rfl))
  let y : Vec F (V3 L) .f32 ← Prog.lift (.load arg8 (rV o).toLoadRect (View.loadsAt_vmem o.hV))
  let _ : Vec F (V3 L) .f32 ← Prog.lift (.load arg8 (rV o).toLoadRect (View.loadsAt_vmem o.hV))
  Prog.lift (.store arg8 (rV o) (accV o y (gV o v0 q k d)) Finset.univ (View.stores_vmem_bits_univ o.hV rfl) (.inl rfl))
  pure ⟨⟩

/-- The first tile of a head clears the two sums. -/
def zero (arg7 : Memref sig .tc .vmem S1x4096x192 .f32) (arg8 : Memref sig .tc .vmem S1x4096x128 .f32) :
    Prog (TpuEff nD τ sig (Elt F) Λ₀ .tc) PUnit := do
  let _ : Vec F S1x4096x192 .f32 ← Prog.lift (.load arg7 (Rect.unit (s := S1x4096x192) ![0, 0, 0] S1x4096x192.size inb_S1x4096x192_S1x4096x192_0_0_0).toLoadRect (View.loadsAt_vmem h_S1x4096x192))
  Prog.lift (.store arg7 (Rect.unit (s := S1x4096x192) ![0, 0, 0] S1x4096x192.size inb_S1x4096x192_S1x4096x192_0_0_0) (k0_pay133 (F := F)) Finset.univ (View.stores_vmem_bits_univ h_S1x4096x192 rfl) (.inl rfl))
  let _ : Vec F S1x4096x128 .f32 ← Prog.lift (.load arg8 (Rect.unit (s := S1x4096x128) ![0, 0, 0] S1x4096x128.size inb_S1x4096x128_S1x4096x128_0_0_0).toLoadRect (View.loadsAt_vmem h_S1x4096x128))
  Prog.lift (.store arg8 (Rect.unit (s := S1x4096x128) ![0, 0, 0] S1x4096x128.size inb_S1x4096x128_S1x4096x128_0_0_0) (k0_pay134 (F := F)) Finset.univ (View.stores_vmem_bits_univ h_S1x4096x128 rfl) (.inl rfl))
  pure ⟨⟩

/-- The facts of the eight lengths. -/
theorem ok0 : Ok 512 :=
  ⟨inb_S1x4096x192_S1x512x192_0_0_0, h_S1x512x192, shapeCasts_S1x512x192_S512x192, inb_S1x4096x128_S1x512x128_0_0_0,
    h_S1x512x128, shapeCasts_S1x512x128_S512x128, iota_S1x512_d1_w32, broadcasts_S1x512_S256x512,
    broadcasts_S256x1_S256x512, reduces_S256x512_S256, shapeCasts_S512x192_S1x512x192, shapeCasts_S512x128_S1x512x128,
    dot_S256x192_S512x192_S256x512_1_1_0_0_n_n_wf, dot_S256x512_S512x128_S256x128_1_0_0_1_n_n_wf,
    dot_S256x128_S512x128_S256x512_1_1_0_0_n_n_wf, dot_S256x512_S256x128_S512x128_0_0_1_1_n_n_wf,
    dot_S256x512_S512x192_S256x192_1_0_0_1_n_n_wf, dot_S256x512_S256x192_S512x192_0_0_1_1_n_n_wf⟩
theorem ok1 : Ok 1024 :=
  ⟨inb_S1x4096x192_S1x1024x192_0_0_0, h_S1x1024x192, shapeCasts_S1x1024x192_S1024x192, inb_S1x4096x128_S1x1024x128_0_0_0,
    h_S1x1024x128, shapeCasts_S1x1024x128_S1024x128, iota_S1x1024_d1_w32, broadcasts_S1x1024_S256x1024,
    broadcasts_S256x1_S256x1024, reduces_S256x1024_S256, shapeCasts_S1024x192_S1x1024x192, shapeCasts_S1024x128_S1x1024x128,
    dot_S256x192_S1024x192_S256x1024_1_1_0_0_n_n_wf, dot_S256x1024_S1024x128_S256x128_1_0_0_1_n_n_wf,
    dot_S256x128_S1024x128_S256x1024_1_1_0_0_n_n_wf, dot_S256x1024_S256x128_S1024x128_0_0_1_1_n_n_wf,
    dot_S256x1024_S1024x192_S256x192_1_0_0_1_n_n_wf, dot_S256x1024_S256x192_S1024x192_0_0_1_1_n_n_wf⟩
theorem ok2 : Ok 1536 :=
  ⟨inb_S1x4096x192_S1x1536x192_0_0_0, h_S1x1536x192, shapeCasts_S1x1536x192_S1536x192, inb_S1x4096x128_S1x1536x128_0_0_0,
    h_S1x1536x128, shapeCasts_S1x1536x128_S1536x128, iota_S1x1536_d1_w32, broadcasts_S1x1536_S256x1536,
    broadcasts_S256x1_S256x1536, reduces_S256x1536_S256, shapeCasts_S1536x192_S1x1536x192, shapeCasts_S1536x128_S1x1536x128,
    dot_S256x192_S1536x192_S256x1536_1_1_0_0_n_n_wf, dot_S256x1536_S1536x128_S256x128_1_0_0_1_n_n_wf,
    dot_S256x128_S1536x128_S256x1536_1_1_0_0_n_n_wf, dot_S256x1536_S256x128_S1536x128_0_0_1_1_n_n_wf,
    dot_S256x1536_S1536x192_S256x192_1_0_0_1_n_n_wf, dot_S256x1536_S256x192_S1536x192_0_0_1_1_n_n_wf⟩
theorem ok3 : Ok 2048 :=
  ⟨inb_S1x4096x192_S1x2048x192_0_0_0, h_S1x2048x192, shapeCasts_S1x2048x192_S2048x192, inb_S1x4096x128_S1x2048x128_0_0_0,
    h_S1x2048x128, shapeCasts_S1x2048x128_S2048x128, iota_S1x2048_d1_w32, broadcasts_S1x2048_S256x2048,
    broadcasts_S256x1_S256x2048, reduces_S256x2048_S256, shapeCasts_S2048x192_S1x2048x192, shapeCasts_S2048x128_S1x2048x128,
    dot_S256x192_S2048x192_S256x2048_1_1_0_0_n_n_wf, dot_S256x2048_S2048x128_S256x128_1_0_0_1_n_n_wf,
    dot_S256x128_S2048x128_S256x2048_1_1_0_0_n_n_wf, dot_S256x2048_S256x128_S2048x128_0_0_1_1_n_n_wf,
    dot_S256x2048_S2048x192_S256x192_1_0_0_1_n_n_wf, dot_S256x2048_S256x192_S2048x192_0_0_1_1_n_n_wf⟩
theorem ok4 : Ok 2560 :=
  ⟨inb_S1x4096x192_S1x2560x192_0_0_0, h_S1x2560x192, shapeCasts_S1x2560x192_S2560x192, inb_S1x4096x128_S1x2560x128_0_0_0,
    h_S1x2560x128, shapeCasts_S1x2560x128_S2560x128, iota_S1x2560_d1_w32, broadcasts_S1x2560_S256x2560,
    broadcasts_S256x1_S256x2560, reduces_S256x2560_S256, shapeCasts_S2560x192_S1x2560x192, shapeCasts_S2560x128_S1x2560x128,
    dot_S256x192_S2560x192_S256x2560_1_1_0_0_n_n_wf, dot_S256x2560_S2560x128_S256x128_1_0_0_1_n_n_wf,
    dot_S256x128_S2560x128_S256x2560_1_1_0_0_n_n_wf, dot_S256x2560_S256x128_S2560x128_0_0_1_1_n_n_wf,
    dot_S256x2560_S2560x192_S256x192_1_0_0_1_n_n_wf, dot_S256x2560_S256x192_S2560x192_0_0_1_1_n_n_wf⟩
theorem ok5 : Ok 3072 :=
  ⟨inb_S1x4096x192_S1x3072x192_0_0_0, h_S1x3072x192, shapeCasts_S1x3072x192_S3072x192, inb_S1x4096x128_S1x3072x128_0_0_0,
    h_S1x3072x128, shapeCasts_S1x3072x128_S3072x128, iota_S1x3072_d1_w32, broadcasts_S1x3072_S256x3072,
    broadcasts_S256x1_S256x3072, reduces_S256x3072_S256, shapeCasts_S3072x192_S1x3072x192, shapeCasts_S3072x128_S1x3072x128,
    dot_S256x192_S3072x192_S256x3072_1_1_0_0_n_n_wf, dot_S256x3072_S3072x128_S256x128_1_0_0_1_n_n_wf,
    dot_S256x128_S3072x128_S256x3072_1_1_0_0_n_n_wf, dot_S256x3072_S256x128_S3072x128_0_0_1_1_n_n_wf,
    dot_S256x3072_S3072x192_S256x192_1_0_0_1_n_n_wf, dot_S256x3072_S256x192_S3072x192_0_0_1_1_n_n_wf⟩
theorem ok6 : Ok 3584 :=
  ⟨inb_S1x4096x192_S1x3584x192_0_0_0, h_S1x3584x192, shapeCasts_S1x3584x192_S3584x192, inb_S1x4096x128_S1x3584x128_0_0_0,
    h_S1x3584x128, shapeCasts_S1x3584x128_S3584x128, iota_S1x3584_d1_w32, broadcasts_S1x3584_S256x3584,
    broadcasts_S256x1_S256x3584, reduces_S256x3584_S256, shapeCasts_S3584x192_S1x3584x192, shapeCasts_S3584x128_S1x3584x128,
    dot_S256x192_S3584x192_S256x3584_1_1_0_0_n_n_wf, dot_S256x3584_S3584x128_S256x128_1_0_0_1_n_n_wf,
    dot_S256x128_S3584x128_S256x3584_1_1_0_0_n_n_wf, dot_S256x3584_S256x128_S3584x128_0_0_1_1_n_n_wf,
    dot_S256x3584_S3584x192_S256x192_1_0_0_1_n_n_wf, dot_S256x3584_S256x192_S3584x192_0_0_1_1_n_n_wf⟩
theorem ok7 : Ok 4096 :=
  ⟨inb_S1x4096x192_S1x4096x192_0_0_0, h_S1x4096x192, shapeCasts_S1x4096x192_S4096x192, inb_S1x4096x128_S1x4096x128_0_0_0,
    h_S1x4096x128, shapeCasts_S1x4096x128_S4096x128, iota_S1x4096_d1_w32, broadcasts_S1x4096_S256x4096,
    broadcasts_S256x1_S256x4096, reduces_S256x4096_S256, shapeCasts_S4096x192_S1x4096x192, shapeCasts_S4096x128_S1x4096x128,
    dot_S256x192_S4096x192_S256x4096_1_1_0_0_n_n_wf, dot_S256x4096_S4096x128_S256x128_1_0_0_1_n_n_wf,
    dot_S256x128_S4096x128_S256x4096_1_1_0_0_n_n_wf, dot_S256x4096_S256x128_S4096x128_0_0_1_1_n_n_wf,
    dot_S256x4096_S4096x192_S256x192_1_0_0_1_n_n_wf, dot_S256x4096_S256x192_S4096x192_0_0_1_1_n_n_wf⟩

/-- Run `p` where the condition holds, and then `k` either way. -/
def seqIf {β : Type} (c : BitVec 1) (p : Prog (TpuEff nD τ sig (Elt F) Λ₀ .tc) PUnit)
    (k : Prog (TpuEff nD τ sig (Elt F) Λ₀ .tc) β) : Prog (TpuEff nD τ sig (Elt F) Λ₀ .tc) β :=
  if c = 1#1 then p >>= fun _ => k else k

theorem seqIf_step {β : Type} {c : BitVec 1} {p : Prog (TpuEff nD τ sig (Elt F) Λ₀ .tc) PUnit}
    {a : c = 1#1 → Prog (TpuEff nD τ sig (Elt F) Λ₀ .tc) β} {b k : Prog (TpuEff nD τ sig (Elt F) Λ₀ .tc) β}
    (hb : b = k) (ha : ∀ h, a h = p >>= fun _ => b) :
    dite (c = 1#1) a (fun _ => b) = seqIf c p k := by
  subst hb
  unfold seqIf
  split
  · exact ha _
  · rfl

/-- The first query of the tile. -/
def off (i : grid0.Coords) : BitVec 32 := Scalar.muli (BitVec.ofNat 32 (i 1).val) 256#32

/-- The printed body's first seven conditions, over one band's text. -/
def part (i : grid0.Coords) (arg2 : Memref sig .tc .vmem S1x256x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S256x128 .bf16) (harg5 : arg5.IsWhole) (arg6 : Memref sig .tc .vmem S1x256x192 .f32) (harg6 : arg6.IsWhole) (arg7 : Memref sig .tc .vmem S1x4096x192 .f32) (harg7 : arg7.IsWhole) (arg8 : Memref sig .tc .vmem S1x4096x128 .f32) (harg8 : arg8.IsWhole) :
    Prog (TpuEff nD τ sig (Elt F) Λ₀ .tc) (Σ' (v0 : BitVec 32), BitVec 32) :=
  seqIf (k0_cond1 i) (zero arg7 arg8) <|
  seqIf (k0_cond2 i) (prog ok0 arg2 arg3 arg4 arg5 arg6 arg7 arg8 (off i)) <|
  seqIf (k0_cond3 i) (prog ok1 arg2 arg3 arg4 arg5 arg6 arg7 arg8 (off i)) <|
  seqIf (k0_cond4 i) (prog ok2 arg2 arg3 arg4 arg5 arg6 arg7 arg8 (off i)) <|
  seqIf (k0_cond5 i) (prog ok3 arg2 arg3 arg4 arg5 arg6 arg7 arg8 (off i)) <|
  seqIf (k0_cond6 i) (prog ok4 arg2 arg3 arg4 arg5 arg6 arg7 arg8 (off i)) <|
  seqIf (k0_cond7 i) (prog ok5 arg2 arg3 arg4 arg5 arg6 arg7 arg8 (off i)) <|
  pure ⟨off i, Scalar.divsi (off i) 512#32⟩

/-- The last two conditions. -/
def rest (i : grid0.Coords) (arg2 : Memref sig .tc .vmem S1x256x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S256x128 .bf16) (harg5 : arg5.IsWhole) (arg6 : Memref sig .tc .vmem S1x256x192 .f32) (harg6 : arg6.IsWhole) (arg7 : Memref sig .tc .vmem S1x4096x192 .f32) (harg7 : arg7.IsWhole) (arg8 : Memref sig .tc .vmem S1x4096x128 .f32) (harg8 : arg8.IsWhole) (v0 : BitVec 32) :
    Prog (TpuEff nD τ sig (Elt F) Λ₀ .tc) PUnit :=
  seqIf (k0_cond8 i) (prog ok6 arg2 arg3 arg4 arg5 arg6 arg7 arg8 v0) <|
  seqIf (k0_cond9 i) (prog ok7 arg2 arg3 arg4 arg5 arg6 arg7 arg8 v0) <|
  pure ⟨⟩

set_option maxRecDepth 65536 in
theorem part_eq (i : grid0.Coords) (arg2 : Memref sig .tc .vmem S1x256x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S256x128 .bf16) (harg5 : arg5.IsWhole) (arg6 : Memref sig .tc .vmem S1x256x192 .f32) (harg6 : arg6.IsWhole) (arg7 : Memref sig .tc .vmem S1x4096x192 .f32) (harg7 : arg7.IsWhole) (arg8 : Memref sig .tc .vmem S1x4096x128 .f32) (harg8 : arg8.IsWhole) :
    k0_part17 (F := F) i arg2 harg2 arg3 harg3 arg4 harg4 arg5 harg5 arg6 harg6 arg7 harg7 arg8 harg8 = part i arg2 harg2 arg3 harg3 arg4 harg4 arg5 harg5 arg6 harg6 arg7 harg7 arg8 harg8 :=
  seqIf_step (seqIf_step (seqIf_step (seqIf_step (seqIf_step (seqIf_step (seqIf_step rfl
    fun _ => rfl) fun _ => rfl) fun _ => rfl) fun _ => rfl) fun _ => rfl) fun _ => rfl) fun _ => rfl

set_option maxRecDepth 65536 in
theorem body_eq (i : grid0.Coords) (arg2 : Memref sig .tc .vmem S1x256x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S256x128 .bf16) (harg5 : arg5.IsWhole) (arg6 : Memref sig .tc .vmem S1x256x192 .f32) (harg6 : arg6.IsWhole) (arg7 : Memref sig .tc .vmem S1x4096x192 .f32) (harg7 : arg7.IsWhole) (arg8 : Memref sig .tc .vmem S1x4096x128 .f32) (harg8 : arg8.IsWhole) :
    cc0_attn_bwd (F := F) i arg2 harg2 arg3 harg3 arg4 harg4 arg5 harg5 arg6 harg6 arg7 harg7 arg8 harg8 = part i arg2 harg2 arg3 harg3 arg4 harg4 arg5 harg5 arg6 harg6 arg7 harg7 arg8 harg8 >>= fun r => rest i arg2 harg2 arg3 harg3 arg4 harg4 arg5 harg5 arg6 harg6 arg7 harg7 arg8 harg8 r.1 := by
  rw [cc0_attn_bwd_eq_skeleton, ← part_eq]
  exact congrArg (k0_part17 i arg2 harg2 arg3 harg3 arg4 harg4 arg5 harg5 arg6 harg6 arg7 harg7 arg8 harg8 >>= ·)
    (funext fun r => seqIf_step (seqIf_step rfl fun _ => rfl) fun _ => rfl)

/-- Band `b`'s condition. -/
def cond (b : Fin 8) (i : grid0.Coords) : BitVec 1 :=
  match b with
  | 0 => k0_cond2 i | 1 => k0_cond3 i | 2 => k0_cond4 i | 3 => k0_cond5 i
  | 4 => k0_cond6 i | 5 => k0_cond7 i | 6 => k0_cond8 i | 7 => k0_cond9 i

/-- The number of keys band `b` reads. -/
abbrev len (b : Fin 8) : ℕ := 512 * (b.val + 1)

theorem ok : (b : Fin 8) → Ok (len b)
  | 0 => ok0 | 1 => ok1 | 2 => ok2 | 3 => ok3 | 4 => ok4 | 5 => ok5 | 6 => ok6 | 7 => ok7

theorem seqIf_pos {β : Type} {c : BitVec 1} (h : c = 1#1) (p : Prog (TpuEff nD τ sig (Elt F) Λ₀ .tc) PUnit)
    (k : Prog (TpuEff nD τ sig (Elt F) Λ₀ .tc) β) : seqIf c p k = p >>= fun _ => k := if_pos h

theorem seqIf_neg {β : Type} {c : BitVec 1} (h : ¬ c = 1#1) (p : Prog (TpuEff nD τ sig (Elt F) Λ₀ .tc) PUnit)
    (k : Prog (TpuEff nD τ sig (Elt F) Λ₀ .tc) β) : seqIf c p k = k := if_neg h

/-- At a point where band `b`'s condition alone holds, the body clears the sums if the tile is a head's first and
    then runs band `b`. -/
theorem run_eq (i : grid0.Coords) (arg2 : Memref sig .tc .vmem S1x256x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S256x128 .bf16) (harg5 : arg5.IsWhole) (arg6 : Memref sig .tc .vmem S1x256x192 .f32) (harg6 : arg6.IsWhole) (arg7 : Memref sig .tc .vmem S1x4096x192 .f32) (harg7 : arg7.IsWhole) (arg8 : Memref sig .tc .vmem S1x4096x128 .f32) (harg8 : arg8.IsWhole) (b : Fin 8)
    (h : ∀ b', cond b' i = 1#1 ↔ b' = b) :
    cc0_attn_bwd (F := F) i arg2 harg2 arg3 harg3 arg4 harg4 arg5 harg5 arg6 harg6 arg7 harg7 arg8 harg8 =
      seqIf (k0_cond1 i) (zero arg7 arg8) (prog (ok b) arg2 arg3 arg4 arg5 arg6 arg7 arg8 (off i)) := by
  have n : ∀ b', b' ≠ b → ¬ cond b' i = 1#1 := fun b' hb hc => hb ((h b').1 hc)
  have y : cond b i = 1#1 := (h b).2 rfl
  clear h
  have red : ∀ {β γ : Type} (c : BitVec 1) (p : Prog (TpuEff nD τ sig (Elt F) Λ₀ .tc) PUnit) (k : Prog (TpuEff nD τ sig (Elt F) Λ₀ .tc) β)
      (f : β → Prog (TpuEff nD τ sig (Elt F) Λ₀ .tc) γ), (seqIf c p k >>= f) = seqIf c p (k >>= f) := by
    intro β γ c p k f
    unfold seqIf
    split
    · exact Prog.bind_assoc ..
    · rfl
  rw [body_eq]
  unfold part
  rw [red]
  congr 1
  have n0 : 0 ≠ b → ¬ k0_cond2 i = 1#1 := n 0
  have n1 : 1 ≠ b → ¬ k0_cond3 i = 1#1 := n 1
  have n2 : 2 ≠ b → ¬ k0_cond4 i = 1#1 := n 2
  have n3 : 3 ≠ b → ¬ k0_cond5 i = 1#1 := n 3
  have n4 : 4 ≠ b → ¬ k0_cond6 i = 1#1 := n 4
  have n5 : 5 ≠ b → ¬ k0_cond7 i = 1#1 := n 5
  have n6 : 6 ≠ b → ¬ k0_cond8 i = 1#1 := n 6
  have n7 : 7 ≠ b → ¬ k0_cond9 i = 1#1 := n 7
  clear n
  have pb : ∀ {β γ : Type} (x : β) (f : β → Prog (TpuEff nD τ sig (Elt F) Λ₀ .tc) γ), (pure x >>= f) = f x :=
    fun _ _ => rfl
  match b, y with
  | 0, y | 1, y | 2, y | 3, y | 4, y | 5, y | 6, y | 7, y =>
    dsimp only [cond] at y
    simp +decide only [seqIf, rest, if_true, if_false, *, Prog.bind_assoc, pb]
    exact Prog.bind_pure _

end Cert.KernelIdeal.Band
-- ==== Proof.Step.lean ====
/- The triples of the body: what one band and the clearing of the sums leave in the staging buffers. -/
module

public import proofs.«01_k».proof.Proof.Band
public import proofs.«01_k».proof.Proof.Gen.KernelIdeal.Frame
public import Idealize.ShloMosaic.Lib.VecWindow
public import Idealize.ShloMosaic.Lib.WritesUnit

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

theorem z3 : (![0, 0, 0] : Fin 3 → Nat) = fun _ => 0 := funext fun a => by fin_cases a <;> rfl
theorem z2 : (![0, 0] : Fin 2 → Nat) = fun _ => 0 := funext fun a => by fin_cases a <;> rfl

section
variable {L : ℕ} (o : Ok L)

/-- The first `L` rows of a head's keys, of its values. -/
def topK {e : EltTy} (x : Vec F S1x4096x192 e) : Vec F (K3 L) e := VecWindow.window x ![0, 0, 0] (K3 L).size o.inbK
def topV {e : EltTy} (x : Vec F S1x4096x128 e) : Vec F (V3 L) e := VecWindow.window x ![0, 0, 0] (V3 L).size o.inbV

/-- The three results after a band: the tile's query gradient, and the two sums with the band's contribution. -/
def nextQ (v0 : BitVec 32) (q : Vec F S1x256x192 .bf16) (k : Vec F S1x4096x192 .bf16) (v : Vec F S1x4096x128 .bf16)
    (d : Vec F S256x128 .bf16) : Vec F S1x256x192 .f32 := gQ o v0 q (topK o k) (topV o v) d
def nextK (v0 : BitVec 32) (q : Vec F S1x256x192 .bf16) (k : Vec F S1x4096x192 .bf16) (v : Vec F S1x4096x128 .bf16)
    (d : Vec F S256x128 .bf16) (x : Vec F S1x4096x192 .f32) : Vec F S1x4096x192 .f32 :=
  VecWindow.put x ![0, 0, 0] (K3 L).size (accK o (topK o x) (gK o v0 q (topK o k) (topV o v) d))
def nextV (v0 : BitVec 32) (q : Vec F S1x256x192 .bf16) (k : Vec F S1x4096x192 .bf16)
    (d : Vec F S256x128 .bf16) (x : Vec F S1x4096x128 .f32) : Vec F S1x4096x128 .f32 :=
  VecWindow.put x ![0, 0, 0] (V3 L).size (accV o (topV o x) (gV o v0 q (topK o k) d))

set_option maxHeartbeats 1000000 in
theorem prog_run (c : Dev nD) (arg2 : Memref sig .tc .vmem S1x256x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S256x128 .bf16) (harg5 : arg5.IsWhole) (arg6 : Memref sig .tc .vmem S1x256x192 .f32) (harg6 : arg6.IsWhole) (arg7 : Memref sig .tc .vmem S1x4096x192 .f32) (harg7 : arg7.IsWhole) (arg8 : Memref sig .tc .vmem S1x4096x128 .f32) (harg8 : arg8.IsWhole)
    (v0 : BitVec 32) (x0 : Vec F S1x256x192 .bf16) (x1 : Vec F S1x4096x192 .bf16) (x2 : Vec F S1x4096x128 .bf16)
    (x3 : Vec F S256x128 .bf16) (x4 : Vec F S1x256x192 .f32) (x5 : Vec F S1x4096x192 .f32) (x6 : Vec F S1x4096x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (nextQ o v0 x0 x1 x2 x3)
            ∗ owns (c : Thread nD τ) arg7 fullShare (nextK o v0 x0 x1 x2 x3 x5)
            ∗ owns (c : Thread nD τ) arg8 fullShare (nextV o v0 x0 x1 x3 x6)) -∗ K ⟨⟩))
      ⊢ wp frame (wpE (defs₀ (F := F)) Variants.none c none) E (prog o arg2 arg3 arg4 arg5 arg6 arg7 arg8 v0) K := by
  unfold prog owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    unfold nextQ topK topV
    rw [View.read_writes_full, View.readAt_full, View.readAt_full, View.readAt_unit _ _ _ rfl o.inbK,
      View.readAt_unit _ _ _ rfl o.inbV, hf0, hf1, hf2, hf3]
  isplitl [H5]
  · iexists _; isplitr; swap; · iexact H5
    ipureintro
    unfold nextK topK topV
    rw [View.read_writes_cons_put _ _ _ _ _ rfl, View.readAt_full, View.readAt_full, View.readAt_unit _ _ _ rfl o.inbK,
      View.readAt_unit _ _ _ rfl o.inbK, View.readAt_unit _ _ _ rfl o.inbV, hf0, hf1, hf2, hf3, hf5, View.writes_nil, hf5]
  · iexists _; isplitr; swap; · iexact H6
    ipureintro
    unfold nextV topK topV
    rw [View.read_writes_cons_put _ _ _ _ _ rfl, View.readAt_full, View.readAt_full, View.readAt_unit _ _ _ rfl o.inbV,
      View.readAt_unit _ _ _ rfl o.inbK, hf0, hf1, hf3, hf6, View.writes_nil, hf6]
end

/-- What the sums are before a tile's contribution: zero at a head's first tile. -/
def baseK (i : grid0.Coords) (x : Vec F S1x4096x192 .f32) : Vec F S1x4096x192 .f32 :=
  if k0_cond1 i = 1#1 then k0_pay133 else x
def baseV (i : grid0.Coords) (x : Vec F S1x4096x128 .f32) : Vec F S1x4096x128 .f32 :=
  if k0_cond1 i = 1#1 then k0_pay134 else x

/-- Clearing the sums. -/
theorem zero_run (c : Dev nD) (arg7 : Memref sig .tc .vmem S1x4096x192 .f32) (harg7 : arg7.IsWhole) (arg8 : Memref sig .tc .vmem S1x4096x128 .f32) (harg8 : arg8.IsWhole)
    (x5 : Vec F S1x4096x192 .f32) (x6 : Vec F S1x4096x128 .f32) (k : Prog (TpuEff nD τ sig (Elt F) Λ₀ .tc) PUnit)
    (E : Set ℕ) (K : PUnit → sProp 𝕄) :
    iprop(owns (c : Thread nD τ) arg7 fullShare x5 ∗ owns (c : Thread nD τ) arg8 fullShare x6
        ∗ (iprop(owns (c : Thread nD τ) arg7 fullShare (k0_pay133 (F := F)) ∗ owns (c : Thread nD τ) arg8 fullShare (k0_pay134 (F := F)))
          -∗ wp frame (wpE (defs₀ (F := F)) Variants.none c none) E k K))
      ⊢ wp frame (wpE (defs₀ (F := F)) Variants.none c none) E (zero arg7 arg8 >>= fun _ => k) K := by
  unfold zero owns
  iintro ⟨⟨%f5, %hf5, H5⟩, ⟨%f6, %hf6, H6⟩, Hk⟩
  obtain rfl := harg7.eq_unread hf5; obtain rfl := harg8.eq_unread hf6
  sl_exec
  iapply Hk
  isplitl [H5]
  · iexists _; isplitr; swap; · iexact H5
    ipureintro
    rw [View.read_writes_full]
  · iexists _; isplitr; swap; · iexact H6
    ipureintro
    rw [View.read_writes_full]

/-- The body at a point whose band is `b`. -/
theorem body_run (c : Dev nD) (i : grid0.Coords) (arg2 : Memref sig .tc .vmem S1x256x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S256x128 .bf16) (harg5 : arg5.IsWhole) (arg6 : Memref sig .tc .vmem S1x256x192 .f32) (harg6 : arg6.IsWhole) (arg7 : Memref sig .tc .vmem S1x4096x192 .f32) (harg7 : arg7.IsWhole) (arg8 : Memref sig .tc .vmem S1x4096x128 .f32) (harg8 : arg8.IsWhole)
    (b : Fin 8) (h : ∀ b', cond b' i = 1#1 ↔ b' = b)
    (x0 : Vec F S1x256x192 .bf16) (x1 : Vec F S1x4096x192 .bf16) (x2 : Vec F S1x4096x128 .bf16)
    (x3 : Vec F S256x128 .bf16) (x4 : Vec F S1x256x192 .f32) (x5 : Vec F S1x4096x192 .f32) (x6 : Vec F S1x4096x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (nextQ (ok b) (off i) x0 x1 x2 x3)
            ∗ owns (c : Thread nD τ) arg7 fullShare (nextK (ok b) (off i) x0 x1 x2 x3 (baseK i x5))
            ∗ owns (c : Thread nD τ) arg8 fullShare (nextV (ok b) (off i) x0 x1 x3 (baseV i x6))) -∗ K ⟨⟩))
      ⊢ wp frame (wpE (defs₀ (F := F)) Variants.none c none) E (cc0_attn_bwd i arg2 harg2 arg3 harg3 arg4 harg4 arg5 harg5 arg6 harg6 arg7 harg7 arg8 harg8) K := by
  rw [run_eq i arg2 harg2 arg3 harg3 arg4 harg4 arg5 harg5 arg6 harg6 arg7 harg7 arg8 harg8 b h]
  by_cases hc : k0_cond1 i = 1#1
  · rw [seqIf_pos hc, show baseK (F := F) i x5 = k0_pay133 from if_pos hc, show baseV (F := F) i x6 = k0_pay134 from if_pos hc]
    iintro ⟨H0, H1, H2, H3, H4, H5, H6, Hk⟩
    iapply (zero_run c arg7 harg7 arg8 harg8 x5 x6)
    isplitl [H5]; · iexact H5
    isplitl [H6]; · iexact H6
    iintro ⟨H5, H6⟩
    iapply (prog_run (ok b) c arg2 harg2 arg3 harg3 arg4 harg4 arg5 harg5 arg6 harg6 arg7 harg7 arg8 harg8 (off i) x0 x1 x2 x3 x4 k0_pay133 k0_pay134)
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Hk
  · rw [seqIf_neg hc, show baseK (F := F) i x5 = x5 from if_neg hc, show baseV (F := F) i x6 = x6 from if_neg hc]
    exact prog_run (ok b) c arg2 harg2 arg3 harg3 arg4 harg4 arg5 harg5 arg6 harg6 arg7 harg7 arg8 harg8 (off i) x0 x1 x2 x3 x4 x5 x6 E K

end Cert.KernelIdeal.Band
-- ==== Proof.Run.lean ====
/- The launch: what each grid point leaves in the staging buffers, the body obligation at every point, and the run of
   the whole program with the result arrays named. At any values. -/
module

public import proofs.«01_k».proof.Proof.Step
public import Idealize.ShloMosaic.Lib.Claim

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which band a point runs -/

/-- The point of tile `n`. -/
def tile (n : Fin 16) : grid0.Coords := fun a => match a with | 0 => ⟨0, by decide⟩ | 1 => n

theorem cond_iff (i : grid0.Coords) (b : Fin 8) : cond b i = 1#1 ↔ b.val = (i 1).val / 2 := by
  have h : ∀ (n : Fin 16) (b : Fin 8), cond b (tile n) = 1#1 ↔ b.val = n.val / 2 := by decide +kernel
  exact h (i 1) b

theorem first_iff (i : grid0.Coords) : k0_cond1 i = 1#1 ↔ (i 1).val = 0 := by
  have h : ∀ n : Fin 16, k0_cond1 (tile n) = 1#1 ↔ n.val = 0 := by decide +kernel
  exact h (i 1)

/-- The band of a point: half its tile's number. -/
def bnd (i : grid0.Coords) : Fin 8 := ⟨(i 1).val / 2, by have : (i 1).val < 16 := (i 1).isLt; omega⟩

theorem cond_bnd (i : grid0.Coords) (b : Fin 8) : cond b i = 1#1 ↔ b = bnd i :=
  (cond_iff i b).trans ⟨fun h => Fin.ext h, fun h => congrArg Fin.val h⟩

theorem live (w : Fin 7) (i : grid0.Coords) : idle0 w i = false := by
  have h : ∀ (n : Fin 16) (w : Fin 7), idle0 w (tile n) = false := by decide +kernel
  have e : idle0 w i = idle0 w (tile (i 1)) := by
    match w with
    | 0 | 1 | 2 | 3 | 4 | 5 | 6 => rfl
  exact e.trans (h _ _)

theorem coords_tile (t : Fin cfg0.N) : (grid0.coords t 1).val = t.val % 16 := by
  rw [Pipeline.Grid.coords_val (G := grid0) t 1 (S := 1) (B := 16) (by decide) rfl, Nat.div_one]

/-! ## What each point leaves -/

/-- The query gradient of the point's tile. -/
def qAt (c : Dev nD) (t : Fin cfg0.N) : Vec F S1x256x192 .f32 :=
  nextQ (ok (bnd (grid0.coords t))) (off (grid0.coords t)) (iblk m c 0 t) (iblk m c 1 t) (iblk m c 2 t) (iblk m c 3 t)

/-- The two sums after the point. -/
def kAt (c : Dev nD) : (n : ℕ) → n < cfg0.N → Vec F S1x4096x192 .f32
  | 0, h => nextK (ok (bnd (grid0.coords ⟨0, h⟩))) (off (grid0.coords ⟨0, h⟩)) (iblk m c 0 ⟨0, h⟩) (iblk m c 1 ⟨0, h⟩)
      (iblk m c 2 ⟨0, h⟩) (iblk m c 3 ⟨0, h⟩) k0_pay133
  | n + 1, h => nextK (ok (bnd (grid0.coords ⟨n + 1, h⟩))) (off (grid0.coords ⟨n + 1, h⟩)) (iblk m c 0 ⟨n + 1, h⟩)
      (iblk m c 1 ⟨n + 1, h⟩) (iblk m c 2 ⟨n + 1, h⟩) (iblk m c 3 ⟨n + 1, h⟩)
      (baseK (grid0.coords ⟨n + 1, h⟩) (kAt c n (Nat.lt_of_succ_lt h)))
def vAt (c : Dev nD) : (n : ℕ) → n < cfg0.N → Vec F S1x4096x128 .f32
  | 0, h => nextV (ok (bnd (grid0.coords ⟨0, h⟩))) (off (grid0.coords ⟨0, h⟩)) (iblk m c 0 ⟨0, h⟩) (iblk m c 1 ⟨0, h⟩)
      (iblk m c 3 ⟨0, h⟩) k0_pay134
  | n + 1, h => nextV (ok (bnd (grid0.coords ⟨n + 1, h⟩))) (off (grid0.coords ⟨n + 1, h⟩)) (iblk m c 0 ⟨n + 1, h⟩)
      (iblk m c 1 ⟨n + 1, h⟩) (iblk m c 3 ⟨n + 1, h⟩) (baseV (grid0.coords ⟨n + 1, h⟩) (vAt c n (Nat.lt_of_succ_lt h)))

/-- One step of the sums, from anything the buffer held if the tile is a head's first and from the point before
    otherwise. -/
theorem kAt_step (c : Dev nD) (t : Fin cfg0.N) (x : Vec F S1x4096x192 .f32)
    (hx : (ht : ¬ t.val % 16 = 0) → x = kAt m c (t.val - 1) (Nat.lt_of_le_of_lt (Nat.sub_le _ _) t.isLt)) :
    nextK (ok (bnd (grid0.coords t))) (off (grid0.coords t)) (iblk m c 0 t) (iblk m c 1 t) (iblk m c 2 t) (iblk m c 3 t)
      (baseK (grid0.coords t) x) = kAt m c t.val t.isLt := by
  obtain ⟨n, h⟩ := t
  have hf := (first_iff (grid0.coords ⟨n, h⟩)).trans (by rw [coords_tile])
  by_cases h0 : n % 16 = 0
  · have e : ∀ y : Vec F S1x4096x192 .f32, baseK (grid0.coords ⟨n, h⟩) y = k0_pay133 := fun y => if_pos (hf.2 h0)
    cases n with
    | zero => rw [e]; rfl
    | succ n => unfold kAt; rw [e, e]
  · cases n with
    | zero => exact absurd rfl h0
    | succ n => rw [hx h0]; rfl

theorem vAt_step (c : Dev nD) (t : Fin cfg0.N) (x : Vec F S1x4096x128 .f32)
    (hx : (ht : ¬ t.val % 16 = 0) → x = vAt m c (t.val - 1) (Nat.lt_of_le_of_lt (Nat.sub_le _ _) t.isLt)) :
    nextV (ok (bnd (grid0.coords t))) (off (grid0.coords t)) (iblk m c 0 t) (iblk m c 1 t) (iblk m c 3 t)
      (baseV (grid0.coords t) x) = vAt m c t.val t.isLt := by
  obtain ⟨n, h⟩ := t
  have hf := (first_iff (grid0.coords ⟨n, h⟩)).trans (by rw [coords_tile])
  by_cases h0 : n % 16 = 0
  · have e : ∀ y : Vec F S1x4096x128 .f32, baseV (grid0.coords ⟨n, h⟩) y = k0_pay134 := fun y => if_pos (hf.2 h0)
    cases n with
    | zero => rw [e]; rfl
    | succ n => unfold vAt; rw [e, e]
  · cases n with
    | zero => exact absurd rfl h0
    | succ n => rw [hx h0]; rfl

/-- The proof data: the arrays as the launch finds them, each input's buffer at its block, each output's at the above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qAt m c t
    | ⟨5, _⟩ => kAt m c t.val t.isLt
    | ⟨6, _⟩ => vAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = qAt m c t := by dsimp only [dats]
theorem after5 (c : Dev nD) (t : Fin cfg0.N) : (dats m 0 c).after 5 t = kAt m c t.val t.isLt := by dsimp only [dats]
theorem after6 (c : Dev nD) (t : Fin cfg0.N) : (dats m 0 c).after 6 t = vAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Past a head's first tile the sums' buffers hold what the point before left. -/
theorem before5 (c : Dev nD) (t : Fin cfg0.N) (ht : ¬ t.val % 16 = 0) (d) :
    (dats m 0 c).before 5 t d = kAt m c (t.val - 1) (Nat.lt_of_le_of_lt (Nat.sub_le _ _) t.isLt) := by
  rw [(dats m 0 c).before_out_kept 5 rfl t (by omega)
    (Bool.eq_false_iff.2 fun h => absurd ((flush0_5 _).1 h) (by dsimp only; omega)) (live 5) (fun _ _ => rfl), after5]
theorem before6 (c : Dev nD) (t : Fin cfg0.N) (ht : ¬ t.val % 16 = 0) (d) :
    (dats m 0 c).before 6 t d = vAt m c (t.val - 1) (Nat.lt_of_le_of_lt (Nat.sub_le _ _) t.isLt) := by
  rw [(dats m 0 c).before_out_kept 6 rfl t (by omega)
    (Bool.eq_false_iff.2 fun h => absurd ((flush0_6 _).1 h) (by dsimp only; omega)) (live 6) (fun _ _ => rfl), after6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves (c : Dev nD) (w : Fin cfg0.W) (t : Fin cfg0.N) :
    (dats m 0 c).leavesExact w t
      = owns (c : Thread nD τ) ((cfg0.win w).stage (cfg0.slots t w)) fullShare ((dats m 0 c).after w t) := by
  have h : cfg0.idle w (cfg0.grid.coords t) = false := live w _
  unfold Dat.leavesExact
  rw [h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves, after0, after1, after2, after3, after4, after5, after6]
  rw [show (dats m 0 c).Φ t.succ = (dats m 0 c).Φ t.castSucc from rfl,
    show (dats m 0 c).owesAt () t.succ = (dats m 0 c).owesAt () t.castSucc from rfl]
  iintro ⟨HΦ, Ho, ⟨%_, H0⟩, ⟨%_, H1⟩, ⟨%_, H2⟩, ⟨%_, H3⟩, ⟨%d4, H4⟩, ⟨%d5, H5⟩, ⟨%d6, H6⟩⟩
  iapply (body_run c (grid0.coords t) _ _ _ _ _ _ _ _ _ _ _ _ _ _ (bnd (grid0.coords t)) (cond_bnd _)
    (iblk m c 0 t) (iblk m c 1 t) (iblk m c 2 t) (iblk m c 3 t) ((dats m 0 c).before 4 t d4) ((dats m 0 c).before 5 t d5)
    ((dats m 0 c).before 6 t d6))
  isplitl [H0]; · iexact H0
  isplitl [H1]; · iexact H1
  isplitl [H2]; · iexact H2
  isplitl [H3]; · iexact H3
  isplitl [H4]; · iexact H4
  isplitl [H5]; · iexact H5
  isplitl [H6]; · iexact H6
  rw [kAt_step m c t _ (fun ht => before5 m c t ht d5), vAt_step m c t _ (fun ht => before6 m c t ht d6)]
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to the end, every array at what the proof data say, every counter back at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Band
-- ==== Proof.Spec.lean ====
/- The gradient of chunk-causal attention over the real numbers, one head at a time: what both programs compute. Rows are
   numbered by naturals; there are 4096 of them, in chunks of 64. -/
module

public import Idealize.ShloMosaic.Lib.Pointwise

@[expose] public section

noncomputable section

namespace Cert.Attn

open Idealize.ShloMosaic Finset

/-- One head: its queries, keys, values, and the gradient of its output. -/
structure Head where
  q : ℕ → Fin 192 → ℝ
  k : ℕ → Fin 192 → ℝ
  v : ℕ → Fin 128 → ℝ
  d : ℕ → Fin 128 → ℝ

/-- The scores' scale: the number the programs' word denotes. -/
def scale : ℝ := (Ideal.ofBits .f32 0x3D93CD3A#32).toReal

theorem scale_coe : Ideal.ofBits .f32 0x3D93CD3A#32 = (scale : EReal) := by
  unfold scale
  rw [EReal.coe_toReal] <;> simp [Ideal.ofBits, Ideal.ieee] <;> rw [← EReal.coe_mul]
  · exact EReal.coe_ne_top _
  · exact EReal.coe_ne_bot _

/-- A sum of reals is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [sum_insert h, sum_insert h, ih, EReal.coe_add]

/-- Query `r` may read key `s`: the key's chunk is not after the query's. -/
def vis (r s : ℕ) : Prop := s / 64 ≤ r / 64
instance (r s : ℕ) : Decidable (vis r s) := inferInstanceAs (Decidable (_ ≤ _))

variable (A : Head)

def sc (r s : ℕ) : ℝ := (∑ j, A.q r j * A.k s j) * scale
/-- The masked score. -/
def S (r s : ℕ) : EReal := if vis r s then (sc A r s : EReal) else ⊥
/-- The largest score of a row. -/
def top (r : ℕ) : EReal := (range 4096).sup (S A r)
/-- The unnormalised weight. -/
def w (r s : ℕ) : ℝ := if vis r s then Real.exp (sc A r s - (top A r).toReal) else 0
def l (r : ℕ) : ℝ := ∑ s ∈ range 4096, w A r s
/-- The gradient of the normalised weight. -/
def a (r s : ℕ) : ℝ := ∑ e, A.d r e * A.v s e
/-- What the weights' normalisation takes off every weight's gradient. -/
def dl (r : ℕ) : ℝ := ∑ s ∈ range 4096, a A r s * (1 / (l A r * l A r)) * w A r s
/-- The gradient of the product `q · k`. -/
def gs (r s : ℕ) : ℝ := (a A r s * (1 / l A r) - dl A r) * w A r s * scale

def dq (r : ℕ) (j : Fin 192) : ℝ := ∑ s ∈ range 4096, gs A r s * A.k s j
def dk (s : ℕ) (j : Fin 192) : ℝ := ∑ r ∈ range 4096, gs A r s * A.q r j
def dv (s : ℕ) (e : Fin 128) : ℝ := ∑ r ∈ range 4096, w A r s * (A.d r e * (1 / l A r))

theorem S_bot {r s : ℕ} (h : ¬ vis r s) : S A r s = ⊥ := if_neg h
theorem w_zero {r s : ℕ} (h : ¬ vis r s) : w A r s = 0 := if_neg h
theorem gs_zero {r s : ℕ} (h : ¬ vis r s) : gs A r s = 0 := by simp [gs, w_zero A h]

/-- A query of the first `L` rows, `L` a whole number of chunks, reads none of the keys past them. -/
theorem not_vis {L r s : ℕ} (hL : L % 64 = 0) (hr : r < L) (hs : L ≤ s) : ¬ vis r s := by unfold vis; omega

theorem sup_fold {n : ℕ} (f : ℕ → EReal) :
    (univ : Finset (Fin n)).fold max ⊥ (fun x => f x.val) = (range n).sup f := by
  rw [show (univ : Finset (Fin n)).fold max ⊥ (fun x => f x.val) = univ.sup (fun x : Fin n => f x.val) from rfl]
  apply le_antisymm
  · exact Finset.sup_le fun x _ => Finset.le_sup (f := f) (mem_range.2 x.isLt)
  · exact Finset.sup_le fun x hx => Finset.le_sup (f := fun x : Fin n => f x.val) (mem_univ ⟨x, mem_range.1 hx⟩)

/-- The maximum over the first `L` keys is the maximum over all. -/
theorem top_eq {L r : ℕ} (hL : L % 64 = 0) (hr : r < L) (hN : L ≤ 4096) : (range L).sup (S A r) = top A r := by
  apply le_antisymm
  · exact Finset.sup_mono (range_mono hN)
  · refine Finset.sup_le fun s hs => ?_
    by_cases h : s < L
    · exact Finset.le_sup (f := S A r) (mem_range.2 h)
    · rw [S_bot A (not_vis hL hr (Nat.le_of_not_lt h))]; exact bot_le

/-- The maximum is a number: key 0 is read by every query, and every score is finite. -/
theorem top_coe (r : ℕ) : top A r = ((top A r).toReal : EReal) := by
  refine (EReal.coe_toReal ?_ ?_).symm
  · refine ne_of_lt ((Finset.sup_lt_iff bot_lt_top).2 fun s _ => ?_)
    unfold S; split
    · exact EReal.coe_lt_top _
    · exact bot_lt_top
  · refine ne_of_gt (lt_of_lt_of_le ?_ (Finset.le_sup (f := S A r) (mem_range.2 (by norm_num : 0 < 4096))))
    rw [S, if_pos (by unfold vis; omega)]; exact EReal.bot_lt_coe _

/-- The weight is the exponential of the masked score less the maximum. -/
theorem exp_S (r s : ℕ) : Ideal.exp (S A r s - top A r) = (w A r s : EReal) := by
  rw [top_coe]
  unfold S w
  split
  · rw [← EReal.coe_sub]; rfl
  · rw [EReal.bot_sub]; rfl

theorem w_nonneg (r s : ℕ) : 0 ≤ w A r s := by unfold w; split <;> positivity

theorem l_pos (r : ℕ) : 0 < l A r := by
  have h0 : w A r 0 ≤ l A r := Finset.single_le_sum (f := w A r) (fun s _ => w_nonneg A r s) (mem_range.2 (by norm_num))
  refine lt_of_lt_of_le ?_ h0
  rw [w, if_pos (by unfold vis; omega)]; exact Real.exp_pos _

/-- A sum over the first `L` keys of what vanishes where nothing is read is the sum over all. -/
theorem sum_first {L r : ℕ} (hL : L % 64 = 0) (hr : r < L) (hN : L ≤ 4096) (f : ℕ → ℝ) (hf : ∀ s, ¬ vis r s → f s = 0) :
    ∑ s : Fin L, f s.val = ∑ s ∈ range 4096, f s := by
  rw [← Finset.sum_range (f := f)]
  refine Finset.sum_subset (range_mono hN) fun s _ hs => hf s (not_vis hL hr ?_)
  simpa using hs

/-- Dividing by a row's sum. -/
theorem div_l (r : ℕ) (x : ℝ) : Ideal.div (x : EReal) (l A r : EReal) = ((x * (1 / l A r) : ℝ) : EReal) := by
  rw [Ideal.div_coe (l_pos A r).ne', ← EReal.coe_mul]
theorem div_ll (r : ℕ) (x : ℝ) :
    Ideal.div (x : EReal) ((l A r * l A r : ℝ) : EReal) = ((x * (1 / (l A r * l A r)) : ℝ) : EReal) := by
  rw [Ideal.div_coe (mul_pos (l_pos A r) (l_pos A r)).ne', ← EReal.coe_mul]

/-- The normalisation's share, from the unnormalised output and the gradient. -/
theorem dl_eq (r : ℕ) : (∑ e, (∑ s ∈ range 4096, w A r s * A.v s e) * A.d r e) * (1 / (l A r * l A r)) = dl A r := by
  simp only [dl, a, Finset.sum_mul]
  rw [Finset.sum_comm]
  exact Finset.sum_congr rfl fun s _ => Finset.sum_congr rfl fun e _ => by ring

/-! ## From the arrays -/

abbrev SQ : Shape := ⟨3, ![16, 4096, 192]⟩
abbrev SV : Shape := ⟨3, ![16, 4096, 128]⟩
abbrev SD : Shape := ⟨2, ![4096, 2048]⟩

/-- Every element is a real number. -/
def Real' {s : Shape} (x : s.Idx → EReal) : Prop := ∀ i, x i = ((x i).toReal : EReal)

/-- Head `h` of the four arrays; the gradient's heads lie side by side, 128 columns each. -/
def head (Q K : SQ.Idx → EReal) (V : SV.Idx → EReal) (D : SD.Idx → EReal) (h : Fin 16) : Head where
  q s j := if hs : s < 4096 then (Q (ix3 h ⟨s, hs⟩ j)).toReal else 0
  k s j := if hs : s < 4096 then (K (ix3 h ⟨s, hs⟩ j)).toReal else 0
  v s e := if hs : s < 4096 then (V (ix3 h ⟨s, hs⟩ e)).toReal else 0
  d s e := if hs : s < 4096 then (D (ix2 ⟨s, hs⟩ ⟨128 * h.val + e.val, by have := h.isLt; have := e.isLt; omega⟩)).toReal else 0

section
variable {Q K : SQ.Idx → EReal} {V : SV.Idx → EReal} {D : SD.Idx → EReal} (h : Fin 16) (s : Fin 4096)
theorem head_q (hQ : Real' Q) (j : Fin 192) : Q (ix3 h s j) = ((head Q K V D h).q s.val j : EReal) := by
  rw [hQ]; simp only [head, s.isLt, dif_pos]
theorem head_k (hK : Real' K) (j : Fin 192) : K (ix3 h s j) = ((head Q K V D h).k s.val j : EReal) := by
  rw [hK]; simp only [head, s.isLt, dif_pos]
theorem head_v (hV : Real' V) (e : Fin 128) : V (ix3 h s e) = ((head Q K V D h).v s.val e : EReal) := by
  rw [hV]; simp only [head, s.isLt, dif_pos]
theorem head_d (hD : Real' D) (e : Fin 128) (x : Fin 2048) (hx : x.val = 128 * h.val + e.val) :
    D (ix2 s x) = ((head Q K V D h).d s.val e : EReal) := by
  rw [show x = ⟨128 * h.val + e.val, hx ▸ x.isLt⟩ from Fin.ext hx, hD]; simp only [head, s.isLt, dif_pos]
end

variable (Q K : SQ.Idx → EReal) (V : SV.Idx → EReal) (D : SD.Idx → EReal)
/-- The three gradients. -/
def gradQ : SQ.Idx → EReal := fun i => (dq (head Q K V D (i 0)) (i 1).val (i 2) : EReal)
def gradK : SQ.Idx → EReal := fun i => (dk (head Q K V D (i 0)) (i 1).val (i 2) : EReal)
def gradV : SV.Idx → EReal := fun i => (dv (head Q K V D (i 0)) (i 1).val (i 2) : EReal)

/-- A sum over all rows, tile by tile. -/
theorem sum_tiles (f : ℕ → ℝ) : ∑ n ∈ range 16, ∑ r : Fin 256, f (256 * n + r.val) = ∑ r ∈ range 4096, f r := by
  have h : ∀ N, ∑ n ∈ range N, ∑ r : Fin 256, f (256 * n + r.val) = ∑ r ∈ range (256 * N), f r := fun N => by
    induction N with
    | zero => simp
    | succ N ih => rw [sum_range_succ, ih, Nat.mul_succ, sum_range_add, Finset.sum_range (n := 256)]
  exact h 16

end Cert.Attn

end
-- ==== Proof.Tile.lean ====
/- One tile of the kernel over the reals: on blocks of real numbers each value of a band, read at an index, is the
   specification's. -/
module

public import proofs.«01_k».proof.Proof.Step
public import proofs.«01_k».proof.Proof.Spec
public import Idealize.ShloMosaic.Lib.Pointwise.IndexVar
public import Idealize.ShloMosaic.Lib.WordCmp

@[expose] public section

set_option maxRecDepth 16384

noncomputable section

namespace Cert.KernelIdeal.Band

open Idealize.ShloMosaic Idealize.ShloMosaic.TcCoe Cert.Attn Finset

variable {L : ℕ} (o : Ok L)

/-! ## Layouts at any length -/

theorem lead_idx {n m : ℕ} (h : (⟨2, ![n, m]⟩ : Shape).numel = (⟨3, ![1, n, m]⟩ : Shape).numel) (s : Fin n) (j : Fin m) :
    Shape.reshapeEquiv h (ix2 s j) = ix3 0 s j := by
  refine Shape.reshapeEquiv_eq_of_rowMajor _ ?_
  rw [rowMajor_val2 _ m rfl, rowMajor_val3 _ (n * m) m rfl rfl]
  change 0 * (n * m) + s.val * m + j.val = s.val * m + j.val
  rw [Nat.zero_mul, Nat.zero_add]

theorem drop_idx {n m : ℕ} (h : (⟨3, ![1, n, m]⟩ : Shape).numel = (⟨2, ![n, m]⟩ : Shape).numel) (s : Fin n) (j : Fin m) :
    Shape.reshapeEquiv h (ix3 0 s j) = ix2 s j := by
  refine Shape.reshapeEquiv_eq_of_rowMajor _ ?_
  rw [rowMajor_val2 _ m rfl, rowMajor_val3 _ (n * m) m rfl rfl]
  change s.val * m + j.val = 0 * (n * m) + s.val * m + j.val
  rw [Nat.zero_mul, Nat.zero_add]

theorem km_apply (k : Vec Ideal (K3 L) .bf16) (s : Fin L) (j : Fin 192) : km o k (ix2 s j) = k (ix3 0 s j) := by
  pointwise [km]; exact congrArg k (lead_idx _ s j)

theorem vm_apply (v : Vec Ideal (V3 L) .bf16) (s : Fin L) (e : Fin 128) : vm o v (ix2 s e) = v (ix3 0 s e) := by
  pointwise [vm]; exact congrArg v (lead_idx _ s e)

/-- The product of a tile's rows with the first `L` rows of a matrix, at an index. -/
theorem rows_apply {n : ℕ} (wf : DotDims.WF (SC L) ⟨2, ![L, n]⟩ ⟨2, ![256, n]⟩ [1] [0] [0] [1] [] [])
    (x : (SC L).Idx → EReal) (y : (⟨2, ![L, n]⟩ : Shape).Idx → EReal) (acc : (⟨2, ![256, n]⟩ : Shape).Idx → EReal)
    (r : Fin 256) (j : Fin n) :
    Ideal.matmul (⟨[1], [0], [0], [1], [], [], wf⟩ : DotDims (SC L) ⟨2, ![L, n]⟩ ⟨2, ![256, n]⟩) x y acc (ix2 r j)
      = acc (ix2 r j) + ∑ s : Fin L, x (ix2 r s) * y (ix2 s j) := by
  refine Ideal.matmul_apply₁_of _ (a := 1) rfl (K := L) rfl _ _ _ _ (fun s => ix2 r s) (fun s => ix2 s j) (fun s => ?_)
    (fun s => ?_)
  · funext a; match a with | 0 => rfl | 1 => rfl
  · funext a; match a with | 0 => rfl | 1 => rfl

/-! ## The mask -/

theorem chunk_word (n : ℕ) (h : n < 4096) : IntOp.shrsi .vector (BitVec.ofNat 32 n) 6#32 = BitVec.ofNat 32 (n / 64) := by
  have e : ∀ n : Fin 4096, IntOp.shrsi .vector (BitVec.ofNat 32 n.val) 6#32 = BitVec.ofNat 32 (n.val / 64) := by
    decide +kernel
  exact e ⟨n, h⟩

theorem select_vis {α : Type} (p : Prop) [Decidable p] (x y : α) :
    Scalar.select (BitVec.ofBool (decide p)) x y = if p then x else y := by
  by_cases h : p <;> simp [h, Scalar.select]

theorem mask_apply {R : ℕ} (hR : R + 256 ≤ L) (hN : L ≤ 4096) (r : Fin 256) (s : Fin L) :
    mask o (BitVec.ofNat 32 R) (ix2 r s) = BitVec.ofBool (decide (vis (R + r.val) s.val)) := by
  have hr := r.isLt
  have hs := s.isLt
  pointwise [mask]
  have e : (if h : L = 1 then ⟨0, by omega⟩ else s : Fin L) = s := dif_neg (by omega)
  refine Eq.trans (congrArg (fun x : Fin L => IntOp.cmpi .sle (IntOp.shrsi .vector (BitVec.ofNat 32 x.val) 6#32) _) e) ?_
  rw [show IntOp.addi (BitVec.ofNat 32 R) (BitVec.ofNat 32 r.val) = BitVec.ofNat 32 (R + r.val) from
    (BitVec.ofNat_add R r.val).symm, chunk_word _ (by omega), chunk_word _ (by omega), WordCmp.cmpi_sle_ofNat (by norm_num; omega) (by norm_num; omega)]
  rfl

/-! ## The values of a band -/

/-- The blocks of one tile hold one head's numbers: `R` is the tile's first row. -/
structure Reads (A : Head) (R : ℕ) (q : Vec Ideal S1x256x192 .bf16) (k : Vec Ideal (K3 L) .bf16)
    (v : Vec Ideal (V3 L) .bf16) (d : Vec Ideal S256x128 .bf16) : Prop where
  q : ∀ r j, q (ix3 0 r j) = (A.q (R + r.val) j : EReal)
  k : ∀ s j, k (ix3 0 s j) = (A.k s.val j : EReal)
  v : ∀ s e, v (ix3 0 s e) = (A.v s.val e : EReal)
  d : ∀ r e, d (ix2 r e) = (A.d (R + r.val) e : EReal)
  le : R + 256 ≤ L
  chunks : L % 64 = 0
  all : L ≤ 4096

section
variable {o} {A : Head} {R : ℕ} {q : Vec Ideal S1x256x192 .bf16} {k : Vec Ideal (K3 L) .bf16}
  {v : Vec Ideal (V3 L) .bf16} {d : Vec Ideal S256x128 .bf16} (H : Reads A R q k v d)
include H

theorem row (r : Fin 256) : R + r.val < L := by have := H.le; have := r.isLt; omega

theorem score_apply (r : Fin 256) (s : Fin L) : score o (BitVec.ofNat 32 R) q k (ix2 r s) = S A (R + r.val) s.val := by
  pointwise [score, dotQK, qm]
  simp only [mask_apply o H.le H.all, select_vis, km_apply, H.q, H.k, scale_coe, ← EReal.coe_mul, coe_sum]
  rw [show Ideal.ofBits .f32 0xFF800000#32 = (⊥ : EReal) from by simp [Ideal.ofBits, Ideal.ieee]]
  rfl

theorem wt_apply (r : Fin 256) (s : Fin L) : wt o (BitVec.ofNat 32 R) q k (ix2 r s) = (w A (R + r.val) s.val : EReal) := by
  pointwise [wt]
  simp only [score_apply H]
  rw [show Ideal.ofBits .f32 0xFF800000#32 = (⊥ : EReal) from by simp [Ideal.ofBits, Ideal.ieee], sup_fold (S A (R + r.val)), top_eq A H.chunks (row H r) H.all, exp_S]

theorem den_apply (r : Fin 256) (x : Fin 1) : den o (BitVec.ofNat 32 R) q k (ix2 r x) = (l A (R + r.val) : EReal) := by
  pointwise [den]
  refine ((Finset.sum_congr rfl fun s _ => wt_apply H r s).trans (coe_sum _ _)).trans ?_
  refine congrArg Real.toEReal ?_
  rw [sum_first H.chunks (row H r) H.all (w A (R + r.val)) fun s hs => w_zero A hs]; rfl

theorem inv_apply (r : Fin 256) : inv o (BitVec.ofNat 32 R) q k (ix2 r 0) = ((1 / l A (R + r.val) : ℝ) : EReal) := by
  pointwise [inv, ones]
  rw [den_apply H, ← EReal.coe_one, div_l, one_mul]

theorem out_apply (r : Fin 256) (e : Fin 128) :
    out o (BitVec.ofNat 32 R) q k v (ix2 r e) = ((∑ s ∈ range 4096, w A (R + r.val) s * A.v s e : ℝ) : EReal) := by
  pointwise [out, dotPV]
  refine ((rows_apply _ _ _ _ r e).trans (by rw [show constant (F := Ideal) _ .f32 0x00000000#32 _ = (0 : EReal) from Ideal.ofBits_zero_f32, zero_add])).trans ?_
  refine ((Finset.sum_congr rfl fun s _ => (congrArg₂ (· * ·) (wt_apply H r s) ((vm_apply o v s e).trans (H.v s e))).trans
    (EReal.coe_mul _ _).symm).trans (coe_sum _ _)).trans (congrArg Real.toEReal ?_)
  rw [sum_first H.chunks (row H r) H.all (fun s => w A (R + r.val) s * A.v s e) fun s hs => by rw [w_zero A hs, zero_mul]]

theorem dn_apply (r : Fin 256) (e : Fin 128) :
    dn o (BitVec.ofNat 32 R) q k d (ix2 r e) = ((A.d (R + r.val) e * (1 / l A (R + r.val)) : ℝ) : EReal) := by
  pointwise [dn]
  rw [inv_apply H, H.d, ← EReal.coe_mul]

theorem gV_apply (s : Fin L) (e : Fin 128) :
    gV o (BitVec.ofNat 32 R) q k d (ix2 s e)
      = ((∑ r : Fin 256, w A (R + r.val) s.val * (A.d (R + r.val) e * (1 / l A (R + r.val))) : ℝ) : EReal) := by
  pointwise [gV, dotPO]
  refine Eq.trans (Finset.sum_congr rfl fun r _ => ?_) (coe_sum _ _)
  exact (congrArg₂ (· * ·) (wt_apply H r s) (dn_apply H r e)).trans (EReal.coe_mul _ _).symm

theorem gDen_apply (r : Fin 256) : gDen o (BitVec.ofNat 32 R) q k v d (ix2 r 0) = ((- dl A (R + r.val) : ℝ) : EReal) := by
  pointwise [gDen, ones]
  simp only [out_apply H, den_apply H, H.d, ← EReal.coe_mul, coe_sum]
  rw [← EReal.coe_one, div_ll, one_mul, ← EReal.coe_mul, dl_eq]
  simp

theorem gS_apply (r : Fin 256) (s : Fin L) :
    gS o (BitVec.ofNat 32 R) q k v d (ix2 r s) = (gs A (R + r.val) s.val : EReal) := by
  pointwise [gS, dotOV]
  simp only [mask_apply o H.le H.all, select_vis, vm_apply, H.v, gDen_apply H, dn_apply H, wt_apply H, scale_coe, ← EReal.coe_mul, coe_sum,
    ← EReal.coe_add]
  by_cases h : vis (R + r.val) s.val
  · rw [if_pos h]
    unfold gs a
    rw [Finset.sum_mul, show ∀ x y : ℝ, -x + y = y - x from fun x y => by ring]
    congr 3
    congr 1
    exact Finset.sum_congr rfl fun e _ => by ring
  · rw [if_neg h, gs_zero A h, EReal.coe_zero]

theorem gQ_apply (r : Fin 256) (j : Fin 192) :
    gQ o (BitVec.ofNat 32 R) q k v d (ix3 0 r j) = (dq A (R + r.val) j : EReal) := by
  pointwise [gQ, dotSK]
  refine ((rows_apply _ _ _ _ r j).trans (by rw [show constant (F := Ideal) _ .f32 0x00000000#32 _ = (0 : EReal) from Ideal.ofBits_zero_f32, zero_add])).trans ?_
  refine ((Finset.sum_congr rfl fun s _ => (congrArg₂ (· * ·) (gS_apply H r s) ((km_apply o k s j).trans (H.k s j))).trans
    (EReal.coe_mul _ _).symm).trans (coe_sum _ _)).trans (congrArg Real.toEReal ?_)
  rw [sum_first H.chunks (row H r) H.all (fun s => gs A (R + r.val) s * A.k s j) fun s hs => by rw [gs_zero A hs, zero_mul]]
  rfl

theorem gK_apply (s : Fin L) (j : Fin 192) :
    gK o (BitVec.ofNat 32 R) q k v d (ix2 s j)
      = ((∑ r : Fin 256, gs A (R + r.val) s.val * A.q (R + r.val) j : ℝ) : EReal) := by
  pointwise [gK, dotSQ, qm]
  refine Eq.trans (Finset.sum_congr rfl fun r _ => ?_) (coe_sum _ _)
  exact (congrArg₂ (· * ·) (gS_apply H r s) (H.q r j)).trans (EReal.coe_mul _ _).symm

end

theorem accK_apply (x : Vec Ideal (K3 L) .f32) (g : FVec Ideal (K2 L) .f32) (s : Fin L) (j : Fin 192) :
    accK o x g (ix3 0 s j) = x (ix3 0 s j) + g (ix2 s j) := by
  pointwise [accK]
  exact congrArg (fun i => x (ix3 0 s j) + g i) (drop_idx _ s j)

theorem accV_apply (x : Vec Ideal (V3 L) .f32) (g : FVec Ideal (V2 L) .f32) (s : Fin L) (j : Fin 128) :
    accV o x g (ix3 0 s j) = x (ix3 0 s j) + g (ix2 s j) := by
  pointwise [accV]
  exact congrArg (fun i => x (ix3 0 s j) + g i) (drop_idx _ s j)

end Cert.KernelIdeal.Band

end
-- ==== Proof.Value.lean ====
/- The three result arrays after the run, over the reals: on arrays of real numbers they are the specification's. -/
module

public import proofs.«01_k».proof.Proof.Run
public import proofs.«01_k».proof.Proof.Tile
public import Idealize.ShloMosaic.Lib.Pipeline.ValueKit

@[expose] public section

set_option maxRecDepth 16384

noncomputable section

namespace Cert.KernelIdeal.Band

open Idealize.ShloMosaic Idealize.ShloMosaic.TcCoe Cert.Attn Finset
open Idealize.ShloMosaic.Pipeline (Dat)
open Cert.KernelIdeal.Gen

variable (m : (ℓ : Loc nD τ sig) → Buf (Elt Ideal) ℓ) (c : Dev nD)

/-- The four arguments. -/
abbrev aQ : SQ.Idx → EReal := m ((c.tc : Thread nD τ).loc main_arg0)
abbrev aK : SQ.Idx → EReal := m ((c.tc : Thread nD τ).loc main_arg1)
abbrev aV : SV.Idx → EReal := m ((c.tc : Thread nD τ).loc main_arg2)
abbrev aD : SD.Idx → EReal := m ((c.tc : Thread nD τ).loc main_arg3)

/-- A point's head and its head's numbers. -/
def hd (t : Fin cfg0.N) : Fin 16 := ⟨t.val / 16, by have : t.val < 256 := lt_of_lt_of_eq t.isLt N_0; omega⟩
abbrev hA (t : Fin cfg0.N) : Head := head (aQ m c) (aK m c) (aV m c) (aD m c) (hd t)

/-- Where the windows stand at a point. -/
theorem idx : ∀ t : Fin grid0.N, win0_0.index t = ![t.val / 16, t.val % 16, 0] ∧ win0_1.index t = ![t.val / 16, 0, 0]
    ∧ win0_2.index t = ![t.val / 16, 0, 0] ∧ win0_3.index t = ![t.val % 16, t.val / 16]
    ∧ win0_4.index t = ![t.val / 16, t.val % 16, 0] ∧ win0_5.index t = ![t.val / 16, 0, 0]
    ∧ win0_6.index t = ![t.val / 16, 0, 0] := by decide +kernel

theorem blk0 (t : Fin cfg0.N) (r : Fin 256) (j : Fin 192) (h : 256 * (t.val % 16) + r.val < 4096) :
    iblk m c 0 t (ix3 0 r j) = aQ m c (ix3 (hd t) ⟨256 * (t.val % 16) + r.val, h⟩ j) := by
  have := idx t
  blk_ext [iblk, V, idx t, hd]
theorem blk1 (t : Fin cfg0.N) (s : Fin 4096) (j : Fin 192) :
    iblk m c 1 t (ix3 0 s j) = aK m c (ix3 (hd t) s j) := by
  blk_ext [iblk, V, idx t, hd]
theorem blk2 (t : Fin cfg0.N) (s : Fin 4096) (j : Fin 128) :
    iblk m c 2 t (ix3 0 s j) = aV m c (ix3 (hd t) s j) := by
  blk_ext [iblk, V, idx t, hd]
theorem blk3 (t : Fin cfg0.N) (r : Fin 256) (e : Fin 128) (h : 256 * (t.val % 16) + r.val < 4096)
    (h' : 128 * (hd t).val + e.val < 2048) :
    iblk m c 3 t (ix2 r e) = aD m c (ix2 ⟨256 * (t.val % 16) + r.val, h⟩ ⟨128 * (hd t).val + e.val, h'⟩) := by
  blk_ext [iblk, V, idx t, hd]

/-- The word a point's first row is. -/
theorem off_eq (t : Fin cfg0.N) : off (grid0.coords t) = BitVec.ofNat 32 (256 * (t.val % 16)) := by
  unfold off; rw [coords_tile]
  have h : ∀ n : Fin 16, Scalar.muli (BitVec.ofNat 32 n.val) 256#32 = BitVec.ofNat 32 (256 * n.val) := by decide +kernel
  exact h ⟨t.val % 16, Nat.mod_lt _ (by norm_num)⟩

theorem len_bnd (t : Fin cfg0.N) : len (bnd (grid0.coords t)) = 512 * (t.val % 16 / 2 + 1) := by
  show 512 * ((grid0.coords t 1).val / 2 + 1) = _
  rw [coords_tile]

section
variable {L : ℕ} (o : Ok L) {e : EltTy}

/-- Both rectangles start at the origin, so they keep coordinates. -/
theorem topK_apply (x : Vec Ideal S1x4096x192 e) (s : Fin L) (j : Fin 192) (h : s.val < 4096) :
    topK o x (ix3 0 s j) = x (ix3 0 ⟨s.val, h⟩ j) := by
  unfold topK VecWindow.window
  refine congrArg x (funext fun a => Fin.ext ?_)
  match a with
  | 0 => show 0 + 1 * 0 = 0; omega
  | 1 => show 0 + 1 * s.val = s.val; omega
  | 2 => show 0 + 1 * j.val = j.val; omega

theorem topV_apply (x : Vec Ideal S1x4096x128 e) (s : Fin L) (j : Fin 128) (h : s.val < 4096) :
    topV o x (ix3 0 s j) = x (ix3 0 ⟨s.val, h⟩ j) := by
  unfold topV VecWindow.window
  refine congrArg x (funext fun a => Fin.ext ?_)
  match a with
  | 0 => show 0 + 1 * 0 = 0; omega
  | 1 => show 0 + 1 * s.val = s.val; omega
  | 2 => show 0 + 1 * j.val = j.val; omega

theorem putK_apply (x : Vec Ideal S1x4096x192 e) (y : Vec Ideal (K3 L) e) (s : Fin 4096) (j : Fin 192) :
    VecWindow.put x ![0, 0, 0] (K3 L).size y (ix3 0 s j)
      = if h : s.val < L then y (ix3 0 ⟨s.val, h⟩ j) else x (ix3 0 s j) := by
  unfold VecWindow.put
  by_cases h : s.val < L
  · rw [dif_pos h, dif_pos (fun a => by
      match a with
      | 0 => exact ⟨Nat.le_refl _, by show 0 < 0 + 1; omega⟩
      | 1 => exact ⟨Nat.zero_le _, by show s.val < 0 + L; omega⟩
      | 2 => exact ⟨Nat.zero_le _, by show j.val < 0 + 192; have := j.isLt; omega⟩)]
    refine congrArg y (funext fun a => Fin.ext ?_)
    match a with
    | 0 => rfl
    | 1 => rfl
    | 2 => rfl
  · rw [dif_neg h, dif_neg fun hh => h (by have := (hh 1).2; change s.val < 0 + L at this; omega)]

theorem putV_apply (x : Vec Ideal S1x4096x128 e) (y : Vec Ideal (V3 L) e) (s : Fin 4096) (j : Fin 128) :
    VecWindow.put x ![0, 0, 0] (V3 L).size y (ix3 0 s j)
      = if h : s.val < L then y (ix3 0 ⟨s.val, h⟩ j) else x (ix3 0 s j) := by
  unfold VecWindow.put
  by_cases h : s.val < L
  · rw [dif_pos h, dif_pos (fun a => by
      match a with
      | 0 => exact ⟨Nat.le_refl _, by show 0 < 0 + 1; omega⟩
      | 1 => exact ⟨Nat.zero_le _, by show s.val < 0 + L; omega⟩
      | 2 => exact ⟨Nat.zero_le _, by show j.val < 0 + 128; have := j.isLt; omega⟩)]
    refine congrArg y (funext fun a => Fin.ext ?_)
    match a with
    | 0 => rfl
    | 1 => rfl
    | 2 => rfl
  · rw [dif_neg h, dif_neg fun hh => h (by have := (hh 1).2; change s.val < 0 + L at this; omega)]

section
variable {A : Head} {R : ℕ} {q : Vec Ideal S1x256x192 .bf16} {k : Vec Ideal S1x4096x192 .bf16}
  {v : Vec Ideal S1x4096x128 .bf16} {d : Vec Ideal S256x128 .bf16} (H : Reads A R q (topK o k) (topV o v) d)
include H

/-- What one tile adds to the two sums, at every key: past the tile's last readable key, nothing. -/
theorem nextK_apply (x : Vec Ideal S1x4096x192 .f32) (s : Fin 4096) (j : Fin 192) :
    nextK o (BitVec.ofNat 32 R) q k v d x (ix3 0 s j)
      = x (ix3 0 s j) + ((∑ r : Fin 256, gs A (R + r.val) s.val * A.q (R + r.val) j : ℝ) : EReal) := by
  unfold nextK; rw [putK_apply]
  split
  · rw [accK_apply, gK_apply H, topK_apply o x _ _ s.isLt]
  · rename_i h
    rw [Finset.sum_eq_zero fun r _ => by rw [gs_zero A (not_vis H.chunks (row H r) (Nat.le_of_not_lt h)), zero_mul],
      EReal.coe_zero, add_zero]

theorem nextV_apply (x : Vec Ideal S1x4096x128 .f32) (s : Fin 4096) (e : Fin 128) :
    nextV o (BitVec.ofNat 32 R) q k d x (ix3 0 s e)
      = x (ix3 0 s e) + ((∑ r : Fin 256, w A (R + r.val) s.val * (A.d (R + r.val) e * (1 / l A (R + r.val))) : ℝ) : EReal) := by
  unfold nextV; rw [putV_apply]
  split
  · rw [accV_apply, gV_apply H, topV_apply o x _ _ s.isLt]
  · rename_i h
    rw [Finset.sum_eq_zero fun r _ => by rw [w_zero A (not_vis H.chunks (row H r) (Nat.le_of_not_lt h)), zero_mul],
      EReal.coe_zero, add_zero]
end
end

/-! ## The run's arrays -/

section
variable (hQ : Real' (aQ m c)) (hK : Real' (aK m c)) (hV : Real' (aV m c)) (hD : Real' (aD m c))
include hQ hK hV hD

theorem reads (t : Fin cfg0.N) : Reads (hA m c t) (256 * (t.val % 16)) (iblk m c 0 t)
    (topK (ok (bnd (grid0.coords t))) (iblk m c 1 t)) (topV (ok (bnd (grid0.coords t))) (iblk m c 2 t)) (iblk m c 3 t) where
  q r j := (blk0 m c t r j (by have := r.isLt; omega)).trans (head_q _ _ hQ _)
  k s j := by
    have hs : s.val < 4096 := by have := s.isLt; have := len_bnd t; omega
    rw [topK_apply _ _ _ _ hs, blk1]; exact head_k _ _ hK _
  v s j := by
    have hs : s.val < 4096 := by have := s.isLt; have := len_bnd t; omega
    rw [topV_apply _ _ _ _ hs, blk2]; exact head_v _ _ hV _
  d r e := (blk3 m c t r e (by have := r.isLt; omega) (by have := (hd t).isLt; have := e.isLt; omega)).trans
    (head_d _ _ hD _ _ rfl)
  le := by have := len_bnd t; omega
  chunks := by have := len_bnd t; omega
  all := by have := len_bnd t; omega

theorem kAt_apply (n : ℕ) : ∀ (h : n < cfg0.N) (s : Fin 4096) (j : Fin 192), kAt m c n h (ix3 0 s j)
    = ((∑ i ∈ range (n % 16 + 1), ∑ r : Fin 256, gs (hA m c ⟨n, h⟩) (256 * i + r.val) s.val
        * (hA m c ⟨n, h⟩).q (256 * i + r.val) j : ℝ) : EReal) := by
  induction n with
  | zero =>
    intro h s j
    rw [← kAt_step m c ⟨0, h⟩ (kAt m c 0 h) (fun ht => absurd rfl ht), off_eq, nextK_apply _ (reads m c hQ hK hV hD ⟨0, h⟩), baseK,
      if_pos ((first_iff _).2 (coords_tile _))]
    unfold k0_pay133
    pointwise
    simp
  | succ n ih =>
    intro h s j
    have hn : n < cfg0.N := Nat.lt_of_succ_lt h
    rw [← kAt_step m c ⟨n + 1, h⟩ (kAt m c n hn) (fun _ => rfl), off_eq, nextK_apply _ (reads m c hQ hK hV hD ⟨n + 1, h⟩), baseK]
    have hf := (first_iff (grid0.coords ⟨n + 1, h⟩)).trans (by rw [coords_tile])
    by_cases h0 : (n + 1) % 16 = 0
    · rw [if_pos (hf.2 h0)]
      unfold k0_pay133
      pointwise
      simp [h0]
    · rw [if_neg (fun hh => h0 (hf.1 hh)), ih hn,
        show hA m c ⟨n, hn⟩ = hA m c ⟨n + 1, h⟩ from congrArg (head _ _ _ _) (Fin.ext (by show n / 16 = (n + 1) / 16; omega)),
        show (n + 1) % 16 = n % 16 + 1 from by omega, sum_range_succ _ (n % 16 + 1), EReal.coe_add]

theorem vAt_apply (n : ℕ) : ∀ (h : n < cfg0.N) (s : Fin 4096) (e : Fin 128), vAt m c n h (ix3 0 s e)
    = ((∑ i ∈ range (n % 16 + 1), ∑ r : Fin 256, w (hA m c ⟨n, h⟩) (256 * i + r.val) s.val
        * ((hA m c ⟨n, h⟩).d (256 * i + r.val) e * (1 / l (hA m c ⟨n, h⟩) (256 * i + r.val))) : ℝ) : EReal) := by
  induction n with
  | zero =>
    intro h s j
    rw [← vAt_step m c ⟨0, h⟩ (vAt m c 0 h) (fun ht => absurd rfl ht), off_eq, nextV_apply _ (reads m c hQ hK hV hD ⟨0, h⟩), baseV,
      if_pos ((first_iff _).2 (coords_tile _))]
    unfold k0_pay134
    pointwise
    simp
  | succ n ih =>
    intro h s j
    have hn : n < cfg0.N := Nat.lt_of_succ_lt h
    rw [← vAt_step m c ⟨n + 1, h⟩ (vAt m c n hn) (fun _ => rfl), off_eq, nextV_apply _ (reads m c hQ hK hV hD ⟨n + 1, h⟩), baseV]
    have hf := (first_iff (grid0.coords ⟨n + 1, h⟩)).trans (by rw [coords_tile])
    by_cases h0 : (n + 1) % 16 = 0
    · rw [if_pos (hf.2 h0)]
      unfold k0_pay134
      pointwise
      simp [h0]
    · rw [if_neg (fun hh => h0 (hf.1 hh)), ih hn,
        show hA m c ⟨n, hn⟩ = hA m c ⟨n + 1, h⟩ from congrArg (head _ _ _ _) (Fin.ext (by show n / 16 = (n + 1) / 16; omega)),
        show (n + 1) % 16 = n % 16 + 1 from by omega, sum_range_succ _ (n % 16 + 1), EReal.coe_add]

theorem qAt_apply (t : Fin cfg0.N) (r : Fin 256) (j : Fin 192) :
    qAt m c t (ix3 0 r j) = (dq (hA m c t) (256 * (t.val % 16) + r.val) j : EReal) := by
  unfold qAt nextQ; rw [off_eq]; exact gQ_apply (reads m c hQ hK hV hD t) r j

theorem final4 : (dats m 0 c).arrAt 4 cfg0.N = gradQ (aQ m c) (aK m c) (aV m c) (aD m c) := by
  refine (dats m 0 c).arrAt_eq_of_covers 4 _ (by decide +kernel) fun t hf y => ?_
  blk_simp
  rw [after4]
  obtain ⟨r, j, rfl⟩ : ∃ (r : Fin 256) (j : Fin 192), y = ix3 0 r j :=
    ⟨y 1, y 2, funext fun a => by match a with | 0 => exact Subsingleton.elim (α := Fin 1) _ _ | 1 => rfl | 2 => rfl⟩
  refine (qAt_apply m c hQ hK hV hD t r j).trans ?_
  have hr : 256 * (t.val % 16) + r.val < 4096 := by have := r.isLt; omega
  exact congrArg (gradQ (aQ m c) (aK m c) (aV m c) (aD m c)) (a₁ := ix3 (hd t) ⟨_, hr⟩ j) (by blk_ext [idx t, hd])

theorem final5 : (dats m 0 c).arrAt 5 cfg0.N = gradK (aQ m c) (aK m c) (aV m c) (aD m c) := by
  refine (dats m 0 c).arrAt_eq_of_covers 5 _ (by decide +kernel) fun t hf y => ?_
  have ht := (flush0_5 t).1 hf
  blk_simp
  rw [after5]
  obtain ⟨s, j, rfl⟩ : ∃ (s : Fin 4096) (j : Fin 192), y = ix3 0 s j :=
    ⟨y 1, y 2, funext fun a => by match a with | 0 => exact Subsingleton.elim (α := Fin 1) _ _ | 1 => rfl | 2 => rfl⟩
  refine (kAt_apply m c hQ hK hV hD t.val t.isLt s j).trans ?_
  rw [ht, sum_tiles fun r => gs (hA m c t) r s.val * (hA m c t).q r j]
  exact congrArg (gradK (aQ m c) (aK m c) (aV m c) (aD m c)) (a₁ := ix3 (hd t) s j) (by blk_ext [idx t, hd])

theorem final6 : (dats m 0 c).arrAt 6 cfg0.N = gradV (aQ m c) (aK m c) (aV m c) (aD m c) := by
  refine (dats m 0 c).arrAt_eq_of_covers 6 _ (by decide +kernel) fun t hf y => ?_
  have ht := (flush0_6 t).1 hf
  blk_simp
  rw [after6]
  obtain ⟨s, e, rfl⟩ : ∃ (s : Fin 4096) (e : Fin 128), y = ix3 0 s e :=
    ⟨y 1, y 2, funext fun a => by match a with | 0 => exact Subsingleton.elim (α := Fin 1) _ _ | 1 => rfl | 2 => rfl⟩
  refine (vAt_apply m c hQ hK hV hD t.val t.isLt s e).trans ?_
  rw [ht, sum_tiles fun r => w (hA m c t) r s.val * ((hA m c t).d r e * (1 / l (hA m c t) r))]
  exact congrArg (gradV (aQ m c) (aK m c) (aV m c) (aD m c)) (a₁ := ix3 (hd t) s e) (by blk_ext [idx t, hd])

end

end Cert.KernelIdeal.Band

end
-- ==== Proof.Ref.lean ====
/- The reference over the reals: its three results, read at an index, are the specification's. -/
module

public import proofs.«01_k».proof.Proof.Spec
public import proofs.«01_k».proof.Proof.Gen.ReferenceIdeal.Run
public import Idealize.ShloMosaic.Lib.WordCmp
public import Idealize.ShloMosaic.Lib.Tactic.CleanTypes

@[expose] public section

set_option maxRecDepth 16384

noncomputable section

namespace Cert.ReferenceIdeal.Read

open Idealize.ShloMosaic Idealize.ShloMosaic.TcCoe Cert.Attn Finset
open Cert.ReferenceIdeal Cert.ReferenceIdeal.Facts₀

/-! ## The reference's stages, named -/

section
variable (q k : FVec Ideal S16x4096x192 .bf16) (v : FVec Ideal S16x4096x128 .bf16) (d : FVec Ideal S4096x2048 .bf16)

/-- A maximum along the last axis. -/
def maxLast {a b n : ℕ} (x : FVec Ideal ⟨3, ![a, b, n]⟩ .f32) (init : FVec Ideal S_ .f32)
    (h : (⟨3, ![a, b, n]⟩ : Shape).ReducesTo [2] ⟨2, ![a, b]⟩) (hu : 0 < S_.numel) : FVec Ideal ⟨2, ![a, b]⟩ .f32 :=
  Host.reduce FloatOps.maximumf x init h hu
/-- A row's chunk. -/
def chunk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
def mask : IVec S16x4096x4096 1 :=
  broadcastInDim S16x4096x4096 ![1, 2] bcast_S4096x4096_S16x4096x4096_1_2 (cmpi .sle (broadcastInDim S4096x4096 ![0, 1] bcast_S1x4096_S4096x4096_0_1 (broadcastInDim S1x4096 ![1] bcast_S4096_S1x4096_1 chunk)) (broadcastInDim S4096x4096 ![0, 1] bcast_S4096x1_S4096x4096_0_1 (broadcastInDim S4096x1 ![0] bcast_S4096_S4096x1_0 chunk)))
def score : FVec Ideal S16x4096x4096 .f32 :=
  select mask (mulf (Host.dotGeneral dot_S16x4096x192_S16x4096x192_S16x4096x4096_2_2_1_1_0_0 none (extf .f32 q bitsLt_bf16_f32) (extf .f32 k bitsLt_bf16_f32)) (broadcastInDim S16x4096x4096 ![] bcast_S_S16x4096x4096 (constant S_ .f32 0x3D93CD3A#32))) (broadcastInDim S16x4096x4096 ![] bcast_S_S16x4096x4096 (id (constant S_ .f32 0xFF800000#32)))
def rowMax : FVec Ideal S16x4096 .f32 :=
  maxLast (score q k) (constant (F := Ideal) S_ .f32 0xFF800000#32) reducesTo_S16x4096x4096_S16x4096_d2 h_S_
def big : FVec Ideal S16x4096 .f32 :=
  maximumf (broadcastInDim S16x4096 ![] bcast_S_S16x4096 (constant S_ .f32 0xFF800000#32)) (rowMax q k)
def wt : FVec Ideal S16x4096x4096 .f32 :=
  Host.exp (subf (score q k) (broadcastInDim S16x4096x4096 ![0, 1, 2] bcast_S16x4096x1_S16x4096x4096_0_1_2 (broadcastInDim S16x4096x1 ![0, 1] bcast_S16x4096_S16x4096x1_0_1 (big q k))))
def den : FVec Ideal S16x4096x1 .f32 :=
  broadcastInDim S16x4096x1 ![0, 1] bcast_S16x4096_S16x4096x1_0_1 (Host.reduceAdd (wt q k) (constant S_ .f32 0x00000000#32) reducesTo_S16x4096x4096_S16x4096_d2 h_S_)
def prob : FVec Ideal S16x4096x4096 .f32 :=
  Host.divf (wt q k) (broadcastInDim S16x4096x4096 ![0, 1, 2] bcast_S16x4096x1_S16x4096x4096_0_1_2 (den q k))
def grad : FVec Ideal S16x4096x128 .f32 :=
  transpose S16x4096x128 [1, 0, 2] (shapeCast S4096x16x128 (extf .f32 d bitsLt_bf16_f32) shapeCasts_S4096x2048_S4096x16x128) transposes_S4096x16x128_S16x4096x128_1_0_2
def gV : FVec Ideal S16x4096x128 .f32 :=
  transpose S16x4096x128 [0, 2, 1] (Host.dotGeneral dot_S16x4096x128_S16x4096x4096_S16x128x4096_1_1_2_2_0_0 none (grad d) (prob q k)) transposes_S16x128x4096_S16x4096x128_0_2_1
def gP : FVec Ideal S16x4096x4096 .f32 :=
  Host.dotGeneral dot_S16x4096x128_S16x4096x128_S16x4096x4096_2_2_1_1_0_0 none (grad d) (extf .f32 v bitsLt_bf16_f32)
def share : FVec Ideal S16x4096x1 .f32 :=
  Host.negf (shapeCast S16x4096x1 (Host.reduceAdd (mulf (mulf (gP v d) (broadcastInDim S16x4096x4096 ![0, 1, 2] bcast_S16x4096x1_S16x4096x4096_0_1_2 (Host.divf (broadcastInDim S16x4096x1 ![] bcast_S_S16x4096x1 (constant S_ .f32 0x3F800000#32)) (mulf (den q k) (den q k))))) (wt q k)) (constant S_ .f32 0x00000000#32) reducesTo_S16x4096x4096_S16x4096_d2 h_S_) shapeCasts_S16x4096_S16x4096x1)
def gW : FVec Ideal S16x4096x4096 .f32 :=
  addf (Host.divf (gP v d) (broadcastInDim S16x4096x4096 ![0, 1, 2] bcast_S16x4096x1_S16x4096x4096_0_1_2 (den q k))) (broadcastInDim S16x4096x4096 ![0, 1] bcast_S16x4096_S16x4096x4096_0_1 (Host.reduceAdd (share q k v d) (constant S_ .f32 0x00000000#32) reducesTo_S16x4096x1_S16x4096_d2 h_S_))
def gS : FVec Ideal S16x4096x4096 .f32 :=
  mulf (select mask (mulf (gW q k v d) (wt q k)) (broadcastInDim S16x4096x4096 ![] bcast_S_S16x4096x4096 (constant S_ .f32 0x00000000#32))) (broadcastInDim S16x4096x4096 ![] bcast_S_S16x4096x4096 (constant S_ .f32 0x3D93CD3A#32))
def gK : FVec Ideal S16x4096x192 .f32 :=
  Host.dotGeneral dot_S16x4096x4096_S16x4096x192_S16x4096x192_1_1_2_2_0_0 none (gS q k v d) (extf .f32 q bitsLt_bf16_f32)
def gQ : FVec Ideal S16x4096x192 .f32 :=
  Host.dotGeneral dot_S16x4096x4096_S16x4096x192_S16x4096x192_2_1_1_2_0_0 none (gS q k v d) (extf .f32 k bitsLt_bf16_f32)
end

section
variable (m : (ℓ : Loc nD τ sig) → Buf (Elt Ideal) ℓ) (c : Dev nD)
theorem res_v : Value.res_main_v49 m c = gV (m ((c.tc : Thread nD τ).loc main_arg0)) (m ((c.tc : Thread nD τ).loc main_arg1)) (m ((c.tc : Thread nD τ).loc main_arg3)) := rfl
theorem res_k : Value.res_main_v66 m c = gK (m ((c.tc : Thread nD τ).loc main_arg0)) (m ((c.tc : Thread nD τ).loc main_arg1)) (m ((c.tc : Thread nD τ).loc main_arg2)) (m ((c.tc : Thread nD τ).loc main_arg3)) := rfl
theorem res_q : Value.res_main_v67 m c = gQ (m ((c.tc : Thread nD τ).loc main_arg0)) (m ((c.tc : Thread nD τ).loc main_arg1)) (m ((c.tc : Thread nD τ).loc main_arg2)) (m ((c.tc : Thread nD τ).loc main_arg3)) := rfl
end

/-! ## The stages at an index -/

theorem chunk_apply (s : Fin 4096) : chunk (ix1 s) = BitVec.ofNat 32 (s.val / 64) := by
  pointwise [chunk]
  revert s
  decide +kernel

theorem select_vis {α : Type} (p : Prop) [Decidable p] (x y : α) :
    Scalar.select (BitVec.ofBool (decide p)) x y = if p then x else y := by
  by_cases h : p <;> simp [h, Scalar.select]

theorem mask_apply (h : Fin 16) (r s : Fin 4096) : mask (ix3 h r s) = BitVec.ofBool (decide (vis r.val s.val)) := by
  have hr := r.isLt
  have hs := s.isLt
  pointwise [mask]
  rw [chunk_apply, chunk_apply, WordCmp.cmpi_sle_ofNat (by norm_num; omega) (by norm_num; omega)]
  rfl

theorem neg_top : Ideal.ofBits .f32 0xFF800000#32 = (⊥ : EReal) := by simp [Ideal.ofBits, Ideal.ieee]

theorem max_bot {s : Shape} (x y : FVec Ideal s .f32) (i : s.Idx) {z : EReal} (hx : x i = (⊥ : EReal)) (hy : y i = z) :
    maximumf x y i = z := by
  refine (congrArg₂ (fun a b : EReal => max a b) hx hy).trans ?_
  exact max_eq_right bot_le

theorem maxLast_apply {a b n : ℕ} (x : FVec Ideal ⟨3, ![a, b, n]⟩ .f32) (y : EReal)
    (h : (⟨3, ![a, b, n]⟩ : Shape).ReducesTo [2] ⟨2, ![a, b]⟩) (hu : 0 < S_.numel) (i : Fin a) (j : Fin b) :
    maxLast x (fun _ => y) h hu (ix2 i j) = univ.fold max y fun s : Fin n => x (ix3 i j s) :=
  (Host.reduce_eq_fold _ x _ h hu _).trans (Shape.ReducesTo.fold_fiber_r3_a2 h _ _ _ _)

section
variable {q k : FVec Ideal S16x4096x192 .bf16} {v : FVec Ideal S16x4096x128 .bf16} {d : FVec Ideal S4096x2048 .bf16}
  (hq : Real' (s := SQ) q) (hk : Real' (s := SQ) k) (hv : Real' (s := SV) v) (hd : Real' (s := SD) d)

include hq hk
theorem score_apply (h : Fin 16) (r s : Fin 4096) : score q k (ix3 h r s) = S (head q k v d h) r.val s.val := by
  pointwise [score]
  simp only [mask_apply, select_vis, head_q (K := k) (V := v) (D := d) h _ hq, head_k (Q := q) (V := v) (D := d) h _ hk, scale_coe, ← EReal.coe_mul, coe_sum]
  rw [show id (constant (F := Ideal) S_ .f32 0xFF800000#32) ix0 = (⊥ : EReal) from neg_top]
  rfl

theorem rowMax_apply (h : Fin 16) (r : Fin 4096) : rowMax q k (ix2 h r) = top (head q k v d h) r.val := by
  have e : (constant (F := Ideal) S_ .f32 0xFF800000#32) = fun _ => (⊥ : EReal) := funext fun _ => neg_top
  rw [rowMax, e]
  refine (maxLast_apply _ _ _ _ h r).trans (Eq.trans ?_ (sup_fold (S (head q k v d h) r.val)))
  exact congrArg (univ.fold max ⊥) (funext fun s => score_apply (v := v) (d := d) hq hk h r s)

theorem big_apply (h : Fin 16) (r : Fin 4096) : big q k (ix2 h r) = top (head q k v d h) r.val :=
  max_bot _ _ _ (neg_top) (rowMax_apply (v := v) (d := d) hq hk h r)

theorem wt_apply (h : Fin 16) (r s : Fin 4096) : wt q k (ix3 h r s) = (w (head q k v d h) r.val s.val : EReal) := by
  pointwise [wt]
  rw [big_apply (v := v) (d := d) hq hk, score_apply (v := v) (d := d) hq hk, exp_S]

theorem den_apply (h : Fin 16) (r : Fin 4096) (u : Fin 1) : den q k (ix3 h r u) = (l (head q k v d h) r.val : EReal) := by
  pointwise [den]
  simp only [wt_apply (v := v) (d := d) hq hk, coe_sum]
  exact congrArg Real.toEReal (Finset.sum_range (n := 4096) _).symm

theorem prob_apply (h : Fin 16) (r s : Fin 4096) :
    prob q k (ix3 h r s) = ((w (head q k v d h) r.val s.val * (1 / l (head q k v d h) r.val) : ℝ) : EReal) := by
  pointwise [prob]
  rw [wt_apply (v := v) (d := d) hq hk, den_apply (v := v) (d := d) hq hk, div_l]

omit hq hk
include hd
theorem grad_apply (h : Fin 16) (r : Fin 4096) (e : Fin 128) : grad d (ix3 h r e) = ((head q k v d h).d r.val e : EReal) := by
  pointwise [grad]
  exact head_d (Q := q) (K := k) (V := v) h r hd e _ (show h.val * 128 + e.val = 128 * h.val + e.val by omega)

include hq hk
theorem gV_apply (h : Fin 16) (s : Fin 4096) (e : Fin 128) : gV q k d (ix3 h s e) = (dv (head q k v d h) s.val e : EReal) := by
  pointwise [gV]
  simp only [grad_apply (q := q) (k := k) (v := v) hd, prob_apply (v := v) (d := d) hq hk, ← EReal.coe_mul, coe_sum]
  refine congrArg Real.toEReal ((Finset.sum_congr rfl fun r _ => ?_).trans (Finset.sum_range (n := 4096) _).symm)
  ring

omit hq hk
include hv
theorem gP_apply (h : Fin 16) (r s : Fin 4096) : gP v d (ix3 h r s) = (a (head q k v d h) r.val s.val : EReal) := by
  pointwise [gP]
  simp only [grad_apply (q := q) (k := k) (v := v) hd, head_v (Q := q) (K := k) (D := d) h _ hv, ← EReal.coe_mul, coe_sum]
  rfl

include hq hk
theorem share_apply (h : Fin 16) (r : Fin 4096) (u : Fin 1) : share q k v d (ix3 h r u) = ((- dl (head q k v d h) r.val : ℝ) : EReal) := by
  pointwise [share]
  have e : Ideal.div 1 ((l (head q k v d h) r.val * l (head q k v d h) r.val : ℝ) : EReal) = ((1 / (l (head q k v d h) r.val * l (head q k v d h) r.val) : ℝ) : EReal) := by
    rw [← EReal.coe_one, div_ll, one_mul]
  simp only [den_apply (v := v) (d := d) hq hk, gP_apply (q := q) (k := k) hv hd, wt_apply (v := v) (d := d) hq hk, ← EReal.coe_mul, e, coe_sum]
  rw [← EReal.coe_neg]
  unfold dl; rw [Finset.sum_range]

theorem gW_apply (h : Fin 16) (r s : Fin 4096) :
    gW q k v d (ix3 h r s) = ((a (head q k v d h) r.val s.val * (1 / l (head q k v d h) r.val) - dl (head q k v d h) r.val : ℝ) : EReal) := by
  pointwise [gW]
  simp only [share_apply hq hk hv hd, gP_apply (q := q) (k := k) hv hd, den_apply (v := v) (d := d) hq hk, div_l, coe_sum, ← EReal.coe_add]
  simp [sub_eq_add_neg]

theorem gS_apply (h : Fin 16) (r s : Fin 4096) : gS q k v d (ix3 h r s) = (gs (head q k v d h) r.val s.val : EReal) := by
  pointwise [gS]
  rw [mask_apply, select_vis, gW_apply hq hk hv hd, wt_apply (v := v) (d := d) hq hk, scale_coe, ← EReal.coe_mul, ← EReal.coe_mul]
  split
  · rfl
  · rename_i n; rw [gs_zero _ n]; rfl

theorem gK_apply (h : Fin 16) (s : Fin 4096) (j : Fin 192) : gK q k v d (ix3 h s j) = (dk (head q k v d h) s.val j : EReal) := by
  pointwise [gK]
  simp only [gS_apply hq hk hv hd, head_q (K := k) (V := v) (D := d) h _ hq, ← EReal.coe_mul, coe_sum]
  unfold dk; rw [Finset.sum_range]

theorem gQ_apply (h : Fin 16) (r : Fin 4096) (j : Fin 192) : gQ q k v d (ix3 h r j) = (dq (head q k v d h) r.val j : EReal) := by
  pointwise [gQ]
  simp only [gS_apply hq hk hv hd, head_k (Q := q) (V := v) (D := d) h _ hk, ← EReal.coe_mul, coe_sum]
  unfold dq; rw [Finset.sum_range]

/-- The reference's three results are the specification's. -/
theorem gQ_eq : gQ q k v d = gradQ q k v d :=
  funext fun i => (congrArg (gQ q k v d) (ix3_eta (n0 := 16) (n1 := 4096) (n2 := 192) i).symm).trans
    (gQ_apply hq hk hv hd (i 0) (i 1) (i 2))
theorem gK_eq : gK q k v d = gradK q k v d :=
  funext fun i => (congrArg (gK q k v d) (ix3_eta (n0 := 16) (n1 := 4096) (n2 := 192) i).symm).trans
    (gK_apply hq hk hv hd (i 0) (i 1) (i 2))
omit hv
theorem gV_eq : gV q k d = gradV q k v d :=
  funext fun i => (congrArg (gV q k d) (ix3_eta (n0 := 16) (n1 := 4096) (n2 := 128) i).symm).trans
    (gV_apply (v := v) hq hk hd (i 0) (i 1) (i 2))
end

end Cert.ReferenceIdeal.Read

end
-- ==== Proof.Attn.lean ====
/- The claims about the attention gradient: its frames, and its kernel's agreement with the reference over the reals. -/
module

public import proofs.«01_k».proof.Defs
public import proofs.«01_k».proof.Proof.Value
public import proofs.«01_k».proof.Proof.Ref
public import proofs.«01_k».proof.Proof.Gen.Kernel

@[expose] public section

set_option maxRecDepth 100000

noncomputable section

namespace Cert.AttnProof

open Idealize.ShloMosaic Idealize.ShloMosaic.TcCoe Idealize.SL.Sem Cert.Attn

/-! ## The two printings of the kernel are one program -/

theorem body_eq : @Cert.Kernel.cc0_attn_bwd Bits _ _ = @Cert.KernelIdeal.cc0_attn_bwd Bits _ _ := rfl

theorem bodies_eq : (Cert.Kernel.defs₀ (F := Bits)) = Cert.KernelIdeal.defs₀ (F := Bits) := by
  unfold Cert.Kernel.defs₀ Cert.KernelIdeal.defs₀
  refine congrArg Defs.onTc (funext fun l => ?_)
  match l with
  | 0 => exact funext fun ⟨t, s⟩ => congrFun (congrFun (congrFun (congrFun (congrFun (congrFun (congrFun (congrFun (congrFun
      (congrFun (congrFun (congrFun (congrFun (congrFun (congrFun body_eq _) _) _) _) _) _) _) _) _) _) _) _) _) _) _

theorem defs_eq : (Cert.Kernel.defs (F := Bits)) = Cert.KernelIdeal.defs (F := Bits) := congrArg (Pipeline.defs _) bodies_eq

theorem frame_kernel : Cert.quiescent_Kernel := fun m ρ _ => by
  have h := Cert.KernelIdeal.Band.frame (F := Bits) m ρ
  rw [← defs_eq] at h
  exact h

theorem frame_ideal : Cert.quiescent_KernelIdeal := fun m ρ _ => Cert.KernelIdeal.Band.frame (F := Ideal) m ρ

theorem facts_finite : Cert.Pre_finite.Facts := ⟨by decide, by decide, by decide⟩

theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- What the precondition says of one array: its elements are real numbers. -/
theorem real_of_olt {s : Shape} (x : FVec Ideal s .bf16) (y : FVec Ideal s .bf16) (hy : ∀ i, y i = (⊤ : EReal))
    (h : cmpf .olt (Host.absf x) y = fun _ => 1#1) : Real' (s := s) x := fun i => by
  have e : Ideal.cmp .olt (max (x i : EReal) (-(x i : EReal))) (y i) = 1#1 := congrFun h i
  rw [hy i] at e
  have lt : max (x i : EReal) (-(x i : EReal)) < ⊤ := by
    by_contra n
    simp [Ideal.cmp, n] at e
  refine (EReal.coe_toReal (ne_of_lt (lt_of_le_of_lt (le_max_left _ _) lt)) fun b => ?_).symm
  have := lt_of_le_of_lt (le_max_right _ _) lt
  rw [b] at this
  simp at this

theorem top_word : Ideal.ofBits .bf16 0x7F80#16 = (⊤ : EReal) := by simp [Ideal.ofBits, Ideal.ieee]

theorem algebraic : Cert.algebraic_KernelIdeal_ReferenceIdeal_pre_finite (hPre_finite := facts_finite) := by
  intro m ρ m' ρ' hpre hagree
  have hQ c : Real' (KernelIdeal.Band.aQ m c) := real_of_olt _ _ (fun _ => top_word) (hpre c).1
  have hK c : Real' (KernelIdeal.Band.aK m c) := real_of_olt _ _ (fun _ => top_word) (hpre c).2.1
  have hV c : Real' (KernelIdeal.Band.aV m c) := real_of_olt _ _ (fun _ => top_word) (hpre c).2.2.1
  have hD c : Real' (KernelIdeal.Band.aD m c) := real_of_olt _ _ (fun _ => top_word) (hpre c).2.2.2
  have hq (c : Dev KernelIdeal.nD) : ReferenceIdeal.Value.res_main_v67 m' c = gradQ (KernelIdeal.Band.aQ m c) (KernelIdeal.Band.aK m c) (KernelIdeal.Band.aV m c) (KernelIdeal.Band.aD m c) := by
    refine (ReferenceIdeal.Read.res_q m' c).trans ?_
    rw [(hagree c).1, (hagree c).2.1, (hagree c).2.2.1, (hagree c).2.2.2]
    exact ReferenceIdeal.Read.gQ_eq (hQ c) (hK c) (hV c) (hD c)
  have hk (c : Dev KernelIdeal.nD) : ReferenceIdeal.Value.res_main_v66 m' c = gradK (KernelIdeal.Band.aQ m c) (KernelIdeal.Band.aK m c) (KernelIdeal.Band.aV m c) (KernelIdeal.Band.aD m c) := by
    refine (ReferenceIdeal.Read.res_k m' c).trans ?_
    rw [(hagree c).1, (hagree c).2.1, (hagree c).2.2.1, (hagree c).2.2.2]
    exact ReferenceIdeal.Read.gK_eq (hQ c) (hK c) (hV c) (hD c)
  have hv (c : Dev KernelIdeal.nD) : ReferenceIdeal.Value.res_main_v49 m' c = gradV (KernelIdeal.Band.aQ m c) (KernelIdeal.Band.aK m c) (KernelIdeal.Band.aV m c) (KernelIdeal.Band.aD m c) := by
    refine (ReferenceIdeal.Read.res_v m' c).trans ?_
    rw [(hagree c).1, (hagree c).2.1, (hagree c).2.2.2]
    exact ReferenceIdeal.Read.gV_eq (hQ c) (hK c) (hD c)
  refine ⟨fun c => gradQ (KernelIdeal.Band.aQ m c) (KernelIdeal.Band.aK m c) (KernelIdeal.Band.aV m c) (KernelIdeal.Band.aD m c),
    fun c => gradK (KernelIdeal.Band.aQ m c) (KernelIdeal.Band.aK m c) (KernelIdeal.Band.aV m c) (KernelIdeal.Band.aD m c),
    fun c => gradV (KernelIdeal.Band.aQ m c) (KernelIdeal.Band.aK m c) (KernelIdeal.Band.aV m c) (KernelIdeal.Band.aD m c), ?_, ?_⟩
  · exact (θ_run KernelIdeal.defs _ _).mono (fun r h c =>
        ⟨((h.1.1 c).1 4).trans (KernelIdeal.Band.final4 m c (hQ c) (hK c) (hV c) (hD c)),
        ((h.1.1 c).1 5).trans (KernelIdeal.Band.final5 m c (hQ c) (hK c) (hV c) (hD c)),
        ((h.1.1 c).1 6).trans (KernelIdeal.Band.final6 m c (hQ c) (hK c) (hV c) (hD c)), h.2.1 c⟩)
      (θ_run_and (KernelIdeal.Band.run_main (F := Ideal) m ρ) (KernelIdeal.Band.frame (F := Ideal) m ρ))
  · exact (θ_run ReferenceIdeal.defs _ _).mono (fun r h c =>
        ⟨(h c).1.trans (hq c), (h c).2.1.trans (hk c), (h c).2.2.1.trans (hv c), (h c).2.2.2⟩)
      (ReferenceIdeal.Value.run (F := Ideal) m' ρ')

end Cert.AttnProof

end
-- ==== Proof.Prod.lean ====
/- Products of two matrices over the reals: the sums that they are, and one step of a blocked product at an index. -/
module

public import Idealize.ShloMosaic.Lib.Pointwise
public import Idealize.ShloMosaic.Lib.Pointwise.IndexVar
public import Idealize.ShloMosaic.Lib.Claim
public import Idealize.ShloMosaic.Lib.Pipeline.ValueKit

@[expose] public section

noncomputable section

namespace Cert.Prod

open Idealize.ShloMosaic Idealize.ShloMosaic.TcCoe

/-- The shape of a matrix. -/
abbrev Mat (n m : ℕ) : Shape := ⟨2, ![n, m]⟩

variable {M N K : ℕ}

/-- The product `x w`. -/
def nn (x : (Mat M K).Idx → EReal) (w : (Mat K N).Idx → EReal) : (Mat M N).Idx → EReal :=
  fun i => ∑ l : Fin K, x (ix2 (i 0) l) * w (ix2 l (i 1))

/-- The product `y wᵀ`: the gradient of `x w` with respect to `x`, from the gradient `y` of the product. -/
def nt (y : (Mat M K).Idx → EReal) (w : (Mat N K).Idx → EReal) : (Mat M N).Idx → EReal :=
  fun i => ∑ l : Fin K, y (ix2 (i 0) l) * w (ix2 (i 1) l)

/-- The product `xᵀ y`: the gradient of `x w` with respect to `w`. -/
def tn (x : (Mat K M).Idx → EReal) (y : (Mat K N).Idx → EReal) : (Mat M N).Idx → EReal :=
  fun i => ∑ l : Fin K, x (ix2 l (i 0)) * y (ix2 l (i 1))

/-- A matrix added to another, index by index. -/
def plus (x p : (Mat M N).Idx → EReal) : (Mat M N).Idx → EReal := fun i => x i + p i

section
variable (a : (Mat M K).Idx → EReal) (b : (Mat K N).Idx → EReal) (c : (Mat N K).Idx → EReal) (d : (Mat K M).Idx → EReal)
  (acc : (Mat M N).Idx → EReal) (i : (Mat M N).Idx)

theorem matmul_nn (wf : DotDims.WF (Mat M K) (Mat K N) (Mat M N) [1] [0] [0] [1] [] []) :
    Ideal.matmul (⟨[1], [0], [0], [1], [], [], wf⟩ : DotDims (Mat M K) (Mat K N) (Mat M N)) a b acc i = acc i + nn a b i := by
  refine Ideal.matmul_apply₁_of _ (a := 1) rfl (K := K) rfl _ _ _ _ (fun s => ix2 (i 0) s) (fun s => ix2 s (i 1)) (fun s => ?_)
    (fun s => ?_)
  · funext a; match a with | 0 => rfl | 1 => rfl
  · funext a; match a with | 0 => rfl | 1 => rfl

theorem matmul_nt (wf : DotDims.WF (Mat M K) (Mat N K) (Mat M N) [1] [1] [0] [0] [] []) :
    Ideal.matmul (⟨[1], [1], [0], [0], [], [], wf⟩ : DotDims (Mat M K) (Mat N K) (Mat M N)) a c acc i = acc i + nt a c i := by
  refine Ideal.matmul_apply₁_of _ (a := 1) rfl (K := K) rfl _ _ _ _ (fun s => ix2 (i 0) s) (fun s => ix2 (i 1) s) (fun s => ?_)
    (fun s => ?_)
  · funext a; match a with | 0 => rfl | 1 => rfl
  · funext a; match a with | 0 => rfl | 1 => rfl

theorem matmul_tn (wf : DotDims.WF (Mat K M) (Mat K N) (Mat M N) [0] [0] [1] [1] [] []) :
    Ideal.matmul (⟨[0], [0], [1], [1], [], [], wf⟩ : DotDims (Mat K M) (Mat K N) (Mat M N)) d b acc i = acc i + tn d b i := by
  refine Ideal.matmul_apply₁_of _ (a := 0) rfl (K := K) rfl _ _ _ _ (fun s => ix2 s (i 0)) (fun s => ix2 s (i 1)) (fun s => ?_)
    (fun s => ?_)
  · funext a; match a with | 0 => rfl | 1 => rfl
  · funext a; match a with | 0 => rfl | 1 => rfl

end

/-! One step of a blocked product: the accumulator and one pair of blocks. -/

section
variable (acc : FVec Ideal (Mat M N) .f32) (i : (Mat M N).Idx) (h : (Mat M N).ShapeCasts (Mat M N))

theorem step_nn (wf : DotDims.WF (Mat M K) (Mat K N) (Mat M N) [1] [0] [0] [1] [] []) (a : FVec Ideal (Mat M K) .bf16) (b : FVec Ideal (Mat K N) .bf16) :
    (shapeCast (Mat M N) (addf acc (matmul (⟨[1], [0], [0], [1], [], [], wf⟩ : DotDims (Mat M K) (Mat K N) (Mat M N))
      none a b (constant (Mat M N) .f32 0x00000000#32))) h i : EReal) = acc i + nn a b i := by
  rw [shapeCast_self]
  refine (congrArg (acc i + ·) (matmul_nn a b _ i wf)).trans ?_
  pointwise

theorem step_nt (wf : DotDims.WF (Mat M K) (Mat N K) (Mat M N) [1] [1] [0] [0] [] []) (a : FVec Ideal (Mat M K) .bf16) (b : FVec Ideal (Mat N K) .bf16) :
    (shapeCast (Mat M N) (addf acc (matmul (⟨[1], [1], [0], [0], [], [], wf⟩ : DotDims (Mat M K) (Mat N K) (Mat M N))
      none a b (constant (Mat M N) .f32 0x00000000#32))) h i : EReal) = acc i + nt a b i := by
  rw [shapeCast_self]
  refine (congrArg (acc i + ·) (matmul_nt a b _ i wf)).trans ?_
  pointwise

theorem step_tn (wf : DotDims.WF (Mat K M) (Mat K N) (Mat M N) [0] [0] [1] [1] [] []) (a : FVec Ideal (Mat K M) .bf16) (b : FVec Ideal (Mat K N) .bf16) :
    (shapeCast (Mat M N) (addf acc (matmul (⟨[0], [0], [1], [1], [], [], wf⟩ : DotDims (Mat K M) (Mat K N) (Mat M N))
      none a b (constant (Mat M N) .f32 0x00000000#32))) h i : EReal) = acc i + tn a b i := by
  rw [shapeCast_self]
  refine (congrArg (acc i + ·) (matmul_tn b a _ i wf)).trans ?_
  pointwise

/-- The block that the accumulator starts from. -/
theorem zero_block :
    (shapeCast (Mat M N) (broadcast (Mat M N) (Scalar.ofBits (F := Ideal) .f32 0x00000000#32)) h i : EReal) = 0 := by
  rw [shapeCast_self]
  pointwise

end

/-! The references' products. -/

section
variable (h h' : FTy.bf16.bits < FTy.f32.bits)

theorem host_nn (wf : DotDims.WF (Mat M K) (Mat K N) (Mat M N) [1] [0] [0] [1] [] []) (x : FVec Ideal (Mat M K) .bf16) (w : FVec Ideal (Mat K N) .bf16) :
    Host.dotGeneral (⟨[1], [0], [0], [1], [], [], wf⟩ : DotDims (Mat M K) (Mat K N) (Mat M N)) none (extf .f32 x h) (extf .f32 w h')
      = (nn x w : FVec Ideal (Mat M N) .f32) :=
  funext fun i => (matmul_nn x w _ i wf).trans (zero_add _)

theorem host_nt (wf : DotDims.WF (Mat M K) (Mat N K) (Mat M N) [1] [1] [0] [0] [] []) (x : FVec Ideal (Mat M K) .bf16) (w : FVec Ideal (Mat N K) .bf16) :
    Host.dotGeneral (⟨[1], [1], [0], [0], [], [], wf⟩ : DotDims (Mat M K) (Mat N K) (Mat M N)) none (extf .f32 x h) (extf .f32 w h')
      = (nt x w : FVec Ideal (Mat M N) .f32) :=
  funext fun i => (matmul_nt x w _ i wf).trans (zero_add _)

/-- The gradient of the weight comes as the transpose of a product with its operands swapped. -/
theorem host_tn (wf : DotDims.WF (Mat K N) (Mat K M) (Mat N M) [0] [0] [1] [1] [] []) (x : FVec Ideal (Mat K M) .bf16) (y : FVec Ideal (Mat K N) .bf16)
    (ht : (Mat N M).Transposes [1, 0] (Mat M N)) :
    transpose (Mat M N) [1, 0] (Host.dotGeneral (⟨[0], [0], [1], [1], [], [], wf⟩ : DotDims (Mat K N) (Mat K M) (Mat N M)) none
      (extf .f32 y h) (extf .f32 x h')) ht = (tn x y : FVec Ideal (Mat M N) .f32) := by
  funext i
  refine (transpose_apply [1, 0] _ ht i (ix2 (i 1) (i 0)) (fun b => by match b with | 0 => rfl | 1 => rfl)).trans ?_
  exact ((matmul_tn x y _ (ix2 (i 1) (i 0)) wf).trans (zero_add _)).trans (Finset.sum_congr rfl fun l _ => mul_comm (y (ix2 l (i 1)) : EReal) (x (ix2 l (i 0))))

end

end Cert.Prod

end
-- ==== Proof.InProj.lean ====
/- The input projection and its two gradients: the product in one step per block, the weight's gradient over two
   points, the input's over eleven. -/
module

public import proofs.«01_k».proof.Defs
public import proofs.«01_k».proof.Proof.Prod
public import proofs.«01_k».proof.Proof.Gen.In
public import proofs.«01_k».proof.Proof.Gen.InIdeal.Value
public import proofs.«01_k».proof.Proof.Gen.InRefIdeal.Run
public import proofs.«01_k».proof.Proof.Gen.InDw
public import proofs.«01_k».proof.Proof.Gen.InDwIdeal.Value
public import proofs.«01_k».proof.Proof.Gen.InDwRefIdeal.Run
public import proofs.«01_k».proof.Proof.Gen.InDx
public import proofs.«01_k».proof.Proof.Gen.InDxIdeal.Value
public import proofs.«01_k».proof.Proof.Gen.InDxRefIdeal.Run
public import Idealize.ShloMosaic.Lib.Quiescent

@[expose] public section

set_option maxRecDepth 16384

noncomputable section

/-! The product. -/

namespace Cert.InIdeal.Mm

open Idealize.ShloMosaic Idealize.ShloMosaic.TcCoe Cert.Prod Cert.InIdeal.Gen

variable (m : (ℓ : Loc nD τ sig) → Buf (Elt Ideal) ℓ) (c : Dev nD)

theorem idx : ∀ t : Fin grid0.N, win0_0.index t = ![t.val / 11, 0] ∧ win0_1.index t = ![0, t.val % 11]
    ∧ win0_2.index t = ![t.val / 11, t.val % 11] := by decide +kernel

theorem outs (t : Fin cfg0.N) (j : (Mat 1024 1408).Idx) : outsAt0 m c t j = nn (iblk m c 0 t) (iblk m c 1 t) j := by
  unfold outsAt0
  frame_out
  exact (step_nn (M := 1024) (N := 1408) (K := 2048) (k0_pay1 (F := Ideal)) j _ _ (iblk m c 0 t) (iblk m c 1 t)).trans
    ((congrArg (· + _) (zero_block j _)).trans (zero_add _))

theorem final : (dats m 0 c).arrAt 2 cfg0.N
    = (nn (m ((c.tc : Thread nD τ).loc main_arg0)) (m ((c.tc : Thread nD τ).loc main_arg1)) : (Mat 4096 15488).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.InIdeal.Mm

/-! The gradient of the weight. -/

namespace Cert.InDwIdeal.Mm

open Idealize.ShloMosaic Idealize.ShloMosaic.TcCoe Cert.Prod Cert.InDwIdeal.Gen

variable (m : (ℓ : Loc nD τ sig) → Buf (Elt Ideal) ℓ) (c : Dev nD)

theorem idx : ∀ t : Fin grid0.N, win0_0.index t = ![t.val % 2, t.val / 22] ∧ win0_1.index t = ![t.val % 2, t.val / 2 % 11]
    ∧ win0_2.index t = ![t.val / 22, t.val / 2 % 11] := by decide +kernel

theorem step (acc : Vec Ideal S1024x1408 .f32) (x : Vec Ideal S2048x1024 .bf16) (y : Vec Ideal S2048x1408 .bf16) (j : (Mat 1024 1408).Idx) :
    k0_pay2 (F := Ideal) acc x y j = (acc j : EReal) + tn x y j :=
  step_tn (M := 1024) (N := 1408) (K := 2048) acc j _ _ x y

/-- At the point that writes the output back, the block is the sum of the run's two products. -/
theorem outs (t : Fin cfg0.N) (h : t.val % 2 = 1) (j : (Mat 1024 1408).Idx) :
    (outsAt0 m c t.val t.isLt).1 j
      = ∑ s : Fin 2, tn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => tn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (tn (m ((c.tc : Thread nD τ).loc main_arg0)) (m ((c.tc : Thread nD τ).loc main_arg1)) : (Mat 2048 15488).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.InDwIdeal.Mm

/-! The gradient of the input. -/

namespace Cert.InDxIdeal.Mm

open Idealize.ShloMosaic Idealize.ShloMosaic.TcCoe Cert.Prod Cert.InDxIdeal.Gen

variable (m : (ℓ : Loc nD τ sig) → Buf (Elt Ideal) ℓ) (c : Dev nD)

theorem idx : ∀ t : Fin grid0.N, win0_0.index t = ![t.val / 22, t.val % 11] ∧ win0_1.index t = ![t.val / 11 % 2, t.val % 11]
    ∧ win0_2.index t = ![t.val / 22, t.val / 11 % 2] := by decide +kernel

theorem step (acc : Vec Ideal S1024x1024 .f32) (x y : Vec Ideal S1024x1408 .bf16) (j : (Mat 1024 1024).Idx) :
    k0_pay2 (F := Ideal) acc x y j = (acc j : EReal) + nt x y j :=
  step_nt (M := 1024) (N := 1024) (K := 1408) acc j _ _ x y

/-- At the point that writes the output back, the block is the sum of the run's eleven products. -/
theorem outs (t : Fin cfg0.N) (h : t.val % 11 = 10) (j : (Mat 1024 1024).Idx) :
    (outsAt0 m c t.val t.isLt).1 j
      = ∑ s : Fin 11, nt (iblk m c 0 ⟨11 * (t.val / 11) + s.val, Pipeline.run_point_lt_of_flush t h s⟩)
          (iblk m c 1 ⟨11 * (t.val / 11) + s.val, Pipeline.run_point_lt_of_flush t h s⟩) j := by
  trans (outsAt0 m c t.val t.isLt).2 j
  · rw [outsAt0_C m c t (by omega) h]
    frame_out
  rw [Pipeline.eq_sum_fin_of_reset_step_apply_of_flush (fun n h => (outsAt0 m c n h).2) 11 (fun _ => (0 : EReal))
    (fun t j => nt (iblk m c 0 t) (iblk m c 1 t) j)
    (fun t h j => by
      rw [outsAt0_A m c t h (by omega)]; frame_out; rw [step]; exact congrArg (· + _) (zero_block j _))
    (fun t h j => by
      by_cases h1 : t.val % 11 = 10
      · rw [outsAt0_C m c t h h1]; frame_out; rw [step]
        exact congrArg (· + _) (congrFun ((Memref.isWhole_whole cc0_scratch0).read_unread _) j)
      · rw [outsAt0_B m c t h h1]; frame_out; rw [step]
        exact congrArg (· + _) (congrFun ((Memref.isWhole_whole cc0_scratch0).read_unread _) j)) t h j, zero_add]

theorem final : (dats m 0 c).arrAt 2 cfg0.N
    = (nt (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨11 * (t.val / 11) + s.val, Pipeline.run_point_lt_of_flush t h s⟩
  congr 1 <;> blk_ext [iblk, V, idx t, e]

end Cert.InDxIdeal.Mm

/-! The claims. -/

namespace Cert.InProof

open Idealize.ShloMosaic Idealize.ShloMosaic.TcCoe Idealize.SL.Sem Cert.Prod

theorem bodies_eq : Cert.In.defs₀ (F := Bits) = Cert.InIdeal.defs₀ := by
  unfold Cert.In.defs₀ Cert.InIdeal.defs₀
  exact congrArg Defs.onTc (funext fun l => match l with | 0 => funext fun ⟨_, _⟩ => rfl)

theorem frame_kernel : Cert.quiescent_In := fun m ρ _ => by
  have h := Cert.InIdeal.Gen.frame (F := Bits) m ρ
  rw [← show Cert.In.defs (F := Bits) = Cert.InIdeal.defs from congrArg (Pipeline.defs _) bodies_eq] at h
  exact h

theorem frame_ideal : Cert.quiescent_InIdeal := fun m ρ _ => Cert.InIdeal.Gen.frame (F := Ideal) m ρ

theorem frame_ref : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

theorem algebraic : Cert.algebraic_InIdeal_InRefIdeal := fun m ρ m' ρ' _ hagree =>
  ⟨fun c => nn (m ((c.tc : Thread _ _).loc InIdeal.main_arg0)) (m ((c.tc : Thread _ _).loc InIdeal.main_arg1)),
    (θ_run InIdeal.defs _ _).mono (fun r h c => ⟨(h c).1.trans (InIdeal.Mm.final m c), (h c).2⟩)
      (InIdeal.Value.run_blocks (F := Ideal) m ρ),
    (θ_run InRefIdeal.defs _ _).mono (fun r h c => ⟨(h c).1.trans (by
        rw [(hagree c).1, (hagree c).2]
        exact host_nn _ _ _ _ _), (h c).2⟩)
      (InRefIdeal.Value.run (F := Ideal) m' ρ')⟩

end Cert.InProof

namespace Cert.InDwProof

open Idealize.ShloMosaic Idealize.ShloMosaic.TcCoe Idealize.SL.Sem Cert.Prod

theorem bodies_eq : Cert.InDw.defs₀ (F := Bits) = Cert.InDwIdeal.defs₀ := by
  unfold Cert.InDw.defs₀ Cert.InDwIdeal.defs₀
  exact congrArg Defs.onTc (funext fun l => match l with | 0 => funext fun ⟨_, _⟩ => rfl)

theorem frame_kernel : Cert.quiescent_InDw := fun m ρ _ => by
  have h := Cert.InDwIdeal.Gen.frame (F := Bits) m ρ
  rw [← show Cert.InDw.defs (F := Bits) = Cert.InDwIdeal.defs from congrArg (Pipeline.defs _) bodies_eq] at h
  exact h

theorem frame_ideal : Cert.quiescent_InDwIdeal := fun m ρ _ => Cert.InDwIdeal.Gen.frame (F := Ideal) m ρ

theorem frame_ref : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

theorem algebraic : Cert.algebraic_InDwIdeal_InDwRefIdeal := fun m ρ m' ρ' _ hagree =>
  ⟨fun c => tn (m ((c.tc : Thread _ _).loc InDwIdeal.main_arg0)) (m ((c.tc : Thread _ _).loc InDwIdeal.main_arg1)),
    (θ_run InDwIdeal.defs _ _).mono (fun r h c => ⟨(h c).1.trans (InDwIdeal.Mm.final m c), (h c).2⟩)
      (InDwIdeal.Value.run_blocks (F := Ideal) m ρ),
    (θ_run InDwRefIdeal.defs _ _).mono (fun r h c => ⟨(h c).1.trans (by
        rw [(hagree c).1, (hagree c).2]
        exact host_tn _ _ _ _ _ _), (h c).2⟩)
      (InDwRefIdeal.Value.run (F := Ideal) m' ρ')⟩

end Cert.InDwProof

namespace Cert.InDxProof

open Idealize.ShloMosaic Idealize.ShloMosaic.TcCoe Idealize.SL.Sem Cert.Prod

theorem bodies_eq : Cert.InDx.defs₀ (F := Bits) = Cert.InDxIdeal.defs₀ := by
  unfold Cert.InDx.defs₀ Cert.InDxIdeal.defs₀
  exact congrArg Defs.onTc (funext fun l => match l with | 0 => funext fun ⟨_, _⟩ => rfl)

theorem frame_kernel : Cert.quiescent_InDx := fun m ρ _ => by
  have h := Cert.InDxIdeal.Gen.frame (F := Bits) m ρ
  rw [← show Cert.InDx.defs (F := Bits) = Cert.InDxIdeal.defs from congrArg (Pipeline.defs _) bodies_eq] at h
  exact h

theorem frame_ideal : Cert.quiescent_InDxIdeal := fun m ρ _ => Cert.InDxIdeal.Gen.frame (F := Ideal) m ρ

theorem frame_ref : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

theorem algebraic : Cert.algebraic_InDxIdeal_InDxRefIdeal := fun m ρ m' ρ' _ hagree =>
  ⟨fun c => nt (m ((c.tc : Thread _ _).loc InDxIdeal.main_arg0)) (m ((c.tc : Thread _ _).loc InDxIdeal.main_arg1)),
    (θ_run InDxIdeal.defs _ _).mono (fun r h c => ⟨(h c).1.trans (InDxIdeal.Mm.final m c), (h c).2⟩)
      (InDxIdeal.Value.run_blocks (F := Ideal) m ρ),
    (θ_run InDxRefIdeal.defs _ _).mono (fun r h c => ⟨(h c).1.trans (by
        rw [(hagree c).1, (hagree c).2]
        exact host_nt _ _ _ _ _), (h c).2⟩)
      (InDxRefIdeal.Value.run (F := Ideal) m' ρ')⟩

end Cert.InDxProof

end
-- ==== Proof.Up.lean ====
/- The MLP's up product: `x w` in blocks, the whole sum at one point. -/
module

public import proofs.«01_k».proof.Defs
public import proofs.«01_k».proof.Proof.Prod
public import proofs.«01_k».proof.Proof.Gen.Up
public import proofs.«01_k».proof.Proof.Gen.UpIdeal.Value
public import proofs.«01_k».proof.Proof.Gen.UpRefIdeal.Run
public import Idealize.ShloMosaic.Lib.Quiescent

@[expose] public section

set_option maxRecDepth 16384

noncomputable section

namespace Cert.UpIdeal.Mm

open Idealize.ShloMosaic Idealize.ShloMosaic.TcCoe Cert.Prod Cert.UpIdeal.Gen

variable (m : (ℓ : Loc nD τ sig) → Buf (Elt Ideal) ℓ) (c : Dev nD)

theorem idx : ∀ t : Fin grid0.N, win0_0.index t = ![t.val / 8, 0] ∧ win0_1.index t = ![0, t.val % 8]
    ∧ win0_2.index t = ![t.val / 8, t.val % 8] := by decide +kernel

theorem outs (t : Fin cfg0.N) (j : (Mat 1024 1024).Idx) : outsAt0 m c t j = nn (iblk m c 0 t) (iblk m c 1 t) j := by
  unfold outsAt0
  frame_out
  exact (step_nn (M := 1024) (N := 1024) (K := 2048) (k0_pay1 (F := Ideal)) j _ _ (iblk m c 0 t) (iblk m c 1 t)).trans
    ((congrArg (· + _) (zero_block j _)).trans (zero_add _))

theorem final : (dats m 0 c).arrAt 2 cfg0.N
    = (nn (m ((c.tc : Thread nD τ).loc main_arg0)) (m ((c.tc : Thread nD τ).loc main_arg1)) : (Mat 4096 8192).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.UpIdeal.Mm

namespace Cert.UpProof

open Idealize.ShloMosaic Idealize.ShloMosaic.TcCoe Idealize.SL.Sem Cert.Prod

theorem bodies_eq : Cert.Up.defs₀ (F := Bits) = Cert.UpIdeal.defs₀ := by
  unfold Cert.Up.defs₀ Cert.UpIdeal.defs₀
  exact congrArg Defs.onTc (funext fun l => match l with | 0 => funext fun ⟨_, _⟩ => rfl)

theorem frame_kernel : Cert.quiescent_Up := fun m ρ _ => by
  have h := Cert.UpIdeal.Gen.frame (F := Bits) m ρ
  rw [← show Cert.Up.defs (F := Bits) = Cert.UpIdeal.defs from congrArg (Pipeline.defs _) bodies_eq] at h
  exact h

theorem frame_ideal : Cert.quiescent_UpIdeal := fun m ρ _ => Cert.UpIdeal.Gen.frame (F := Ideal) m ρ

theorem frame_ref : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem algebraic : Cert.algebraic_UpIdeal_UpRefIdeal := fun m ρ m' ρ' _ hagree =>
  ⟨fun c => nn (m ((c.tc : Thread _ _).loc UpIdeal.main_arg0)) (m ((c.tc : Thread _ _).loc UpIdeal.main_arg1)),
    (θ_run UpIdeal.defs _ _).mono (fun r h c => ⟨(h c).1.trans (UpIdeal.Mm.final m c), (h c).2⟩)
      (UpIdeal.Value.run_blocks (F := Ideal) m ρ),
    (θ_run UpRefIdeal.defs _ _).mono (fun r h c => ⟨(h c).1.trans (by
        rw [(hagree c).1, (hagree c).2]
        exact host_nn _ _ _ _ _), (h c).2⟩)
      (UpRefIdeal.Value.run (F := Ideal) m' ρ')⟩

end Cert.UpProof

end
-- ==== Proof.UpDw.lean ====
/- The gradient of the MLP's up product with respect to its weight: `xᵀ dy` in blocks, the sum over two points. -/
module

public import proofs.«01_k».proof.Defs
public import proofs.«01_k».proof.Proof.Prod
public import proofs.«01_k».proof.Proof.Gen.UpDw
public import proofs.«01_k».proof.Proof.Gen.UpDwIdeal.Value
public import proofs.«01_k».proof.Proof.Gen.UpDwRefIdeal
public import proofs.«01_k».proof.Proof.Gen.UpDwRefIdeal.Run
public import Idealize.ShloMosaic.Lib.Quiescent

@[expose] public section

set_option maxRecDepth 16384

noncomputable section

namespace Cert.UpDwIdeal.Mm

open Idealize.ShloMosaic Idealize.ShloMosaic.TcCoe Cert.Prod Cert.UpDwIdeal.Gen

variable (m : (ℓ : Loc nD τ sig) → Buf (Elt Ideal) ℓ) (c : Dev nD)

theorem idx : ∀ t : Fin grid0.N, win0_0.index t = ![t.val % 2, t.val / 16] ∧ win0_1.index t = ![t.val % 2, t.val / 2 % 8]
    ∧ win0_2.index t = ![t.val / 16, t.val / 2 % 8] := by decide +kernel

theorem step (acc : Vec Ideal S1024x1024 .f32) (x y : Vec Ideal S2048x1024 .bf16) (j : (Mat 1024 1024).Idx) :
    k0_pay2 (F := Ideal) acc x y j = (acc j : EReal) + tn x y j :=
  step_tn (M := 1024) (N := 1024) (K := 2048) acc j _ _ x y

/-- At the point that writes the output back, the block is the sum of the run's two products. -/
theorem outs (t : Fin cfg0.N) (h : t.val % 2 = 1) (j : (Mat 1024 1024).Idx) :
    (outsAt0 m c t.val t.isLt).1 j
      = ∑ s : Fin 2, tn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => tn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (tn (m ((c.tc : Thread nD τ).loc main_arg0)) (m ((c.tc : Thread nD τ).loc main_arg1)) : (Mat 2048 8192).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.UpDwIdeal.Mm

namespace Cert.UpDwProof

open Idealize.ShloMosaic Idealize.ShloMosaic.TcCoe Idealize.SL.Sem Cert.Prod

theorem bodies_eq : (Cert.UpDw.defs₀ (F := Bits)) = Cert.UpDwIdeal.defs₀ (F := Bits) := by
  unfold Cert.UpDw.defs₀ Cert.UpDwIdeal.defs₀
  exact congrArg Defs.onTc (funext fun l => match l with | 0 => funext fun ⟨_, _⟩ => rfl)

theorem frame_kernel : Cert.quiescent_UpDw := fun m ρ _ => by
  have h := Cert.UpDwIdeal.Gen.frame (F := Bits) m ρ
  rw [← show Cert.UpDw.defs (F := Bits) = Cert.UpDwIdeal.defs from congrArg (Pipeline.defs _) bodies_eq] at h
  exact h

theorem frame_ideal : Cert.quiescent_UpDwIdeal := fun m ρ _ => Cert.UpDwIdeal.Gen.frame (F := Ideal) m ρ

theorem frame_ref : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem algebraic : Cert.algebraic_UpDwIdeal_UpDwRefIdeal := fun m ρ m' ρ' _ hagree =>
  ⟨fun c => tn (m ((c.tc : Thread _ _).loc UpDwIdeal.main_arg0)) (m ((c.tc : Thread _ _).loc UpDwIdeal.main_arg1)),
    (θ_run UpDwIdeal.defs _ _).mono (fun r h c => ⟨(h c).1.trans (UpDwIdeal.Mm.final m c), (h c).2⟩)
      (UpDwIdeal.Value.run_blocks (F := Ideal) m ρ),
    (θ_run UpDwRefIdeal.defs _ _).mono (fun r h c => ⟨(h c).1.trans (by
        rw [(hagree c).1, (hagree c).2]
        exact host_tn _ _ _ _ _ _), (h c).2⟩)
      (UpDwRefIdeal.Value.run (F := Ideal) m' ρ')⟩

end Cert.UpDwProof

end
-- ==== Proof.UpDx.lean ====
/- The gradient of the MLP's up product with respect to its input: `dy wᵀ` in blocks, the sum over four points. -/
module

public import proofs.«01_k».proof.Defs
public import proofs.«01_k».proof.Proof.Prod
public import proofs.«01_k».proof.Proof.Gen.UpDx
public import proofs.«01_k».proof.Proof.Gen.UpDxIdeal.Value
public import proofs.«01_k».proof.Proof.Gen.UpDxRefIdeal
public import proofs.«01_k».proof.Proof.Gen.UpDxRefIdeal.Run
public import Idealize.ShloMosaic.Lib.Quiescent

@[expose] public section

set_option maxRecDepth 16384

noncomputable section

namespace Cert.UpDxIdeal.Mm

open Idealize.ShloMosaic Idealize.ShloMosaic.TcCoe Cert.Prod Cert.UpDxIdeal.Gen
open Idealize.ShloMosaic.Pipeline (Dat)

variable (m : (ℓ : Loc nD τ sig) → Buf (Elt Ideal) ℓ) (c : Dev nD)

abbrev A : (Mat 4096 8192).Idx → EReal := m ((c.tc : Thread nD τ).loc main_arg0)
abbrev B : (Mat 2048 8192).Idx → EReal := m ((c.tc : Thread nD τ).loc main_arg1)

theorem idx : ∀ t : Fin grid0.N, win0_0.index t = ![t.val / 8, t.val % 4] ∧ win0_1.index t = ![t.val / 4 % 2, t.val % 4]
    ∧ win0_2.index t = ![t.val / 8, t.val / 4 % 2] := by decide +kernel

theorem step_pay (acc : Vec Ideal S1024x1024 .f32) (x y : Vec Ideal S1024x2048 .bf16) (j : (Mat 1024 1024).Idx) :
    k0_pay2 (F := Ideal) acc x y j = (acc j : EReal) + nt x y j :=
  step_nt (M := 1024) (N := 1024) (K := 2048) acc j _ _ x y

theorem out_eq (t : Fin cfg0.N) (hf : (cfg0.win 2).flush t = true) : (outsAt0 m c t.val t.isLt).1 = (outsAt0 m c t.val t.isLt).2 := by
  have h := (flush0_2 t).mp hf
  rw [outsAt0_C m c t (by omega) h]
  frame_out

theorem acc_eq (t : Fin cfg0.N) (hf : (cfg0.win 2).flush t = true) (j : (Mat 1024 1024).Idx) :
    (outsAt0 m c t.val t.isLt).2 j
      = ∑ s : Fin 4, nt (iblk m c 0 ⟨4 * (t.val / 4) + s.val, Pipeline.run_point_lt_of_flush t ((flush0_2 t).mp hf) s⟩)
          (iblk m c 1 ⟨4 * (t.val / 4) + s.val, Pipeline.run_point_lt_of_flush t ((flush0_2 t).mp hf) s⟩) j := by
  rw [Pipeline.eq_sum_fin_of_reset_step_apply_of_flush (fun n h => (outsAt0 m c n h).2) 4 (fun _ => (0 : EReal))
    (fun t j => nt (iblk m c 0 t) (iblk m c 1 t) j)
    (fun t h j => by rw [outsAt0_A m c t h (by omega)]; frame_out; rw [step_pay]; exact congrArg (· + _) (zero_block j _))
    (fun t h j => by
      by_cases h1 : t.val % 4 = 3
      · rw [outsAt0_C m c t h h1]; frame_out; rw [step_pay]; exact congrArg (· + _) (congrFun ((Memref.isWhole_whole cc0_scratch0).read_unread _) j)
      · rw [outsAt0_B m c t h h1]; frame_out; rw [step_pay]; exact congrArg (· + _) (congrFun ((Memref.isWhole_whole cc0_scratch0).read_unread _) j)) t ((flush0_2 t).mp hf) j, zero_add]

theorem final (c : Dev nD) : (dats m 0 c).arrAt 2 cfg0.N = nt (A m c) (B m c) := by
  refine (dats m 0 c).arrAt_eq_of_covers 2 _ (by decide +kernel) fun t hf y => ?_
  blk_simp
  rw [after0_2, out_eq m c t hf, acc_eq m c t hf]
  refine Fin.sum_mul_add_congr fun s k hl => ?_
  have e := idx ⟨4 * (t.val / 4) + s.val, Pipeline.run_point_lt_of_flush t ((flush0_2 t).mp hf) s⟩
  have h3 := (flush0_2 t).mp hf
  congr 1 <;> blk_ext [iblk, V, idx t, e]

end Cert.UpDxIdeal.Mm

namespace Cert.UpDxProof

open Idealize.ShloMosaic Idealize.ShloMosaic.TcCoe Idealize.SL.Sem Cert.Prod

theorem bodies_eq : (Cert.UpDx.defs₀ (F := Bits)) = Cert.UpDxIdeal.defs₀ (F := Bits) := by
  unfold Cert.UpDx.defs₀ Cert.UpDxIdeal.defs₀
  exact congrArg Defs.onTc (funext fun l => match l with | 0 => funext fun ⟨_, _⟩ => rfl)

theorem defs_eq : (Cert.UpDx.defs (F := Bits)) = Cert.UpDxIdeal.defs (F := Bits) := congrArg (Pipeline.defs _) bodies_eq

theorem frame_kernel : Cert.quiescent_UpDx := fun m ρ _ => by
  have h := Cert.UpDxIdeal.Gen.frame (F := Bits) m ρ
  rw [← defs_eq] at h
  exact h

theorem frame_ideal : Cert.quiescent_UpDxIdeal := fun m ρ _ => Cert.UpDxIdeal.Gen.frame (F := Ideal) m ρ

theorem frame_ref : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

theorem algebraic : Cert.algebraic_UpDxIdeal_UpDxRefIdeal := fun m ρ m' ρ' _ hagree =>
  ⟨fun c => nt (UpDxIdeal.Mm.A m c) (UpDxIdeal.Mm.B m c),
    (θ_run UpDxIdeal.defs _ _).mono (fun r h c => ⟨(h c).1.trans (UpDxIdeal.Mm.final m c), (h c).2⟩)
      (UpDxIdeal.Value.run_blocks (F := Ideal) m ρ),
    (θ_run UpDxRefIdeal.defs _ _).mono (fun r h c => ⟨(h c).1.trans (by
        rw [(hagree c).1, (hagree c).2]
        exact host_nt _ _ _ _ _), (h c).2⟩)
      (UpDxRefIdeal.Value.run (F := Ideal) m' ρ')⟩

end Cert.UpDxProof

end
-- ==== Proof.Down.lean ====
/- The MLP's down product, which ends by adding the residual, and its two gradients. -/
module

public import proofs.«01_k».proof.Defs
public import proofs.«01_k».proof.Proof.Prod
public import proofs.«01_k».proof.Proof.Gen.Down
public import proofs.«01_k».proof.Proof.Gen.DownIdeal.Value
public import proofs.«01_k».proof.Proof.Gen.DownRefIdeal.Run
public import proofs.«01_k».proof.Proof.Gen.DownDw
public import proofs.«01_k».proof.Proof.Gen.DownDwIdeal.Value
public import proofs.«01_k».proof.Proof.Gen.DownDwRefIdeal.Run
public import proofs.«01_k».proof.Proof.Gen.DownDx
public import proofs.«01_k».proof.Proof.Gen.DownDxIdeal.Value
public import proofs.«01_k».proof.Proof.Gen.DownDxRefIdeal.Run
public import Idealize.ShloMosaic.Lib.Quiescent

@[expose] public section

set_option maxRecDepth 16384

noncomputable section

/-! The product. -/

namespace Cert.DownIdeal.Mm

open Idealize.ShloMosaic Idealize.ShloMosaic.TcCoe Cert.Prod Cert.DownIdeal.Gen

variable (m : (ℓ : Loc nD τ sig) → Buf (Elt Ideal) ℓ) (c : Dev nD)

theorem idx : ∀ t : Fin grid0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] := by decide +kernel

theorem step (acc : Vec Ideal S1024x1024 .f32) (x : Vec Ideal S1024x2048 .bf16) (y : Vec Ideal S2048x1024 .bf16) (j : (Mat 1024 1024).Idx) :
    k0_pay2 (F := Ideal) acc x y j = (acc j : EReal) + nn x y j :=
  step_nn (M := 1024) (N := 1024) (K := 2048) acc j _ _ x y

/-- The accumulator at the end of a run is the sum of the run's four products. -/
theorem acc_eq (t : Fin cfg0.N) (h : t.val % 4 = 3) (j : (Mat 1024 1024).Idx) :
    (outsAt0 m c t.val t.isLt).2 j
      = ∑ s : Fin 4, nn (iblk m c 0 ⟨4 * (t.val / 4) + s.val, Pipeline.run_point_lt_of_flush t h s⟩)
          (iblk m c 1 ⟨4 * (t.val / 4) + s.val, Pipeline.run_point_lt_of_flush t h s⟩) j := by
  rw [Pipeline.eq_sum_fin_of_reset_step_apply_of_flush (fun n h => (outsAt0 m c n h).2) 4 (fun _ => (0 : EReal))
    (fun t j => nn (iblk m c 0 t) (iblk m c 1 t) j)
    (fun t h j => by
      rw [outsAt0_A m c t h (by omega)]; frame_out; rw [step]; exact congrArg (· + _) (zero_block j _))
    (fun t h j => by
      by_cases h1 : t.val % 4 = 3
      · rw [outsAt0_C m c t h h1]; frame_out; rw [step]
        exact congrArg (· + _) (congrFun ((Memref.isWhole_whole cc0_scratch0).read_unread _) j)
      · rw [outsAt0_B m c t h h1]; frame_out; rw [step]
        exact congrArg (· + _) (congrFun ((Memref.isWhole_whole cc0_scratch0).read_unread _) j)) t h j, zero_add]

/-- The block written back is the residual's block added to the accumulator. -/
theorem outs (t : Fin cfg0.N) (h : t.val % 4 = 3) (j : (Mat 1024 1024).Idx) :
    (outsAt0 m c t.val t.isLt).1 j = ((outsAt0 m c t.val t.isLt).2 j : EReal) + iblk m c 2 t j := by
  rw [outsAt0_C m c t (by omega) h]
  frame_out
  rfl

theorem final : (dats m 0 c).arrAt 3 cfg0.N
    = (plus (m ((c.tc : Thread nD τ).loc main_arg2))
        (nn (m ((c.tc : Thread nD τ).loc main_arg0)) (m ((c.tc : Thread nD τ).loc main_arg1))) : (Mat 4096 2048).Idx → EReal) := by
  refine (dats m 0 c).arrAt_eq_of_covers 3 _ (by decide +kernel) fun t hf y => ?_
  have h := (flush0_3 t).mp hf
  blk_simp
  rw [after0_3, outs m c t h, acc_eq m c t h, add_comm]
  refine congrArg₂ (· + ·) (by blk_ext [iblk, V, idx t]) ?_
  refine Fin.sum_mul_add_congr fun s k hl => ?_
  have e := idx ⟨4 * (t.val / 4) + s.val, Pipeline.run_point_lt_of_flush t h s⟩
  congr 1 <;> blk_ext [iblk, V, idx t, e]

end Cert.DownIdeal.Mm

/-! The gradient of the weight. -/

namespace Cert.DownDwIdeal.Mm

open Idealize.ShloMosaic Idealize.ShloMosaic.TcCoe Cert.Prod Cert.DownDwIdeal.Gen

variable (m : (ℓ : Loc nD τ sig) → Buf (Elt Ideal) ℓ) (c : Dev nD)

theorem idx : ∀ t : Fin grid0.N, win0_0.index t = ![t.val % 2, t.val / 4] ∧ win0_1.index t = ![t.val % 2, t.val / 2 % 2]
    ∧ win0_2.index t = ![t.val / 4, t.val / 2 % 2] := by decide +kernel

theorem step (acc : Vec Ideal S1024x1024 .f32) (x y : Vec Ideal S2048x1024 .bf16) (j : (Mat 1024 1024).Idx) :
    k0_pay2 (F := Ideal) acc x y j = (acc j : EReal) + tn x y j :=
  step_tn (M := 1024) (N := 1024) (K := 2048) acc j _ _ x y

/-- At the point that writes the output back, the block is the sum of the run's two products. -/
theorem outs (t : Fin cfg0.N) (h : t.val % 2 = 1) (j : (Mat 1024 1024).Idx) :
    (outsAt0 m c t.val t.isLt).1 j
      = ∑ s : Fin 2, tn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => tn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (tn (m ((c.tc : Thread nD τ).loc main_arg0)) (m ((c.tc : Thread nD τ).loc main_arg1)) : (Mat 8192 2048).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.DownDwIdeal.Mm

/-! The gradient of the input. -/

namespace Cert.DownDxIdeal.Mm

open Idealize.ShloMosaic Idealize.ShloMosaic.TcCoe Cert.Prod Cert.DownDxIdeal.Gen

variable (m : (ℓ : Loc nD τ sig) → Buf (Elt Ideal) ℓ) (c : Dev nD)

theorem idx : ∀ t : Fin grid0.N, win0_0.index t = ![t.val / 8, 0] ∧ win0_1.index t = ![t.val % 8, 0]
    ∧ win0_2.index t = ![t.val / 8, t.val % 8] := by decide +kernel

theorem outs (t : Fin cfg0.N) (j : (Mat 1024 1024).Idx) : outsAt0 m c t j = nt (iblk m c 0 t) (iblk m c 1 t) j := by
  unfold outsAt0
  frame_out
  exact (step_nt (M := 1024) (N := 1024) (K := 2048) (k0_pay1 (F := Ideal)) j _ _ (iblk m c 0 t) (iblk m c 1 t)).trans
    ((congrArg (· + _) (zero_block j _)).trans (zero_add _))

theorem final : (dats m 0 c).arrAt 2 cfg0.N
    = (nt (m ((c.tc : Thread nD τ).loc main_arg0)) (m ((c.tc : Thread nD τ).loc main_arg1)) : (Mat 4096 8192).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.DownDxIdeal.Mm

/-! The claims. -/

namespace Cert.DownProof

open Idealize.ShloMosaic Idealize.ShloMosaic.TcCoe Idealize.SL.Sem Cert.Prod

theorem bodies_eq : Cert.Down.defs₀ (F := Bits) = Cert.DownIdeal.defs₀ := by
  unfold Cert.Down.defs₀ Cert.DownIdeal.defs₀
  exact congrArg Defs.onTc (funext fun l => match l with | 0 => funext fun ⟨_, _⟩ => rfl)

theorem frame_kernel : Cert.quiescent_Down := fun m ρ _ => by
  have h := Cert.DownIdeal.Gen.frame (F := Bits) m ρ
  rw [← show Cert.Down.defs (F := Bits) = Cert.DownIdeal.defs from congrArg (Pipeline.defs _) bodies_eq] at h
  exact h

theorem frame_ideal : Cert.quiescent_DownIdeal := fun m ρ _ => Cert.DownIdeal.Gen.frame (F := Ideal) m ρ

theorem frame_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem algebraic : Cert.algebraic_DownIdeal_DownRefIdeal := fun m ρ m' ρ' _ hagree =>
  ⟨fun c => plus (m ((c.tc : Thread _ _).loc DownIdeal.main_arg2))
      (nn (m ((c.tc : Thread _ _).loc DownIdeal.main_arg0)) (m ((c.tc : Thread _ _).loc DownIdeal.main_arg1))),
    (θ_run DownIdeal.defs _ _).mono (fun r h c => ⟨(h c).1.trans (DownIdeal.Mm.final m c), (h c).2⟩)
      (DownIdeal.Value.run_blocks (F := Ideal) m ρ),
    (θ_run DownRefIdeal.defs _ _).mono (fun r h c => ⟨(h c).1.trans (by
        rw [(hagree c).1, (hagree c).2.1, (hagree c).2.2]
        exact congrArg (addf _) (host_nn _ _ _ _ _)), (h c).2⟩)
      (DownRefIdeal.Value.run (F := Ideal) m' ρ')⟩

end Cert.DownProof

namespace Cert.DownDwProof

open Idealize.ShloMosaic Idealize.ShloMosaic.TcCoe Idealize.SL.Sem Cert.Prod

theorem bodies_eq : Cert.DownDw.defs₀ (F := Bits) = Cert.DownDwIdeal.defs₀ := by
  unfold Cert.DownDw.defs₀ Cert.DownDwIdeal.defs₀
  exact congrArg Defs.onTc (funext fun l => match l with | 0 => funext fun ⟨_, _⟩ => rfl)

theorem frame_kernel : Cert.quiescent_DownDw := fun m ρ _ => by
  have h := Cert.DownDwIdeal.Gen.frame (F := Bits) m ρ
  rw [← show Cert.DownDw.defs (F := Bits) = Cert.DownDwIdeal.defs from congrArg (Pipeline.defs _) bodies_eq] at h
  exact h

theorem frame_ideal : Cert.quiescent_DownDwIdeal := fun m ρ _ => Cert.DownDwIdeal.Gen.frame (F := Ideal) m ρ

theorem frame_ref : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem algebraic : Cert.algebraic_DownDwIdeal_DownDwRefIdeal := fun m ρ m' ρ' _ hagree =>
  ⟨fun c => tn (m ((c.tc : Thread _ _).loc DownDwIdeal.main_arg0)) (m ((c.tc : Thread _ _).loc DownDwIdeal.main_arg1)),
    (θ_run DownDwIdeal.defs _ _).mono (fun r h c => ⟨(h c).1.trans (DownDwIdeal.Mm.final m c), (h c).2⟩)
      (DownDwIdeal.Value.run_blocks (F := Ideal) m ρ),
    (θ_run DownDwRefIdeal.defs _ _).mono (fun r h c => ⟨(h c).1.trans (by
        rw [(hagree c).1, (hagree c).2]
        exact host_tn _ _ _ _ _ _), (h c).2⟩)
      (DownDwRefIdeal.Value.run (F := Ideal) m' ρ')⟩

end Cert.DownDwProof

namespace Cert.DownDxProof

open Idealize.ShloMosaic Idealize.ShloMosaic.TcCoe Idealize.SL.Sem Cert.Prod

theorem bodies_eq : Cert.DownDx.defs₀ (F := Bits) = Cert.DownDxIdeal.defs₀ := by
  unfold Cert.DownDx.defs₀ Cert.DownDxIdeal.defs₀
  exact congrArg Defs.onTc (funext fun l => match l with | 0 => funext fun ⟨_, _⟩ => rfl)

theorem frame_kernel : Cert.quiescent_DownDx := fun m ρ _ => by
  have h := Cert.DownDxIdeal.Gen.frame (F := Bits) m ρ
  rw [← show Cert.DownDx.defs (F := Bits) = Cert.DownDxIdeal.defs from congrArg (Pipeline.defs _) bodies_eq] at h
  exact h

theorem frame_ideal : Cert.quiescent_DownDxIdeal := fun m ρ _ => Cert.DownDxIdeal.Gen.frame (F := Ideal) m ρ

theorem frame_ref : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem algebraic : Cert.algebraic_DownDxIdeal_DownDxRefIdeal := fun m ρ m' ρ' _ hagree =>
  ⟨fun c => nt (m ((c.tc : Thread _ _).loc DownDxIdeal.main_arg0)) (m ((c.tc : Thread _ _).loc DownDxIdeal.main_arg1)),
    (θ_run DownDxIdeal.defs _ _).mono (fun r h c => ⟨(h c).1.trans (DownDxIdeal.Mm.final m c), (h c).2⟩)
      (DownDxIdeal.Value.run_blocks (F := Ideal) m ρ),
    (θ_run DownDxRefIdeal.defs _ _).mono (fun r h c => ⟨(h c).1.trans (by
        rw [(hagree c).1, (hagree c).2]
        exact host_nt _ _ _ _ _), (h c).2⟩)
      (DownDxRefIdeal.Value.run (F := Ideal) m' ρ')⟩

end Cert.DownDxProof

end
-- ==== Proof.Ssm.lean ====
/- The state-space output product and its weight's gradient, each a sum over two points. -/
module

public import proofs.«01_k».proof.Defs
public import proofs.«01_k».proof.Proof.Prod
public import proofs.«01_k».proof.Proof.Gen.Ssm
public import proofs.«01_k».proof.Proof.Gen.SsmIdeal.Value
public import proofs.«01_k».proof.Proof.Gen.SsmRefIdeal.Run
public import proofs.«01_k».proof.Proof.Gen.SsmDw
public import proofs.«01_k».proof.Proof.Gen.SsmDwIdeal.Value
public import proofs.«01_k».proof.Proof.Gen.SsmDwRefIdeal.Run
public import Idealize.ShloMosaic.Lib.Quiescent

@[expose] public section

set_option maxRecDepth 16384

noncomputable section

/-! The product. -/

namespace Cert.SsmIdeal.Mm

open Idealize.ShloMosaic Idealize.ShloMosaic.TcCoe Cert.Prod Cert.SsmIdeal.Gen

variable (m : (ℓ : Loc nD τ sig) → Buf (Elt Ideal) ℓ) (c : Dev nD)

theorem idx : ∀ t : Fin grid0.N, win0_0.index t = ![t.val / 4, t.val % 2] ∧ win0_1.index t = ![t.val % 2, t.val / 2 % 2]
    ∧ win0_2.index t = ![t.val / 4, t.val / 2 % 2] := by decide +kernel

theorem step (acc : Vec Ideal S1024x1024 .f32) (x : Vec Ideal S1024x2048 .bf16) (y : Vec Ideal S2048x1024 .bf16) (j : (Mat 1024 1024).Idx) :
    k0_pay2 (F := Ideal) acc x y j = (acc j : EReal) + nn x y j :=
  step_nn (M := 1024) (N := 1024) (K := 2048) acc j _ _ x y

/-- At the point that writes the output back, the block is the sum of the run's two products. -/
theorem outs (t : Fin cfg0.N) (h : t.val % 2 = 1) (j : (Mat 1024 1024).Idx) :
    (outsAt0 m c t.val t.isLt).1 j
      = ∑ s : Fin 2, nn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => nn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (nn (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.SsmIdeal.Mm

/-! The gradient of the weight. -/

namespace Cert.SsmDwIdeal.Mm

open Idealize.ShloMosaic Idealize.ShloMosaic.TcCoe Cert.Prod Cert.SsmDwIdeal.Gen

variable (m : (ℓ : Loc nD τ sig) → Buf (Elt Ideal) ℓ) (c : Dev nD)

theorem idx : ∀ t : Fin grid0.N, win0_0.index t = ![t.val % 2, t.val / 4] ∧ win0_1.index t = ![t.val % 2, t.val / 2 % 2]
    ∧ win0_2.index t = ![t.val / 4, t.val / 2 % 2] := by decide +kernel

theorem step (acc : Vec Ideal S1024x1024 .f32) (x y : Vec Ideal S2048x1024 .bf16) (j : (Mat 1024 1024).Idx) :
    k0_pay2 (F := Ideal) acc x y j = (acc j : EReal) + tn x y j :=
  step_tn (M := 1024) (N := 1024) (K := 2048) acc j _ _ x y

/-- At the point that writes the output back, the block is the sum of the run's two products. -/
theorem outs (t : Fin cfg0.N) (h : t.val % 2 = 1) (j : (Mat 1024 1024).Idx) :
    (outsAt0 m c t.val t.isLt).1 j
      = ∑ s : Fin 2, tn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => tn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (tn (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.SsmDwIdeal.Mm

/-! The claims. -/

namespace Cert.SsmProof

open Idealize.ShloMosaic Idealize.ShloMosaic.TcCoe Idealize.SL.Sem Cert.Prod

theorem bodies_eq : Cert.Ssm.defs₀ (F := Bits) = Cert.SsmIdeal.defs₀ := by
  unfold Cert.Ssm.defs₀ Cert.SsmIdeal.defs₀
  exact congrArg Defs.onTc (funext fun l => match l with | 0 => funext fun ⟨_, _⟩ => rfl)

theorem frame_kernel : Cert.quiescent_Ssm := fun m ρ _ => by
  have h := Cert.SsmIdeal.Gen.frame (F := Bits) m ρ
  rw [← show Cert.Ssm.defs (F := Bits) = Cert.SsmIdeal.defs from congrArg (Pipeline.defs _) bodies_eq] at h
  exact h

theorem frame_ideal : Cert.quiescent_SsmIdeal := fun m ρ _ => Cert.SsmIdeal.Gen.frame (F := Ideal) m ρ

theorem frame_ref : Cert.quiescent_SsmRefIdeal := fun m ρ _ =>
  (θ_run Cert.SsmRefIdeal.defs _ _).mono (fun r h => ⟨fun c => (h c).2, sem_eq_zero_of_no_sems (by decide) r.2⟩)
    (Cert.SsmRefIdeal.Value.run (F := Ideal) m ρ)

theorem algebraic : Cert.algebraic_SsmIdeal_SsmRefIdeal := fun m ρ m' ρ' _ hagree =>
  ⟨fun c => nn (m ((c.tc : Thread _ _).loc SsmIdeal.main_arg0)) (m ((c.tc : Thread _ _).loc SsmIdeal.main_arg1)),
    (θ_run SsmIdeal.defs _ _).mono (fun r h c => ⟨(h c).1.trans (SsmIdeal.Mm.final m c), (h c).2⟩)
      (SsmIdeal.Value.run_blocks (F := Ideal) m ρ),
    (θ_run SsmRefIdeal.defs _ _).mono (fun r h c => ⟨(h c).1.trans (by
        rw [(hagree c).1, (hagree c).2]
        exact host_nn _ _ _ _ _), (h c).2⟩)
      (SsmRefIdeal.Value.run (F := Ideal) m' ρ')⟩

end Cert.SsmProof

namespace Cert.SsmDwProof

open Idealize.ShloMosaic Idealize.ShloMosaic.TcCoe Idealize.SL.Sem Cert.Prod

theorem bodies_eq : Cert.SsmDw.defs₀ (F := Bits) = Cert.SsmDwIdeal.defs₀ := by
  unfold Cert.SsmDw.defs₀ Cert.SsmDwIdeal.defs₀
  exact congrArg Defs.onTc (funext fun l => match l with | 0 => funext fun ⟨_, _⟩ => rfl)

theorem frame_kernel : Cert.quiescent_SsmDw := fun m ρ _ => by
  have h := Cert.SsmDwIdeal.Gen.frame (F := Bits) m ρ
  rw [← show Cert.SsmDw.defs (F := Bits) = Cert.SsmDwIdeal.defs from congrArg (Pipeline.defs _) bodies_eq] at h
  exact h

theorem frame_ideal : Cert.quiescent_SsmDwIdeal := fun m ρ _ => Cert.SsmDwIdeal.Gen.frame (F := Ideal) m ρ

theorem frame_ref : Cert.quiescent_SsmDwRefIdeal := fun m ρ _ =>
  (θ_run Cert.SsmDwRefIdeal.defs _ _).mono (fun r h => ⟨fun c => (h c).2, sem_eq_zero_of_no_sems (by decide) r.2⟩)
    (Cert.SsmDwRefIdeal.Value.run (F := Ideal) m ρ)

theorem algebraic : Cert.algebraic_SsmDwIdeal_SsmDwRefIdeal := fun m ρ m' ρ' _ hagree =>
  ⟨fun c => tn (m ((c.tc : Thread _ _).loc SsmDwIdeal.main_arg0)) (m ((c.tc : Thread _ _).loc SsmDwIdeal.main_arg1)),
    (θ_run SsmDwIdeal.defs _ _).mono (fun r h c => ⟨(h c).1.trans (SsmDwIdeal.Mm.final m c), (h c).2⟩)
      (SsmDwIdeal.Value.run_blocks (F := Ideal) m ρ),
    (θ_run SsmDwRefIdeal.defs _ _).mono (fun r h c => ⟨(h c).1.trans (by
        rw [(hagree c).1, (hagree c).2]
        exact host_tn _ _ _ _ _ _), (h c).2⟩)
      (SsmDwRefIdeal.Value.run (F := Ideal) m' ρ')⟩

end Cert.SsmDwProof

end
-- ==== Proof.SsmDx.lean ====
/- The gradient of the state-space output product with respect to its input: `dy wᵀ` in blocks, the whole sum at one point. -/
module

public import proofs.«01_k».proof.Defs
public import proofs.«01_k».proof.Proof.Prod
public import proofs.«01_k».proof.Proof.Gen.SsmDx
public import proofs.«01_k».proof.Proof.Gen.SsmDxIdeal.Value
public import proofs.«01_k».proof.Proof.Gen.SsmDxRefIdeal
public import proofs.«01_k».proof.Proof.Gen.SsmDxRefIdeal.Run
public import Idealize.ShloMosaic.Lib.Quiescent

@[expose] public section

set_option maxRecDepth 16384

noncomputable section

namespace Cert.SsmDxIdeal.Mm

open Idealize.ShloMosaic Idealize.ShloMosaic.TcCoe Cert.Prod Cert.SsmDxIdeal.Gen

variable (m : (ℓ : Loc nD τ sig) → Buf (Elt Ideal) ℓ) (c : Dev nD)

theorem idx : ∀ t : Fin grid0.N, win0_0.index t = ![t.val / 4, 0] ∧ win0_1.index t = ![t.val % 4, 0]
    ∧ win0_2.index t = ![t.val / 4, t.val % 4] := by decide +kernel

theorem outs (t : Fin cfg0.N) (j : (Mat 1024 1024).Idx) : outsAt0 m c t j = nt (iblk m c 0 t) (iblk m c 1 t) j := by
  unfold outsAt0
  frame_out
  exact (step_nt (M := 1024) (N := 1024) (K := 2048) (k0_pay1 (F := Ideal)) j _ _ (iblk m c 0 t) (iblk m c 1 t)).trans
    ((congrArg (· + _) (zero_block j _)).trans (zero_add _))

theorem final : (dats m 0 c).arrAt 2 cfg0.N
    = (nt (m ((c.tc : Thread nD τ).loc main_arg0)) (m ((c.tc : Thread nD τ).loc main_arg1)) : (Mat 4096 4096).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.SsmDxIdeal.Mm

namespace Cert.SsmDxProof

open Idealize.ShloMosaic Idealize.ShloMosaic.TcCoe Idealize.SL.Sem Cert.Prod

theorem bodies_eq : (Cert.SsmDx.defs₀ (F := Bits)) = Cert.SsmDxIdeal.defs₀ (F := Bits) := by
  unfold Cert.SsmDx.defs₀ Cert.SsmDxIdeal.defs₀
  exact congrArg Defs.onTc (funext fun l => match l with | 0 => funext fun ⟨_, _⟩ => rfl)

theorem frame_kernel : Cert.quiescent_SsmDx := fun m ρ _ => by
  have h := Cert.SsmDxIdeal.Gen.frame (F := Bits) m ρ
  rw [← show Cert.SsmDx.defs (F := Bits) = Cert.SsmDxIdeal.defs from congrArg (Pipeline.defs _) bodies_eq] at h
  exact h

theorem frame_ideal : Cert.quiescent_SsmDxIdeal := fun m ρ _ => Cert.SsmDxIdeal.Gen.frame (F := Ideal) m ρ

theorem frame_ref : Cert.quiescent_SsmDxRefIdeal := fun m ρ _ =>
  (θ_run Cert.SsmDxRefIdeal.defs _ _).mono (fun r h => ⟨fun c => (h c).2, sem_eq_zero_of_no_sems (by decide) r.2⟩)
    (Cert.SsmDxRefIdeal.Value.run (F := Ideal) m ρ)

theorem algebraic : Cert.algebraic_SsmDxIdeal_SsmDxRefIdeal := fun m ρ m' ρ' _ hagree =>
  ⟨fun c => nt (m ((c.tc : Thread _ _).loc SsmDxIdeal.main_arg0)) (m ((c.tc : Thread _ _).loc SsmDxIdeal.main_arg1)),
    (θ_run SsmDxIdeal.defs _ _).mono (fun r h c => ⟨(h c).1.trans (SsmDxIdeal.Mm.final m c), (h c).2⟩)
      (SsmDxIdeal.Value.run_blocks (F := Ideal) m ρ),
    (θ_run SsmDxRefIdeal.defs _ _).mono (fun r h c => ⟨(h c).1.trans (by
        rw [(hagree c).1, (hagree c).2]
        exact host_nt _ _ _ _ _), (h c).2⟩)
      (SsmDxRefIdeal.Value.run (F := Ideal) m' ρ')⟩

end Cert.SsmDxProof

end
-- ==== Proof.Square.lean ====
/- The products with square weights: the product, and the gradients of the weight and of the input. -/
module

public import proofs.«01_k».proof.Defs
public import proofs.«01_k».proof.Proof.Prod
public import proofs.«01_k».proof.Proof.Gen.Gate
public import proofs.«01_k».proof.Proof.Gen.GateIdeal.Value
public import proofs.«01_k».proof.Proof.Gen.GateRefIdeal.Run
public import proofs.«01_k».proof.Proof.Gen.OutDw
public import proofs.«01_k».proof.Proof.Gen.OutDwIdeal.Value
public import proofs.«01_k».proof.Proof.Gen.OutDwRefIdeal.Run
public import proofs.«01_k».proof.Proof.Gen.OutDx
public import proofs.«01_k».proof.Proof.Gen.OutDxIdeal.Value
public import proofs.«01_k».proof.Proof.Gen.OutDxRefIdeal.Run
public import Idealize.ShloMosaic.Lib.Quiescent

@[expose] public section

set_option maxRecDepth 16384

noncomputable section

/-! The product. -/

namespace Cert.GateIdeal.Mm

open Idealize.ShloMosaic Idealize.ShloMosaic.TcCoe Cert.Prod Cert.GateIdeal.Gen

variable (m : (ℓ : Loc nD τ sig) → Buf (Elt Ideal) ℓ) (c : Dev nD)

theorem idx : ∀ t : Fin grid0.N, win0_0.index t = ![t.val / 2, 0] ∧ win0_1.index t = ![0, t.val % 2]
    ∧ win0_2.index t = ![t.val / 2, t.val % 2] := by decide +kernel

theorem outs (t : Fin cfg0.N) (j : (Mat 1024 1024).Idx) : outsAt0 m c t j = nn (iblk m c 0 t) (iblk m c 1 t) j := by
  unfold outsAt0
  frame_out
  exact (step_nn (M := 1024) (N := 1024) (K := 2048) (k0_pay1 (F := Ideal)) j _ _ (iblk m c 0 t) (iblk m c 1 t)).trans
    ((congrArg (· + _) (zero_block j _)).trans (zero_add _))

theorem final : (dats m 0 c).arrAt 2 cfg0.N
    = (nn (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.GateIdeal.Mm

/-! The gradient of the weight. -/

namespace Cert.OutDwIdeal.Mm

open Idealize.ShloMosaic Idealize.ShloMosaic.TcCoe Cert.Prod Cert.OutDwIdeal.Gen

variable (m : (ℓ : Loc nD τ sig) → Buf (Elt Ideal) ℓ) (c : Dev nD)

theorem idx : ∀ t : Fin grid0.N, win0_0.index t = ![t.val % 2, t.val / 4] ∧ win0_1.index t = ![t.val % 2, t.val / 2 % 2]
    ∧ win0_2.index t = ![t.val / 4, t.val / 2 % 2] := by decide +kernel

theorem step (acc : Vec Ideal S1024x1024 .f32) (x y : Vec Ideal S2048x1024 .bf16) (j : (Mat 1024 1024).Idx) :
    k0_pay2 (F := Ideal) acc x y j = (acc j : EReal) + tn x y j :=
  step_tn (M := 1024) (N := 1024) (K := 2048) acc j _ _ x y

/-- At the point that writes the output back, the block is the sum of the run's two products. -/
theorem outs (t : Fin cfg0.N) (h : t.val % 2 = 1) (j : (Mat 1024 1024).Idx) :
    (outsAt0 m c t.val t.isLt).1 j
      = ∑ s : Fin 2, tn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => tn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (tn (m ((c.tc : Thread nD τ).loc main_arg0)) (m ((c.tc : Thread nD τ).loc main_arg1)) : (Mat 2048 2048).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.OutDwIdeal.Mm

/-! The gradient of the input. -/

namespace Cert.OutDxIdeal.Mm

open Idealize.ShloMosaic Idealize.ShloMosaic.TcCoe Cert.Prod Cert.OutDxIdeal.Gen

variable (m : (ℓ : Loc nD τ sig) → Buf (Elt Ideal) ℓ) (c : Dev nD)

theorem idx : ∀ t : Fin grid0.N, win0_0.index t = ![t.val / 2, 0] ∧ win0_1.index t = ![t.val % 2, 0]
    ∧ win0_2.index t = ![t.val / 2, t.val % 2] := by decide +kernel

theorem outs (t : Fin cfg0.N) (j : (Mat 1024 1024).Idx) : outsAt0 m c t j = nt (iblk m c 0 t) (iblk m c 1 t) j := by
  unfold outsAt0
  frame_out
  exact (step_nt (M := 1024) (N := 1024) (K := 2048) (k0_pay1 (F := Ideal)) j _ _ (iblk m c 0 t) (iblk m c 1 t)).trans
    ((congrArg (· + _) (zero_block j _)).trans (zero_add _))

theorem final : (dats m 0 c).arrAt 2 cfg0.N
    = (nt (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.OutDxIdeal.Mm

/-! The claims. -/

namespace Cert.GateProof

open Idealize.ShloMosaic Idealize.ShloMosaic.TcCoe Idealize.SL.Sem Cert.Prod

theorem bodies_eq : Cert.Gate.defs₀ (F := Bits) = Cert.GateIdeal.defs₀ := by
  unfold Cert.Gate.defs₀ Cert.GateIdeal.defs₀
  exact congrArg Defs.onTc (funext fun l => match l with | 0 => funext fun ⟨_, _⟩ => rfl)

theorem frame_kernel : Cert.quiescent_Gate := fun m ρ _ => by
  have h := Cert.GateIdeal.Gen.frame (F := Bits) m ρ
  rw [← show Cert.Gate.defs (F := Bits) = Cert.GateIdeal.defs from congrArg (Pipeline.defs _) bodies_eq] at h
  exact h

theorem frame_ideal : Cert.quiescent_GateIdeal := fun m ρ _ => Cert.GateIdeal.Gen.frame (F := Ideal) m ρ

theorem frame_ref : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

theorem algebraic : Cert.algebraic_GateIdeal_GateRefIdeal := fun m ρ m' ρ' _ hagree =>
  ⟨fun c => nn (m ((c.tc : Thread _ _).loc GateIdeal.main_arg0)) (m ((c.tc : Thread _ _).loc GateIdeal.main_arg1)),
    (θ_run GateIdeal.defs _ _).mono (fun r h c => ⟨(h c).1.trans (GateIdeal.Mm.final m c), (h c).2⟩)
      (GateIdeal.Value.run_blocks (F := Ideal) m ρ),
    (θ_run GateRefIdeal.defs _ _).mono (fun r h c => ⟨(h c).1.trans (by
        rw [(hagree c).1, (hagree c).2]
        exact host_nn _ _ _ _ _), (h c).2⟩)
      (GateRefIdeal.Value.run (F := Ideal) m' ρ')⟩

end Cert.GateProof

namespace Cert.OutDwProof

open Idealize.ShloMosaic Idealize.ShloMosaic.TcCoe Idealize.SL.Sem Cert.Prod

theorem bodies_eq : Cert.OutDw.defs₀ (F := Bits) = Cert.OutDwIdeal.defs₀ := by
  unfold Cert.OutDw.defs₀ Cert.OutDwIdeal.defs₀
  exact congrArg Defs.onTc (funext fun l => match l with | 0 => funext fun ⟨_, _⟩ => rfl)

theorem frame_kernel : Cert.quiescent_OutDw := fun m ρ _ => by
  have h := Cert.OutDwIdeal.Gen.frame (F := Bits) m ρ
  rw [← show Cert.OutDw.defs (F := Bits) = Cert.OutDwIdeal.defs from congrArg (Pipeline.defs _) bodies_eq] at h
  exact h

theorem frame_ideal : Cert.quiescent_OutDwIdeal := fun m ρ _ => Cert.OutDwIdeal.Gen.frame (F := Ideal) m ρ

theorem frame_ref : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem algebraic : Cert.algebraic_OutDwIdeal_OutDwRefIdeal := fun m ρ m' ρ' _ hagree =>
  ⟨fun c => tn (m ((c.tc : Thread _ _).loc OutDwIdeal.main_arg0)) (m ((c.tc : Thread _ _).loc OutDwIdeal.main_arg1)),
    (θ_run OutDwIdeal.defs _ _).mono (fun r h c => ⟨(h c).1.trans (OutDwIdeal.Mm.final m c), (h c).2⟩)
      (OutDwIdeal.Value.run_blocks (F := Ideal) m ρ),
    (θ_run OutDwRefIdeal.defs _ _).mono (fun r h c => ⟨(h c).1.trans (by
        rw [(hagree c).1, (hagree c).2]
        exact host_tn _ _ _ _ _ _), (h c).2⟩)
      (OutDwRefIdeal.Value.run (F := Ideal) m' ρ')⟩

end Cert.OutDwProof

namespace Cert.OutDxProof

open Idealize.ShloMosaic Idealize.ShloMosaic.TcCoe Idealize.SL.Sem Cert.Prod

theorem bodies_eq : Cert.OutDx.defs₀ (F := Bits) = Cert.OutDxIdeal.defs₀ := by
  unfold Cert.OutDx.defs₀ Cert.OutDxIdeal.defs₀
  exact congrArg Defs.onTc (funext fun l => match l with | 0 => funext fun ⟨_, _⟩ => rfl)

theorem frame_kernel : Cert.quiescent_OutDx := fun m ρ _ => by
  have h := Cert.OutDxIdeal.Gen.frame (F := Bits) m ρ
  rw [← show Cert.OutDx.defs (F := Bits) = Cert.OutDxIdeal.defs from congrArg (Pipeline.defs _) bodies_eq] at h
  exact h

theorem frame_ideal : Cert.quiescent_OutDxIdeal := fun m ρ _ => Cert.OutDxIdeal.Gen.frame (F := Ideal) m ρ

theorem frame_ref : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem algebraic : Cert.algebraic_OutDxIdeal_OutDxRefIdeal := fun m ρ m' ρ' _ hagree =>
  ⟨fun c => nt (m ((c.tc : Thread _ _).loc OutDxIdeal.main_arg0)) (m ((c.tc : Thread _ _).loc OutDxIdeal.main_arg1)),
    (θ_run OutDxIdeal.defs _ _).mono (fun r h c => ⟨(h c).1.trans (OutDxIdeal.Mm.final m c), (h c).2⟩)
      (OutDxIdeal.Value.run_blocks (F := Ideal) m ρ),
    (θ_run OutDxRefIdeal.defs _ _).mono (fun r h c => ⟨(h c).1.trans (by
        rw [(hagree c).1, (hagree c).2]
        exact host_nt _ _ _ _ _), (h c).2⟩)
      (OutDxRefIdeal.Value.run (F := Ideal) m' ρ')⟩

end Cert.OutDxProof

end
-- ==== Proof.Fwd.lean ====
/- The attention forward: each tile's block is the softmax-weighted sum of the values, for real queries and keys and any values. -/
module

public import proofs.«01_k».proof.Proof.Value
public import proofs.«01_k».proof.Proof.Gen.AttnFwdIdeal.Value

@[expose] public section

set_option maxRecDepth 16384

noncomputable section

/-! ## What it computes -/

namespace Cert.Attn

open Idealize.ShloMosaic Finset

/-- The rows of values of head `h`. -/
def vals (V : SV.Idx → EReal) (h : Fin 16) (s : ℕ) (e : Fin 128) : EReal := if hs : s < 4096 then V (ix3 h ⟨s, hs⟩ e) else 0

/-- A row of normalised weights times a column of values. -/
def mix (A : Head) (r : ℕ) (v : ℕ → EReal) : EReal := ∑ s ∈ range 4096, ((w A r s * (1 / l A r) : ℝ) : EReal) * v s

/-- A head's queries and keys, when nothing else of it is asked for. -/
abbrev head₂ (Q K : SQ.Idx → EReal) (h : Fin 16) : Head := head Q K (fun _ => 0) (fun _ => 0) h

/-- Attention's output; its heads lie side by side, 128 columns each. -/
def attend (Q K : SQ.Idx → EReal) (V : SV.Idx → EReal) : SD.Idx → EReal := fun i =>
  have hh : (i 1).val < 2048 := (i 1).isLt
  mix (head₂ Q K ⟨(i 1).val / 128, by omega⟩) (i 0).val
    fun s => vals V ⟨(i 1).val / 128, by omega⟩ s ⟨(i 1).val % 128, Nat.mod_lt _ (by norm_num)⟩

theorem attend_apply (Q K : SQ.Idx → EReal) (V : SV.Idx → EReal) (h : Fin 16) (r : Fin 4096) (e : Fin 128) (x : Fin 2048)
    (hx : x.val = 128 * h.val + e.val) : attend Q K V (ix2 r x) = mix (head₂ Q K h) r.val fun s => vals V h s e := by
  have he := e.isLt
  have h1 : (⟨x.val / 128, by have := x.isLt; omega⟩ : Fin 16) = h := Fin.ext (by show x.val / 128 = _; omega)
  have h2 : (⟨x.val % 128, Nat.mod_lt _ (by norm_num)⟩ : Fin 128) = e := Fin.ext (by show x.val % 128 = _; omega)
  show mix (head₂ Q K ⟨x.val / 128, _⟩) r.val (fun s => vals V ⟨x.val / 128, _⟩ s ⟨x.val % 128, _⟩) = _
  rw [h1, h2]

/-- Multiplying by a number that is not negative distributes over a sum, infinite terms included. -/
theorem sum_mul_coe (s : Finset ℕ) (x : ℕ → ℝ) (v : ℕ → EReal) {c : ℝ} (hc : 0 ≤ c) :
    (∑ i ∈ s, (x i : EReal) * v i) * (c : EReal) = ∑ i ∈ s, ((x i * c : ℝ) : EReal) * v i := by
  induction s using Finset.induction_on with
  | empty => simp
  | insert a s h ih =>
    rw [sum_insert h, sum_insert h, EReal.right_distrib_of_nonneg_of_ne_top (EReal.coe_nonneg.2 hc) (EReal.coe_ne_top _), ih,
      EReal.coe_mul, mul_assoc, mul_assoc, mul_comm (v a)]

/-- The first `L` keys are enough: the weights past them are zero. -/
theorem mix_first (A : Head) {L r : ℕ} (hL : L % 64 = 0) (hr : r < L) (hN : L ≤ 4096) (v : ℕ → EReal) :
    (∑ s : Fin L, (w A r s.val : EReal) * v s.val) * ((1 / l A r : ℝ) : EReal) = mix A r v := by
  unfold mix
  rw [← sum_mul_coe (range 4096) (w A r) v (one_div_pos.2 (l_pos A r)).le,
    ← Finset.sum_range (f := fun s => (w A r s : EReal) * v s)]
  refine congrArg (· * _) (Finset.sum_subset (range_mono hN) fun s _ hs => ?_)
  rw [w_zero A (not_vis hL hr (by simpa using hs)), EReal.coe_zero, zero_mul]

end Cert.Attn

namespace Cert.AttnFwdIdeal.Fwd

open Idealize.ShloMosaic Idealize.ShloMosaic.TcCoe Cert.Attn Finset
open Cert.KernelIdeal.Band (Ok K3 V3 K2 V2 SC R1 ok0 ok7 ok len dotQK dotPV mask ones topK topV topK_apply topV_apply Reads row
  rows_apply lead_idx wt_apply inv_apply)
open Cert.AttnFwdIdeal.Gen

/-! ## One tile's text, for any number of keys read -/

section
variable {F : FTy → Type} [FloatOps F] {L : ℕ} (o : Ok L)

def score (v0 : BitVec 32) (q : Vec F S1x256x192 .bf16) (k : Vec F (K3 L) .bf16) : FVec F (SC L) .f32 :=
  select (mask o v0)
    (mulf (matmul (dotQK o) none (shapeCast S256x192 q shapeCasts_S1x256x192_S256x192) (shapeCast (K2 L) k o.castK)
      (constant (SC L) .f32 0x00000000#32)) (broadcast (SC L) (Scalar.ofBits .f32 0x3D93CD3A#32)))
    (broadcast (SC L) (Scalar.ofBits .f32 0xFF800000#32))

def wt (v0 : BitVec 32) (q : Vec F S1x256x192 .bf16) (k : Vec F (K3 L) .bf16) : FVec F (SC L) .f32 :=
  exp (subf (score o v0 q k) (broadcastTo (SC L)
    (shapeCast S256x1 (multiReduction .maximumf [1] S256 (score o v0 q k) 0xFF800000#32 o.red (.inl rfl) rfl)
      shapeCasts_S256_S256x1) o.bcC))

def inv (v0 : BitVec 32) (q : Vec F S1x256x192 .bf16) (k : Vec F (K3 L) .bf16) : FVec F S256x1 .f32 :=
  divf ones (shapeCast S256x1 (multiReduction .add [1] S256 (wt o v0 q k) 0x00000000#32 o.red (.inl rfl) rfl)
    shapeCasts_S256_S256x1)

/-- The values, as a matrix. -/
def vm (v : Vec F (V3 L) .bf16) : FVec F (V2 L) .bf16 := shapeCast (V2 L) v o.castV

def out (v0 : BitVec 32) (q : Vec F S1x256x192 .bf16) (k : Vec F (K3 L) .bf16) (v : Vec F (V3 L) .bf16) : FVec F S256x128 .f32 :=
  matmul (dotPV o) none (truncf .bf16 (wt o v0 q k) bitsLt_bf16_f32) (vm o v) (constant S256x128 .f32 0x00000000#32)

def tile (v0 : BitVec 32) (q : Vec F S1x256x192 .bf16) (k : Vec F (K3 L) .bf16) (v : Vec F (V3 L) .bf16) :
    FVec F S256x128 .bf16 :=
  truncf .bf16 (mulf (out o v0 q k v) (broadcastTo S256x128 (inv o v0 q k) broadcasts_S256x1_S256x128)) bitsLt_bf16_f32
end

/-! ## One tile over the reals -/

section
variable {L : ℕ} (o : Ok L)

theorem score_eq (v0 : BitVec 32) (q : Vec Ideal S1x256x192 .bf16) (k : Vec Ideal (K3 L) .bf16) :
    score o v0 q k = Cert.KernelIdeal.Band.score o v0 q k := rfl
theorem wt_eq (v0 : BitVec 32) (q : Vec Ideal S1x256x192 .bf16) (k : Vec Ideal (K3 L) .bf16) :
    wt o v0 q k = Cert.KernelIdeal.Band.wt o v0 q k := by
  unfold wt Cert.KernelIdeal.Band.wt; rw [score_eq]
theorem inv_eq (v0 : BitVec 32) (q : Vec Ideal S1x256x192 .bf16) (k : Vec Ideal (K3 L) .bf16) :
    inv o v0 q k = Cert.KernelIdeal.Band.inv o v0 q k := by
  unfold inv Cert.KernelIdeal.Band.inv Cert.KernelIdeal.Band.den; rw [wt_eq]

theorem vm_apply (v : Vec Ideal (V3 L) .bf16) (s : Fin L) (e : Fin 128) : vm o v (ix2 s e) = v (ix3 0 s e) := by
  pointwise [vm]; exact congrArg v (lead_idx _ s e)

variable {o} {A : Head} {R : ℕ} {q : Vec Ideal S1x256x192 .bf16} {k : Vec Ideal (K3 L) .bf16} {z : Vec Ideal (V3 L) .bf16}
  {d : Vec Ideal Cert.KernelIdeal.S256x128 .bf16} (H : Reads A R q k z d)
include H

theorem tile_apply (v : Vec Ideal (V3 L) .bf16) (f : ℕ → EReal) (r : Fin 256) (e : Fin 128)
    (hv : ∀ s : Fin L, v (ix3 0 s e) = f s.val) : tile o (BitVec.ofNat 32 R) q k v (ix2 r e) = mix A (R + r.val) f := by
  pointwise [tile, out, dotPV]
  rw [inv_eq, inv_apply H, ← mix_first A H.chunks (row H r) H.all f]
  refine congrArg (· * _) ?_
  refine ((rows_apply _ _ _ _ r e).trans (by rw [show constant (F := Ideal) _ .f32 0x00000000#32 _ = (0 : EReal) from Ideal.ofBits_zero_f32, zero_add])).trans ?_
  exact Finset.sum_congr rfl fun s _ => congrArg₂ (· * ·) ((congrFun (wt_eq o _ q k) _).trans (wt_apply H r s))
    ((vm_apply o v s e).trans (hv s))
end

/-! ## The run's array -/

variable (m : (ℓ : Loc nD τ sig) → Buf (Elt Ideal) ℓ) (c : Dev nD)

/-- The three arguments. -/
abbrev aQ : SQ.Idx → EReal := m ((c.tc : Thread nD τ).loc main_arg0)
abbrev aK : SQ.Idx → EReal := m ((c.tc : Thread nD τ).loc main_arg1)
abbrev aV : SV.Idx → EReal := m ((c.tc : Thread nD τ).loc main_arg2)

def hd (t : Fin cfg0.N) : Fin 16 := ⟨t.val / 16, by have : t.val < 256 := lt_of_lt_of_eq t.isLt N_0; omega⟩

theorem idx : ∀ t : Fin grid0.N, win0_0.index t = ![t.val / 16, t.val % 16, 0] ∧ win0_1.index t = ![t.val / 16, 0, 0]
    ∧ win0_2.index t = ![t.val / 16, 0, 0] ∧ win0_3.index t = ![t.val % 16, t.val / 16] := by decide +kernel

theorem blk0 (t : Fin cfg0.N) (r : Fin 256) (j : Fin 192) (h : 256 * (t.val % 16) + r.val < 4096) :
    iblk m c 0 t (ix3 0 r j) = aQ m c (ix3 (hd t) ⟨256 * (t.val % 16) + r.val, h⟩ j) := by
  have := idx t
  blk_ext [iblk, V, idx t, hd]
theorem blk1 (t : Fin cfg0.N) (s : Fin 4096) (j : Fin 192) :
    iblk m c 1 t (ix3 0 s j) = aK m c (ix3 (hd t) s j) := by
  blk_ext [iblk, V, idx t, hd]
theorem blk2 (t : Fin cfg0.N) (s : Fin 4096) (j : Fin 128) :
    iblk m c 2 t (ix3 0 s j) = aV m c (ix3 (hd t) s j) := by
  blk_ext [iblk, V, idx t, hd]

theorem coords_tile (t : Fin cfg0.N) : (grid0.coords t 1).val = t.val % 16 := by
  rw [Pipeline.Grid.coords_val (G := grid0) t 1 (S := 1) (B := 16) (by decide) rfl, Nat.div_one]

/-- The word a point's first row is. -/
def off (i : grid0.Coords) : BitVec 32 := Scalar.muli (BitVec.ofNat 32 (i 1).val) 256#32
theorem off_eq (t : Fin cfg0.N) : off (grid0.coords t) = BitVec.ofNat 32 (256 * (t.val % 16)) := by
  unfold off; rw [coords_tile]
  have h : ∀ n : Fin 16, Scalar.muli (BitVec.ofNat 32 n.val) 256#32 = BitVec.ofNat 32 (256 * n.val) := by decide +kernel
  exact h ⟨t.val % 16, Nat.mod_lt _ (by norm_num)⟩

/-- The last band reads all the keys. -/
theorem topK_all {e : EltTy} (x : Vec Ideal S1x4096x192 e) : topK ok7 x = x := by
  funext i
  obtain ⟨s, j, rfl⟩ : ∃ (s : Fin 4096) (j : Fin 192), i = ix3 0 s j :=
    ⟨i 1, i 2, funext fun a => by match a with | 0 => exact Subsingleton.elim (α := Fin 1) _ _ | 1 => rfl | 2 => rfl⟩
  exact topK_apply ok7 x s j s.isLt
theorem topV_all {e : EltTy} (x : Vec Ideal S1x4096x128 e) : topV ok7 x = x := by
  funext i
  obtain ⟨s, j, rfl⟩ : ∃ (s : Fin 4096) (j : Fin 128), i = ix3 0 s j :=
    ⟨i 1, i 2, funext fun a => by match a with | 0 => exact Subsingleton.elim (α := Fin 1) _ _ | 1 => rfl | 2 => rfl⟩
  exact topV_apply ok7 x s j s.isLt

/-- What a point of band `b` leaves. -/
def left (t : Fin cfg0.N) (b : Fin 8) : Vec Ideal S256x128 .bf16 :=
  tile (ok b) (off (grid0.coords t)) (iblk m c 0 t) (topK (ok b) (iblk m c 1 t)) (topV (ok b) (iblk m c 2 t))

theorem outs (t : Fin cfg0.N) (b : Fin 8) (hb : t.val % 16 / 2 = b.val) : outsAt0 m c t.val t.isLt = left m c t b := by
  match b with
  | 0 => have hb : t.val % 16 / 2 = 0 := hb
         rw [outsAt0_A m c t (by omega) (by omega) (by omega) (by omega) (by omega) (by omega) (by omega) (by omega)]; frame_out; rfl
  | 1 => have hb : t.val % 16 / 2 = 1 := hb
         rw [outsAt0_B m c t (by omega) (by omega) (by omega) (by omega) (by omega) (by omega) (by omega) (by omega)]; frame_out; rfl
  | 2 => have hb : t.val % 16 / 2 = 2 := hb
         rw [outsAt0_C m c t (by omega) (by omega) (by omega) (by omega) (by omega) (by omega) (by omega) (by omega)]; frame_out; rfl
  | 3 => have hb : t.val % 16 / 2 = 3 := hb
         rw [outsAt0_D m c t (by omega) (by omega) (by omega) (by omega) (by omega) (by omega) (by omega) (by omega)]; frame_out; rfl
  | 4 => have hb : t.val % 16 / 2 = 4 := hb
         rw [outsAt0_E m c t (by omega) (by omega) (by omega) (by omega) (by omega) (by omega) (by omega) (by omega)]; frame_out; rfl
  | 5 => have hb : t.val % 16 / 2 = 5 := hb
         rw [outsAt0_F m c t (by omega) (by omega) (by omega) (by omega) (by omega) (by omega) (by omega) (by omega)]; frame_out; rfl
  | 6 => have hb : t.val % 16 / 2 = 6 := hb
         rw [outsAt0_G m c t (by omega) (by omega) (by omega) (by omega) (by omega) (by omega) (by omega) (by omega)]; frame_out; rfl
  | 7 => have hb : t.val % 16 / 2 = 7 := hb
         rw [outsAt0_H m c t (by omega) (by omega) (by omega) (by omega) (by omega) (by omega) (by omega) (by omega)]; frame_out
         show _ = tile ok7 (off (grid0.coords t)) (iblk m c 0 t) (topK ok7 (iblk m c 1 t)) (topV ok7 (iblk m c 2 t))
         rw [topK_all, topV_all]; rfl

section
variable (hQ : Real' (aQ m c)) (hK : Real' (aK m c))
include hQ hK

theorem outs_apply (t : Fin cfg0.N) (r : Fin 256) (e : Fin 128) : outsAt0 m c t.val t.isLt (ix2 r e)
    = mix (head₂ (aQ m c) (aK m c) (hd t)) (256 * (t.val % 16) + r.val) fun s => vals (aV m c) (hd t) s e := by
  have hb : t.val % 16 / 2 < 8 := by omega
  have hl : len ⟨t.val % 16 / 2, hb⟩ = 512 * (t.val % 16 / 2 + 1) := rfl
  rw [outs m c t ⟨t.val % 16 / 2, hb⟩ rfl, left, off_eq]
  refine tile_apply (z := fun _ => (0 : EReal)) (d := fun _ => (0 : EReal))
    { q := fun r j => (blk0 m c t r j (by have := r.isLt; omega)).trans (head_q _ _ hQ _)
      k := fun s j => ?_
      v := fun s e => ?_
      d := fun r e => ?_
      le := by omega
      chunks := by omega
      all := by omega } _ _ r e fun s => ?_
  · have hs : s.val < 4096 := by have := s.isLt; omega
    rw [topK_apply _ _ _ _ hs, blk1]; exact head_k _ _ hK _
  · simp [head]
  · simp [head]
  · have hs : s.val < 4096 := by have := s.isLt; omega
    rw [topV_apply _ _ _ _ hs, blk2, vals, dif_pos hs]

theorem final : (dats m 0 c).arrAt 3 cfg0.N = attend (aQ m c) (aK m c) (aV m c) := by
  refine (dats m 0 c).arrAt_eq_of_covers 3 _ (by decide +kernel) fun t hf y => ?_
  blk_simp
  rw [after0_3]
  obtain ⟨r, e, rfl⟩ : ∃ (r : Fin 256) (e : Fin 128), y = ix2 r e :=
    ⟨y 0, y 1, funext fun a => by match a with | 0 => rfl | 1 => rfl⟩
  refine (outs_apply m c hQ hK t r e).trans ?_
  have hr : 256 * (t.val % 16) + r.val < 4096 := by have := r.isLt; omega
  have hx : 128 * (hd t).val + e.val < 2048 := by have := (hd t).isLt; have := e.isLt; omega
  refine (attend_apply (aQ m c) (aK m c) (aV m c) (hd t) ⟨_, hr⟩ e ⟨_, hx⟩ rfl).symm.trans ?_
  exact congrArg (attend (aQ m c) (aK m c) (aV m c)) (by blk_ext [idx t, hd])

end

end Cert.AttnFwdIdeal.Fwd

end
-- ==== Proof.FwdProof.lean ====
/- The attention forward: the reference's array, and the claims. -/
module

public import proofs.«01_k».proof.Defs
public import proofs.«01_k».proof.Proof.Attn
public import proofs.«01_k».proof.Proof.Fwd
public import proofs.«01_k».proof.Proof.Gen.AttnFwd
public import proofs.«01_k».proof.Proof.Gen.AttnFwdRefIdeal.Run
public import Idealize.ShloMosaic.Lib.Quiescent

@[expose] public section

set_option maxRecDepth 16384

noncomputable section

/-! ## The reference -/

namespace Cert.AttnFwdRefIdeal.Read

open Idealize.ShloMosaic Idealize.ShloMosaic.TcCoe Cert.Attn Finset
open Cert.AttnFwdRefIdeal.Gen
open Cert.ReferenceIdeal.Read (prob prob_apply)

variable (q k : FVec Ideal S16x4096x192 .bf16) (v : FVec Ideal S16x4096x128 .bf16)

/-- The weights times the values, head by head. -/
def heads : FVec Ideal S16x4096x128 .f32 :=
  Host.dotGeneral dot_S16x4096x4096_S16x4096x128_S16x4096x128_2_1_1_2_0_0 none (prob q k : FVec Ideal S16x4096x4096 .f32) (extf .f32 v bitsLt_bf16_f32)

def flat : FVec Ideal S4096x2048 .bf16 :=
  truncf .bf16 (shapeCast S4096x2048 (transpose S4096x16x128 [1, 0, 2] (heads q k v) transposes_S16x4096x128_S4096x16x128_1_0_2)
    shapeCasts_S4096x16x128_S4096x2048) bitsLt_bf16_f32

theorem res (m : (ℓ : Loc nD τ sig) → Buf (Elt Ideal) ℓ) (c : Dev nD) :
    Value.res_main_v28 m c = flat (m ((c.tc : Thread nD τ).loc main_arg0)) (m ((c.tc : Thread nD τ).loc main_arg1)) (m ((c.tc : Thread nD τ).loc main_arg2)) := rfl

variable {q k v}
variable (hq : Real' (s := SQ) q) (hk : Real' (s := SQ) k)
include hq hk

theorem heads_apply (h : Fin 16) (r : Fin 4096) (e : Fin 128) :
    heads q k v (ix3 h r e) = mix (head₂ q k h) r.val fun s => vals v h s e := by
  pointwise [heads]
  simp only [prob_apply (v := fun _ => (0 : EReal)) (d := fun _ => (0 : EReal)) hq hk]
  unfold mix
  rw [Finset.sum_range (n := 4096)]
  exact Finset.sum_congr rfl fun s _ => congrArg _ (show vals v h s.val e = v (ix3 h s e) from dif_pos s.isLt).symm

theorem flat_eq : flat q k v = attend q k v := by
  funext i
  obtain ⟨r, x, rfl⟩ : ∃ (r : Fin 4096) (x : Fin 2048), i = ix2 r x :=
    ⟨i 0, i 1, funext fun a => by match a with | 0 => rfl | 1 => rfl⟩
  pointwise [flat]
  exact heads_apply hq hk _ r _

end Cert.AttnFwdRefIdeal.Read

/-! ## The claims -/

namespace Cert.AttnFwdProof

open Idealize.ShloMosaic Idealize.ShloMosaic.TcCoe Idealize.SL.Sem Cert.Attn
open Cert.AttnProof (real_of_olt top_word)

theorem bodies_eq : Cert.AttnFwd.defs₀ (F := Bits) = Cert.AttnFwdIdeal.defs₀ := by
  unfold Cert.AttnFwd.defs₀ Cert.AttnFwdIdeal.defs₀
  exact congrArg Defs.onTc (funext fun l => match l with | 0 => funext fun ⟨_, _⟩ => rfl)

theorem frame_kernel : Cert.quiescent_AttnFwd := fun m ρ _ => by
  have h := Cert.AttnFwdIdeal.Gen.frame (F := Bits) m ρ
  rw [← show Cert.AttnFwd.defs (F := Bits) = Cert.AttnFwdIdeal.defs from congrArg (Pipeline.defs _) bodies_eq] at h
  exact h

theorem frame_ideal : Cert.quiescent_AttnFwdIdeal := fun m ρ _ => Cert.AttnFwdIdeal.Gen.frame (F := Ideal) m ρ

theorem frame_ref : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

theorem facts_finite : Cert.Pre_finite_qk.Facts := ⟨by decide⟩

theorem algebraic : Cert.algebraic_AttnFwdIdeal_AttnFwdRefIdeal_pre_finite_qk (hPre_finite_qk := facts_finite) := by
  intro m ρ m' ρ' hpre hagree
  have hQ c : Real' (AttnFwdIdeal.Fwd.aQ m c) := real_of_olt _ _ (fun _ => top_word) (hpre c).1
  have hK c : Real' (AttnFwdIdeal.Fwd.aK m c) := real_of_olt _ _ (fun _ => top_word) (hpre c).2
  refine ⟨fun c => attend (AttnFwdIdeal.Fwd.aQ m c) (AttnFwdIdeal.Fwd.aK m c) (AttnFwdIdeal.Fwd.aV m c), ?_, ?_⟩
  · exact (θ_run AttnFwdIdeal.defs _ _).mono (fun r h c => ⟨(h c).1.trans (AttnFwdIdeal.Fwd.final m c (hQ c) (hK c)), (h c).2⟩)
      (AttnFwdIdeal.Value.run_blocks (F := Ideal) m ρ)
  · exact (θ_run AttnFwdRefIdeal.defs _ _).mono (fun r h c => ⟨(h c).1.trans ((AttnFwdRefIdeal.Read.res m' c).trans (by
        rw [(hagree c).1, (hagree c).2.1, (hagree c).2.2]
        exact AttnFwdRefIdeal.Read.flat_eq (hQ c) (hK c))), (h c).2⟩)
      (AttnFwdRefIdeal.Value.run (F := Ideal) m' ρ')

end Cert.AttnFwdProof

end
-- ==== Proof.Latent.lean ====
/- The products with the two latent weights: the products, and the gradients of the weights and of the inputs. -/
module

public import proofs.«01_k».proof.Defs
public import proofs.«01_k».proof.Proof.Prod
public import proofs.«01_k».proof.Proof.Gen.Uq
public import proofs.«01_k».proof.Proof.Gen.UqIdeal.Value
public import proofs.«01_k».proof.Proof.Gen.UqRefIdeal.Run
public import proofs.«01_k».proof.Proof.Gen.UqDw
public import proofs.«01_k».proof.Proof.Gen.UqDwIdeal.Value
public import proofs.«01_k».proof.Proof.Gen.UqDwRefIdeal.Run
public import proofs.«01_k».proof.Proof.Gen.UqDx
public import proofs.«01_k».proof.Proof.Gen.UqDxIdeal.Value
public import proofs.«01_k».proof.Proof.Gen.UqDxRefIdeal.Run
public import proofs.«01_k».proof.Proof.Gen.Ukv
public import proofs.«01_k».proof.Proof.Gen.UkvIdeal.Value
public import proofs.«01_k».proof.Proof.Gen.UkvRefIdeal.Run
public import proofs.«01_k».proof.Proof.Gen.UkvDw
public import proofs.«01_k».proof.Proof.Gen.UkvDwIdeal.Value
public import proofs.«01_k».proof.Proof.Gen.UkvDwRefIdeal.Run
public import proofs.«01_k».proof.Proof.Gen.UkvDx
public import proofs.«01_k».proof.Proof.Gen.UkvDxIdeal.Value
public import proofs.«01_k».proof.Proof.Gen.UkvDxRefIdeal.Run
public import Idealize.ShloMosaic.Lib.Quiescent

@[expose] public section

set_option maxRecDepth 16384

noncomputable section

/-! The products. -/

namespace Cert.UqIdeal.Mm

open Idealize.ShloMosaic Idealize.ShloMosaic.TcCoe Cert.Prod Cert.UqIdeal.Gen

variable (m : (ℓ : Loc nD τ sig) → Buf (Elt Ideal) ℓ) (c : Dev nD)

theorem idx : ∀ t : Fin grid0.N, win0_0.index t = ![t.val / 2, 0] ∧ win0_1.index t = ![0, t.val % 2]
    ∧ win0_2.index t = ![t.val / 2, t.val % 2] := by decide +kernel

theorem outs (t : Fin cfg0.N) (j : (Mat 1024 1536).Idx) : outsAt0 m c t j = nn (iblk m c 0 t) (iblk m c 1 t) j := by
  unfold outsAt0
  frame_out
  exact (step_nn (M := 1024) (N := 1536) (K := 512) (k0_pay1 (F := Ideal)) j _ _ (iblk m c 0 t) (iblk m c 1 t)).trans
    ((congrArg (· + _) (zero_block j _)).trans (zero_add _))

theorem final : (dats m 0 c).arrAt 2 cfg0.N
    = (nn (m ((c.tc : Thread nD τ).loc main_arg0)) (m ((c.tc : Thread nD τ).loc main_arg1)) : (Mat 4096 3072).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.UqIdeal.Mm

namespace Cert.UkvIdeal.Mm

open Idealize.ShloMosaic Idealize.ShloMosaic.TcCoe Cert.Prod Cert.UkvIdeal.Gen

variable (m : (ℓ : Loc nD τ sig) → Buf (Elt Ideal) ℓ) (c : Dev nD)

theorem idx : ∀ t : Fin grid0.N, win0_0.index t = ![t.val / 4, 0] ∧ win0_1.index t = ![0, t.val % 4]
    ∧ win0_2.index t = ![t.val / 4, t.val % 4] := by decide +kernel

theorem outs (t : Fin cfg0.N) (j : (Mat 1024 1024).Idx) : outsAt0 m c t j = nn (iblk m c 0 t) (iblk m c 1 t) j := by
  unfold outsAt0
  frame_out
  exact (step_nn (M := 1024) (N := 1024) (K := 512) (k0_pay1 (F := Ideal)) j _ _ (iblk m c 0 t) (iblk m c 1 t)).trans
    ((congrArg (· + _) (zero_block j _)).trans (zero_add _))

theorem final : (dats m 0 c).arrAt 2 cfg0.N
    = (nn (m ((c.tc : Thread nD τ).loc main_arg0)) (m ((c.tc : Thread nD τ).loc main_arg1)) : (Mat 4096 4096).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.UkvIdeal.Mm

/-! The gradients of the weights. -/

namespace Cert.UqDwIdeal.Mm

open Idealize.ShloMosaic Idealize.ShloMosaic.TcCoe Cert.Prod Cert.UqDwIdeal.Gen

variable (m : (ℓ : Loc nD τ sig) → Buf (Elt Ideal) ℓ) (c : Dev nD)

theorem idx : ∀ t : Fin grid0.N, win0_0.index t = ![t.val % 2, 0] ∧ win0_1.index t = ![t.val % 2, t.val / 2]
    ∧ win0_2.index t = ![0, t.val / 2] := by decide +kernel

theorem step (acc : Vec Ideal S512x1536 .f32) (x : Vec Ideal S2048x512 .bf16) (y : Vec Ideal S2048x1536 .bf16) (j : (Mat 512 1536).Idx) :
    k0_pay2 (F := Ideal) acc x y j = (acc j : EReal) + tn x y j :=
  step_tn (M := 512) (N := 1536) (K := 2048) acc j _ _ x y

/-- At the point that writes the output back, the block is the sum of the run's two products. -/
theorem outs (t : Fin cfg0.N) (h : t.val % 2 = 1) (j : (Mat 512 1536).Idx) :
    (outsAt0 m c t.val t.isLt).1 j
      = ∑ s : Fin 2, tn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => tn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (tn (m ((c.tc : Thread nD τ).loc main_arg0)) (m ((c.tc : Thread nD τ).loc main_arg1)) : (Mat 512 3072).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.UqDwIdeal.Mm

namespace Cert.UkvDwIdeal.Mm

open Idealize.ShloMosaic Idealize.ShloMosaic.TcCoe Cert.Prod Cert.UkvDwIdeal.Gen

variable (m : (ℓ : Loc nD τ sig) → Buf (Elt Ideal) ℓ) (c : Dev nD)

theorem idx : ∀ t : Fin grid0.N, win0_0.index t = ![t.val % 2, 0] ∧ win0_1.index t = ![t.val % 2, t.val / 2]
    ∧ win0_2.index t = ![0, t.val / 2] := by decide +kernel

theorem step (acc : Vec Ideal S512x1024 .f32) (x : Vec Ideal S2048x512 .bf16) (y : Vec Ideal S2048x1024 .bf16) (j : (Mat 512 1024).Idx) :
    k0_pay2 (F := Ideal) acc x y j = (acc j : EReal) + tn x y j :=
  step_tn (M := 512) (N := 1024) (K := 2048) acc j _ _ x y

/-- At the point that writes the output back, the block is the sum of the run's two products. -/
theorem outs (t : Fin cfg0.N) (h : t.val % 2 = 1) (j : (Mat 512 1024).Idx) :
    (outsAt0 m c t.val t.isLt).1 j
      = ∑ s : Fin 2, tn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => tn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (tn (m ((c.tc : Thread nD τ).loc main_arg0)) (m ((c.tc : Thread nD τ).loc main_arg1)) : (Mat 512 4096).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.UkvDwIdeal.Mm

/-! The gradients of the inputs. -/

namespace Cert.UqDxIdeal.Mm

open Idealize.ShloMosaic Idealize.ShloMosaic.TcCoe Cert.Prod Cert.UqDxIdeal.Gen

variable (m : (ℓ : Loc nD τ sig) → Buf (Elt Ideal) ℓ) (c : Dev nD)

theorem idx : ∀ t : Fin grid0.N, win0_0.index t = ![t.val / 2, t.val % 2] ∧ win0_1.index t = ![0, t.val % 2]
    ∧ win0_2.index t = ![t.val / 2, 0] := by decide +kernel

theorem step (acc : Vec Ideal S1024x512 .f32) (x : Vec Ideal S1024x1536 .bf16) (y : Vec Ideal S512x1536 .bf16) (j : (Mat 1024 512).Idx) :
    k0_pay2 (F := Ideal) acc x y j = (acc j : EReal) + nt x y j :=
  step_nt (M := 1024) (N := 512) (K := 1536) acc j _ _ x y

/-- At the point that writes the output back, the block is the sum of the run's two products. -/
theorem outs (t : Fin cfg0.N) (h : t.val % 2 = 1) (j : (Mat 1024 512).Idx) :
    (outsAt0 m c t.val t.isLt).1 j
      = ∑ s : Fin 2, nt (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => nt (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (nt (m ((c.tc : Thread nD τ).loc main_arg0)) (m ((c.tc : Thread nD τ).loc main_arg1)) : (Mat 4096 512).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.UqDxIdeal.Mm

namespace Cert.UkvDxIdeal.Mm

open Idealize.ShloMosaic Idealize.ShloMosaic.TcCoe Cert.Prod Cert.UkvDxIdeal.Gen

variable (m : (ℓ : Loc nD τ sig) → Buf (Elt Ideal) ℓ) (c : Dev nD)

theorem idx : ∀ t : Fin grid0.N, win0_0.index t = ![t.val / 2, t.val % 2] ∧ win0_1.index t = ![0, t.val % 2]
    ∧ win0_2.index t = ![t.val / 2, 0] := by decide +kernel

theorem step (acc : Vec Ideal S1024x512 .f32) (x : Vec Ideal S1024x2048 .bf16) (y : Vec Ideal S512x2048 .bf16) (j : (Mat 1024 512).Idx) :
    k0_pay2 (F := Ideal) acc x y j = (acc j : EReal) + nt x y j :=
  step_nt (M := 1024) (N := 512) (K := 2048) acc j _ _ x y

/-- At the point that writes the output back, the block is the sum of the run's two products. -/
theorem outs (t : Fin cfg0.N) (h : t.val % 2 = 1) (j : (Mat 1024 512).Idx) :
    (outsAt0 m c t.val t.isLt).1 j
      = ∑ s : Fin 2, nt (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => nt (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (nt (m ((c.tc : Thread nD τ).loc main_arg0)) (m ((c.tc : Thread nD τ).loc main_arg1)) : (Mat 4096 512).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.UkvDxIdeal.Mm

/-! The claims. -/

namespace Cert.UqProof

open Idealize.ShloMosaic Idealize.ShloMosaic.TcCoe Idealize.SL.Sem Cert.Prod

theorem bodies_eq : Cert.Uq.defs₀ (F := Bits) = Cert.UqIdeal.defs₀ := by
  unfold Cert.Uq.defs₀ Cert.UqIdeal.defs₀
  exact congrArg Defs.onTc (funext fun l => match l with | 0 => funext fun ⟨_, _⟩ => rfl)

theorem frame_kernel : Cert.quiescent_Uq := fun m ρ _ => by
  have h := Cert.UqIdeal.Gen.frame (F := Bits) m ρ
  rw [← show Cert.Uq.defs (F := Bits) = Cert.UqIdeal.defs from congrArg (Pipeline.defs _) bodies_eq] at h
  exact h

theorem frame_ideal : Cert.quiescent_UqIdeal := fun m ρ _ => Cert.UqIdeal.Gen.frame (F := Ideal) m ρ

theorem frame_ref : Cert.quiescent_UqRefIdeal := fun m ρ _ =>
  (θ_run Cert.UqRefIdeal.defs _ _).mono (fun r h => ⟨fun c => (h c).2, sem_eq_zero_of_no_sems (by decide) r.2⟩)
    (Cert.UqRefIdeal.Value.run (F := Ideal) m ρ)

theorem algebraic : Cert.algebraic_UqIdeal_UqRefIdeal := fun m ρ m' ρ' _ hagree =>
  ⟨fun c => nn (m ((c.tc : Thread _ _).loc UqIdeal.main_arg0)) (m ((c.tc : Thread _ _).loc UqIdeal.main_arg1)),
    (θ_run UqIdeal.defs _ _).mono (fun r h c => ⟨(h c).1.trans (UqIdeal.Mm.final m c), (h c).2⟩)
      (UqIdeal.Value.run_blocks (F := Ideal) m ρ),
    (θ_run UqRefIdeal.defs _ _).mono (fun r h c => ⟨(h c).1.trans (by
        rw [(hagree c).1, (hagree c).2]
        exact host_nn _ _ _ _ _), (h c).2⟩)
      (UqRefIdeal.Value.run (F := Ideal) m' ρ')⟩

end Cert.UqProof

namespace Cert.UkvProof

open Idealize.ShloMosaic Idealize.ShloMosaic.TcCoe Idealize.SL.Sem Cert.Prod

theorem bodies_eq : Cert.Ukv.defs₀ (F := Bits) = Cert.UkvIdeal.defs₀ := by
  unfold Cert.Ukv.defs₀ Cert.UkvIdeal.defs₀
  exact congrArg Defs.onTc (funext fun l => match l with | 0 => funext fun ⟨_, _⟩ => rfl)

theorem frame_kernel : Cert.quiescent_Ukv := fun m ρ _ => by
  have h := Cert.UkvIdeal.Gen.frame (F := Bits) m ρ
  rw [← show Cert.Ukv.defs (F := Bits) = Cert.UkvIdeal.defs from congrArg (Pipeline.defs _) bodies_eq] at h
  exact h

theorem frame_ideal : Cert.quiescent_UkvIdeal := fun m ρ _ => Cert.UkvIdeal.Gen.frame (F := Ideal) m ρ

theorem frame_ref : Cert.quiescent_UkvRefIdeal := fun m ρ _ =>
  (θ_run Cert.UkvRefIdeal.defs _ _).mono (fun r h => ⟨fun c => (h c).2, sem_eq_zero_of_no_sems (by decide) r.2⟩)
    (Cert.UkvRefIdeal.Value.run (F := Ideal) m ρ)

theorem algebraic : Cert.algebraic_UkvIdeal_UkvRefIdeal := fun m ρ m' ρ' _ hagree =>
  ⟨fun c => nn (m ((c.tc : Thread _ _).loc UkvIdeal.main_arg0)) (m ((c.tc : Thread _ _).loc UkvIdeal.main_arg1)),
    (θ_run UkvIdeal.defs _ _).mono (fun r h c => ⟨(h c).1.trans (UkvIdeal.Mm.final m c), (h c).2⟩)
      (UkvIdeal.Value.run_blocks (F := Ideal) m ρ),
    (θ_run UkvRefIdeal.defs _ _).mono (fun r h c => ⟨(h c).1.trans (by
        rw [(hagree c).1, (hagree c).2]
        exact host_nn _ _ _ _ _), (h c).2⟩)
      (UkvRefIdeal.Value.run (F := Ideal) m' ρ')⟩

end Cert.UkvProof

namespace Cert.UqDwProof

open Idealize.ShloMosaic Idealize.ShloMosaic.TcCoe Idealize.SL.Sem Cert.Prod

theorem bodies_eq : Cert.UqDw.defs₀ (F := Bits) = Cert.UqDwIdeal.defs₀ := by
  unfold Cert.UqDw.defs₀ Cert.UqDwIdeal.defs₀
  exact congrArg Defs.onTc (funext fun l => match l with | 0 => funext fun ⟨_, _⟩ => rfl)

theorem frame_kernel : Cert.quiescent_UqDw := fun m ρ _ => by
  have h := Cert.UqDwIdeal.Gen.frame (F := Bits) m ρ
  rw [← show Cert.UqDw.defs (F := Bits) = Cert.UqDwIdeal.defs from congrArg (Pipeline.defs _) bodies_eq] at h
  exact h

theorem frame_ideal : Cert.quiescent_UqDwIdeal := fun m ρ _ => Cert.UqDwIdeal.Gen.frame (F := Ideal) m ρ

theorem frame_ref : Cert.quiescent_UqDwRefIdeal := fun m ρ _ =>
  (θ_run Cert.UqDwRefIdeal.defs _ _).mono (fun r h => ⟨fun c => (h c).2, sem_eq_zero_of_no_sems (by decide) r.2⟩)
    (Cert.UqDwRefIdeal.Value.run (F := Ideal) m ρ)

theorem algebraic : Cert.algebraic_UqDwIdeal_UqDwRefIdeal := fun m ρ m' ρ' _ hagree =>
  ⟨fun c => tn (m ((c.tc : Thread _ _).loc UqDwIdeal.main_arg0)) (m ((c.tc : Thread _ _).loc UqDwIdeal.main_arg1)),
    (θ_run UqDwIdeal.defs _ _).mono (fun r h c => ⟨(h c).1.trans (UqDwIdeal.Mm.final m c), (h c).2⟩)
      (UqDwIdeal.Value.run_blocks (F := Ideal) m ρ),
    (θ_run UqDwRefIdeal.defs _ _).mono (fun r h c => ⟨(h c).1.trans (by
        rw [(hagree c).1, (hagree c).2]
        exact host_tn _ _ _ _ _ _), (h c).2⟩)
      (UqDwRefIdeal.Value.run (F := Ideal) m' ρ')⟩

end Cert.UqDwProof

namespace Cert.UkvDwProof

open Idealize.ShloMosaic Idealize.ShloMosaic.TcCoe Idealize.SL.Sem Cert.Prod

theorem bodies_eq : Cert.UkvDw.defs₀ (F := Bits) = Cert.UkvDwIdeal.defs₀ := by
  unfold Cert.UkvDw.defs₀ Cert.UkvDwIdeal.defs₀
  exact congrArg Defs.onTc (funext fun l => match l with | 0 => funext fun ⟨_, _⟩ => rfl)

theorem frame_kernel : Cert.quiescent_UkvDw := fun m ρ _ => by
  have h := Cert.UkvDwIdeal.Gen.frame (F := Bits) m ρ
  rw [← show Cert.UkvDw.defs (F := Bits) = Cert.UkvDwIdeal.defs from congrArg (Pipeline.defs _) bodies_eq] at h
  exact h

theorem frame_ideal : Cert.quiescent_UkvDwIdeal := fun m ρ _ => Cert.UkvDwIdeal.Gen.frame (F := Ideal) m ρ

theorem frame_ref : Cert.quiescent_UkvDwRefIdeal := fun m ρ _ =>
  (θ_run Cert.UkvDwRefIdeal.defs _ _).mono (fun r h => ⟨fun c => (h c).2, sem_eq_zero_of_no_sems (by decide) r.2⟩)
    (Cert.UkvDwRefIdeal.Value.run (F := Ideal) m ρ)

theorem algebraic : Cert.algebraic_UkvDwIdeal_UkvDwRefIdeal := fun m ρ m' ρ' _ hagree =>
  ⟨fun c => tn (m ((c.tc : Thread _ _).loc UkvDwIdeal.main_arg0)) (m ((c.tc : Thread _ _).loc UkvDwIdeal.main_arg1)),
    (θ_run UkvDwIdeal.defs _ _).mono (fun r h c => ⟨(h c).1.trans (UkvDwIdeal.Mm.final m c), (h c).2⟩)
      (UkvDwIdeal.Value.run_blocks (F := Ideal) m ρ),
    (θ_run UkvDwRefIdeal.defs _ _).mono (fun r h c => ⟨(h c).1.trans (by
        rw [(hagree c).1, (hagree c).2]
        exact host_tn _ _ _ _ _ _), (h c).2⟩)
      (UkvDwRefIdeal.Value.run (F := Ideal) m' ρ')⟩

end Cert.UkvDwProof

namespace Cert.UqDxProof

open Idealize.ShloMosaic Idealize.ShloMosaic.TcCoe Idealize.SL.Sem Cert.Prod

theorem bodies_eq : Cert.UqDx.defs₀ (F := Bits) = Cert.UqDxIdeal.defs₀ := by
  unfold Cert.UqDx.defs₀ Cert.UqDxIdeal.defs₀
  exact congrArg Defs.onTc (funext fun l => match l with | 0 => funext fun ⟨_, _⟩ => rfl)

theorem frame_kernel : Cert.quiescent_UqDx := fun m ρ _ => by
  have h := Cert.UqDxIdeal.Gen.frame (F := Bits) m ρ
  rw [← show Cert.UqDx.defs (F := Bits) = Cert.UqDxIdeal.defs from congrArg (Pipeline.defs _) bodies_eq] at h
  exact h

theorem frame_ideal : Cert.quiescent_UqDxIdeal := fun m ρ _ => Cert.UqDxIdeal.Gen.frame (F := Ideal) m ρ

theorem frame_ref : Cert.quiescent_UqDxRefIdeal := fun m ρ _ =>
  (θ_run Cert.UqDxRefIdeal.defs _ _).mono (fun r h => ⟨fun c => (h c).2, sem_eq_zero_of_no_sems (by decide) r.2⟩)
    (Cert.UqDxRefIdeal.Value.run (F := Ideal) m ρ)

theorem algebraic : Cert.algebraic_UqDxIdeal_UqDxRefIdeal := fun m ρ m' ρ' _ hagree =>
  ⟨fun c => nt (m ((c.tc : Thread _ _).loc UqDxIdeal.main_arg0)) (m ((c.tc : Thread _ _).loc UqDxIdeal.main_arg1)),
    (θ_run UqDxIdeal.defs _ _).mono (fun r h c => ⟨(h c).1.trans (UqDxIdeal.Mm.final m c), (h c).2⟩)
      (UqDxIdeal.Value.run_blocks (F := Ideal) m ρ),
    (θ_run UqDxRefIdeal.defs _ _).mono (fun r h c => ⟨(h c).1.trans (by
        rw [(hagree c).1, (hagree c).2]
        exact host_nt _ _ _ _ _), (h c).2⟩)
      (UqDxRefIdeal.Value.run (F := Ideal) m' ρ')⟩

end Cert.UqDxProof

namespace Cert.UkvDxProof

open Idealize.ShloMosaic Idealize.ShloMosaic.TcCoe Idealize.SL.Sem Cert.Prod

theorem bodies_eq : Cert.UkvDx.defs₀ (F := Bits) = Cert.UkvDxIdeal.defs₀ := by
  unfold Cert.UkvDx.defs₀ Cert.UkvDxIdeal.defs₀
  exact congrArg Defs.onTc (funext fun l => match l with | 0 => funext fun ⟨_, _⟩ => rfl)

theorem frame_kernel : Cert.quiescent_UkvDx := fun m ρ _ => by
  have h := Cert.UkvDxIdeal.Gen.frame (F := Bits) m ρ
  rw [← show Cert.UkvDx.defs (F := Bits) = Cert.UkvDxIdeal.defs from congrArg (Pipeline.defs _) bodies_eq] at h
  exact h

theorem frame_ideal : Cert.quiescent_UkvDxIdeal := fun m ρ _ => Cert.UkvDxIdeal.Gen.frame (F := Ideal) m ρ

theorem frame_ref : Cert.quiescent_UkvDxRefIdeal := fun m ρ _ =>
  (θ_run Cert.UkvDxRefIdeal.defs _ _).mono (fun r h => ⟨fun c => (h c).2, sem_eq_zero_of_no_sems (by decide) r.2⟩)
    (Cert.UkvDxRefIdeal.Value.run (F := Ideal) m ρ)

theorem algebraic : Cert.algebraic_UkvDxIdeal_UkvDxRefIdeal := fun m ρ m' ρ' _ hagree =>
  ⟨fun c => nt (m ((c.tc : Thread _ _).loc UkvDxIdeal.main_arg0)) (m ((c.tc : Thread _ _).loc UkvDxIdeal.main_arg1)),
    (θ_run UkvDxIdeal.defs _ _).mono (fun r h c => ⟨(h c).1.trans (UkvDxIdeal.Mm.final m c), (h c).2⟩)
      (UkvDxIdeal.Value.run_blocks (F := Ideal) m ρ),
    (θ_run UkvDxRefIdeal.defs _ _).mono (fun r h c => ⟨(h c).1.trans (by
        rw [(hagree c).1, (hagree c).2]
        exact host_nt _ _ _ _ _), (h c).2⟩)
      (UkvDxRefIdeal.Value.run (F := Ideal) m' ρ')⟩

end Cert.UkvDxProof

end
-- ==== Proof.Rest.lean ====
/- The gradient of the attention's output, the block's last product with the residual added, and the product of the layer's own embedding. -/
module

public import proofs.«01_k».proof.Defs
public import proofs.«01_k».proof.Proof.Prod
public import proofs.«01_k».proof.Proof.Gen.MlaDx
public import proofs.«01_k».proof.Proof.Gen.MlaDxIdeal.Value
public import proofs.«01_k».proof.Proof.Gen.MlaDxRefIdeal.Run
public import proofs.«01_k».proof.Proof.Gen.Out
public import proofs.«01_k».proof.Proof.Gen.OutIdeal.Value
public import proofs.«01_k».proof.Proof.Gen.OutRefIdeal.Run
public import proofs.«01_k».proof.Proof.Gen.Ple
public import proofs.«01_k».proof.Proof.Gen.PleIdeal.Value
public import proofs.«01_k».proof.Proof.Gen.PleRefIdeal.Run
public import proofs.«01_k».proof.Proof.Gen.PleDw
public import proofs.«01_k».proof.Proof.Gen.PleDwIdeal.Value
public import proofs.«01_k».proof.Proof.Gen.PleDwRefIdeal.Run
public import Idealize.ShloMosaic.Lib.Quiescent

@[expose] public section

set_option maxRecDepth 16384

noncomputable section

/-! The gradient of the attention's output, cast to the narrow format at the end: over the reals the cast changes nothing. -/

namespace Cert.MlaDxIdeal.Mm

open Idealize.ShloMosaic Idealize.ShloMosaic.TcCoe Cert.Prod Cert.MlaDxIdeal.Gen

variable (m : (ℓ : Loc nD τ sig) → Buf (Elt Ideal) ℓ) (c : Dev nD)

theorem idx : ∀ t : Fin grid0.N, win0_0.index t = ![t.val / 2, 0] ∧ win0_1.index t = ![t.val % 2, 0]
    ∧ win0_2.index t = ![t.val / 2, t.val % 2] := by decide +kernel

theorem outs (t : Fin cfg0.N) (j : (Mat 1024 1024).Idx) : outsAt0 m c t j = nt (iblk m c 0 t) (iblk m c 1 t) j := by
  unfold outsAt0
  frame_out
  exact (step_nt (M := 1024) (N := 1024) (K := 2048) (k0_pay1 (F := Ideal)) j _ _ (iblk m c 0 t) (iblk m c 1 t)).trans
    ((congrArg (· + _) (zero_block j _)).trans (zero_add _))

theorem final : (dats m 0 c).arrAt 2 cfg0.N
    = (nt (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.MlaDxIdeal.Mm

/-! The last product of the layer, with the residual. -/

namespace Cert.OutIdeal.Mm

open Idealize.ShloMosaic Idealize.ShloMosaic.TcCoe Cert.Prod Cert.OutIdeal.Gen

variable (m : (ℓ : Loc nD τ sig) → Buf (Elt Ideal) ℓ) (c : Dev nD)

theorem idx : ∀ t : Fin grid0.N, win0_0.index t = ![t.val / 2, 0] ∧ win0_1.index t = ![0, t.val % 2]
    ∧ win0_2.index t = ![t.val / 2, t.val % 2] ∧ win0_3.index t = ![t.val / 2, t.val % 2] := by decide +kernel

theorem outs (t : Fin cfg0.N) (j : (Mat 1024 1024).Idx) :
    outsAt0 m c t j = nn (iblk m c 0 t) (iblk m c 1 t) j + (iblk m c 2 t j : EReal) := by
  unfold outsAt0
  frame_out
  exact congrArg (· + _)
    ((step_nn (M := 1024) (N := 1024) (K := 2048) (k0_pay1 (F := Ideal)) j _ _ (iblk m c 0 t) (iblk m c 1 t)).trans
      ((congrArg (· + _) (zero_block j _)).trans (zero_add _)))

theorem final : (dats m 0 c).arrAt 3 cfg0.N
    = (plus (m ((c.tc : Thread nD τ).loc main_arg2))
        (nn (m ((c.tc : Thread nD τ).loc main_arg0)) (m ((c.tc : Thread nD τ).loc main_arg1))) : (Mat 4096 2048).Idx → EReal) := by
  refine (dats m 0 c).arrAt_eq_of_covers 3 _ (by decide +kernel) fun t hf y => ?_
  blk_simp
  rw [after0_3, outs, add_comm]
  refine congrArg₂ (· + ·) (by blk_ext [iblk, V, idx t]) ?_
  refine Finset.sum_congr (M := EReal) rfl fun k _ => ?_
  congr 1 <;> blk_ext [iblk, V, idx t]

end Cert.OutIdeal.Mm

/-! The product of the layer's embedding, and the gradient of its weight. -/

namespace Cert.PleIdeal.Mm

open Idealize.ShloMosaic Idealize.ShloMosaic.TcCoe Cert.Prod Cert.PleIdeal.Gen

variable (m : (ℓ : Loc nD τ sig) → Buf (Elt Ideal) ℓ) (c : Dev nD)

theorem idx : ∀ t : Fin grid0.N, win0_0.index t = ![t.val / 2, 0] ∧ win0_1.index t = ![0, t.val % 2]
    ∧ win0_2.index t = ![t.val / 2, t.val % 2] := by decide +kernel

theorem outs (t : Fin cfg0.N) (j : (Mat 1024 1024).Idx) : outsAt0 m c t j = nn (iblk m c 0 t) (iblk m c 1 t) j := by
  unfold outsAt0
  frame_out
  exact (step_nn (M := 1024) (N := 1024) (K := 256) (k0_pay1 (F := Ideal)) j _ _ (iblk m c 0 t) (iblk m c 1 t)).trans
    ((congrArg (· + _) (zero_block j _)).trans (zero_add _))

theorem final : (dats m 0 c).arrAt 2 cfg0.N
    = (nn (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  blk_simp
  rw [after0_2, outs]
  refine Finset.sum_congr (M := EReal) rfl fun k _ => ?_
  congr 1 <;> blk_ext [iblk, V, idx t]

end Cert.PleIdeal.Mm

namespace Cert.PleDwIdeal.Mm

open Idealize.ShloMosaic Idealize.ShloMosaic.TcCoe Cert.Prod Cert.PleDwIdeal.Gen

variable (m : (ℓ : Loc nD τ sig) → Buf (Elt Ideal) ℓ) (c : Dev nD)

theorem idx : ∀ t : Fin grid0.N, win0_0.index t = ![t.val % 2, 0] ∧ win0_1.index t = ![t.val % 2, t.val / 2]
    ∧ win0_2.index t = ![0, t.val / 2] := by decide +kernel

theorem step (acc : Vec Ideal S256x1024 .f32) (x : Vec Ideal S2048x256 .bf16) (y : Vec Ideal S2048x1024 .bf16) (j : (Mat 256 1024).Idx) :
    k0_pay2 (F := Ideal) acc x y j = (acc j : EReal) + tn x y j :=
  step_tn (M := 256) (N := 1024) (K := 2048) acc j _ _ x y

/-- At the point that writes the output back, the block is the sum of the run's two products. -/
theorem outs (t : Fin cfg0.N) (h : t.val % 2 = 1) (j : (Mat 256 1024).Idx) :
    (outsAt0 m c t.val t.isLt).1 j
      = ∑ s : Fin 2, tn (iblk m c 0 ⟨2 * (t.val / 2) + s.val, Pipeline.run_point_lt_of_flush t h s⟩)
          (iblk m c 1 ⟨2 * (t.val / 2) + s.val, Pipeline.run_point_lt_of_flush t h s⟩) j := by
  trans (outsAt0 m c t.val t.isLt).2 j
  · rw [outsAt0_B m c t (by omega) h]
    frame_out
  rw [Pipeline.eq_sum_fin_of_reset_step_apply_of_flush (fun n h => (outsAt0 m c n h).2) 2 (fun _ => (0 : EReal))
    (fun t j => tn (iblk m c 0 t) (iblk m c 1 t) j)
    (fun t h j => by
      rw [outsAt0_A m c t h (by omega)]; frame_out; rw [step]; exact congrArg (· + _) (zero_block j _))
    (fun t h j => by
      rw [outsAt0_B m c t h (by omega)]; frame_out; rw [step]
      exact congrArg (· + _) (congrFun ((Memref.isWhole_whole cc0_scratch0).read_unread _) j)) t h j, zero_add]

theorem final : (dats m 0 c).arrAt 2 cfg0.N
    = (tn (m ((c.tc : Thread nD τ).loc main_arg0)) (m ((c.tc : Thread nD τ).loc main_arg1)) : (Mat 256 2048).Idx → EReal) := by
  refine (dats m 0 c).arrAt_eq_of_covers 2 _ (by decide +kernel) fun t hf y => ?_
  have h := (flush0_2 t).mp hf
  blk_simp
  rw [after0_2, outs m c t h]
  refine Fin.sum_mul_add_congr fun s k hl => ?_
  have e := idx ⟨2 * (t.val / 2) + s.val, Pipeline.run_point_lt_of_flush t h s⟩
  congr 1 <;> blk_ext [iblk, V, idx t, e]

end Cert.PleDwIdeal.Mm

/-! The claims. -/

namespace Cert.MlaDxProof

open Idealize.ShloMosaic Idealize.ShloMosaic.TcCoe Idealize.SL.Sem Cert.Prod

theorem bodies_eq : Cert.MlaDx.defs₀ (F := Bits) = Cert.MlaDxIdeal.defs₀ := by
  unfold Cert.MlaDx.defs₀ Cert.MlaDxIdeal.defs₀
  exact congrArg Defs.onTc (funext fun l => match l with | 0 => funext fun ⟨_, _⟩ => rfl)

theorem frame_kernel : Cert.quiescent_MlaDx := fun m ρ _ => by
  have h := Cert.MlaDxIdeal.Gen.frame (F := Bits) m ρ
  rw [← show Cert.MlaDx.defs (F := Bits) = Cert.MlaDxIdeal.defs from congrArg (Pipeline.defs _) bodies_eq] at h
  exact h

theorem frame_ideal : Cert.quiescent_MlaDxIdeal := fun m ρ _ => Cert.MlaDxIdeal.Gen.frame (F := Ideal) m ρ

theorem frame_ref : Cert.quiescent_MlaDxRefIdeal := fun m ρ _ =>
  (θ_run Cert.MlaDxRefIdeal.defs _ _).mono (fun r h => ⟨fun c => (h c).2, sem_eq_zero_of_no_sems (by decide) r.2⟩)
    (Cert.MlaDxRefIdeal.Value.run (F := Ideal) m ρ)

theorem algebraic : Cert.algebraic_MlaDxIdeal_MlaDxRefIdeal := fun m ρ m' ρ' _ hagree =>
  ⟨fun c => nt (m ((c.tc : Thread _ _).loc MlaDxIdeal.main_arg0)) (m ((c.tc : Thread _ _).loc MlaDxIdeal.main_arg1)),
    (θ_run MlaDxIdeal.defs _ _).mono (fun r h c => ⟨(h c).1.trans (MlaDxIdeal.Mm.final m c), (h c).2⟩)
      (MlaDxIdeal.Value.run_blocks (F := Ideal) m ρ),
    (θ_run MlaDxRefIdeal.defs _ _).mono (fun r h c => ⟨(h c).1.trans (by
        rw [(hagree c).1, (hagree c).2]
        exact host_nt _ _ _ _ _), (h c).2⟩)
      (MlaDxRefIdeal.Value.run (F := Ideal) m' ρ')⟩

end Cert.MlaDxProof

namespace Cert.OutProof

open Idealize.ShloMosaic Idealize.ShloMosaic.TcCoe Idealize.SL.Sem Cert.Prod

theorem bodies_eq : Cert.Out.defs₀ (F := Bits) = Cert.OutIdeal.defs₀ := by
  unfold Cert.Out.defs₀ Cert.OutIdeal.defs₀
  exact congrArg Defs.onTc (funext fun l => match l with | 0 => funext fun ⟨_, _⟩ => rfl)

theorem frame_kernel : Cert.quiescent_Out := fun m ρ _ => by
  have h := Cert.OutIdeal.Gen.frame (F := Bits) m ρ
  rw [← show Cert.Out.defs (F := Bits) = Cert.OutIdeal.defs from congrArg (Pipeline.defs _) bodies_eq] at h
  exact h

theorem frame_ideal : Cert.quiescent_OutIdeal := fun m ρ _ => Cert.OutIdeal.Gen.frame (F := Ideal) m ρ

theorem frame_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem algebraic : Cert.algebraic_OutIdeal_OutRefIdeal := fun m ρ m' ρ' _ hagree =>
  ⟨fun c => plus (m ((c.tc : Thread _ _).loc OutIdeal.main_arg2))
      (nn (m ((c.tc : Thread _ _).loc OutIdeal.main_arg0)) (m ((c.tc : Thread _ _).loc OutIdeal.main_arg1))),
    (θ_run OutIdeal.defs _ _).mono (fun r h c => ⟨(h c).1.trans (OutIdeal.Mm.final m c), (h c).2⟩)
      (OutIdeal.Value.run_blocks (F := Ideal) m ρ),
    (θ_run OutRefIdeal.defs _ _).mono (fun r h c => ⟨(h c).1.trans (by
        rw [(hagree c).1, (hagree c).2.1, (hagree c).2.2]
        exact congrArg (addf _) (host_nn _ _ _ _ _)), (h c).2⟩)
      (OutRefIdeal.Value.run (F := Ideal) m' ρ')⟩

end Cert.OutProof

namespace Cert.PleProof

open Idealize.ShloMosaic Idealize.ShloMosaic.TcCoe Idealize.SL.Sem Cert.Prod

theorem bodies_eq : Cert.Ple.defs₀ (F := Bits) = Cert.PleIdeal.defs₀ := by
  unfold Cert.Ple.defs₀ Cert.PleIdeal.defs₀
  exact congrArg Defs.onTc (funext fun l => match l with | 0 => funext fun ⟨_, _⟩ => rfl)

theorem frame_kernel : Cert.quiescent_Ple := fun m ρ _ => by
  have h := Cert.PleIdeal.Gen.frame (F := Bits) m ρ
  rw [← show Cert.Ple.defs (F := Bits) = Cert.PleIdeal.defs from congrArg (Pipeline.defs _) bodies_eq] at h
  exact h

theorem frame_ideal : Cert.quiescent_PleIdeal := fun m ρ _ => Cert.PleIdeal.Gen.frame (F := Ideal) m ρ

theorem frame_ref : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

theorem algebraic : Cert.algebraic_PleIdeal_PleRefIdeal := fun m ρ m' ρ' _ hagree =>
  ⟨fun c => nn (m ((c.tc : Thread _ _).loc PleIdeal.main_arg0)) (m ((c.tc : Thread _ _).loc PleIdeal.main_arg1)),
    (θ_run PleIdeal.defs _ _).mono (fun r h c => ⟨(h c).1.trans (PleIdeal.Mm.final m c), (h c).2⟩)
      (PleIdeal.Value.run_blocks (F := Ideal) m ρ),
    (θ_run PleRefIdeal.defs _ _).mono (fun r h c => ⟨(h c).1.trans (by
        rw [(hagree c).1, (hagree c).2]
        exact host_nn _ _ _ _ _), (h c).2⟩)
      (PleRefIdeal.Value.run (F := Ideal) m' ρ')⟩

end Cert.PleProof

namespace Cert.PleDwProof

open Idealize.ShloMosaic Idealize.ShloMosaic.TcCoe Idealize.SL.Sem Cert.Prod

theorem bodies_eq : Cert.PleDw.defs₀ (F := Bits) = Cert.PleDwIdeal.defs₀ := by
  unfold Cert.PleDw.defs₀ Cert.PleDwIdeal.defs₀
  exact congrArg Defs.onTc (funext fun l => match l with | 0 => funext fun ⟨_, _⟩ => rfl)

theorem frame_kernel : Cert.quiescent_PleDw := fun m ρ _ => by
  have h := Cert.PleDwIdeal.Gen.frame (F := Bits) m ρ
  rw [← show Cert.PleDw.defs (F := Bits) = Cert.PleDwIdeal.defs from congrArg (Pipeline.defs _) bodies_eq] at h
  exact h

theorem frame_ideal : Cert.quiescent_PleDwIdeal := fun m ρ _ => Cert.PleDwIdeal.Gen.frame (F := Ideal) m ρ

theorem frame_ref : Cert.quiescent_PleDwRefIdeal := fun m ρ _ =>
  (θ_run Cert.PleDwRefIdeal.defs _ _).mono (fun r h => ⟨fun c => (h c).2, sem_eq_zero_of_no_sems (by decide) r.2⟩)
    (Cert.PleDwRefIdeal.Value.run (F := Ideal) m ρ)

theorem algebraic : Cert.algebraic_PleDwIdeal_PleDwRefIdeal := fun m ρ m' ρ' _ hagree =>
  ⟨fun c => tn (m ((c.tc : Thread _ _).loc PleDwIdeal.main_arg0)) (m ((c.tc : Thread _ _).loc PleDwIdeal.main_arg1)),
    (θ_run PleDwIdeal.defs _ _).mono (fun r h c => ⟨(h c).1.trans (PleDwIdeal.Mm.final m c), (h c).2⟩)
      (PleDwIdeal.Value.run_blocks (F := Ideal) m ρ),
    (θ_run PleDwRefIdeal.defs _ _).mono (fun r h c => ⟨(h c).1.trans (by
        rw [(hagree c).1, (hagree c).2]
        exact host_tn _ _ _ _ _ _), (h c).2⟩)
      (PleDwRefIdeal.Value.run (F := Ideal) m' ρ')⟩

end Cert.PleDwProof

end
-- ==== Proof.Gates.lean ====
/- The gates and the squared ReLU: their values, and the gradients through them, entry by entry. -/
module

public import proofs.«01_k».proof.Defs
public import proofs.«01_k».proof.Proof.Prod
public import proofs.«01_k».proof.Proof.Gen.Relu
public import proofs.«01_k».proof.Proof.Gen.ReluIdeal.Value
public import proofs.«01_k».proof.Proof.Gen.ReluRefIdeal.Run
public import proofs.«01_k».proof.Proof.Gen.ReluBwd
public import proofs.«01_k».proof.Proof.Gen.ReluBwdIdeal.Value
public import proofs.«01_k».proof.Proof.Gen.ReluBwdRefIdeal.Run
public import proofs.«01_k».proof.Proof.Gen.Merge
public import proofs.«01_k».proof.Proof.Gen.MergeIdeal.Value
public import proofs.«01_k».proof.Proof.Gen.MergeRefIdeal.Run
public import proofs.«01_k».proof.Proof.Gen.PleMerge
public import proofs.«01_k».proof.Proof.Gen.PleMergeIdeal.Value
public import proofs.«01_k».proof.Proof.Gen.PleMergeRefIdeal.Run
public import Idealize.ShloMosaic.Lib.Quiescent

@[expose] public section

set_option maxRecDepth 16384

noncomputable section

/-! The scalar facts. -/

namespace Cert.Gate

open Idealize.ShloMosaic Cert.Prod

/-- The word of two. -/
theorem two_word : Ideal.ofBits .f32 0x40000000#32 = ((2 : ℝ) : EReal) := by
  simp [Ideal.ofBits, Ideal.ieee]
  rw [← EReal.coe_mul]
  norm_num

/-- The sigmoid's slope, written by its denominator, is the sigmoid times one less the sigmoid: also at the
    infinities, where both sides are zero. -/
theorem slope (x : EReal) :
    Ideal.div 1 ((1 + Ideal.exp (-x)) * (1 + Ideal.exp (-x))) * Ideal.exp (-x)
      = Ideal.logistic x * (1 - Ideal.logistic x) := by
  induction x with
  | bot =>
    rw [Ideal.logistic_bot, zero_mul, EReal.neg_bot, Ideal.exp_top,
      EReal.add_top_of_ne_bot (show (1 : EReal) ≠ ⊥ from EReal.coe_ne_bot 1), EReal.top_mul_top]
    simp [Ideal.div]
  | top =>
    rw [Ideal.logistic_top, EReal.neg_top, Ideal.exp_bot, mul_zero, one_mul, ← EReal.coe_one, ← EReal.coe_sub,
      sub_self, EReal.coe_zero]
  | coe r =>
    have hp : (0 : ℝ) < 1 + Real.exp (-r) := by positivity
    rw [Ideal.logistic_coe, ← EReal.coe_neg, Ideal.exp_coe, ← EReal.coe_one, ← EReal.coe_add, ← EReal.coe_mul,
      Ideal.div_coe (mul_pos hp hp).ne', ← EReal.coe_mul, ← EReal.coe_mul, ← EReal.coe_sub, ← EReal.coe_mul]
    congr 1
    field_simp
    ring

/-- The kernel's sigmoid, its sign taken by a subtraction. -/
theorem sig_sub (x : EReal) :
    Ideal.div (Ideal.ofBits .f32 0x3F800000#32)
      (Ideal.ofBits .f32 0x3F800000#32 + Ideal.exp (Ideal.ofBits .f32 0x00000000#32 - x)) = Ideal.logistic x := by
  rw [Ideal.ofBits_zero_f32, Ideal.ofBits_one_f32, zero_sub, Ideal.logistic]

/-- The reference's sigmoid. -/
theorem sig_neg (x : EReal) :
    Ideal.div (Ideal.ofBits .f32 0x3F800000#32) (Ideal.ofBits .f32 0x3F800000#32 + Ideal.exp (-x))
      = Ideal.logistic x := by
  rw [Ideal.ofBits_one_f32, Ideal.logistic]

/-- The gradient through a gate: the two values beside it, and the sigmoid's slope. -/
def gateGrad (a b x : EReal) : EReal := a * b * (Ideal.logistic x * (1 - Ideal.logistic x))

/-- The kernel's order of it: a sign taken twice, and a factor of one. -/
theorem grad_sub (a b x : EReal) :
    Ideal.ofBits .f32 0x00000000#32 - (Ideal.ofBits .f32 0x00000000#32
        - a * b * Ideal.div (Ideal.ofBits .f32 0x3F800000#32)
            ((Ideal.ofBits .f32 0x3F800000#32 + Ideal.exp (Ideal.ofBits .f32 0x00000000#32 - x))
              * (Ideal.ofBits .f32 0x3F800000#32 + Ideal.exp (Ideal.ofBits .f32 0x00000000#32 - x)))
          * Ideal.ofBits .f32 0x3F800000#32) * Ideal.exp (Ideal.ofBits .f32 0x00000000#32 - x) = gateGrad a b x := by
  rw [Ideal.ofBits_zero_f32, Ideal.ofBits_one_f32, zero_sub, zero_sub, zero_sub, mul_one, EReal.neg_mul, neg_neg,
    mul_assoc, slope, gateGrad]

/-- The reference's order of it. -/
theorem grad_neg (a b x : EReal) :
    a * b * (Ideal.div (Ideal.ofBits .f32 0x3F800000#32) (Ideal.ofBits .f32 0x3F800000#32 + Ideal.exp (-x))
        * (Ideal.ofBits .f32 0x3F800000#32 - Ideal.div (Ideal.ofBits .f32 0x3F800000#32)
            (Ideal.ofBits .f32 0x3F800000#32 + Ideal.exp (-x)))) = gateGrad a b x := by
  rw [sig_neg, Ideal.ofBits_one_f32, gateGrad]

/-- The gated value added, in the two spellings of the sigmoid. -/
theorem add_gated (a b x : EReal) :
    a + b * Ideal.div (Ideal.ofBits .f32 0x3F800000#32) (Ideal.ofBits .f32 0x3F800000#32 + Ideal.exp (-x))
      = a + b * Ideal.div (Ideal.ofBits .f32 0x3F800000#32)
          (Ideal.ofBits .f32 0x3F800000#32 + Ideal.exp (Ideal.ofBits .f32 0x00000000#32 - x)) := by
  rw [sig_neg, sig_sub]

/-- The array of such gradients. -/
def gradArr (a b x : (Mat 4096 2048).Idx → EReal) : (Mat 4096 2048).Idx → EReal := fun i => gateGrad (a i) (b i) (x i)

/-- A value times a gate, and the array of such. -/
def gated (x b : EReal) : EReal := Ideal.logistic x * b

def gatedArr (x b : (Mat 4096 2048).Idx → EReal) : (Mat 4096 2048).Idx → EReal := fun i => gated (x i) (b i)

theorem gated_sub (x b : EReal) :
    Ideal.div (Ideal.ofBits .f32 0x3F800000#32)
      (Ideal.ofBits .f32 0x3F800000#32 + Ideal.exp (Ideal.ofBits .f32 0x00000000#32 - x)) * b = gated x b := by
  rw [sig_sub, gated]

theorem gated_neg (x b : EReal) :
    Ideal.div (Ideal.ofBits .f32 0x3F800000#32) (Ideal.ofBits .f32 0x3F800000#32 + Ideal.exp (-x)) * b
      = gated x b := by
  rw [sig_neg, gated]

theorem off_zero : (![0, 0] : Fin 2 → Nat) = fun _ => 0 := funext fun a => by fin_cases a <;> rfl

/-- Twice a value is the value added to itself. -/
theorem two_mul' (x : EReal) : ((2 : ℝ) : EReal) * x = x + x := by
  rw [show ((2 : ℝ) : EReal) = ((1 : ℝ) : EReal) + ((1 : ℝ) : EReal) by rw [← EReal.coe_add]; norm_num,
    EReal.coe_one, EReal.right_distrib_of_nonneg zero_le_one zero_le_one, one_mul]

/-- The gradient of the squared ReLU: the two halves of the product's derivative, masked, against twice the
    ReLU where the input is positive. The mask's value at zero is irrelevant, the ReLU being zero there. -/
theorem relu_grad (u g h : EReal) :
    (max u (Ideal.ofBits .f32 0x00000000#32) * g + g * max u (Ideal.ofBits .f32 0x00000000#32))
        * Scalar.select (Ideal.cmp .ogt u (Ideal.ofBits .f32 0x00000000#32)) (Ideal.ofBits .f32 0x3F800000#32) h
      = Scalar.select (Ideal.cmp .ogt u (Ideal.ofBits .f32 0x00000000#32))
          (g * (Ideal.ofBits .f32 0x40000000#32 * max u (Ideal.ofBits .f32 0x00000000#32)))
          (Ideal.ofBits .f32 0x00000000#32) := by
  rw [two_word, Ideal.ofBits_zero_f32, Ideal.ofBits_one_f32]
  unfold Scalar.select Ideal.cmp
  by_cases k : 0 < u
  · simp only [k, decide_true, BitVec.ofBool_true, if_true]
    rw [mul_one, mul_comm (max u 0) g, mul_left_comm, two_mul']
  · simp only [k, decide_false, max_eq_right (not_lt.mp k), zero_mul, mul_zero, add_zero]
    simp

end Cert.Gate

namespace Cert.ReluProof

open Idealize.ShloMosaic Idealize.ShloMosaic.TcCoe Cert.Gate

theorem bodies_eq : Cert.Relu.defs₀ (F := Bits) = Cert.ReluIdeal.defs₀ := by
  unfold Cert.Relu.defs₀ Cert.ReluIdeal.defs₀
  exact congrArg Defs.onTc (funext fun l => match l with | 0 => funext fun ⟨_, _⟩ => rfl)

theorem frame_kernel : Cert.quiescent_Relu := fun m ρ _ => by
  have h := Cert.ReluIdeal.Gen.frame (F := Bits) m ρ
  rw [← show Cert.Relu.defs (F := Bits) = Cert.ReluIdeal.defs from congrArg (Pipeline.defs _) bodies_eq] at h
  exact h

theorem frame_ideal : Cert.quiescent_ReluIdeal := fun m ρ _ => Cert.ReluIdeal.Gen.frame (F := Ideal) m ρ

theorem frame_ref : Cert.quiescent_ReluRefIdeal := fun m ρ _ =>
  (θ_run Cert.ReluRefIdeal.defs _ _).mono (fun r h => ⟨fun c => (h c).2, sem_eq_zero_of_no_sems (by decide) r.2⟩)
    (Cert.ReluRefIdeal.Value.run (F := Ideal) m ρ)

theorem algebraic : Cert.algebraic_ReluIdeal_ReluRefIdeal := fun m ρ m' ρ' _ hagree =>
  ⟨fun c => ReluIdeal.Value.G1 (m ((c.tc : Thread ReluIdeal.nD ReluIdeal.τ).loc ReluIdeal.main_arg0)),
    ReluIdeal.Value.run (F := Ideal) m ρ,
    (θ_run ReluRefIdeal.defs _ _).mono (fun r h c => ⟨(h c).1.trans (by rw [hagree c]; rfl), (h c).2⟩)
      (ReluRefIdeal.Value.run (F := Ideal) m' ρ')⟩

end Cert.ReluProof

namespace Cert.ReluBwdProof

open Idealize.ShloMosaic Idealize.ShloMosaic.TcCoe Cert.Gate

theorem bodies_eq : Cert.ReluBwd.defs₀ (F := Bits) = Cert.ReluBwdIdeal.defs₀ := by
  unfold Cert.ReluBwd.defs₀ Cert.ReluBwdIdeal.defs₀
  exact congrArg Defs.onTc (funext fun l => match l with | 0 => funext fun ⟨_, _⟩ => rfl)

theorem frame_kernel : Cert.quiescent_ReluBwd := fun m ρ _ => by
  have h := Cert.ReluBwdIdeal.Gen.frame (F := Bits) m ρ
  rw [← show Cert.ReluBwd.defs (F := Bits) = Cert.ReluBwdIdeal.defs from congrArg (Pipeline.defs _) bodies_eq] at h
  exact h

theorem frame_ideal : Cert.quiescent_ReluBwdIdeal := fun m ρ _ => Cert.ReluBwdIdeal.Gen.frame (F := Ideal) m ρ

theorem frame_ref : Cert.quiescent_ReluBwdRefIdeal := fun m ρ _ =>
  (θ_run Cert.ReluBwdRefIdeal.defs _ _).mono (fun r h => ⟨fun c => (h c).2, sem_eq_zero_of_no_sems (by decide) r.2⟩)
    (Cert.ReluBwdRefIdeal.Value.run (F := Ideal) m ρ)

theorem algebraic : Cert.algebraic_ReluBwdIdeal_ReluBwdRefIdeal := fun m ρ m' ρ' _ hagree =>
  ⟨fun c => ReluBwdIdeal.Value.G2 (m ((c.tc : Thread ReluBwdIdeal.nD ReluBwdIdeal.τ).loc ReluBwdIdeal.main_arg0))
      (m ((c.tc : Thread ReluBwdIdeal.nD ReluBwdIdeal.τ).loc ReluBwdIdeal.main_arg1)),
    ReluBwdIdeal.Value.run (F := Ideal) m ρ,
    (θ_run ReluBwdRefIdeal.defs _ _).mono (fun r h c => ⟨(h c).1.trans (by
        rw [(hagree c).1, (hagree c).2]
        funext i
        exact (relu_grad _ _ _).symm), (h c).2⟩)
      (ReluBwdRefIdeal.Value.run (F := Ideal) m' ρ')⟩

end Cert.ReluBwdProof

namespace Cert.MergeProof

open Idealize.ShloMosaic Idealize.ShloMosaic.TcCoe Cert.Gate

theorem bodies_eq : Cert.Merge.defs₀ (F := Bits) = Cert.MergeIdeal.defs₀ := by
  unfold Cert.Merge.defs₀ Cert.MergeIdeal.defs₀
  exact congrArg Defs.onTc (funext fun l => match l with | 0 => funext fun ⟨_, _⟩ => rfl)

theorem frame_kernel : Cert.quiescent_Merge := fun m ρ _ => by
  have h := Cert.MergeIdeal.Gen.frame (F := Bits) m ρ
  rw [← show Cert.Merge.defs (F := Bits) = Cert.MergeIdeal.defs from congrArg (Pipeline.defs _) bodies_eq] at h
  exact h

theorem frame_ideal : Cert.quiescent_MergeIdeal := fun m ρ _ => Cert.MergeIdeal.Gen.frame (F := Ideal) m ρ

theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic : Cert.algebraic_MergeIdeal_MergeRefIdeal := fun m ρ m' ρ' _ hagree =>
  ⟨fun c => MergeIdeal.Value.G4 (m ((c.tc : Thread MergeIdeal.nD MergeIdeal.τ).loc MergeIdeal.main_arg0))
      (m ((c.tc : Thread MergeIdeal.nD MergeIdeal.τ).loc MergeIdeal.main_arg1))
      (m ((c.tc : Thread MergeIdeal.nD MergeIdeal.τ).loc MergeIdeal.main_arg2))
      (m ((c.tc : Thread MergeIdeal.nD MergeIdeal.τ).loc MergeIdeal.main_arg3)),
    MergeIdeal.Value.run (F := Ideal) m ρ,
    (θ_run MergeRefIdeal.defs _ _).mono (fun r h c => ⟨(h c).1.trans (by
        rw [(hagree c).1, (hagree c).2.1, (hagree c).2.2.1, (hagree c).2.2.2]
        funext i
        exact (congrArg₂ (· * _ + · * _) (sig_neg _) (sig_neg _)).trans
          (congrArg₂ (· * _ + · * _) (sig_sub _) (sig_sub _)).symm), (h c).2⟩)
      (MergeRefIdeal.Value.run (F := Ideal) m' ρ')⟩

end Cert.MergeProof

namespace Cert.PleMergeProof

open Idealize.ShloMosaic Idealize.ShloMosaic.TcCoe Cert.Gate

theorem bodies_eq : Cert.PleMerge.defs₀ (F := Bits) = Cert.PleMergeIdeal.defs₀ := by
  unfold Cert.PleMerge.defs₀ Cert.PleMergeIdeal.defs₀
  exact congrArg Defs.onTc (funext fun l => match l with | 0 => funext fun ⟨_, _⟩ => rfl)

theorem frame_kernel : Cert.quiescent_PleMerge := fun m ρ _ => by
  have h := Cert.PleMergeIdeal.Gen.frame (F := Bits) m ρ
  rw [← show Cert.PleMerge.defs (F := Bits) = Cert.PleMergeIdeal.defs from congrArg (Pipeline.defs _) bodies_eq] at h
  exact h

theorem frame_ideal : Cert.quiescent_PleMergeIdeal := fun m ρ _ => Cert.PleMergeIdeal.Gen.frame (F := Ideal) m ρ

theorem frame_ref : Cert.quiescent_PleMergeRefIdeal := fun m ρ _ =>
  (θ_run Cert.PleMergeRefIdeal.defs _ _).mono (fun r h => ⟨fun c => (h c).2, sem_eq_zero_of_no_sems (by decide) r.2⟩)
    (Cert.PleMergeRefIdeal.Value.run (F := Ideal) m ρ)

theorem algebraic : Cert.algebraic_PleMergeIdeal_PleMergeRefIdeal := fun m ρ m' ρ' _ hagree =>
  ⟨fun c => PleMergeIdeal.Value.G3 (m ((c.tc : Thread PleMergeIdeal.nD PleMergeIdeal.τ).loc PleMergeIdeal.main_arg0))
      (m ((c.tc : Thread PleMergeIdeal.nD PleMergeIdeal.τ).loc PleMergeIdeal.main_arg1))
      (m ((c.tc : Thread PleMergeIdeal.nD PleMergeIdeal.τ).loc PleMergeIdeal.main_arg2)),
    PleMergeIdeal.Value.run (F := Ideal) m ρ,
    (θ_run PleMergeRefIdeal.defs _ _).mono (fun r h c => ⟨(h c).1.trans (by
        rw [(hagree c).1, (hagree c).2.1, (hagree c).2.2]
        funext i
        exact add_gated _ _ _), (h c).2⟩)
      (PleMergeRefIdeal.Value.run (F := Ideal) m' ρ')⟩

end Cert.PleMergeProof
-- ==== Proof.GateGrad.lean ====
/- The gradients through the two gates, entry by entry. -/
module

public import proofs.«01_k».proof.Defs
public import proofs.«01_k».proof.Proof.Gates
public import proofs.«01_k».proof.Proof.Gen.MergeBwd
public import proofs.«01_k».proof.Proof.Gen.MergeBwdIdeal.Value
public import proofs.«01_k».proof.Proof.Gen.MergeBwdRefIdeal.Run
public import proofs.«01_k».proof.Proof.Gen.PleMergeBwd
public import proofs.«01_k».proof.Proof.Gen.PleMergeBwdIdeal.Value
public import proofs.«01_k».proof.Proof.Gen.PleMergeBwdRefIdeal.Run
public import Idealize.ShloMosaic.Lib.Quiescent

@[expose] public section

set_option maxRecDepth 16384

noncomputable section

/-! The merge: the gradients of its two gates and of the two values they gate. -/

namespace Cert.MergeBwdIdeal.Gate

open Idealize.ShloMosaic Idealize.ShloMosaic.TcCoe Cert.Prod Cert.Gate Cert.MergeBwdIdeal.Gen

variable (m : (ℓ : Loc nD τ sig) → Buf (Elt Ideal) ℓ) (c : Dev nD)

theorem idx : ∀ t : Fin grid0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] := by decide +kernel

theorem pay5 (x0 x2 x4 : Vec Ideal S128x2048 .f32) (y : S128x2048.Idx) :
    k0_pay1 x2 (k0_pay5 x0) (k0_pay8 x0) (k0_pay11 x4) y = gateGrad (x4 y) (x2 y) (x0 y) := by
  unfold k0_pay11
  rw [shapeCast_self]
  exact grad_sub _ _ _

theorem pay6 (x1 x3 x4 : Vec Ideal S128x2048 .f32) (y : S128x2048.Idx) :
    k0_pay2 (k0_pay14 x1 x3 x4) y = gateGrad (x4 y) (x3 y) (x1 y) := by
  unfold k0_pay14 k0_pay12
  rw [shapeCast_self]
  exact grad_sub _ _ _

theorem pay7 (x0 x4 : Vec Ideal S128x2048 .f32) (y : S128x2048.Idx) :
    k0_pay3 (k0_pay7 x0) (k0_pay11 x4) y = gated (x0 y) (x4 y) := by
  unfold k0_pay11
  rw [shapeCast_self]
  exact gated_sub _ _

theorem pay8 (x1 x4 : Vec Ideal S128x2048 .f32) (y : S128x2048.Idx) :
    k0_pay4 (k0_pay13 x1 x4) y = gated (x1 y) (x4 y) := by
  unfold k0_pay13 k0_pay12
  rw [shapeCast_self]
  exact gated_sub _ _

theorem final5 : (dats m 0 c).arrAt 5 cfg0.N = (gradArr (m ((c.tc : Thread nD τ).loc main_arg4))
    (m ((c.tc : Thread nD τ).loc main_arg2)) (m ((c.tc : Thread nD τ).loc main_arg0)) : (Mat 4096 2048).Idx → EReal) := by
  refine (dats m 0 c).arrAt_eq_of_covers 5 _ (by decide +kernel) fun t hf y => ?_
  blk_simp
  rw [after0_5]
  unfold_out out0_5
  rw [View.canon_unit_zero off_zero]
  simp only [View.ld_unit_zero (S := S128x2048) off_zero]
  refine (pay5 (iblk m c 0 t) (iblk m c 2 t) (iblk m c 4 t) y).trans ?_
  unfold gradArr
  congr 1 <;> blk_ext [iblk, V, idx t]

theorem final6 : (dats m 0 c).arrAt 6 cfg0.N = (gradArr (m ((c.tc : Thread nD τ).loc main_arg4)) (m ((c.tc : Thread nD τ).loc main_arg3)) (m ((c.tc : Thread nD τ).loc main_arg1)) : (Mat 4096 2048).Idx → EReal) := by
  refine (dats m 0 c).arrAt_eq_of_covers 6 _ (by decide +kernel) fun t hf y => ?_
  blk_simp
  rw [after0_6]
  unfold_out out0_6
  rw [View.canon_unit_zero off_zero]
  simp only [View.ld_unit_zero (S := S128x2048) off_zero]
  refine (pay6 (iblk m c 1 t) (iblk m c 3 t) (iblk m c 4 t) y).trans ?_
  unfold gradArr
  congr 1 <;> blk_ext [iblk, V, idx t]

theorem final7 : (dats m 0 c).arrAt 7 cfg0.N = (gatedArr (m ((c.tc : Thread nD τ).loc main_arg0)) (m ((c.tc : Thread nD τ).loc main_arg4)) : (Mat 4096 2048).Idx → EReal) := by
  refine (dats m 0 c).arrAt_eq_of_covers 7 _ (by decide +kernel) fun t hf y => ?_
  blk_simp
  rw [after0_7]
  unfold_out out0_7
  rw [View.canon_unit_zero off_zero]
  simp only [View.ld_unit_zero (S := S128x2048) off_zero]
  refine (pay7 (iblk m c 0 t) (iblk m c 4 t) y).trans ?_
  unfold gatedArr
  congr 1 <;> blk_ext [iblk, V, idx t]

theorem final8 : (dats m 0 c).arrAt 8 cfg0.N = (gatedArr (m ((c.tc : Thread nD τ).loc main_arg1)) (m ((c.tc : Thread nD τ).loc main_arg4)) : (Mat 4096 2048).Idx → EReal) := by
  refine (dats m 0 c).arrAt_eq_of_covers 8 _ (by decide +kernel) fun t hf y => ?_
  blk_simp
  rw [after0_8]
  unfold_out out0_8
  rw [View.canon_unit_zero off_zero]
  simp only [View.ld_unit_zero (S := S128x2048) off_zero]
  refine (pay8 (iblk m c 1 t) (iblk m c 4 t) y).trans ?_
  unfold gatedArr
  congr 1 <;> blk_ext [iblk, V, idx t]

end Cert.MergeBwdIdeal.Gate

namespace Cert.MergeBwdProof

open Idealize.ShloMosaic Idealize.ShloMosaic.TcCoe Cert.Gate

theorem bodies_eq : Cert.MergeBwd.defs₀ (F := Bits) = Cert.MergeBwdIdeal.defs₀ := by
  unfold Cert.MergeBwd.defs₀ Cert.MergeBwdIdeal.defs₀
  exact congrArg Defs.onTc (funext fun l => match l with | 0 => funext fun ⟨_, _⟩ => rfl)

theorem frame_kernel : Cert.quiescent_MergeBwd := fun m ρ _ => by
  have h := Cert.MergeBwdIdeal.Gen.frame (F := Bits) m ρ
  rw [← show Cert.MergeBwd.defs (F := Bits) = Cert.MergeBwdIdeal.defs from congrArg (Pipeline.defs _) bodies_eq] at h
  exact h

theorem frame_ideal : Cert.quiescent_MergeBwdIdeal := fun m ρ _ => Cert.MergeBwdIdeal.Gen.frame (F := Ideal) m ρ

theorem frame_ref : Cert.quiescent_MergeBwdRefIdeal := fun m ρ _ =>
  (θ_run Cert.MergeBwdRefIdeal.defs _ _).mono
    (fun r h => ⟨fun c => (h c).2.2.2.2, sem_eq_zero_of_no_sems (by decide) r.2⟩)
    (Cert.MergeBwdRefIdeal.Value.run (F := Ideal) m ρ)

theorem algebraic : Cert.algebraic_MergeBwdIdeal_MergeBwdRefIdeal := fun m ρ m' ρ' _ hagree =>
  ⟨fun c => gradArr (m ((c.tc : Thread MergeBwdIdeal.nD MergeBwdIdeal.τ).loc MergeBwdIdeal.main_arg4)) (m ((c.tc : Thread MergeBwdIdeal.nD MergeBwdIdeal.τ).loc MergeBwdIdeal.main_arg2)) (m ((c.tc : Thread MergeBwdIdeal.nD MergeBwdIdeal.τ).loc MergeBwdIdeal.main_arg0)),
    fun c => gradArr (m ((c.tc : Thread MergeBwdIdeal.nD MergeBwdIdeal.τ).loc MergeBwdIdeal.main_arg4)) (m ((c.tc : Thread MergeBwdIdeal.nD MergeBwdIdeal.τ).loc MergeBwdIdeal.main_arg3)) (m ((c.tc : Thread MergeBwdIdeal.nD MergeBwdIdeal.τ).loc MergeBwdIdeal.main_arg1)),
    fun c => gatedArr (m ((c.tc : Thread MergeBwdIdeal.nD MergeBwdIdeal.τ).loc MergeBwdIdeal.main_arg0)) (m ((c.tc : Thread MergeBwdIdeal.nD MergeBwdIdeal.τ).loc MergeBwdIdeal.main_arg4)),
    fun c => gatedArr (m ((c.tc : Thread MergeBwdIdeal.nD MergeBwdIdeal.τ).loc MergeBwdIdeal.main_arg1)) (m ((c.tc : Thread MergeBwdIdeal.nD MergeBwdIdeal.τ).loc MergeBwdIdeal.main_arg4)),
    (θ_run MergeBwdIdeal.defs _ _).mono (fun r h c => ⟨(h c).1.trans (MergeBwdIdeal.Gate.final5 m c),
        (h c).2.1.trans (MergeBwdIdeal.Gate.final6 m c), (h c).2.2.1.trans (MergeBwdIdeal.Gate.final7 m c),
        (h c).2.2.2.1.trans (MergeBwdIdeal.Gate.final8 m c), (h c).2.2.2.2⟩)
      (MergeBwdIdeal.Value.run_blocks (F := Ideal) m ρ),
    (θ_run MergeBwdRefIdeal.defs _ _).mono (fun r h c => ⟨
        (h c).1.trans (by
          rw [(hagree c).1, (hagree c).2.2.1, (hagree c).2.2.2.2]
          erw [shapeCast_self]
          exact funext fun i => grad_neg _ _ _),
        (h c).2.1.trans (by
          rw [(hagree c).2.1, (hagree c).2.2.2.1, (hagree c).2.2.2.2]
          erw [shapeCast_self]
          exact funext fun i => grad_neg _ _ _),
        (h c).2.2.1.trans (by
          rw [(hagree c).1, (hagree c).2.2.2.2]
          erw [shapeCast_self]
          exact funext fun i => gated_neg _ _),
        (h c).2.2.2.1.trans (by
          rw [(hagree c).2.1, (hagree c).2.2.2.2]
          erw [shapeCast_self]
          exact funext fun i => gated_neg _ _), (h c).2.2.2.2⟩)
      (MergeBwdRefIdeal.Value.run (F := Ideal) m' ρ')⟩

end Cert.MergeBwdProof

/-! The embedding's gate: the gradients of the value it gates and of the gate; the stream's own passes through. -/

namespace Cert.PleMergeBwdIdeal.Gate

open Idealize.ShloMosaic Idealize.ShloMosaic.TcCoe Cert.Prod Cert.Gate Cert.PleMergeBwdIdeal.Gen

variable (m : (ℓ : Loc nD τ sig) → Buf (Elt Ideal) ℓ) (c : Dev nD)

theorem idx : ∀ t : Fin grid0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] := by decide +kernel

theorem pay5 (x2 x3 : Vec Ideal S128x2048 .f32) (y : S128x2048.Idx) : k0_pay4 x2 x3 y = gated (x2 y) (x3 y) := by
  unfold k0_pay4 k0_pay3
  rw [shapeCast_self]
  exact (mul_comm (G := EReal) _ _).trans (gated_sub _ _)

theorem pay6 (x1 x2 x3 : Vec Ideal S128x2048 .f32) (y : S128x2048.Idx) :
    k0_pay5 x1 x2 x3 y = gateGrad (x1 y) (x3 y) (x2 y) := by
  unfold k0_pay5 k0_pay3
  rw [shapeCast_self]
  exact grad_sub _ _ _

theorem final4 : (dats m 0 c).arrAt 4 cfg0.N = ((m ((c.tc : Thread nD τ).loc main_arg3)) : (Mat 4096 2048).Idx → EReal) := by
  refine (dats m 0 c).arrAt_eq_of_covers 4 _ (by decide +kernel) fun t hf y => ?_
  blk_simp
  rw [after0_4]
  unfold out0_4
  rw [View.canon_unit_zero off_zero]
  refine (congrFun (View.ld_unit_zero (S := S128x2048) off_zero _ (iblk m c 3 t)) y).trans ?_
  blk_ext [iblk, V, idx t]

theorem final5 : (dats m 0 c).arrAt 5 cfg0.N = (gatedArr (m ((c.tc : Thread nD τ).loc main_arg2)) (m ((c.tc : Thread nD τ).loc main_arg3)) : (Mat 4096 2048).Idx → EReal) := by
  refine (dats m 0 c).arrAt_eq_of_covers 5 _ (by decide +kernel) fun t hf y => ?_
  blk_simp
  rw [after0_5]
  unfold out0_5
  rw [View.canon_unit_zero off_zero]
  simp only [View.ld_unit_zero (S := S128x2048) off_zero]
  refine (pay5 (iblk m c 2 t) (iblk m c 3 t) y).trans ?_
  unfold gatedArr
  congr 1 <;> blk_ext [iblk, V, idx t]

theorem final6 : (dats m 0 c).arrAt 6 cfg0.N = (gradArr (m ((c.tc : Thread nD τ).loc main_arg1)) (m ((c.tc : Thread nD τ).loc main_arg3)) (m ((c.tc : Thread nD τ).loc main_arg2)) : (Mat 4096 2048).Idx → EReal) := by
  refine (dats m 0 c).arrAt_eq_of_covers 6 _ (by decide +kernel) fun t hf y => ?_
  blk_simp
  rw [after0_6]
  unfold out0_6
  rw [View.canon_unit_zero off_zero]
  simp only [View.ld_unit_zero (S := S128x2048) off_zero]
  refine (pay6 (iblk m c 1 t) (iblk m c 2 t) (iblk m c 3 t) y).trans ?_
  unfold gradArr
  congr 1 <;> blk_ext [iblk, V, idx t]

end Cert.PleMergeBwdIdeal.Gate

namespace Cert.PleMergeBwdProof

open Idealize.ShloMosaic Idealize.ShloMosaic.TcCoe Cert.Gate

theorem bodies_eq : Cert.PleMergeBwd.defs₀ (F := Bits) = Cert.PleMergeBwdIdeal.defs₀ := by
  unfold Cert.PleMergeBwd.defs₀ Cert.PleMergeBwdIdeal.defs₀
  exact congrArg Defs.onTc (funext fun l => match l with | 0 => funext fun ⟨_, _⟩ => rfl)

theorem frame_kernel : Cert.quiescent_PleMergeBwd := fun m ρ _ => by
  have h := Cert.PleMergeBwdIdeal.Gen.frame (F := Bits) m ρ
  rw [← show Cert.PleMergeBwd.defs (F := Bits) = Cert.PleMergeBwdIdeal.defs from congrArg (Pipeline.defs _) bodies_eq] at h
  exact h

theorem frame_ideal : Cert.quiescent_PleMergeBwdIdeal := fun m ρ _ => Cert.PleMergeBwdIdeal.Gen.frame (F := Ideal) m ρ

theorem frame_ref : Cert.quiescent_PleMergeBwdRefIdeal := fun m ρ _ =>
  (θ_run Cert.PleMergeBwdRefIdeal.defs _ _).mono
    (fun r h => ⟨fun c => (h c).2.2.2, sem_eq_zero_of_no_sems (by decide) r.2⟩)
    (Cert.PleMergeBwdRefIdeal.Value.run (F := Ideal) m ρ)

theorem algebraic : Cert.algebraic_PleMergeBwdIdeal_PleMergeBwdRefIdeal := fun m ρ m' ρ' _ hagree =>
  ⟨fun c => (m ((c.tc : Thread PleMergeBwdIdeal.nD PleMergeBwdIdeal.τ).loc PleMergeBwdIdeal.main_arg3)),
    fun c => gatedArr (m ((c.tc : Thread PleMergeBwdIdeal.nD PleMergeBwdIdeal.τ).loc PleMergeBwdIdeal.main_arg2))
      (m ((c.tc : Thread PleMergeBwdIdeal.nD PleMergeBwdIdeal.τ).loc PleMergeBwdIdeal.main_arg3)),
    fun c => gradArr (m ((c.tc : Thread PleMergeBwdIdeal.nD PleMergeBwdIdeal.τ).loc PleMergeBwdIdeal.main_arg1))
      (m ((c.tc : Thread PleMergeBwdIdeal.nD PleMergeBwdIdeal.τ).loc PleMergeBwdIdeal.main_arg3))
      (m ((c.tc : Thread PleMergeBwdIdeal.nD PleMergeBwdIdeal.τ).loc PleMergeBwdIdeal.main_arg2)),
    (θ_run PleMergeBwdIdeal.defs _ _).mono (fun r h c => ⟨(h c).1.trans (PleMergeBwdIdeal.Gate.final4 m c),
        (h c).2.1.trans (PleMergeBwdIdeal.Gate.final5 m c), (h c).2.2.1.trans (PleMergeBwdIdeal.Gate.final6 m c),
        (h c).2.2.2⟩)
      (PleMergeBwdIdeal.Value.run_blocks (F := Ideal) m ρ),
    (θ_run PleMergeBwdRefIdeal.defs _ _).mono (fun r h c => ⟨(h c).1.trans (hagree c).2.2.2,
        (h c).2.1.trans (by
          rw [(hagree c).2.2.1, (hagree c).2.2.2]
          erw [shapeCast_self]
          exact funext fun i => (mul_comm (G := EReal) _ _).trans (gated_neg _ _)),
        (h c).2.2.1.trans (by
          rw [(hagree c).2.1, (hagree c).2.2.1, (hagree c).2.2.2]
          erw [shapeCast_self]
          exact funext fun i => grad_neg _ _ _), (h c).2.2.2⟩)
      (PleMergeBwdRefIdeal.Value.run (F := Ideal) m' ρ')⟩

end Cert.PleMergeBwdProof
-- ==== Proof.Norms.lean ====
/- The root mean square norm of the stream's rows, and its gradient. -/
module

public import proofs.«01_k».proof.Defs
public import proofs.«01_k».proof.Proof.Gates
public import proofs.«01_k».proof.Proof.Gen.Norm
public import proofs.«01_k».proof.Proof.Gen.NormIdeal.Value
public import proofs.«01_k».proof.Proof.Gen.NormRefIdeal.Run
public import proofs.«01_k».proof.Proof.Gen.NormBwd
public import proofs.«01_k».proof.Proof.Gen.NormBwdIdeal.Value
public import proofs.«01_k».proof.Proof.Gen.NormBwdRefIdeal.Run
public import Idealize.ShloMosaic.Lib.Quiescent

@[expose] public section

set_option maxRecDepth 16384

noncomputable section

/-! What the norm computes, on any number of rows. -/

namespace Cert.Rms

open Idealize.ShloMosaic Cert.Prod

variable {R K : ℕ} (n : EReal)

/-- A row's mean square over `n`, a small constant added. -/
def ms (x : (Mat R K).Idx → EReal) (r : Fin R) : EReal :=
  Ideal.div (∑ k : Fin K, x (ix2 r k) * x (ix2 r k)) n + Ideal.ofBits .f32 0x358637BD#32

/-- The norm: a row over the root of its mean square, times the weight. -/
def normed (x : (Mat R K).Idx → EReal) (w : (Mat 1 K).Idx → EReal) : (Mat R K).Idx → EReal :=
  fun i => x i * Ideal.rsqrt (ms n x (i 0)) * w (ix2 0 (i 1))

/-- What reaches the mean square of a row from the row's gradient. -/
def back (x : (Mat R K).Idx → EReal) (w : (Mat 1 K).Idx → EReal) (g : (Mat R K).Idx → EReal) (r : Fin R) : EReal :=
  Ideal.div ((∑ k : Fin K, x (ix2 r k) * (g (ix2 r k) * w (ix2 0 k)))
    * (Ideal.ofBits .f32 0xBF000000#32 * Ideal.div (Ideal.rsqrt (ms n x r)) (ms n x r))) n

/-- The gradient of the norm's input: what comes through the product and through both factors of the square. -/
def dx (x : (Mat R K).Idx → EReal) (w : (Mat 1 K).Idx → EReal) (g : (Mat R K).Idx → EReal) : (Mat R K).Idx → EReal :=
  fun i => g i * w (ix2 0 (i 1)) * Ideal.rsqrt (ms n x (i 0)) + x i * back n x w g (i 0) + back n x w g (i 0) * x i

/-- The gradient of the norm's weight. -/
def dw (x g : (Mat R K).Idx → EReal) : (Mat 1 K).Idx → EReal :=
  fun i => ∑ r : Fin R, x (ix2 r (i 1)) * Ideal.rsqrt (ms n x r) * g (ix2 r (i 1))

/-! Each row's value is read off that row alone, so a block's rows have the values of the array's. -/

section
variable {n} {S : ℕ} {x : (Mat R K).Idx → EReal} {X : (Mat S K).Idx → EReal} {w W : (Mat 1 K).Idx → EReal}
  {g : (Mat R K).Idx → EReal} {G : (Mat S K).Idx → EReal} {r : Fin R} {q : Fin S}

theorem ms_congr (hx : ∀ k, x (ix2 r k) = X (ix2 q k)) : ms n x r = ms n X q := by
  unfold ms
  simp only [hx]

theorem back_congr (hx : ∀ k, x (ix2 r k) = X (ix2 q k)) (hg : ∀ k, g (ix2 r k) = G (ix2 q k))
    (hw : ∀ k, w (ix2 0 k) = W (ix2 0 k)) : back n x w g r = back n X W G q := by
  unfold back
  simp only [hx, hg, hw, ms_congr hx]

theorem at_ix {y : (Mat R K).Idx} {i : (Mat S K).Idx} (e : (y 1 : Fin K) = i 1)
    (h : ∀ k, x (ix2 (y 0) k) = X (ix2 (i 0) k)) : x y = X i := by
  rw [eq_ix2 y, eq_ix2 i]
  exact (h _).trans (congrArg (fun k => X (ix2 (i 0) k)) e)

theorem normed_congr {y : (Mat R K).Idx} {i : (Mat S K).Idx} (e : (y 1 : Fin K) = i 1)
    (hx : ∀ k, x (ix2 (y 0) k) = X (ix2 (i 0) k)) (hw : ∀ k, w (ix2 0 k) = W (ix2 0 k)) :
    normed n x w y = normed n X W i := by
  have hw' : w (ix2 0 (y 1)) = W (ix2 0 (i 1)) := (hw _).trans (congrArg (fun k => W (ix2 0 k)) e)
  unfold normed
  rw [ms_congr hx, hw', at_ix e hx]

theorem dx_congr {y : (Mat R K).Idx} {i : (Mat S K).Idx} (e : (y 1 : Fin K) = i 1)
    (hx : ∀ k, x (ix2 (y 0) k) = X (ix2 (i 0) k)) (hg : ∀ k, g (ix2 (y 0) k) = G (ix2 (i 0) k))
    (hw : ∀ k, w (ix2 0 k) = W (ix2 0 k)) : dx n x w g y = dx n X W G i := by
  have hw' : w (ix2 0 (y 1)) = W (ix2 0 (i 1)) := (hw _).trans (congrArg (fun k => W (ix2 0 k)) e)
  unfold dx
  rw [ms_congr hx, back_congr hx hg hw, hw', at_ix e hx, at_ix e hg]

end

/-- The width of the stream. -/
def wide : EReal := Ideal.ofBits .f32 0x45000000#32

/-- The gradient that passes the norm by, and the norm's own. -/
def dxAdd (x : (Mat R 2048).Idx → EReal) (w : (Mat 1 2048).Idx → EReal) (g d : (Mat R 2048).Idx → EReal) :
    (Mat R 2048).Idx → EReal := fun i => d i + dx wide x w g i

end Cert.Rms

namespace Cert.NormIdeal.Rms

open Idealize.ShloMosaic Idealize.ShloMosaic.TcCoe Cert.Prod Cert.Gate Cert.Rms Cert.NormIdeal.Gen

variable (m : (ℓ : Loc nD τ sig) → Buf (Elt Ideal) ℓ) (c : Dev nD)

theorem idx : ∀ t : Fin grid0.N, win0_0.index t = ![t.val, 0] ∧ win0_1.index t = ![0, 0]
    ∧ win0_2.index t = ![t.val, 0] := by decide +kernel

theorem pay (x : Vec Ideal S256x2048 .f32) (w : Vec Ideal S1x2048 .f32) (y : S256x2048.Idx) :
    k0_pay1 x w y = normed wide x w y := by
  pointwise [k0_pay1]
  rfl

theorem final : (dats m 0 c).arrAt 2 cfg0.N
    = (normed wide (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  blk_simp
  rw [after0_2]
  unfold out0_2
  rw [View.canon_unit_zero off_zero]
  simp only [View.ld_unit_zero (S := S256x2048) off_zero, View.ld_unit_zero (S := S1x2048) off_zero]
  refine (pay (iblk m c 0 t) (iblk m c 1 t) y).trans ?_
  refine normed_congr (Fin.ext (by
      show (y 1).val = win0_2.index t (1 : Fin 2) * 2048 + 1 * (y 1).val
      rw [(idx t).2.2]; simp)) (fun k => ?_) (fun k => ?_) <;> blk_ext [iblk, V, idx t]

end Cert.NormIdeal.Rms

namespace Cert.NormProof

open Idealize.ShloMosaic Idealize.ShloMosaic.TcCoe Cert.Rms

theorem bodies_eq : Cert.Norm.defs₀ (F := Bits) = Cert.NormIdeal.defs₀ := by
  unfold Cert.Norm.defs₀ Cert.NormIdeal.defs₀
  exact congrArg Defs.onTc (funext fun l => match l with | 0 => funext fun ⟨_, _⟩ => rfl)

theorem frame_kernel : Cert.quiescent_Norm := fun m ρ _ => by
  have h := Cert.NormIdeal.Gen.frame (F := Bits) m ρ
  rw [← show Cert.Norm.defs (F := Bits) = Cert.NormIdeal.defs from congrArg (Pipeline.defs _) bodies_eq] at h
  exact h

theorem frame_ideal : Cert.quiescent_NormIdeal := fun m ρ _ => Cert.NormIdeal.Gen.frame (F := Ideal) m ρ

theorem frame_ref : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem algebraic : Cert.algebraic_NormIdeal_NormRefIdeal := fun m ρ m' ρ' _ hagree =>
  ⟨fun c => normed (R := 4096) wide (m ((c.tc : Thread NormIdeal.nD NormIdeal.τ).loc NormIdeal.main_arg0))
      (m ((c.tc : Thread NormIdeal.nD NormIdeal.τ).loc NormIdeal.main_arg1)),
    (θ_run NormIdeal.defs _ _).mono (fun r h c => ⟨(h c).1.trans (NormIdeal.Rms.final m c), (h c).2⟩)
      (NormIdeal.Value.run_blocks (F := Ideal) m ρ),
    (θ_run NormRefIdeal.defs _ _).mono (fun r h c => ⟨(h c).1.trans (by
        rw [(hagree c).1, (hagree c).2]
        funext i
        pointwise
        rfl), (h c).2⟩)
      (NormRefIdeal.Value.run (F := Ideal) m' ρ')⟩

end Cert.NormProof

namespace Cert.NormBwdIdeal.Rms

open Idealize.ShloMosaic Idealize.ShloMosaic.TcCoe Cert.Prod Cert.Gate Cert.Rms Cert.NormBwdIdeal.Gen

variable (m : (ℓ : Loc nD τ sig) → Buf (Elt Ideal) ℓ) (c : Dev nD)

theorem idx : ∀ t : Fin grid0.N, win0_0.index t = ![t.val, 0] ∧ win0_1.index t = ![0, 0]
    ∧ win0_2.index t = ![t.val, 0] ∧ win0_3.index t = ![t.val, 0] ∧ win0_4.index t = ![t.val, 0]
    ∧ win0_5.index t = ![0, 0] := by decide +kernel

theorem payX (x : Vec Ideal S128x2048 .f32) (w : Vec Ideal S1x2048 .f32) (g d : Vec Ideal S128x2048 .f32)
    (y : S128x2048.Idx) : k0_pay5 x w g d y = dxAdd x w g d y := by
  pointwise [k0_pay5, k0_pay3, k0_pay2, Fin.sum_univ_one]
  exact add_comm (G := EReal) _ _

theorem payW (x g : Vec Ideal S128x2048 .f32) (j : S1x2048.Idx) : k0_pay4 x g j = dw (R := 128) wide x g j := by
  pointwise [k0_pay4, k0_pay3, k0_pay2]
  rfl

theorem payAdd (v p : Vec Ideal S1x2048 .f32) (j : S1x2048.Idx) : k0_pay1 v p j = (p j : EReal) + v j := by
  pointwise [k0_pay1]

theorem outsX (t : Fin cfg0.N) (y : (Mat 128 2048).Idx) : (outsAt0 m c t.val t.isLt).1 y
    = dxAdd (R := 128) (iblk m c 0 t) (iblk m c 1 t) (iblk m c 2 t) (iblk m c 3 t) y := by
  have ht : t.val < 32 := t.isLt
  by_cases h : t.val % 32 = 0
  · rw [outsAt0_A m c t h (by omega)]
    frame_out
    exact payX _ _ _ _ y
  · rw [outsAt0_B m c t h (by omega)]
    frame_out
    exact payX _ _ _ _ y

/-- After the last row tile the weight's gradient is the sum of the tiles' own. -/
theorem outsW (t : Fin cfg0.N) (h : t.val % 32 = 31) (j : (Mat 1 2048).Idx) :
    (outsAt0 m c t.val t.isLt).2 j
      = ∑ s : Fin 32, dw (R := 128) wide (iblk m c 0 ⟨32 * (t.val / 32) + s.val, Pipeline.run_point_lt_of_flush t h s⟩)
          (iblk m c 2 ⟨32 * (t.val / 32) + s.val, Pipeline.run_point_lt_of_flush t h s⟩) j := by
  rw [Pipeline.eq_sum_fin_of_reset_step_apply_of_flush (fun n h => (outsAt0 m c n h).2) 32 (fun _ => (0 : EReal))
    (fun t j => dw (R := 128) wide (iblk m c 0 t) (iblk m c 2 t) j)
    (fun t h j => by
      have ht : t.val < 32 := t.isLt
      rw [outsAt0_A m c t h (by omega)]; frame_out; exact (payW _ _ j).trans (zero_add _).symm)
    (fun t h j => by
      have ht : t.val < 32 := t.isLt
      rw [outsAt0_B m c t h (by omega)]; frame_out; rw [payAdd, payW]) t h j, zero_add]

theorem finalX : (dats m 0 c).arrAt 4 cfg0.N
    = (dxAdd (m ((c.tc : Thread nD τ).loc main_arg0)) (m ((c.tc : Thread nD τ).loc main_arg1))
        (m ((c.tc : Thread nD τ).loc main_arg2)) (m ((c.tc : Thread nD τ).loc main_arg3)) : (Mat 4096 2048).Idx → EReal) := by
  refine (dats m 0 c).arrAt_eq_of_covers 4 _ (by decide +kernel) fun t hf y => ?_
  blk_simp
  rw [after0_4, outsX]
  have e : (y 1 : Fin 2048) = (((cfg0.win 4).blk t).view.emb y) 1 := Fin.ext (by
    show (y 1).val = win0_4.index t (1 : Fin 2) * 2048 + 1 * (y 1).val
    rw [(idx t).2.2.2.2.1]; simp)
  refine congrArg₂ (· + ·) (at_ix e fun k => ?_) (dx_congr e (fun k => ?_) (fun k => ?_) (fun k => ?_))
    <;> blk_ext [iblk, V, idx t]

theorem finalW : (dats m 0 c).arrAt 5 cfg0.N
    = (dw wide (m ((c.tc : Thread nD τ).loc main_arg0) : (Mat 4096 2048).Idx → EReal)
        (m ((c.tc : Thread nD τ).loc main_arg2)) : (Mat 1 2048).Idx → EReal) := by
  refine (dats m 0 c).arrAt_eq_of_covers 5 _ (by decide +kernel) fun t hf y => ?_
  have h := (flush0_5 t).mp hf
  blk_simp
  rw [after0_5, outsW m c t h]
  refine Fin.sum_mul_add_congr fun s r hl => ?_
  have e := idx ⟨32 * (t.val / 32) + s.val, Pipeline.run_point_lt_of_flush t h s⟩
  refine Ideal.mul_congr (Ideal.mul_congr ?_ (congrArg Ideal.rsqrt (ms_congr fun k => ?_))) ?_
    <;> blk_ext [iblk, V, idx t, e]

end Cert.NormBwdIdeal.Rms

namespace Cert.NormBwdProof

open Idealize.ShloMosaic Idealize.ShloMosaic.TcCoe Cert.Rms

theorem bodies_eq : Cert.NormBwd.defs₀ (F := Bits) = Cert.NormBwdIdeal.defs₀ := by
  unfold Cert.NormBwd.defs₀ Cert.NormBwdIdeal.defs₀
  exact congrArg Defs.onTc (funext fun l => match l with | 0 => funext fun ⟨_, _⟩ => rfl)

theorem frame_kernel : Cert.quiescent_NormBwd := fun m ρ _ => by
  have h := Cert.NormBwdIdeal.Gen.frame (F := Bits) m ρ
  rw [← show Cert.NormBwd.defs (F := Bits) = Cert.NormBwdIdeal.defs from congrArg (Pipeline.defs _) bodies_eq] at h
  exact h

theorem frame_ideal : Cert.quiescent_NormBwdIdeal := fun m ρ _ => Cert.NormBwdIdeal.Gen.frame (F := Ideal) m ρ

theorem frame_ref : Cert.quiescent_NormBwdRefIdeal := fun m ρ _ =>
  (θ_run Cert.NormBwdRefIdeal.defs _ _).mono (fun r h => ⟨fun c => (h c).2.2, sem_eq_zero_of_no_sems (by decide) r.2⟩)
    (Cert.NormBwdRefIdeal.Value.run (F := Ideal) m ρ)

theorem algebraic : Cert.algebraic_NormBwdIdeal_NormBwdRefIdeal := fun m ρ m' ρ' _ hagree =>
  ⟨fun c => dxAdd (R := 4096) (m ((c.tc : Thread NormBwdIdeal.nD NormBwdIdeal.τ).loc NormBwdIdeal.main_arg0))
      (m ((c.tc : Thread NormBwdIdeal.nD NormBwdIdeal.τ).loc NormBwdIdeal.main_arg1))
      (m ((c.tc : Thread NormBwdIdeal.nD NormBwdIdeal.τ).loc NormBwdIdeal.main_arg2))
      (m ((c.tc : Thread NormBwdIdeal.nD NormBwdIdeal.τ).loc NormBwdIdeal.main_arg3)),
    fun c => dw (R := 4096) wide (m ((c.tc : Thread NormBwdIdeal.nD NormBwdIdeal.τ).loc NormBwdIdeal.main_arg0))
      (m ((c.tc : Thread NormBwdIdeal.nD NormBwdIdeal.τ).loc NormBwdIdeal.main_arg2)),
    (θ_run NormBwdIdeal.defs _ _).mono (fun r h c => ⟨(h c).1.trans (NormBwdIdeal.Rms.finalX m c),
        (h c).2.1.trans (NormBwdIdeal.Rms.finalW m c), (h c).2.2⟩)
      (NormBwdIdeal.Value.run_blocks (F := Ideal) m ρ),
    (θ_run NormBwdRefIdeal.defs _ _).mono (fun r h c => ⟨(h c).1.trans (by
        rw [(hagree c).1, (hagree c).2.1, (hagree c).2.2.1, (hagree c).2.2.2]
        funext i
        pointwise [Fin.sum_univ_one]
        rfl), (h c).2.1.trans (by
        rw [(hagree c).1, (hagree c).2.2.1]
        funext i
        pointwise
        rfl), (h c).2.2⟩)
      (NormBwdRefIdeal.Value.run (F := Ideal) m' ρ')⟩

end Cert.NormBwdProof
-- ==== Proof.Latents.lean ====
/- The norms of the two latents, and their gradients. -/
module

public import proofs.«01_k».proof.Defs
public import proofs.«01_k».proof.Proof.Norms
public import proofs.«01_k».proof.Proof.Gen.Latent
public import proofs.«01_k».proof.Proof.Gen.LatentIdeal.Value
public import proofs.«01_k».proof.Proof.Gen.LatentRefIdeal.Run
public import proofs.«01_k».proof.Proof.Gen.LatentBwd
public import proofs.«01_k».proof.Proof.Gen.LatentBwdIdeal.Value
public import proofs.«01_k».proof.Proof.Gen.LatentBwdRefIdeal.Run
public import Idealize.ShloMosaic.Lib.Quiescent

@[expose] public section

set_option maxRecDepth 16384

noncomputable section

/-- The width of a latent. -/
def Cert.Rms.narrow : EReal := Idealize.ShloMosaic.Ideal.ofBits .f32 0x44000000#32

namespace Cert.LatentIdeal.Rms

open Idealize.ShloMosaic Idealize.ShloMosaic.TcCoe Cert.Prod Cert.Gate Cert.Rms Cert.LatentIdeal.Gen

variable (m : (ℓ : Loc nD τ sig) → Buf (Elt Ideal) ℓ) (c : Dev nD)

theorem idx : ∀ t : Fin grid0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] := by decide +kernel

theorem pay (x : Vec Ideal S256x512 .f32) (w : Vec Ideal S1x512 .f32) (y : S256x512.Idx) :
    k0_pay1 x w y = normed narrow x w y := by
  pointwise [k0_pay1]
  rfl

theorem finalQ : (dats m 0 c).arrAt 4 cfg0.N
    = (normed narrow (m ((c.tc : Thread nD τ).loc main_arg0)) (m ((c.tc : Thread nD τ).loc main_arg2)) : (Mat 4096 512).Idx → EReal) := by
  refine (dats m 0 c).arrAt_eq_of_covers 4 _ (by decide +kernel) fun t hf y => ?_
  blk_simp
  rw [after0_4]
  unfold out0_4
  rw [View.canon_unit_zero off_zero]
  simp only [View.ld_unit_zero (S := S256x512) off_zero, View.ld_unit_zero (S := S1x512) off_zero]
  refine (pay (iblk m c 0 t) (iblk m c 2 t) y).trans ?_
  refine normed_congr (Fin.ext (by
      show (y 1).val = win0_4.index t (1 : Fin 2) * 512 + 1 * (y 1).val
      rw [(idx t).2.2.2.2.1]; simp)) (fun k => ?_) (fun k => ?_) <;> blk_ext [iblk, V, idx t]

theorem finalKv : (dats m 0 c).arrAt 5 cfg0.N
    = (normed narrow (m ((c.tc : Thread nD τ).loc main_arg1)) (m ((c.tc : Thread nD τ).loc main_arg3)) : (Mat 4096 512).Idx → EReal) := by
  refine (dats m 0 c).arrAt_eq_of_covers 5 _ (by decide +kernel) fun t hf y => ?_
  blk_simp
  rw [after0_5]
  unfold out0_5
  rw [View.canon_unit_zero off_zero]
  simp only [View.ld_unit_zero (S := S256x512) off_zero, View.ld_unit_zero (S := S1x512) off_zero]
  refine (pay (iblk m c 1 t) (iblk m c 3 t) y).trans ?_
  refine normed_congr (Fin.ext (by
      show (y 1).val = win0_5.index t (1 : Fin 2) * 512 + 1 * (y 1).val
      rw [(idx t).2.2.2.2.2]; simp)) (fun k => ?_) (fun k => ?_) <;> blk_ext [iblk, V, idx t]

end Cert.LatentIdeal.Rms

namespace Cert.LatentProof

open Idealize.ShloMosaic Idealize.ShloMosaic.TcCoe Cert.Rms

theorem bodies_eq : Cert.Latent.defs₀ (F := Bits) = Cert.LatentIdeal.defs₀ := by
  unfold Cert.Latent.defs₀ Cert.LatentIdeal.defs₀
  exact congrArg Defs.onTc (funext fun l => match l with | 0 => funext fun ⟨_, _⟩ => rfl)

theorem frame_kernel : Cert.quiescent_Latent := fun m ρ _ => by
  have h := Cert.LatentIdeal.Gen.frame (F := Bits) m ρ
  rw [← show Cert.Latent.defs (F := Bits) = Cert.LatentIdeal.defs from congrArg (Pipeline.defs _) bodies_eq] at h
  exact h

theorem frame_ideal : Cert.quiescent_LatentIdeal := fun m ρ _ => Cert.LatentIdeal.Gen.frame (F := Ideal) m ρ

theorem frame_ref : Cert.quiescent_LatentRefIdeal := fun m ρ _ =>
  (θ_run Cert.LatentRefIdeal.defs _ _).mono (fun r h => ⟨fun c => (h c).2.2, sem_eq_zero_of_no_sems (by decide) r.2⟩)
    (Cert.LatentRefIdeal.Value.run (F := Ideal) m ρ)

theorem algebraic : Cert.algebraic_LatentIdeal_LatentRefIdeal := fun m ρ m' ρ' _ hagree =>
  ⟨fun c => normed (R := 4096) narrow (m ((c.tc : Thread LatentIdeal.nD LatentIdeal.τ).loc LatentIdeal.main_arg0))
      (m ((c.tc : Thread LatentIdeal.nD LatentIdeal.τ).loc LatentIdeal.main_arg2)),
    fun c => normed (R := 4096) narrow (m ((c.tc : Thread LatentIdeal.nD LatentIdeal.τ).loc LatentIdeal.main_arg1))
      (m ((c.tc : Thread LatentIdeal.nD LatentIdeal.τ).loc LatentIdeal.main_arg3)),
    (θ_run LatentIdeal.defs _ _).mono (fun r h c => ⟨(h c).1.trans (LatentIdeal.Rms.finalQ m c),
        (h c).2.1.trans (LatentIdeal.Rms.finalKv m c), (h c).2.2⟩)
      (LatentIdeal.Value.run_blocks (F := Ideal) m ρ),
    (θ_run LatentRefIdeal.defs _ _).mono (fun r h c => ⟨(h c).1.trans (by
        rw [(hagree c).1, (hagree c).2.2.1]
        funext i
        pointwise
        rfl), (h c).2.1.trans (by
        rw [(hagree c).2.1, (hagree c).2.2.2]
        funext i
        pointwise
        rfl), (h c).2.2⟩)
      (LatentRefIdeal.Value.run (F := Ideal) m' ρ')⟩

end Cert.LatentProof

namespace Cert.LatentBwdIdeal.Rms

open Idealize.ShloMosaic Idealize.ShloMosaic.TcCoe Cert.Prod Cert.Gate Cert.Rms Cert.LatentBwdIdeal.Gen

variable (m : (ℓ : Loc nD τ sig) → Buf (Elt Ideal) ℓ) (c : Dev nD)

theorem idx : ∀ t : Fin grid0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] ∧ win0_6.index t = ![t.val, 0] ∧ win0_7.index t = ![t.val, 0]
    ∧ win0_8.index t = ![0, 0] ∧ win0_9.index t = ![0, 0] := by decide +kernel

theorem payQ (x : Vec Ideal S128x512 .f32) (w : Vec Ideal S1x512 .f32) (g : Vec Ideal S128x512 .f32) (y : S128x512.Idx) :
    k0_pay13 x w (k0_pay4 x) (k0_pay5 x) g y = dx narrow x w g y := by
  pointwise [k0_pay13, k0_pay5, k0_pay4, k0_pay3, Fin.sum_univ_one]
  rfl

theorem payKv (x : Vec Ideal S128x512 .f32) (w : Vec Ideal S1x512 .f32) (g : Vec Ideal S128x512 .f32) (y : S128x512.Idx) :
    k0_pay14 x (k0_pay8 x) (k0_pay9 x) (k0_pay11 w g) y = dx narrow x w g y := by
  pointwise [k0_pay14, k0_pay11, k0_pay9, k0_pay8, k0_pay7, Fin.sum_univ_one]
  rfl

theorem payWq (x g : Vec Ideal S128x512 .f32) (j : S1x512.Idx) : k0_pay12 (k0_pay6 x) g j = dw (R := 128) narrow x g j := by
  pointwise [k0_pay12, k0_pay6, k0_pay4, k0_pay3]
  rfl

theorem payWkv (x g : Vec Ideal S128x512 .f32) (j : S1x512.Idx) : k0_pay10 x g j = dw (R := 128) narrow x g j := by
  pointwise [k0_pay10, k0_pay8, k0_pay7]
  rfl

theorem payAddQ (v p : Vec Ideal S1x512 .f32) (j : S1x512.Idx) : k0_pay1 v p j = (p j : EReal) + v j := by
  pointwise [k0_pay1]

theorem payAddKv (v p : Vec Ideal S1x512 .f32) (j : S1x512.Idx) : k0_pay2 v p j = (p j : EReal) + v j := by
  pointwise [k0_pay2]

theorem outsQ (t : Fin cfg0.N) (y : (Mat 128 512).Idx) : (outsAt0 m c t.val t.isLt).1 y
    = dx (R := 128) narrow (iblk m c 0 t) (iblk m c 2 t) (iblk m c 4 t) y := by
  have ht : t.val < 32 := t.isLt
  by_cases h : t.val % 32 = 0
  · rw [outsAt0_A m c t h (by omega) h (by omega)]
    frame_out
    exact payQ _ _ _ y
  · rw [outsAt0_B m c t h (by omega) h (by omega)]
    frame_out
    exact payQ _ _ _ y

theorem outsKv (t : Fin cfg0.N) (y : (Mat 128 512).Idx) : (outsAt0 m c t.val t.isLt).2.1 y
    = dx (R := 128) narrow (iblk m c 1 t) (iblk m c 3 t) (iblk m c 5 t) y := by
  have ht : t.val < 32 := t.isLt
  by_cases h : t.val % 32 = 0
  · rw [outsAt0_A m c t h (by omega) h (by omega)]
    frame_out
    exact payKv _ _ _ y
  · rw [outsAt0_B m c t h (by omega) h (by omega)]
    frame_out
    exact payKv _ _ _ y

/-- After the last row tile a weight's gradient is the sum of the tiles' own. -/
theorem outsWq (t : Fin cfg0.N) (h : t.val % 32 = 31) (j : (Mat 1 512).Idx) :
    (outsAt0 m c t.val t.isLt).2.2.1 j
      = ∑ s : Fin 32, dw (R := 128) narrow (iblk m c 0 ⟨32 * (t.val / 32) + s.val, Pipeline.run_point_lt_of_flush t h s⟩)
          (iblk m c 4 ⟨32 * (t.val / 32) + s.val, Pipeline.run_point_lt_of_flush t h s⟩) j := by
  rw [Pipeline.eq_sum_fin_of_reset_step_apply_of_flush (fun n h => (outsAt0 m c n h).2.2.1) 32 (fun _ => (0 : EReal))
    (fun t j => dw (R := 128) narrow (iblk m c 0 t) (iblk m c 4 t) j)
    (fun t h j => by
      have ht : t.val < 32 := t.isLt
      rw [outsAt0_A m c t h (by omega) h (by omega)]; frame_out; exact (payWq _ _ j).trans (zero_add _).symm)
    (fun t h j => by
      have ht : t.val < 32 := t.isLt
      rw [outsAt0_B m c t h (by omega) h (by omega)]; frame_out; rw [payAddQ, payWq]) t h j, zero_add]

theorem outsWkv (t : Fin cfg0.N) (h : t.val % 32 = 31) (j : (Mat 1 512).Idx) :
    (outsAt0 m c t.val t.isLt).2.2.2 j
      = ∑ s : Fin 32, dw (R := 128) narrow (iblk m c 1 ⟨32 * (t.val / 32) + s.val, Pipeline.run_point_lt_of_flush t h s⟩)
          (iblk m c 5 ⟨32 * (t.val / 32) + s.val, Pipeline.run_point_lt_of_flush t h s⟩) j := by
  rw [Pipeline.eq_sum_fin_of_reset_step_apply_of_flush (fun n h => (outsAt0 m c n h).2.2.2) 32 (fun _ => (0 : EReal))
    (fun t j => dw (R := 128) narrow (iblk m c 1 t) (iblk m c 5 t) j)
    (fun t h j => by
      have ht : t.val < 32 := t.isLt
      rw [outsAt0_A m c t h (by omega) h (by omega)]; frame_out; exact (payWkv _ _ j).trans (zero_add _).symm)
    (fun t h j => by
      have ht : t.val < 32 := t.isLt
      rw [outsAt0_B m c t h (by omega) h (by omega)]; frame_out; rw [payAddKv, payWkv]) t h j, zero_add]

theorem finalQ : (dats m 0 c).arrAt 6 cfg0.N
    = (dx narrow (m ((c.tc : Thread nD τ).loc main_arg0)) (m ((c.tc : Thread nD τ).loc main_arg2))
        (m ((c.tc : Thread nD τ).loc main_arg4)) : (Mat 4096 512).Idx → EReal) := by
  refine (dats m 0 c).arrAt_eq_of_covers 6 _ (by decide +kernel) fun t hf y => ?_
  blk_simp
  rw [after0_6, outsQ]
  refine dx_congr (Fin.ext (by
      show (y 1).val = win0_6.index t (1 : Fin 2) * 512 + 1 * (y 1).val
      rw [(idx t).2.2.2.2.2.2.1]; simp)) (fun k => ?_) (fun k => ?_) (fun k => ?_) <;> blk_ext [iblk, V, idx t]

theorem finalKv : (dats m 0 c).arrAt 7 cfg0.N
    = (dx narrow (m ((c.tc : Thread nD τ).loc main_arg1)) (m ((c.tc : Thread nD τ).loc main_arg3))
        (m ((c.tc : Thread nD τ).loc main_arg5)) : (Mat 4096 512).Idx → EReal) := by
  refine (dats m 0 c).arrAt_eq_of_covers 7 _ (by decide +kernel) fun t hf y => ?_
  blk_simp
  rw [after0_7, outsKv]
  refine dx_congr (Fin.ext (by
      show (y 1).val = win0_7.index t (1 : Fin 2) * 512 + 1 * (y 1).val
      rw [(idx t).2.2.2.2.2.2.2.1]; simp)) (fun k => ?_) (fun k => ?_) (fun k => ?_) <;> blk_ext [iblk, V, idx t]

theorem finalWq : (dats m 0 c).arrAt 8 cfg0.N
    = (dw narrow (m ((c.tc : Thread nD τ).loc main_arg0) : (Mat 4096 512).Idx → EReal)
        (m ((c.tc : Thread nD τ).loc main_arg4)) : (Mat 1 512).Idx → EReal) := by
  refine (dats m 0 c).arrAt_eq_of_covers 8 _ (by decide +kernel) fun t hf y => ?_
  have h := (flush0_8 t).mp hf
  blk_simp
  rw [after0_8, outsWq m c t h]
  refine Fin.sum_mul_add_congr fun s r hl => ?_
  have e := idx ⟨32 * (t.val / 32) + s.val, Pipeline.run_point_lt_of_flush t h s⟩
  refine Ideal.mul_congr (Ideal.mul_congr ?_ (congrArg Ideal.rsqrt (ms_congr fun k => ?_))) ?_
    <;> blk_ext [iblk, V, idx t, e]

theorem finalWkv : (dats m 0 c).arrAt 9 cfg0.N
    = (dw narrow (m ((c.tc : Thread nD τ).loc main_arg1) : (Mat 4096 512).Idx → EReal)
        (m ((c.tc : Thread nD τ).loc main_arg5)) : (Mat 1 512).Idx → EReal) := by
  refine (dats m 0 c).arrAt_eq_of_covers 9 _ (by decide +kernel) fun t hf y => ?_
  have h := (flush0_9 t).mp hf
  blk_simp
  rw [after0_9, outsWkv m c t h]
  refine Fin.sum_mul_add_congr fun s r hl => ?_
  have e := idx ⟨32 * (t.val / 32) + s.val, Pipeline.run_point_lt_of_flush t h s⟩
  refine Ideal.mul_congr (Ideal.mul_congr ?_ (congrArg Ideal.rsqrt (ms_congr fun k => ?_))) ?_
    <;> blk_ext [iblk, V, idx t, e]

end Cert.LatentBwdIdeal.Rms

namespace Cert.LatentBwdProof

open Idealize.ShloMosaic Idealize.ShloMosaic.TcCoe Cert.Rms

theorem bodies_eq : Cert.LatentBwd.defs₀ (F := Bits) = Cert.LatentBwdIdeal.defs₀ := by
  unfold Cert.LatentBwd.defs₀ Cert.LatentBwdIdeal.defs₀
  exact congrArg Defs.onTc (funext fun l => match l with | 0 => funext fun ⟨_, _⟩ => rfl)

theorem frame_kernel : Cert.quiescent_LatentBwd := fun m ρ _ => by
  have h := Cert.LatentBwdIdeal.Gen.frame (F := Bits) m ρ
  rw [← show Cert.LatentBwd.defs (F := Bits) = Cert.LatentBwdIdeal.defs from congrArg (Pipeline.defs _) bodies_eq] at h
  exact h

theorem frame_ideal : Cert.quiescent_LatentBwdIdeal := fun m ρ _ => Cert.LatentBwdIdeal.Gen.frame (F := Ideal) m ρ

theorem frame_ref : Cert.quiescent_LatentBwdRefIdeal := fun m ρ _ =>
  (θ_run Cert.LatentBwdRefIdeal.defs _ _).mono (fun r h => ⟨fun c => (h c).2.2.2.2, sem_eq_zero_of_no_sems (by decide) r.2⟩)
    (Cert.LatentBwdRefIdeal.Value.run (F := Ideal) m ρ)

theorem algebraic : Cert.algebraic_LatentBwdIdeal_LatentBwdRefIdeal := fun m ρ m' ρ' _ hagree =>
  ⟨fun c => dx (R := 4096) narrow (m ((c.tc : Thread LatentBwdIdeal.nD LatentBwdIdeal.τ).loc LatentBwdIdeal.main_arg0))
      (m ((c.tc : Thread LatentBwdIdeal.nD LatentBwdIdeal.τ).loc LatentBwdIdeal.main_arg2))
      (m ((c.tc : Thread LatentBwdIdeal.nD LatentBwdIdeal.τ).loc LatentBwdIdeal.main_arg4)),
    fun c => dx (R := 4096) narrow (m ((c.tc : Thread LatentBwdIdeal.nD LatentBwdIdeal.τ).loc LatentBwdIdeal.main_arg1))
      (m ((c.tc : Thread LatentBwdIdeal.nD LatentBwdIdeal.τ).loc LatentBwdIdeal.main_arg3))
      (m ((c.tc : Thread LatentBwdIdeal.nD LatentBwdIdeal.τ).loc LatentBwdIdeal.main_arg5)),
    fun c => dw (R := 4096) narrow (m ((c.tc : Thread LatentBwdIdeal.nD LatentBwdIdeal.τ).loc LatentBwdIdeal.main_arg0))
      (m ((c.tc : Thread LatentBwdIdeal.nD LatentBwdIdeal.τ).loc LatentBwdIdeal.main_arg4)),
    fun c => dw (R := 4096) narrow (m ((c.tc : Thread LatentBwdIdeal.nD LatentBwdIdeal.τ).loc LatentBwdIdeal.main_arg1))
      (m ((c.tc : Thread LatentBwdIdeal.nD LatentBwdIdeal.τ).loc LatentBwdIdeal.main_arg5)),
    (θ_run LatentBwdIdeal.defs _ _).mono (fun r h c => ⟨(h c).1.trans (LatentBwdIdeal.Rms.finalQ m c),
        (h c).2.1.trans (LatentBwdIdeal.Rms.finalKv m c), (h c).2.2.1.trans (LatentBwdIdeal.Rms.finalWq m c),
        (h c).2.2.2.1.trans (LatentBwdIdeal.Rms.finalWkv m c), (h c).2.2.2.2⟩)
      (LatentBwdIdeal.Value.run_blocks (F := Ideal) m ρ),
    (θ_run LatentBwdRefIdeal.defs _ _).mono (fun r h c => ⟨(h c).1.trans (by
        rw [(hagree c).1, (hagree c).2.2.1, (hagree c).2.2.2.2.1]
        funext i
        pointwise [Fin.sum_univ_one]
        rfl), (h c).2.1.trans (by
        rw [(hagree c).2.1, (hagree c).2.2.2.1, (hagree c).2.2.2.2.2]
        funext i
        pointwise [Fin.sum_univ_one]
        rfl), (h c).2.2.1.trans (by
        rw [(hagree c).1, (hagree c).2.2.2.2.1]
        funext i
        pointwise
        rfl), (h c).2.2.2.1.trans (by
        rw [(hagree c).2.1, (hagree c).2.2.2.2.2]
        funext i
        pointwise
        rfl), (h c).2.2.2.2⟩)
      (LatentBwdRefIdeal.Value.run (F := Ideal) m' ρ')⟩

end Cert.LatentBwdProof
-- ==== Proof.GroupNorm.lean ====
/- The gated norm of the state space branch, group by group of its columns, and its gradient. -/
module

public import proofs.«01_k».proof.Defs
public import proofs.«01_k».proof.Proof.Latents
public import proofs.«01_k».proof.Proof.Gen.GatedNorm
public import proofs.«01_k».proof.Proof.Gen.GatedNormIdeal.Value
public import proofs.«01_k».proof.Proof.Gen.GatedNormRefIdeal.Run
public import proofs.«01_k».proof.Proof.Gen.GatedNormBwd
public import proofs.«01_k».proof.Proof.Gen.GatedNormBwdIdeal.Value
public import proofs.«01_k».proof.Proof.Gen.GatedNormBwdRefIdeal.Run
public import Idealize.ShloMosaic.Lib.Quiescent

@[expose] public section

set_option maxRecDepth 16384

noncomputable section

namespace Cert.Group

open Idealize.ShloMosaic Cert.Prod Cert.Gate Cert.Rms

variable {R : ℕ}

/-- Column `k` of group `h`. -/
def col (h : Fin 8) (k : Fin 512) : Fin 4096 := ⟨h.val * 512 + k.val, by omega⟩

/-- A column's group, and its place in the group. -/
def grpOf (j : Fin 4096) : Fin 8 := ⟨j.val / 512, by omega⟩

def inGrp (j : Fin 4096) : Fin 512 := ⟨j.val % 512, by omega⟩

/-- A group's columns of an array. -/
def grp (x : (Mat R 4096).Idx → EReal) (h : Fin 8) : (Mat R 512).Idx → EReal := fun i => x (ix2 (i 0) (col h (i 1)))

/-- The values through the gate: each times the SiLU beside it. -/
def mix {K : ℕ} (y z : (Mat R K).Idx → EReal) : (Mat R K).Idx → EReal := fun i => y i * (z i * Ideal.logistic (z i))

/-- The norm of each group of columns. -/
def gnorm (y z : (Mat R 4096).Idx → EReal) (w : (Mat 1 4096).Idx → EReal) : (Mat R 4096).Idx → EReal := fun i =>
  normed narrow (mix (grp y (grpOf (i 1))) (grp z (grpOf (i 1)))) (grp w (grpOf (i 1))) (ix2 (i 0) (inGrp (i 1)))

/-- What reaches the first factor of the gate, from the norm's gradient. -/
def mixY {K : ℕ} (y z : (Mat R K).Idx → EReal) (w : (Mat 1 K).Idx → EReal) (g : (Mat R K).Idx → EReal) :
    (Mat R K).Idx → EReal := fun i => dx narrow (mix y z) w g i * (z i * Ideal.logistic (z i))

/-- What reaches the SiLU's argument: through its first factor, and through the sigmoid. -/
def mixZ {K : ℕ} (y z : (Mat R K).Idx → EReal) (w : (Mat 1 K).Idx → EReal) (g : (Mat R K).Idx → EReal) :
    (Mat R K).Idx → EReal := fun i =>
  y i * dx narrow (mix y z) w g i * Ideal.logistic (z i) + gateGrad (z i) (y i * dx narrow (mix y z) w g i) (z i)

/-- The gradients of the whole arrays, each entry from its own group. -/
def gradY (y z : (Mat R 4096).Idx → EReal) (w : (Mat 1 4096).Idx → EReal) (g : (Mat R 4096).Idx → EReal) :
    (Mat R 4096).Idx → EReal := fun i =>
  mixY (grp y (grpOf (i 1))) (grp z (grpOf (i 1))) (grp w (grpOf (i 1))) (grp g (grpOf (i 1))) (ix2 (i 0) (inGrp (i 1)))

def gradZ (y z : (Mat R 4096).Idx → EReal) (w : (Mat 1 4096).Idx → EReal) (g : (Mat R 4096).Idx → EReal) :
    (Mat R 4096).Idx → EReal := fun i =>
  mixZ (grp y (grpOf (i 1))) (grp z (grpOf (i 1))) (grp w (grpOf (i 1))) (grp g (grpOf (i 1))) (ix2 (i 0) (inGrp (i 1)))

def gradW (y z g : (Mat R 4096).Idx → EReal) : (Mat 1 4096).Idx → EReal := fun i =>
  dw narrow (mix (grp y (grpOf (i 1))) (grp z (grpOf (i 1)))) (grp g (grpOf (i 1))) (ix2 0 (inGrp (i 1)))

section
variable {S K : ℕ} {y z g : (Mat R K).Idx → EReal} {Y Z G : (Mat S K).Idx → EReal} {w W : (Mat 1 K).Idx → EReal}

theorem mix_congr {r : Fin R} {q : Fin S} (hy : ∀ k, y (ix2 r k) = Y (ix2 q k)) (hz : ∀ k, z (ix2 r k) = Z (ix2 q k))
    (k : Fin K) : mix y z (ix2 r k) = mix Y Z (ix2 q k) := by
  unfold mix
  rw [hy, hz]

theorem mixY_congr {a : (Mat R K).Idx} {i : (Mat S K).Idx} (e : (a 1 : Fin K) = i 1)
    (hy : ∀ k, y (ix2 (a 0) k) = Y (ix2 (i 0) k)) (hz : ∀ k, z (ix2 (a 0) k) = Z (ix2 (i 0) k))
    (hw : ∀ k, w (ix2 0 k) = W (ix2 0 k)) (hg : ∀ k, g (ix2 (a 0) k) = G (ix2 (i 0) k)) :
    mixY y z w g a = mixY Y Z W G i := by
  unfold mixY
  rw [at_ix e hz, dx_congr e (mix_congr hy hz) hg hw]

theorem mixZ_congr {a : (Mat R K).Idx} {i : (Mat S K).Idx} (e : (a 1 : Fin K) = i 1)
    (hy : ∀ k, y (ix2 (a 0) k) = Y (ix2 (i 0) k)) (hz : ∀ k, z (ix2 (a 0) k) = Z (ix2 (i 0) k))
    (hw : ∀ k, w (ix2 0 k) = W (ix2 0 k)) (hg : ∀ k, g (ix2 (a 0) k) = G (ix2 (i 0) k)) :
    mixZ y z w g a = mixZ Y Z W G i := by
  unfold mixZ
  rw [at_ix e hz, at_ix e hy, dx_congr e (mix_congr hy hz) hg hw]

end

/-! An entry of the array, as its group holds it. -/

theorem grp_in (x : (Mat R 4096).Idx → EReal) (r : Fin R) (j : Fin 4096) : grp x (grpOf j) (ix2 r (inGrp j)) = x (ix2 r j) := by
  have h : col (grpOf j) (inGrp j) = j := Fin.ext (Nat.div_add_mod' _ _)
  show x (ix2 r (col (grpOf j) (inGrp j))) = _
  rw [h]

theorem grp_at (x : (Mat R 4096).Idx → EReal) (i : (Mat R 4096).Idx) :
    grp x (grpOf (i 1)) (ix2 (i 0) (inGrp (i 1))) = x i :=
  (grp_in x _ _).trans (congrArg x (eq_ix2 i).symm)

theorem mix_at (y z : (Mat R 4096).Idx → EReal) (i : (Mat R 4096).Idx) :
    mix (grp y (grpOf (i 1))) (grp z (grpOf (i 1))) (ix2 (i 0) (inGrp (i 1))) = y i * (z i * Ideal.logistic (z i)) := by
  unfold mix
  simp only [grp_at]

theorem dx_at (x : (Mat R 512).Idx → EReal) (w : (Mat 1 4096).Idx → EReal) (g : (Mat R 4096).Idx → EReal) (i : (Mat R 4096).Idx) :
    dx narrow x (grp w (grpOf (i 1))) (grp g (grpOf (i 1))) (ix2 (i 0) (inGrp (i 1)))
      = g i * w (ix2 0 (i 1)) * Ideal.rsqrt (ms narrow x (i 0))
        + x (ix2 (i 0) (inGrp (i 1))) * back narrow x (grp w (grpOf (i 1))) (grp g (grpOf (i 1))) (i 0)
        + back narrow x (grp w (grpOf (i 1))) (grp g (grpOf (i 1))) (i 0) * x (ix2 (i 0) (inGrp (i 1))) := by
  unfold dx
  rw [grp_at]
  exact congrArg (fun a => g i * a * _ + _ + _) (grp_in (R := 1) w 0 (i 1))

end Cert.Group

namespace Cert.GatedNormIdeal.Grp

open Idealize.ShloMosaic Idealize.ShloMosaic.TcCoe Cert.Prod Cert.Gate Cert.Rms Cert.Group Cert.GatedNormIdeal.Gen

variable (m : (ℓ : Loc nD τ sig) → Buf (Elt Ideal) ℓ) (c : Dev nD)

theorem idx : ∀ t : Fin grid0.N, win0_0.index t = ![t.val / 8, t.val % 8] ∧ win0_1.index t = ![t.val / 8, t.val % 8]
    ∧ win0_2.index t = ![0, t.val % 8] ∧ win0_3.index t = ![t.val / 8, t.val % 8] := by decide +kernel

theorem pay (y z : Vec Ideal S1024x512 .f32) (w : Vec Ideal S1x512 .f32) (i : S1024x512.Idx) :
    k0_pay1 y z w i = normed narrow (mix (R := 1024) y z) w i := by
  pointwise [k0_pay1]
  simp only [zero_sub]
  rfl

theorem final : (dats m 0 c).arrAt 3 cfg0.N
    = (gnorm (m ((c.tc : Thread nD τ).loc main_arg0)) (m ((c.tc : Thread nD τ).loc main_arg1))
        (m ((c.tc : Thread nD τ).loc main_arg2)) : (Mat 4096 4096).Idx → EReal) := by
  refine (dats m 0 c).arrAt_eq_of_covers 3 _ (by decide +kernel) fun t hf y => ?_
  have e1 : ((((cfg0.win 3).blk t).view.emb y) 1 : Fin 4096).val = t.val % 8 * 512 + (y 1).val := by
    show win0_3.index t (1 : Fin 2) * 512 + 1 * (y 1).val = _
    rw [(idx t).2.2.2]; simp
  have hy : (y 1).val < 512 := (y 1).isLt
  have hg : (grpOf (((cfg0.win 3).blk t).view.emb y 1)).val = t.val % 8 := by
    show (((cfg0.win 3).blk t).view.emb y 1 : Fin 4096).val / 512 = _
    omega
  blk_simp
  rw [after0_3]
  unfold out0_3
  rw [View.canon_unit_zero off_zero]
  simp only [View.ld_unit_zero (S := S1024x512) off_zero, View.ld_unit_zero (S := S1x512) off_zero]
  refine (pay (iblk m c 0 t) (iblk m c 1 t) (iblk m c 2 t) y).trans ?_
  refine normed_congr (Fin.ext (by
    show (y 1).val = (((cfg0.win 3).blk t).view.emb y 1 : Fin 4096).val % 512
    omega)) (fun k => ?_) (fun k => ?_)
  · refine mix_congr (fun k => ?_) (fun k => ?_) k <;> unfold grp <;> blk_ext [iblk, V, idx t, col, hg]
  · unfold grp
    blk_ext [iblk, V, idx t, col, hg]

end Cert.GatedNormIdeal.Grp

namespace Cert.GatedNormProof

open Idealize.ShloMosaic Idealize.ShloMosaic.TcCoe Cert.Rms Cert.Group

theorem bodies_eq : Cert.GatedNorm.defs₀ (F := Bits) = Cert.GatedNormIdeal.defs₀ := by
  unfold Cert.GatedNorm.defs₀ Cert.GatedNormIdeal.defs₀
  exact congrArg Defs.onTc (funext fun l => match l with | 0 => funext fun ⟨_, _⟩ => rfl)

theorem frame_kernel : Cert.quiescent_GatedNorm := fun m ρ _ => by
  have h := Cert.GatedNormIdeal.Gen.frame (F := Bits) m ρ
  rw [← show Cert.GatedNorm.defs (F := Bits) = Cert.GatedNormIdeal.defs from congrArg (Pipeline.defs _) bodies_eq] at h
  exact h

theorem frame_ideal : Cert.quiescent_GatedNormIdeal := fun m ρ _ => Cert.GatedNormIdeal.Gen.frame (F := Ideal) m ρ

theorem frame_ref : Cert.quiescent_GatedNormRefIdeal := fun m ρ _ =>
  (θ_run Cert.GatedNormRefIdeal.defs _ _).mono (fun r h => ⟨fun c => (h c).2, sem_eq_zero_of_no_sems (by decide) r.2⟩)
    (Cert.GatedNormRefIdeal.Value.run (F := Ideal) m ρ)

theorem algebraic : Cert.algebraic_GatedNormIdeal_GatedNormRefIdeal := fun m ρ m' ρ' _ hagree =>
  ⟨fun c => gnorm (R := 4096) (m ((c.tc : Thread GatedNormIdeal.nD GatedNormIdeal.τ).loc GatedNormIdeal.main_arg0))
      (m ((c.tc : Thread GatedNormIdeal.nD GatedNormIdeal.τ).loc GatedNormIdeal.main_arg1))
      (m ((c.tc : Thread GatedNormIdeal.nD GatedNormIdeal.τ).loc GatedNormIdeal.main_arg2)),
    (θ_run GatedNormIdeal.defs _ _).mono (fun r h c => ⟨(h c).1.trans (GatedNormIdeal.Grp.final m c), (h c).2⟩)
      (GatedNormIdeal.Value.run_blocks (F := Ideal) m ρ),
    (θ_run GatedNormRefIdeal.defs _ _).mono (fun r h c => ⟨(h c).1.trans (by
        rw [(hagree c).1, (hagree c).2.1, (hagree c).2.2]
        funext i
        pointwise
        unfold gnorm normed mix
        simp only [grp_at]
        exact Ideal.mul_congr rfl (grp_at (R := 1)
          (m ((c.tc : Thread GatedNormIdeal.nD GatedNormIdeal.τ).loc GatedNormIdeal.main_arg2)) (ix2 0 (i 1))).symm), (h c).2⟩)
      (GatedNormRefIdeal.Value.run (F := Ideal) m' ρ')⟩

end Cert.GatedNormProof

namespace Cert.GatedNormBwdIdeal.Grp

open Idealize.ShloMosaic Idealize.ShloMosaic.TcCoe Cert.Prod Cert.Gate Cert.Rms Cert.Group Cert.GatedNormBwdIdeal.Gen

variable (m : (ℓ : Loc nD τ sig) → Buf (Elt Ideal) ℓ) (c : Dev nD)

theorem idx : ∀ t : Fin grid0.N, win0_0.index t = ![t.val % 8, t.val / 8] ∧ win0_1.index t = ![t.val % 8, t.val / 8]
    ∧ win0_2.index t = ![0, t.val / 8] ∧ win0_3.index t = ![t.val % 8, t.val / 8]
    ∧ win0_4.index t = ![t.val % 8, t.val / 8] ∧ win0_5.index t = ![t.val % 8, t.val / 8]
    ∧ win0_6.index t = ![0, t.val / 8] := by decide +kernel

section
variable (y z : Vec Ideal S512x512 .f32) (w : Vec Ideal S1x512 .f32) (g : Vec Ideal S512x512 .f32) (i : S512x512.Idx)

theorem payD : k0_pay1 (k0_pay10 y z) (k0_pay15 y z w g) (k0_pay16 y z w g) i = dx narrow (mix (R := 512) y z) w g i := by
  pointwise [k0_pay1, k0_pay10, k0_pay15, k0_pay16, k0_pay14, k0_pay12, k0_pay11, k0_pay9, k0_pay7, k0_pay6, k0_pay5,
    Fin.sum_univ_one]
  simp only [zero_sub]
  rfl

theorem payY : k0_pay2 (k0_pay9 z) (k0_pay10 y z) (k0_pay15 y z w g) (k0_pay16 y z w g) i
    = mixY (R := 512) y z w g i := by
  pointwise [k0_pay2, k0_pay9, k0_pay7, k0_pay6, k0_pay5]
  simp only [zero_sub, payD]
  rfl

theorem payZ : k0_pay3 y z (k0_pay5 z) (k0_pay7 z) (k0_pay8 z) (k0_pay10 y z) (k0_pay15 y z w g) (k0_pay16 y z w g) i
    = mixZ (R := 512) y z w g i := by
  pointwise [k0_pay3, k0_pay8, k0_pay7, k0_pay6, k0_pay5]
  rw [payD]
  refine congrArg₂ (· + ·) (by simp only [zero_sub]; rfl) ?_
  rw [zero_sub, zero_sub, zero_sub, EReal.neg_mul, neg_neg, mul_assoc, slope, gateGrad]

theorem payW (j : S1x512.Idx) : k0_pay13 y z g j = dw narrow (mix (R := 512) y z) g j := by
  pointwise [k0_pay13, k0_pay12, k0_pay11, k0_pay10, k0_pay9, k0_pay7, k0_pay6, k0_pay5]
  simp only [zero_sub]
  rfl

end

theorem payAdd (v p : Vec Ideal S1x512 .f32) (j : S1x512.Idx) : k0_pay4 v p j = (p j : EReal) + v j := by
  pointwise [k0_pay4]

theorem outsY (t : Fin cfg0.N) (y : (Mat 512 512).Idx) : (outsAt0 m c t.val t.isLt).1 y
    = mixY (R := 512) (iblk m c 0 t) (iblk m c 1 t) (iblk m c 2 t) (iblk m c 3 t) y := by
  by_cases h : t.val % 8 = 0
  · rw [outsAt0_A m c t h (by omega)]
    frame_out
    exact payY _ _ _ _ y
  · rw [outsAt0_B m c t h (by omega)]
    frame_out
    exact payY _ _ _ _ y

theorem outsZ (t : Fin cfg0.N) (y : (Mat 512 512).Idx) : (outsAt0 m c t.val t.isLt).2.1 y
    = mixZ (R := 512) (iblk m c 0 t) (iblk m c 1 t) (iblk m c 2 t) (iblk m c 3 t) y := by
  by_cases h : t.val % 8 = 0
  · rw [outsAt0_A m c t h (by omega)]
    frame_out
    exact payZ _ _ _ _ y
  · rw [outsAt0_B m c t h (by omega)]
    frame_out
    exact payZ _ _ _ _ y

/-- After a group's last row tile the weight's gradient is the sum of the tiles' own. -/
theorem outsW (t : Fin cfg0.N) (h : t.val % 8 = 7) (j : (Mat 1 512).Idx) :
    (outsAt0 m c t.val t.isLt).2.2 j
      = ∑ s : Fin 8, dw narrow (mix (R := 512) (iblk m c 0 ⟨8 * (t.val / 8) + s.val, Pipeline.run_point_lt_of_flush t h s⟩)
            (iblk m c 1 ⟨8 * (t.val / 8) + s.val, Pipeline.run_point_lt_of_flush t h s⟩))
          (iblk m c 3 ⟨8 * (t.val / 8) + s.val, Pipeline.run_point_lt_of_flush t h s⟩) j := by
  rw [Pipeline.eq_sum_fin_of_reset_step_apply_of_flush (fun n h => (outsAt0 m c n h).2.2) 8 (fun _ => (0 : EReal))
    (fun t j => dw narrow (mix (R := 512) (iblk m c 0 t) (iblk m c 1 t)) (iblk m c 3 t) j)
    (fun t h j => by
      rw [outsAt0_A m c t h (by omega)]; frame_out; exact (payW _ _ _ j).trans (zero_add _).symm)
    (fun t h j => by
      rw [outsAt0_B m c t h (by omega)]; frame_out; rw [payAdd, payW]) t h j, zero_add]

theorem finalY : (dats m 0 c).arrAt 4 cfg0.N
    = (gradY (m ((c.tc : Thread nD τ).loc main_arg0)) (m ((c.tc : Thread nD τ).loc main_arg1))
        (m ((c.tc : Thread nD τ).loc main_arg2)) (m ((c.tc : Thread nD τ).loc main_arg3)) : (Mat 4096 4096).Idx → EReal) := by
  refine (dats m 0 c).arrAt_eq_of_covers 4 _ (by decide +kernel) fun t hf y => ?_
  have e1 : ((((cfg0.win 4).blk t).view.emb y) 1 : Fin 4096).val = t.val / 8 * 512 + (y 1).val := by
    show win0_4.index t (1 : Fin 2) * 512 + 1 * (y 1).val = _
    rw [(idx t).2.2.2.2.1]; simp
  have hy : (y 1).val < 512 := (y 1).isLt
  have hg : (grpOf (((cfg0.win 4).blk t).view.emb y 1)).val = t.val / 8 := by
    show (((cfg0.win 4).blk t).view.emb y 1 : Fin 4096).val / 512 = _
    omega
  blk_simp
  rw [after0_4, outsY]
  refine mixY_congr (Fin.ext (by
    show (y 1).val = (((cfg0.win 4).blk t).view.emb y 1 : Fin 4096).val % 512
    omega)) (fun k => ?_) (fun k => ?_) (fun k => ?_) (fun k => ?_) <;> unfold grp <;> blk_ext [iblk, V, idx t, col, hg]

theorem finalZ : (dats m 0 c).arrAt 5 cfg0.N
    = (gradZ (m ((c.tc : Thread nD τ).loc main_arg0)) (m ((c.tc : Thread nD τ).loc main_arg1))
        (m ((c.tc : Thread nD τ).loc main_arg2)) (m ((c.tc : Thread nD τ).loc main_arg3)) : (Mat 4096 4096).Idx → EReal) := by
  refine (dats m 0 c).arrAt_eq_of_covers 5 _ (by decide +kernel) fun t hf y => ?_
  have e1 : ((((cfg0.win 5).blk t).view.emb y) 1 : Fin 4096).val = t.val / 8 * 512 + (y 1).val := by
    show win0_5.index t (1 : Fin 2) * 512 + 1 * (y 1).val = _
    rw [(idx t).2.2.2.2.2.1]; simp
  have hy : (y 1).val < 512 := (y 1).isLt
  have hg : (grpOf (((cfg0.win 5).blk t).view.emb y 1)).val = t.val / 8 := by
    show (((cfg0.win 5).blk t).view.emb y 1 : Fin 4096).val / 512 = _
    omega
  blk_simp
  rw [after0_5, outsZ]
  refine mixZ_congr (Fin.ext (by
    show (y 1).val = (((cfg0.win 5).blk t).view.emb y 1 : Fin 4096).val % 512
    omega)) (fun k => ?_) (fun k => ?_) (fun k => ?_) (fun k => ?_) <;> unfold grp <;> blk_ext [iblk, V, idx t, col, hg]

theorem finalW : (dats m 0 c).arrAt 6 cfg0.N
    = (gradW (R := 4096) (m ((c.tc : Thread nD τ).loc main_arg0)) (m ((c.tc : Thread nD τ).loc main_arg1))
        (m ((c.tc : Thread nD τ).loc main_arg3)) : (Mat 1 4096).Idx → EReal) := by
  refine (dats m 0 c).arrAt_eq_of_covers 6 _ (by decide +kernel) fun t hf y => ?_
  have h := (flush0_6 t).mp hf
  have e1 : ((((cfg0.win 6).blk t).view.emb y) 1 : Fin 4096).val = t.val / 8 * 512 + (y 1).val := by
    show win0_6.index t (1 : Fin 2) * 512 + 1 * (y 1).val = _
    rw [(idx t).2.2.2.2.2.2]; simp
  have hy : (y 1).val < 512 := (y 1).isLt
  have hg : (grpOf (((cfg0.win 6).blk t).view.emb y 1)).val = t.val / 8 := by
    show (((cfg0.win 6).blk t).view.emb y 1 : Fin 4096).val / 512 = _
    omega
  have hk : (y 1 : Fin 512) = inGrp (((cfg0.win 6).blk t).view.emb y 1) := Fin.ext (by
    show (y 1).val = (((cfg0.win 6).blk t).view.emb y 1 : Fin 4096).val % 512
    omega)
  blk_simp
  rw [after0_6, outsW m c t h]
  refine Fin.sum_mul_add_congr fun s r hl => ?_
  have e := idx ⟨8 * (t.val / 8) + s.val, Pipeline.run_point_lt_of_flush t h s⟩
  rw [← hk]
  refine Ideal.mul_congr (Ideal.mul_congr ?_ (congrArg Ideal.rsqrt (ms_congr fun k => ?_))) ?_
  · refine mix_congr (Y := grp _ _) (Z := grp _ _) (fun k => ?_) (fun k => ?_) (y 1) <;> unfold grp <;> blk_ext [iblk, V, idx t, col, hg, e]
  · refine mix_congr (fun k => ?_) (fun k => ?_) k <;> unfold grp <;> blk_ext [iblk, V, idx t, col, hg, e]
  · unfold grp
    blk_ext [iblk, V, idx t, col, hg, e]

end Cert.GatedNormBwdIdeal.Grp

namespace Cert.GatedNormBwdRefIdeal.Grp

open Idealize.ShloMosaic Idealize.ShloMosaic.TcCoe Cert.Prod Cert.Gate Cert.Rms Cert.Group

variable (m : (ℓ : Loc nD τ sig) → Buf (Elt Ideal) ℓ) (c : Dev nD)

set_option maxHeartbeats 1000000 in
theorem resY : Value.res_main_v41 m c
    = (gradY (m ((c.tc : Thread nD τ).loc main_arg0)) (m ((c.tc : Thread nD τ).loc main_arg1))
        (m ((c.tc : Thread nD τ).loc main_arg2)) (m ((c.tc : Thread nD τ).loc main_arg3)) : (Mat 4096 4096).Idx → EReal) := by
  unfold Value.res_main_v41
  funext i
  pointwise [Fin.sum_univ_one]
  unfold gradY mixY
  rw [grp_at, dx_at, mix_at]
  rfl

set_option maxHeartbeats 1000000 in
theorem resZ : Value.res_main_v43 m c
    = (gradZ (m ((c.tc : Thread nD τ).loc main_arg0)) (m ((c.tc : Thread nD τ).loc main_arg1))
        (m ((c.tc : Thread nD τ).loc main_arg2)) (m ((c.tc : Thread nD τ).loc main_arg3)) : (Mat 4096 4096).Idx → EReal) := by
  unfold Value.res_main_v43
  funext i
  pointwise [Fin.sum_univ_one]
  unfold gradZ mixZ
  rw [grp_at, grp_at, dx_at, mix_at, gateGrad]
  rfl

end Cert.GatedNormBwdRefIdeal.Grp

namespace Cert.GatedNormBwdProof

open Idealize.ShloMosaic Idealize.ShloMosaic.TcCoe Cert.Rms Cert.Group

theorem bodies_eq : Cert.GatedNormBwd.defs₀ (F := Bits) = Cert.GatedNormBwdIdeal.defs₀ := by
  unfold Cert.GatedNormBwd.defs₀ Cert.GatedNormBwdIdeal.defs₀
  exact congrArg Defs.onTc (funext fun l => match l with | 0 => funext fun ⟨_, _⟩ => rfl)

theorem frame_kernel : Cert.quiescent_GatedNormBwd := fun m ρ _ => by
  have h := Cert.GatedNormBwdIdeal.Gen.frame (F := Bits) m ρ
  rw [← show Cert.GatedNormBwd.defs (F := Bits) = Cert.GatedNormBwdIdeal.defs from congrArg (Pipeline.defs _) bodies_eq] at h
  exact h

theorem frame_ideal : Cert.quiescent_GatedNormBwdIdeal := fun m ρ _ => Cert.GatedNormBwdIdeal.Gen.frame (F := Ideal) m ρ

theorem frame_ref : Cert.quiescent_GatedNormBwdRefIdeal := fun m ρ _ =>
  (θ_run Cert.GatedNormBwdRefIdeal.defs _ _).mono (fun r h => ⟨fun c => (h c).2.2.2, sem_eq_zero_of_no_sems (by decide) r.2⟩)
    (Cert.GatedNormBwdRefIdeal.Value.run (F := Ideal) m ρ)

theorem algebraic : Cert.algebraic_GatedNormBwdIdeal_GatedNormBwdRefIdeal := fun m ρ m' ρ' _ hagree =>
  ⟨fun c => gradY (R := 4096) (m ((c.tc : Thread GatedNormBwdIdeal.nD GatedNormBwdIdeal.τ).loc GatedNormBwdIdeal.main_arg0))
      (m ((c.tc : Thread GatedNormBwdIdeal.nD GatedNormBwdIdeal.τ).loc GatedNormBwdIdeal.main_arg1))
      (m ((c.tc : Thread GatedNormBwdIdeal.nD GatedNormBwdIdeal.τ).loc GatedNormBwdIdeal.main_arg2))
      (m ((c.tc : Thread GatedNormBwdIdeal.nD GatedNormBwdIdeal.τ).loc GatedNormBwdIdeal.main_arg3)),
    fun c => gradZ (R := 4096) (m ((c.tc : Thread GatedNormBwdIdeal.nD GatedNormBwdIdeal.τ).loc GatedNormBwdIdeal.main_arg0))
      (m ((c.tc : Thread GatedNormBwdIdeal.nD GatedNormBwdIdeal.τ).loc GatedNormBwdIdeal.main_arg1))
      (m ((c.tc : Thread GatedNormBwdIdeal.nD GatedNormBwdIdeal.τ).loc GatedNormBwdIdeal.main_arg2))
      (m ((c.tc : Thread GatedNormBwdIdeal.nD GatedNormBwdIdeal.τ).loc GatedNormBwdIdeal.main_arg3)),
    fun c => gradW (R := 4096) (m ((c.tc : Thread GatedNormBwdIdeal.nD GatedNormBwdIdeal.τ).loc GatedNormBwdIdeal.main_arg0))
      (m ((c.tc : Thread GatedNormBwdIdeal.nD GatedNormBwdIdeal.τ).loc GatedNormBwdIdeal.main_arg1))
      (m ((c.tc : Thread GatedNormBwdIdeal.nD GatedNormBwdIdeal.τ).loc GatedNormBwdIdeal.main_arg3)),
    (θ_run GatedNormBwdIdeal.defs _ _).mono (fun r h c => ⟨(h c).1.trans (GatedNormBwdIdeal.Grp.finalY m c),
        (h c).2.1.trans (GatedNormBwdIdeal.Grp.finalZ m c), (h c).2.2.1.trans (GatedNormBwdIdeal.Grp.finalW m c), (h c).2.2.2⟩)
      (GatedNormBwdIdeal.Value.run_blocks (F := Ideal) m ρ),
    (θ_run GatedNormBwdRefIdeal.defs _ _).mono (fun r h c => ⟨(h c).1.trans ((GatedNormBwdRefIdeal.Grp.resY m' c).trans (by rw [(hagree c).1, (hagree c).2.1, (hagree c).2.2.1, (hagree c).2.2.2])),
      (h c).2.1.trans ((GatedNormBwdRefIdeal.Grp.resZ m' c).trans (by rw [(hagree c).1, (hagree c).2.1, (hagree c).2.2.1, (hagree c).2.2.2])),
      (h c).2.2.1.trans (by
        rw [(hagree c).1, (hagree c).2.1, (hagree c).2.2.2]
        funext i
        pointwise
        unfold gradW dw mix
        exact Finset.sum_congr rfl fun x _ => Ideal.mul_congr (Ideal.mul_congr
          (Ideal.mul_congr (grp_in _ x (i 1)).symm (Ideal.mul_congr (grp_in _ x (i 1)).symm
            (congrArg Ideal.logistic (grp_in _ x (i 1)).symm))) rfl) (grp_in _ x (i 1)).symm), (h c).2.2.2⟩)
      (GatedNormBwdRefIdeal.Value.run (F := Ideal) m' ρ')⟩

end Cert.GatedNormBwdProof
-- ==== Proof.Convs.lean ====
/- The short convolution down the rows of each column, with its SiLU. -/
module

public import proofs.«01_k».proof.Defs
public import proofs.«01_k».proof.Proof.Gates
public import proofs.«01_k».proof.Proof.Gen.Conv
public import proofs.«01_k».proof.Proof.Gen.ConvIdeal.Value
public import proofs.«01_k».proof.Proof.Gen.ConvRefIdeal.Run
public import Idealize.ShloMosaic.Lib.Quiescent

@[expose] public section

set_option maxRecDepth 16384

noncomputable section

namespace Cert.Taps

open Idealize.ShloMosaic Cert.Prod Cert.Gate

variable {R K : ℕ}

/-- The array moved down `k` rows, with zeros above it. -/
def down (k : ℕ) (x : (Mat R K).Idx → EReal) : (Mat R K).Idx → EReal := fun i =>
  if k ≤ (i 0).val then x (ix2 ⟨(i 0).val - k, lt_of_le_of_lt (Nat.sub_le _ _) (i 0).isLt⟩ (i 1)) else 0

/-- The four taps on each column, and the column's bias. -/
def taps (x : (Mat R K).Idx → EReal) (w : (Mat 4 K).Idx → EReal) (b : (Mat 1 K).Idx → EReal) : (Mat R K).Idx → EReal :=
  fun i => b (ix2 0 (i 1)) + w (ix2 3 (i 1)) * x i + w (ix2 2 (i 1)) * down 1 x i + w (ix2 1 (i 1)) * down 2 x i
    + w (ix2 0 (i 1)) * down 3 x i

/-- The convolution: a value times its sigmoid. -/
def conv (x : (Mat R K).Idx → EReal) (w : (Mat 4 K).Idx → EReal) (b : (Mat 1 K).Idx → EReal) : (Mat R K).Idx → EReal :=
  fun i => taps x w b i * Ideal.logistic (taps x w b i)

/-- The taps in the other order, each product turned round. -/
theorem taps_order (x : (Mat R K).Idx → EReal) (w : (Mat 4 K).Idx → EReal) (b : (Mat 1 K).Idx → EReal) (i : (Mat R K).Idx) :
    taps x w b i = down 3 x i * w (ix2 0 (i 1)) + down 2 x i * w (ix2 1 (i 1)) + down 1 x i * w (ix2 2 (i 1))
      + x i * w (ix2 3 (i 1)) + b (ix2 0 (i 1)) := by
  unfold taps
  simp only [mul_comm (w _)]
  ac_rfl

theorem conv_order (x : (Mat R K).Idx → EReal) (w : (Mat 4 K).Idx → EReal) (b : (Mat 1 K).Idx → EReal) (i : (Mat R K).Idx)
    {p q s : EReal} (hp : p = down 3 x i) (hq : q = down 2 x i) (hs : s = down 1 x i) :
    (p * w (ix2 0 (i 1)) + q * w (ix2 1 (i 1)) + s * w (ix2 2 (i 1)) + x i * w (ix2 3 (i 1)) + b (ix2 0 (i 1)))
      * Ideal.div 1 (1 + Ideal.exp (-(p * w (ix2 0 (i 1)) + q * w (ix2 1 (i 1)) + s * w (ix2 2 (i 1)) + x i * w (ix2 3 (i 1))
        + b (ix2 0 (i 1))))) = conv x w b i := by
  unfold conv
  rw [taps_order, hp, hq, hs]
  rfl

/-! An entry is read off its own column, so a block of columns has the entries of the array. -/

section
variable {L : ℕ} {x : (Mat R K).Idx → EReal} {X : (Mat R L).Idx → EReal} {w : (Mat 4 K).Idx → EReal} {W : (Mat 4 L).Idx → EReal}
  {b : (Mat 1 K).Idx → EReal} {B : (Mat 1 L).Idx → EReal} {y : (Mat R K).Idx} {i : (Mat R L).Idx}

theorem down_congr (k : ℕ) (e : (y 0 : Fin R) = i 0) (hx : ∀ r, x (ix2 r (y 1)) = X (ix2 r (i 1))) : down k x y = down k X i := by
  unfold down
  simp only [hx, e]

theorem taps_congr (e : (y 0 : Fin R) = i 0) (hx : ∀ r, x (ix2 r (y 1)) = X (ix2 r (i 1)))
    (hw : ∀ r, w (ix2 r (y 1)) = W (ix2 r (i 1))) (hb : b (ix2 0 (y 1)) = B (ix2 0 (i 1))) : taps x w b y = taps X W B i := by
  have h : x y = X i := by rw [eq_ix2 y, eq_ix2 i]; exact (hx _).trans (congrArg (fun r => X (ix2 r (i 1))) e)
  unfold taps
  rw [down_congr 1 e hx, down_congr 2 e hx, down_congr 3 e hx, hb, h, hw, hw, hw, hw]

theorem conv_congr (e : (y 0 : Fin R) = i 0) (hx : ∀ r, x (ix2 r (y 1)) = X (ix2 r (i 1)))
    (hw : ∀ r, w (ix2 r (y 1)) = W (ix2 r (i 1))) (hb : b (ix2 0 (y 1)) = B (ix2 0 (i 1))) : conv x w b y = conv X W B i := by
  unfold conv
  rw [taps_congr e hx hw hb]

end

/-- A choice by a row's number being at least `k`. -/
theorem from_row {k r : ℕ} (hk : k < 4096) (hr : r < 4096) (a : EReal) :
    Scalar.select (IntOp.cmpi .sge (BitVec.ofNat 32 r) (BitVec.ofNat 32 k)) a 0 = if k ≤ r then a else 0 := by
  have e (n : ℕ) (h : n < 4096) : (BitVec.ofNat 32 n).toInt = (n : Int) := by
    rw [BitVec.toInt_eq_toNat_of_lt (by rw [BitVec.toNat_ofNat]; omega), BitVec.toNat_ofNat, Nat.mod_eq_of_lt (by omega)]
  show Scalar.select (BitVec.ofBool (decide ((BitVec.ofNat 32 k).toInt ≤ (BitVec.ofNat 32 r).toInt))) a 0 = _
  rw [e r hr, e k hk]
  by_cases h : k ≤ r
  · rw [if_pos h, decide_eq_true (Int.ofNat_le.mpr h)]; rfl
  · rw [if_neg h, decide_eq_false (fun h' => h (Int.ofNat_le.mp h'))]; rfl

/-- The rotated rows with the rows that came round put to zero, times a tap. -/
theorem tap_down {K : ℕ} (k : ℕ) (hk : k < 4096) (x : (Mat 4096 K).Idx → EReal) (i : (Mat 4096 K).Idx) (v : EReal) (h) :
    Scalar.select (IntOp.cmpi .sge (BitVec.ofNat 32 (i 0).val) (BitVec.ofNat 32 k))
      (v * x (ix2 ⟨((i 0).val + 4096 - k) % 4096, h⟩ (i 1))) 0 = v * down k x i := by
  have hi : (i 0).val < 4096 := (i 0).isLt
  rw [from_row hk hi]
  unfold down
  by_cases hr : k ≤ (i 0).val
  · rw [if_pos hr, if_pos hr]
    exact congrArg (fun r => v * x (ix2 r (i 1))) (Fin.ext (by show ((i 0).val + 4096 - k) % 4096 = (i 0).val - k; omega))
  · rw [if_neg hr, if_neg hr, mul_zero]

theorem padded_zero {R K : ℕ} (x : (Mat R K).Idx → EReal) (i : (Mat R K).Idx) (h : ¬(i 0).val < 3 → (i 0).val - 3 < R) :
    (if h' : (i 0).val < 3 then 0 else x (ix2 ⟨(i 0).val - 3, h h'⟩ (i 1))) = down 3 x i := by
  unfold down
  by_cases hr : 3 ≤ (i 0).val
  · rw [if_pos hr, dif_neg (by omega)]
  · rw [if_neg hr, dif_pos (by omega)]

/-- The rows taken from under three rows of zeros. -/
theorem padded {R K : ℕ} (a k : ℕ) (hk : a + k = 3) (x : (Mat R K).Idx → EReal) (i : (Mat R K).Idx)
    (h : ¬a + (i 0).val < 3 → a + (i 0).val - 3 < R) :
    (if h' : a + (i 0).val < 3 then 0 else x (ix2 ⟨a + (i 0).val - 3, h h'⟩ (i 1))) = down k x i := by
  unfold down
  by_cases hr : k ≤ (i 0).val
  · rw [if_pos hr, dif_neg (by omega)]
    exact congrArg (fun r => x (ix2 r (i 1))) (Fin.ext (by show a + (i 0).val - 3 = (i 0).val - k; omega))
  · rw [if_neg hr, dif_pos (by omega)]

end Cert.Taps

namespace Cert.ConvIdeal.Taps

open Idealize.ShloMosaic Idealize.ShloMosaic.TcCoe Cert.Prod Cert.Gate Cert.Taps Cert.ConvIdeal.Gen

variable (m : (ℓ : Loc nD τ sig) → Buf (Elt Ideal) ℓ) (c : Dev nD)

theorem idx : ∀ t : Fin grid0.N, win0_0.index t = ![0, t.val] ∧ win0_1.index t = ![0, t.val]
    ∧ win0_2.index t = ![0, t.val] ∧ win0_3.index t = ![0, t.val] := by decide +kernel

theorem payTaps (x : Vec Ideal S4096x128 .f32) (w : Vec Ideal S4x128 .f32) (b : Vec Ideal S1x128 .f32) (i : S4096x128.Idx) :
    k0_pay2 x b (View.ld w r0_2) (View.ld w r0_3) (View.ld w r0_4) (View.ld w r0_5) i = taps (R := 4096) x w b i := by
  pointwise [k0_pay2]
  rw [tap_down 1 (by decide), tap_down 2 (by decide), tap_down 3 (by decide)]
  rfl

theorem pay (x : Vec Ideal S4096x128 .f32) (w : Vec Ideal S4x128 .f32) (b : Vec Ideal S1x128 .f32) (i : S4096x128.Idx) :
    k0_pay1 (k0_pay2 x b (View.ld w r0_2) (View.ld w r0_3) (View.ld w r0_4) (View.ld w r0_5))
      (k0_pay3 x b (View.ld w r0_2) (View.ld w r0_3) (View.ld w r0_4) (View.ld w r0_5)) i = conv (R := 4096) x w b i := by
  pointwise [k0_pay1, k0_pay3]
  rw [payTaps, zero_sub]
  rfl

theorem final : (dats m 0 c).arrAt 3 cfg0.N
    = (conv (m ((c.tc : Thread nD τ).loc main_arg0)) (m ((c.tc : Thread nD τ).loc main_arg1))
        (m ((c.tc : Thread nD τ).loc main_arg2)) : (Mat 4096 6144).Idx → EReal) := by
  refine (dats m 0 c).arrAt_eq_of_covers 3 _ (by decide +kernel) fun t hf y => ?_
  blk_simp
  rw [after0_3]
  unfold out0_3
  rw [View.canon_unit_zero off_zero]
  simp only [View.ld_unit_zero (S := S4096x128) off_zero, View.ld_unit_zero (S := S1x128) off_zero]
  refine (pay (iblk m c 0 t) (iblk m c 1 t) (iblk m c 2 t) y).trans ?_
  refine conv_congr (Fin.ext (by
      show (y 0).val = win0_3.index t (0 : Fin 2) * 4096 + 1 * (y 0).val
      rw [(idx t).2.2.2]; simp)) (fun r => ?_) (fun r => ?_) ?_ <;> blk_ext [iblk, V, idx t]

end Cert.ConvIdeal.Taps

namespace Cert.ConvRefIdeal.Taps

open Idealize.ShloMosaic Idealize.ShloMosaic.TcCoe Cert.Prod Cert.Gate Cert.Taps

theorem res (m : (ℓ : Loc nD τ sig) → Buf (Elt Ideal) ℓ) (c : Dev nD) : Value.res_main_v23 m c
    = (conv (m ((c.tc : Thread nD τ).loc main_arg0)) (m ((c.tc : Thread nD τ).loc main_arg1))
        (m ((c.tc : Thread nD τ).loc main_arg2)) : (Mat 4096 6144).Idx → EReal) := by
  unfold Value.res_main_v23
  funext i
  pointwise
  exact conv_order (R := 4096) (K := 6144) _ _ _ i (padded_zero (R := 4096) (K := 6144) _ i _)
    (padded (R := 4096) (K := 6144) 1 2 rfl _ i _) (padded (R := 4096) (K := 6144) 2 1 rfl _ i _)

end Cert.ConvRefIdeal.Taps

namespace Cert.ConvProof

open Idealize.ShloMosaic Idealize.ShloMosaic.TcCoe Cert.Taps

theorem bodies_eq : Cert.Conv.defs₀ (F := Bits) = Cert.ConvIdeal.defs₀ := by
  unfold Cert.Conv.defs₀ Cert.ConvIdeal.defs₀
  exact congrArg Defs.onTc (funext fun l => match l with | 0 => funext fun ⟨_, _⟩ => rfl)

theorem frame_kernel : Cert.quiescent_Conv := fun m ρ _ => by
  have h := Cert.ConvIdeal.Gen.frame (F := Bits) m ρ
  rw [← show Cert.Conv.defs (F := Bits) = Cert.ConvIdeal.defs from congrArg (Pipeline.defs _) bodies_eq] at h
  exact h

theorem frame_ideal : Cert.quiescent_ConvIdeal := fun m ρ _ => Cert.ConvIdeal.Gen.frame (F := Ideal) m ρ

theorem frame_ref : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

theorem algebraic : Cert.algebraic_ConvIdeal_ConvRefIdeal := fun m ρ m' ρ' _ hagree =>
  ⟨fun c => conv (R := 4096) (m ((c.tc : Thread ConvIdeal.nD ConvIdeal.τ).loc ConvIdeal.main_arg0))
      (m ((c.tc : Thread ConvIdeal.nD ConvIdeal.τ).loc ConvIdeal.main_arg1))
      (m ((c.tc : Thread ConvIdeal.nD ConvIdeal.τ).loc ConvIdeal.main_arg2)),
    (θ_run ConvIdeal.defs _ _).mono (fun r h c => ⟨(h c).1.trans (ConvIdeal.Taps.final m c), (h c).2⟩)
      (ConvIdeal.Value.run_blocks (F := Ideal) m ρ),
    (θ_run ConvRefIdeal.defs _ _).mono (fun r h c => ⟨(h c).1.trans ((ConvRefIdeal.Taps.res m' c).trans (by
        rw [(hagree c).1, (hagree c).2.1, (hagree c).2.2])), (h c).2⟩)
      (ConvRefIdeal.Value.run (F := Ideal) m' ρ')⟩

end Cert.ConvProof
-- ==== Proof.Head.lean ====
/- The loss over the rows of the last layer's output, and its gradient. -/
module

public import proofs.«01_k».proof.Defs
public import proofs.«01_k».proof.Proof.Gates
public import proofs.«01_k».proof.Proof.Gen.Loss
public import proofs.«01_k».proof.Proof.Gen.LossIdeal.Value
public import proofs.«01_k».proof.Proof.Gen.LossRefIdeal.Run
public import Idealize.ShloMosaic.Lib.Quiescent

@[expose] public section

set_option maxRecDepth 16384

noncomputable section

namespace Cert.Head

open Idealize.ShloMosaic Cert.Prod

variable {R K : ℕ}

/-- The square of the error, summed over a row. -/
def sq (y t : (Mat R K).Idx → EReal) (r : Fin R) : EReal :=
  ∑ k : Fin K, (y (ix2 r k) - t (ix2 r k)) * (y (ix2 r k) - t (ix2 r k))

/-- The loss: half the mean over a row, summed over the rows. -/
def loss (y t : (Mat R K).Idx → EReal) : EReal := ∑ r : Fin R, sq y t r * ((1 / 4096 : ℝ) : EReal)

/-- The loss at every entry of an array. -/
def lossArr (y t : (Mat R K).Idx → EReal) : (Mat 8 128).Idx → EReal := fun _ => loss y t

/-- The gradient of the loss. -/
def dy (y t : (Mat R K).Idx → EReal) : (Mat R K).Idx → EReal := fun i => (y i - t i) * ((1 / 2048 : ℝ) : EReal)

theorem sq_congr {S : ℕ} {y t : (Mat R K).Idx → EReal} {Y T : (Mat S K).Idx → EReal} {r : Fin R} {q : Fin S}
    (hy : ∀ k, y (ix2 r k) = Y (ix2 q k)) (ht : ∀ k, t (ix2 r k) = T (ix2 q k)) : sq y t r = sq Y T q := by
  unfold sq
  simp only [hy, ht]

/-- Multiplying by a number that is not negative distributes over a sum, infinite terms included. -/
theorem sum_mul_real {ι : Type} (s : Finset ι) (v : ι → EReal) {c : ℝ} (hc : 0 ≤ c) :
    (∑ i ∈ s, v i) * (c : EReal) = ∑ i ∈ s, v i * (c : EReal) := by
  classical
  induction s using Finset.induction_on with
  | empty => simp
  | insert a s h ih =>
    rw [Finset.sum_insert h, Finset.sum_insert h,
      EReal.right_distrib_of_nonneg_of_ne_top (EReal.coe_nonneg.2 hc) (EReal.coe_ne_top _), ih]

theorem half_word : Ideal.ofBits .f32 0x3F000000#32 = ((1 / 2 : ℝ) : EReal) := by
  simp [Ideal.ofBits, Ideal.ieee]
  rw [← EReal.coe_mul]
  norm_num

theorem wide_word : Ideal.ofBits .f32 0x45000000#32 = ((2048 : ℝ) : EReal) := by
  simp [Ideal.ofBits, Ideal.ieee]
  rw [← EReal.coe_mul]
  norm_num

theorem slope_word : Ideal.ofBits .f32 0x3A000000#32 = ((1 / 2048 : ℝ) : EReal) := by
  simp [Ideal.ofBits, Ideal.ieee]
  rw [← EReal.coe_mul]
  norm_num

theorem part_word : Ideal.ofBits .f32 0x39800000#32 = ((1 / 4096 : ℝ) : EReal) := by
  simp [Ideal.ofBits, Ideal.ieee]
  rw [← EReal.coe_mul]
  norm_num

/-- The reference's order of the loss. -/
theorem loss_ref (y t : (Mat R K).Idx → EReal) :
    ((1 / 2 : ℝ) : EReal) * ∑ r : Fin R, Ideal.div (sq y t r) ((2048 : ℝ) : EReal) = loss y t := by
  rw [mul_comm, sum_mul_real _ _ (by norm_num)]
  refine Finset.sum_congr rfl fun r _ => ?_
  rw [Ideal.div_coe (by norm_num), mul_assoc, ← EReal.coe_mul]
  norm_num

/-- The reference's order of the gradient. -/
theorem dy_ref (e : EReal) : Ideal.div ((1 / 2 : ℝ) : EReal) ((2048 : ℝ) : EReal) * (((2 : ℝ) : EReal) * e)
    = e * ((1 / 2048 : ℝ) : EReal) := by
  rw [Ideal.div_coe (by norm_num), ← mul_assoc, ← EReal.coe_mul, ← EReal.coe_mul, mul_comm]
  norm_num

end Cert.Head

namespace Cert.LossIdeal.Head

open Idealize.ShloMosaic Idealize.ShloMosaic.TcCoe Cert.Prod Cert.Gate Cert.Head Cert.LossIdeal.Gen

variable (m : (ℓ : Loc nD τ sig) → Buf (Elt Ideal) ℓ) (c : Dev nD)

theorem idx : ∀ t : Fin grid0.N, win0_0.index t = ![t.val, 0] ∧ win0_1.index t = ![t.val, 0]
    ∧ win0_2.index t = ![t.val, 0] ∧ win0_3.index t = ![0, 0] := by decide +kernel

theorem payDy (y t : Vec Ideal S256x2048 .f32) (i : S256x2048.Idx) : k0_pay2 y t i = dy (R := 256) y t i := by
  pointwise [k0_pay2, k0_pay1]
  rw [slope_word]
  rfl

theorem payLoss (y t : Vec Ideal S256x2048 .f32) (i : S8x128.Idx) : k0_pay3 y t i = loss (R := 256) y t := by
  pointwise [k0_pay3, k0_pay1]
  rw [part_word, mul_comm]
  exact sum_mul_real Finset.univ _ (by norm_num)

theorem payAdd (y t : Vec Ideal S256x2048 .f32) (p : Vec Ideal S8x128 .f32) (i : S8x128.Idx) :
    k0_pay4 y t p i = (p i : EReal) + loss (R := 256) y t := by
  pointwise [k0_pay4]
  rw [payLoss]

theorem outsDy (t : Fin cfg0.N) (i : (Mat 256 2048).Idx) : (outsAt0 m c t.val t.isLt).1 i
    = dy (R := 256) (iblk m c 0 t) (iblk m c 1 t) i := by
  have ht : t.val < 16 := t.isLt
  by_cases h : t.val % 16 = 0
  · rw [outsAt0_A m c t h (by omega)]
    frame_out
    exact payDy _ _ i
  · rw [outsAt0_B m c t h (by omega)]
    frame_out
    exact payDy _ _ i

/-- After the last row tile the loss is the sum of the tiles' own. -/
theorem outsLoss (t : Fin cfg0.N) (h : t.val % 16 = 15) (j : (Mat 8 128).Idx) :
    (outsAt0 m c t.val t.isLt).2 j
      = ∑ s : Fin 16, loss (R := 256) (iblk m c 0 ⟨16 * (t.val / 16) + s.val, Pipeline.run_point_lt_of_flush t h s⟩)
          (iblk m c 1 ⟨16 * (t.val / 16) + s.val, Pipeline.run_point_lt_of_flush t h s⟩) := by
  rw [Pipeline.eq_sum_fin_of_reset_step_apply_of_flush (fun n h => (outsAt0 m c n h).2) 16 (fun _ => (0 : EReal))
    (fun t _ => loss (R := 256) (iblk m c 0 t) (iblk m c 1 t))
    (fun t h j => by
      have ht : t.val < 16 := t.isLt
      rw [outsAt0_A m c t h (by omega)]; frame_out; exact (payLoss _ _ j).trans (zero_add _).symm)
    (fun t h j => by
      have ht : t.val < 16 := t.isLt
      rw [outsAt0_B m c t h (by omega)]; frame_out; rw [payAdd]) t h j, zero_add]

theorem finalDy : (dats m 0 c).arrAt 2 cfg0.N = (dy (m ((c.tc : Thread nD τ).loc main_arg0)) (m ((c.tc : Thread nD τ).loc main_arg1)) : (Mat 4096 2048).Idx → EReal) := by
  refine (dats m 0 c).arrAt_eq_of_covers 2 _ (by decide +kernel) fun t hf y => ?_
  blk_simp
  rw [after0_2, outsDy]
  refine congrArg (· * ((1 / 2048 : ℝ) : EReal)) (congrArg₂ (· - ·) ?_ ?_) <;> blk_ext [iblk, V, idx t]

theorem finalLoss : (dats m 0 c).arrAt 3 cfg0.N
    = (lossArr ((m ((c.tc : Thread nD τ).loc main_arg0)) : (Mat 4096 2048).Idx → EReal) (m ((c.tc : Thread nD τ).loc main_arg1)) : (Mat 8 128).Idx → EReal) := by
  refine (dats m 0 c).arrAt_eq_of_covers 3 _ (by decide +kernel) fun t hf y => ?_
  have h := (flush0_3 t).mp hf
  blk_simp
  rw [after0_3, outsLoss m c t h]
  refine Fin.sum_mul_add_congr fun s r hl => ?_
  have e := idx ⟨16 * (t.val / 16) + s.val, Pipeline.run_point_lt_of_flush t h s⟩
  refine congrArg (· * ((1 / 4096 : ℝ) : EReal)) (sq_congr (fun k => ?_) (fun k => ?_)) <;> blk_ext [iblk, V, idx t, e]

end Cert.LossIdeal.Head

namespace Cert.LossProof

open Idealize.ShloMosaic Idealize.ShloMosaic.TcCoe Cert.Head

theorem bodies_eq : Cert.Loss.defs₀ (F := Bits) = Cert.LossIdeal.defs₀ := by
  unfold Cert.Loss.defs₀ Cert.LossIdeal.defs₀
  exact congrArg Defs.onTc (funext fun l => match l with | 0 => funext fun ⟨_, _⟩ => rfl)

theorem frame_kernel : Cert.quiescent_Loss := fun m ρ _ => by
  have h := Cert.LossIdeal.Gen.frame (F := Bits) m ρ
  rw [← show Cert.Loss.defs (F := Bits) = Cert.LossIdeal.defs from congrArg (Pipeline.defs _) bodies_eq] at h
  exact h

theorem frame_ideal : Cert.quiescent_LossIdeal := fun m ρ _ => Cert.LossIdeal.Gen.frame (F := Ideal) m ρ

theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

theorem algebraic : Cert.algebraic_LossIdeal_LossRefIdeal := fun m ρ m' ρ' _ hagree =>
  ⟨fun c => dy (R := 4096) (K := 2048) (m ((c.tc : Thread LossIdeal.nD LossIdeal.τ).loc LossIdeal.main_arg0)) (m ((c.tc : Thread LossIdeal.nD LossIdeal.τ).loc LossIdeal.main_arg1)),
    fun c => lossArr (R := 4096) (K := 2048) (m ((c.tc : Thread LossIdeal.nD LossIdeal.τ).loc LossIdeal.main_arg0)) (m ((c.tc : Thread LossIdeal.nD LossIdeal.τ).loc LossIdeal.main_arg1)),
    (θ_run LossIdeal.defs _ _).mono (fun r h c => ⟨(h c).1.trans (LossIdeal.Head.finalDy m c),
        (h c).2.1.trans (LossIdeal.Head.finalLoss m c), (h c).2.2⟩)
      (LossIdeal.Value.run_blocks (F := Ideal) m ρ),
    (θ_run LossRefIdeal.defs _ _).mono (fun r h c => ⟨(h c).1.trans (by
        rw [(hagree c).1, (hagree c).2]
        funext i
        pointwise
        rw [half_word, wide_word, Cert.Gate.two_word]
        exact dy_ref _), (h c).2.1.trans (by
        rw [(hagree c).1, (hagree c).2]
        funext i
        pointwise
        rw [half_word, wide_word]
        exact loss_ref (R := 4096) (K := 2048) _ _), (h c).2.2⟩)
      (LossRefIdeal.Value.run (F := Ideal) m' ρ')⟩

end Cert.LossProof
-- ==== Proof.Tables.lean ====
/- The tables of the rotary embedding, and the time steps of the state space branch. -/
module

public import proofs.«01_k».proof.Defs
public import proofs.«01_k».proof.Proof.Gates
public import proofs.«01_k».proof.Proof.Gen.Rope
public import proofs.«01_k».proof.Proof.Gen.RopeIdeal.Value
public import proofs.«01_k».proof.Proof.Gen.RopeRefIdeal.Run
public import proofs.«01_k».proof.Proof.Gen.Dt
public import proofs.«01_k».proof.Proof.Gen.DtIdeal.Value
public import proofs.«01_k».proof.Proof.Gen.DtRefIdeal.Run
public import Idealize.ShloMosaic.Lib.Quiescent

@[expose] public section

set_option maxRecDepth 16384

noncomputable section

namespace Cert.Table

open Idealize.ShloMosaic Cert.Prod

variable {R K : ℕ}

/-- A row's position times a column's frequency. -/
def angle (p : (Mat R 1).Idx → EReal) (f : (Mat 1 K).Idx → EReal) : (Mat R K).Idx → EReal :=
  fun i => p (ix2 (i 0) 0) * f (ix2 0 (i 1))

def cosTable (p : (Mat R 1).Idx → EReal) (f : (Mat 1 K).Idx → EReal) : (Mat R K).Idx → EReal := fun i => Ideal.cos (angle p f i)

def sinTable (p : (Mat R 1).Idx → EReal) (f : (Mat 1 K).Idx → EReal) : (Mat R K).Idx → EReal := fun i => Ideal.sin (angle p f i)

/-- The logarithm of one and the exponential, written so that no exponential is large. -/
def soft (x : EReal) : EReal := max x 0 + Ideal.log (1 + Ideal.exp (-max x (-x)))

def step (x : (Mat R K).Idx → EReal) (b : (Mat 1 K).Idx → EReal) : (Mat R K).Idx → EReal := fun i => soft (x i + b (ix2 0 (i 1)))

/-- A time step times the decay of its column. -/
def decay (x : (Mat R K).Idx → EReal) (b a : (Mat 1 K).Idx → EReal) : (Mat R K).Idx → EReal :=
  fun i => step x b i * -Ideal.exp (a (ix2 0 (i 1)))

end Cert.Table

namespace Cert.RopeIdeal.Table

open Idealize.ShloMosaic Idealize.ShloMosaic.TcCoe Cert.Prod Cert.Gate Cert.Table Cert.RopeIdeal.Gen

variable (m : (ℓ : Loc nD τ sig) → Buf (Elt Ideal) ℓ) (c : Dev nD)

theorem idx : ∀ t : Fin grid0.N, win0_0.index t = ![t.val, 0] ∧ win0_1.index t = ![0, 0]
    ∧ win0_2.index t = ![t.val, 0] ∧ win0_3.index t = ![t.val, 0] := by decide +kernel

theorem payCos (p : Vec Ideal S256x1 .f32) (f : Vec Ideal S1x32 .f32) (y : S256x32.Idx) : k0_pay2 p f y = cosTable p f y := by
  pointwise [k0_pay2, k0_pay1]
  rfl

theorem paySin (p : Vec Ideal S256x1 .f32) (f : Vec Ideal S1x32 .f32) (y : S256x32.Idx) : k0_pay3 p f y = sinTable p f y := by
  pointwise [k0_pay3, k0_pay1]
  rfl

theorem final2 : (dats m 0 c).arrAt 2 cfg0.N
    = (cosTable (m ((c.tc : Thread nD τ).loc main_arg0)) (m ((c.tc : Thread nD τ).loc main_arg1)) : (Mat 4096 32).Idx → EReal) := by
  refine (dats m 0 c).arrAt_eq_of_covers 2 _ (by decide +kernel) fun t hf y => ?_
  blk_simp
  rw [after0_2]
  unfold out0_2
  rw [View.canon_unit_zero off_zero]
  simp only [View.ld_unit_zero (S := S256x1) off_zero, View.ld_unit_zero (S := S1x32) off_zero]
  refine (payCos (iblk m c 0 t) (iblk m c 1 t) y).trans ?_
  refine congrArg Ideal.cos (Ideal.mul_congr ?_ ?_) <;> blk_ext [iblk, V, idx t]

theorem final3 : (dats m 0 c).arrAt 3 cfg0.N
    = (sinTable (m ((c.tc : Thread nD τ).loc main_arg0)) (m ((c.tc : Thread nD τ).loc main_arg1)) : (Mat 4096 32).Idx → EReal) := by
  refine (dats m 0 c).arrAt_eq_of_covers 3 _ (by decide +kernel) fun t hf y => ?_
  blk_simp
  rw [after0_3]
  unfold out0_3
  rw [View.canon_unit_zero off_zero]
  simp only [View.ld_unit_zero (S := S256x1) off_zero, View.ld_unit_zero (S := S1x32) off_zero]
  refine (paySin (iblk m c 0 t) (iblk m c 1 t) y).trans ?_
  refine congrArg Ideal.sin (Ideal.mul_congr ?_ ?_) <;> blk_ext [iblk, V, idx t]

end Cert.RopeIdeal.Table

namespace Cert.RopeProof

open Idealize.ShloMosaic Idealize.ShloMosaic.TcCoe Cert.Table

theorem bodies_eq : Cert.Rope.defs₀ (F := Bits) = Cert.RopeIdeal.defs₀ := by
  unfold Cert.Rope.defs₀ Cert.RopeIdeal.defs₀
  exact congrArg Defs.onTc (funext fun l => match l with | 0 => funext fun ⟨_, _⟩ => rfl)

theorem frame_kernel : Cert.quiescent_Rope := fun m ρ _ => by
  have h := Cert.RopeIdeal.Gen.frame (F := Bits) m ρ
  rw [← show Cert.Rope.defs (F := Bits) = Cert.RopeIdeal.defs from congrArg (Pipeline.defs _) bodies_eq] at h
  exact h

theorem frame_ideal : Cert.quiescent_RopeIdeal := fun m ρ _ => Cert.RopeIdeal.Gen.frame (F := Ideal) m ρ

theorem frame_ref : Cert.quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

theorem algebraic : Cert.algebraic_RopeIdeal_RopeRefIdeal := fun m ρ m' ρ' _ hagree =>
  ⟨fun c => cosTable (R := 4096) (m ((c.tc : Thread RopeIdeal.nD RopeIdeal.τ).loc RopeIdeal.main_arg0)) (m ((c.tc : Thread RopeIdeal.nD RopeIdeal.τ).loc RopeIdeal.main_arg1)),
    fun c => sinTable (R := 4096) (m ((c.tc : Thread RopeIdeal.nD RopeIdeal.τ).loc RopeIdeal.main_arg0)) (m ((c.tc : Thread RopeIdeal.nD RopeIdeal.τ).loc RopeIdeal.main_arg1)),
    (θ_run RopeIdeal.defs _ _).mono (fun r h c => ⟨(h c).1.trans (RopeIdeal.Table.final2 m c),
        (h c).2.1.trans (RopeIdeal.Table.final3 m c), (h c).2.2⟩)
      (RopeIdeal.Value.run_blocks (F := Ideal) m ρ),
    (θ_run RopeRefIdeal.defs _ _).mono (fun r h c => ⟨(h c).1.trans (by
        rw [(hagree c).1, (hagree c).2]
        funext i
        pointwise
        rfl), (h c).2.1.trans (by
        rw [(hagree c).1, (hagree c).2]
        funext i
        pointwise
        rfl), (h c).2.2⟩)
      (RopeRefIdeal.Value.run (F := Ideal) m' ρ')⟩

end Cert.RopeProof

namespace Cert.DtIdeal.Table

open Idealize.ShloMosaic Idealize.ShloMosaic.TcCoe Cert.Prod Cert.Gate Cert.Table Cert.DtIdeal.Gen

variable (m : (ℓ : Loc nD τ sig) → Buf (Elt Ideal) ℓ) (c : Dev nD)

theorem idx : ∀ t : Fin grid0.N, win0_0.index t = ![t.val, 0] ∧ win0_1.index t = ![0, 0] ∧ win0_2.index t = ![0, 0]
    ∧ win0_3.index t = ![t.val, 0] ∧ win0_4.index t = ![t.val, 0] := by decide +kernel

theorem payStep (x : Vec Ideal S256x64 .f32) (b : Vec Ideal S1x64 .f32) (y : S256x64.Idx) : k0_pay1 x b y = step x b y := by
  pointwise [k0_pay1]
  simp only [zero_sub]
  rfl

theorem payDecay (x : Vec Ideal S256x64 .f32) (b a : Vec Ideal S1x64 .f32) (y : S256x64.Idx) : k0_pay2 x b a y = decay x b a y := by
  pointwise [k0_pay2]
  rw [payStep, zero_sub]
  rfl

theorem step_congr {R S K : ℕ} {x : (Mat R K).Idx → EReal} {X : (Mat S K).Idx → EReal} {b B : (Mat 1 K).Idx → EReal}
    {y : (Mat R K).Idx} {i : (Mat S K).Idx} (hx : x y = X i) (hb : b (ix2 0 (y 1)) = B (ix2 0 (i 1))) : step x b y = step X B i := by
  unfold step
  rw [hx, hb]

theorem final3 : (dats m 0 c).arrAt 3 cfg0.N = (step (m ((c.tc : Thread nD τ).loc main_arg0)) (m ((c.tc : Thread nD τ).loc main_arg1)) : (Mat 4096 64).Idx → EReal) := by
  refine (dats m 0 c).arrAt_eq_of_covers 3 _ (by decide +kernel) fun t hf y => ?_
  blk_simp
  rw [after0_3]
  unfold out0_3
  rw [View.canon_unit_zero off_zero]
  simp only [View.ld_unit_zero (S := S256x64) off_zero, View.ld_unit_zero (S := S1x64) off_zero]
  refine (payStep (iblk m c 0 t) (iblk m c 1 t) y).trans ?_
  refine step_congr ?_ ?_ <;> blk_ext [iblk, V, idx t]

theorem final4 : (dats m 0 c).arrAt 4 cfg0.N
    = (decay (m ((c.tc : Thread nD τ).loc main_arg0)) (m ((c.tc : Thread nD τ).loc main_arg1)) (m ((c.tc : Thread nD τ).loc main_arg2)) : (Mat 4096 64).Idx → EReal) := by
  refine (dats m 0 c).arrAt_eq_of_covers 4 _ (by decide +kernel) fun t hf y => ?_
  blk_simp
  rw [after0_4]
  unfold out0_4
  rw [View.canon_unit_zero off_zero]
  simp only [View.ld_unit_zero (S := S256x64) off_zero, View.ld_unit_zero (S := S1x64) off_zero]
  refine (payDecay (iblk m c 0 t) (iblk m c 1 t) (iblk m c 2 t) y).trans ?_
  refine Ideal.mul_congr (step_congr ?_ ?_) (congrArg (fun z => -Ideal.exp z) ?_) <;> blk_ext [iblk, V, idx t]

end Cert.DtIdeal.Table

namespace Cert.DtRefIdeal.Table

open Idealize.ShloMosaic Idealize.ShloMosaic.TcCoe Cert.Table

/-- The reference's choice for what is not a number is never taken. -/
theorem soft_ref (x z : EReal) [Decidable (x ≠ x)] :
    (if x ≠ x then z else max x 0 + Ideal.log1p (Ideal.exp (-max x (-x)))) = soft x :=
  if_neg (not_not.2 rfl)

end Cert.DtRefIdeal.Table

namespace Cert.DtProof

open Idealize.ShloMosaic Idealize.ShloMosaic.TcCoe Cert.Table

theorem bodies_eq : Cert.Dt.defs₀ (F := Bits) = Cert.DtIdeal.defs₀ := by
  unfold Cert.Dt.defs₀ Cert.DtIdeal.defs₀
  exact congrArg Defs.onTc (funext fun l => match l with | 0 => funext fun ⟨_, _⟩ => rfl)

theorem frame_kernel : Cert.quiescent_Dt := fun m ρ _ => by
  have h := Cert.DtIdeal.Gen.frame (F := Bits) m ρ
  rw [← show Cert.Dt.defs (F := Bits) = Cert.DtIdeal.defs from congrArg (Pipeline.defs _) bodies_eq] at h
  exact h

theorem frame_ideal : Cert.quiescent_DtIdeal := fun m ρ _ => Cert.DtIdeal.Gen.frame (F := Ideal) m ρ

theorem frame_ref : Cert.quiescent_DtRefIdeal := fun m ρ _ =>
  (θ_run Cert.DtRefIdeal.defs _ _).mono (fun r h => ⟨fun c => (h c).2.2, sem_eq_zero_of_no_sems (by decide) r.2⟩)
    (Cert.DtRefIdeal.Value.run (F := Ideal) m ρ)

theorem algebraic : Cert.algebraic_DtIdeal_DtRefIdeal := fun m ρ m' ρ' _ hagree =>
  ⟨fun c => step (R := 4096) (m ((c.tc : Thread DtIdeal.nD DtIdeal.τ).loc DtIdeal.main_arg0)) (m ((c.tc : Thread DtIdeal.nD DtIdeal.τ).loc DtIdeal.main_arg1)),
    fun c => decay (R := 4096) (m ((c.tc : Thread DtIdeal.nD DtIdeal.τ).loc DtIdeal.main_arg0)) (m ((c.tc : Thread DtIdeal.nD DtIdeal.τ).loc DtIdeal.main_arg1)) (m ((c.tc : Thread DtIdeal.nD DtIdeal.τ).loc DtIdeal.main_arg2)),
    (θ_run DtIdeal.defs _ _).mono (fun r h c => ⟨(h c).1.trans (DtIdeal.Table.final3 m c),
        (h c).2.1.trans (DtIdeal.Table.final4 m c), (h c).2.2⟩)
      (DtIdeal.Value.run_blocks (F := Ideal) m ρ),
    (θ_run DtRefIdeal.defs _ _).mono (fun r h c => ⟨(h c).1.trans (by
        rw [(hagree c).1, (hagree c).2.1]
        funext i
        pointwise
        exact DtRefIdeal.Table.soft_ref _ _), (h c).2.1.trans (by
        rw [(hagree c).1, (hagree c).2.1, (hagree c).2.2]
        funext i
        pointwise
        exact Ideal.mul_congr (DtRefIdeal.Table.soft_ref _ _) rfl), (h c).2.2⟩)
      (DtRefIdeal.Value.run (F := Ideal) m' ρ')⟩

end Cert.DtProof
-- ==== Proof.HeadNorm.lean ====
/- The norm of each head's queries and keys, and the rotation of their last columns. -/
module

public import proofs.«01_k».proof.Defs
public import proofs.«01_k».proof.Proof.Gates
public import proofs.«01_k».proof.Proof.Gen.QNorm
public import proofs.«01_k».proof.Proof.Gen.QNormIdeal.Value
public import proofs.«01_k».proof.Proof.Gen.QNormRefIdeal.Run
public import proofs.«01_k».proof.Proof.Gen.KNorm
public import proofs.«01_k».proof.Proof.Gen.KNormIdeal.Value
public import proofs.«01_k».proof.Proof.Gen.KNormRefIdeal.Run
public import Idealize.ShloMosaic.Lib.Quiescent

@[expose] public section

set_option maxRecDepth 16384

noncomputable section

namespace Cert.HeadNorm

open Idealize.ShloMosaic Cert.Prod

abbrev T3 (H R K : ℕ) : Shape := ⟨3, ![H, R, K]⟩

variable {H R K : ℕ}

/-- A row's mean square over its three parts, a small constant added. -/
def ms (xn : (T3 H R 128).Idx → EReal) (x₁ x₂ : (T3 H R 32).Idx → EReal) (h : Fin H) (r : Fin R) : EReal :=
  Ideal.div ((∑ k : Fin 128, xn (ix3 h r k) * xn (ix3 h r k)) + (∑ k : Fin 32, x₁ (ix3 h r k) * x₁ (ix3 h r k))
    + ∑ k : Fin 32, x₂ (ix3 h r k) * x₂ (ix3 h r k)) (Ideal.ofBits .f32 0x43400000#32) + Ideal.ofBits .f32 0x358637BD#32

/-- One of the parts over the root of the mean square, times its weight. -/
def part (xn : (T3 H R 128).Idx → EReal) (x₁ x₂ : (T3 H R 32).Idx → EReal) (x : (T3 H R K).Idx → EReal)
    (w : (Mat 1 K).Idx → EReal) : (T3 H R K).Idx → EReal :=
  fun i => x i * Ideal.rsqrt (ms xn x₁ x₂ (i 0) (i 1)) * w (ix2 0 (i 2))

/-- The two rotated parts. -/
def rotA (xn : (T3 H R 128).Idx → EReal) (x₁ x₂ : (T3 H R 32).Idx → EReal) (c s : (Mat R 32).Idx → EReal)
    (w₁ w₂ : (Mat 1 32).Idx → EReal) : (T3 H R 32).Idx → EReal :=
  fun i => part xn x₁ x₂ x₁ w₁ i * c (ix2 (i 1) (i 2)) - part xn x₁ x₂ x₂ w₂ i * s (ix2 (i 1) (i 2))

def rotB (xn : (T3 H R 128).Idx → EReal) (x₁ x₂ : (T3 H R 32).Idx → EReal) (c s : (Mat R 32).Idx → EReal)
    (w₁ w₂ : (Mat 1 32).Idx → EReal) : (T3 H R 32).Idx → EReal :=
  fun i => part xn x₁ x₂ x₁ w₁ i * s (ix2 (i 1) (i 2)) + part xn x₁ x₂ x₂ w₂ i * c (ix2 (i 1) (i 2))

/-- Rows that all heads share. -/
def share (x : (Mat R K).Idx → EReal) : (T3 H R K).Idx → EReal := fun i => x (ix2 (i 1) (i 2))

/-! A row's values are read off that row alone, so a block's rows have the values of the array's. -/

section
variable {S : ℕ} {xn : (T3 H R 128).Idx → EReal} {Xn : (T3 H S 128).Idx → EReal} {x₁ x₂ : (T3 H R 32).Idx → EReal}
  {X₁ X₂ : (T3 H S 32).Idx → EReal} {c s : (Mat R 32).Idx → EReal} {C T : (Mat S 32).Idx → EReal}
  {w₁ w₂ W₁ W₂ : (Mat 1 32).Idx → EReal} {a b : Fin H} {r : Fin R} {q : Fin S}

theorem ms_congr (hn : ∀ k, xn (ix3 a r k) = Xn (ix3 b q k)) (h₁ : ∀ k, x₁ (ix3 a r k) = X₁ (ix3 b q k))
    (h₂ : ∀ k, x₂ (ix3 a r k) = X₂ (ix3 b q k)) : ms xn x₁ x₂ a r = ms Xn X₁ X₂ b q := by
  unfold ms
  simp only [hn, h₁, h₂]

theorem part_congr {x : (T3 H R K).Idx → EReal} {X : (T3 H S K).Idx → EReal} {w W : (Mat 1 K).Idx → EReal}
    {y : (T3 H R K).Idx} {i : (T3 H S K).Idx} (e : (y 2 : Fin K) = i 2)
    (hn : ∀ k, xn (ix3 (y 0) (y 1) k) = Xn (ix3 (i 0) (i 1) k)) (h₁ : ∀ k, x₁ (ix3 (y 0) (y 1) k) = X₁ (ix3 (i 0) (i 1) k))
    (h₂ : ∀ k, x₂ (ix3 (y 0) (y 1) k) = X₂ (ix3 (i 0) (i 1) k)) (hx : ∀ k, x (ix3 (y 0) (y 1) k) = X (ix3 (i 0) (i 1) k))
    (hw : ∀ k, w (ix2 0 k) = W (ix2 0 k)) : part xn x₁ x₂ x w y = part Xn X₁ X₂ X W i := by
  have h : x y = X i := by
    rw [eq_ix3 y, eq_ix3 i]
    exact (hx _).trans (congrArg (fun k => X (ix3 (i 0) (i 1) k)) e)
  have hw' : w (ix2 0 (y 2)) = W (ix2 0 (i 2)) := (hw _).trans (congrArg (fun k => W (ix2 0 k)) e)
  unfold part
  rw [ms_congr hn h₁ h₂, h, hw']

variable {y : (T3 H R 32).Idx} {i : (T3 H S 32).Idx} (e : (y 2 : Fin 32) = i 2)
  (hn : ∀ k, xn (ix3 (y 0) (y 1) k) = Xn (ix3 (i 0) (i 1) k)) (h₁ : ∀ k, x₁ (ix3 (y 0) (y 1) k) = X₁ (ix3 (i 0) (i 1) k))
  (h₂ : ∀ k, x₂ (ix3 (y 0) (y 1) k) = X₂ (ix3 (i 0) (i 1) k)) (hc : ∀ k, c (ix2 (y 1) k) = C (ix2 (i 1) k))
  (hs : ∀ k, s (ix2 (y 1) k) = T (ix2 (i 1) k)) (hw₁ : ∀ k, w₁ (ix2 0 k) = W₁ (ix2 0 k)) (hw₂ : ∀ k, w₂ (ix2 0 k) = W₂ (ix2 0 k))
include e hn h₁ h₂ hc hs hw₁ hw₂

theorem rotA_congr : rotA xn x₁ x₂ c s w₁ w₂ y = rotA Xn X₁ X₂ C T W₁ W₂ i := by
  have hc' : c (ix2 (y 1) (y 2)) = C (ix2 (i 1) (i 2)) := (hc _).trans (congrArg (fun k => C (ix2 (i 1) k)) e)
  have hs' : s (ix2 (y 1) (y 2)) = T (ix2 (i 1) (i 2)) := (hs _).trans (congrArg (fun k => T (ix2 (i 1) k)) e)
  unfold rotA
  rw [part_congr e hn h₁ h₂ h₁ hw₁, part_congr e hn h₁ h₂ h₂ hw₂, hc', hs']

theorem rotB_congr : rotB xn x₁ x₂ c s w₁ w₂ y = rotB Xn X₁ X₂ C T W₁ W₂ i := by
  have hc' : c (ix2 (y 1) (y 2)) = C (ix2 (i 1) (i 2)) := (hc _).trans (congrArg (fun k => C (ix2 (i 1) k)) e)
  have hs' : s (ix2 (y 1) (y 2)) = T (ix2 (i 1) (i 2)) := (hs _).trans (congrArg (fun k => T (ix2 (i 1) k)) e)
  unfold rotB
  rw [part_congr e hn h₁ h₂ h₁ hw₁, part_congr e hn h₁ h₂ h₂ hw₂, hc', hs']

end

/-- A sum over a row is the sum over its three parts. -/
theorem sum_parts (f : Fin 192 → EReal) : ∑ k, f k = (∑ k : Fin 128, f ⟨k.val, by omega⟩)
    + (∑ k : Fin 32, f ⟨128 + k.val, by omega⟩) + ∑ k : Fin 32, f ⟨160 + k.val, by omega⟩ :=
  (Fin.sum_univ_add (a := 160) (b := 32) f).trans (congrArg (· + _)
    (Fin.sum_univ_add (a := 128) (b := 32) fun k => f (Fin.castAdd 32 k)))

/-! The reference puts a row's three parts side by side. -/

section
variable (f : Fin 128 → EReal) (g l : Fin 32 → EReal)

theorem cat_last (k : Fin 32) : (if h : 160 + k.val < 128 then f ⟨160 + k.val, h⟩
    else if h' : 160 + k.val - 128 < 32 then g ⟨160 + k.val - 128, h'⟩ else l ⟨160 + k.val - 128 - 32, by omega⟩) = l k := by
  rw [dif_neg (by omega), dif_neg (by omega)]
  exact congrArg l (Fin.ext (show 160 + k.val - 128 - 32 = k.val by omega))

/-- The entry of a column of the three parts side by side. -/
def cat (x : Fin 192) : EReal := if h : x.val < 128 then f ⟨x.val, h⟩
    else if h' : x.val - 128 < 32 then g ⟨x.val - 128, h'⟩ else l ⟨x.val - 128 - 32, by omega⟩

theorem cat_sq : ∑ x, cat f g l x * cat f g l x = (∑ k, f k * f k) + (∑ k, g k * g k) + ∑ k, l k * l k := by
  have h₀ : ∀ k : Fin 128, cat f g l ⟨k.val, by omega⟩ = f k := fun k => dif_pos k.isLt
  have h₁ : ∀ k : Fin 32, cat f g l ⟨128 + k.val, by omega⟩ = g k := fun k => by
    refine (dif_neg (show ¬128 + k.val < 128 by omega)).trans
      ((dif_pos (show 128 + k.val - 128 < 32 by omega)).trans (congrArg g (Fin.ext ?_)))
    show 128 + k.val - 128 = k.val
    omega
  have h₂ : ∀ k : Fin 32, cat f g l ⟨160 + k.val, by omega⟩ = l k := fun k => cat_last f g l k
  rw [sum_parts]
  simp only [h₀, h₁, h₂]

end

theorem cat_ms (xn : (T3 H R 128).Idx → EReal) (x₁ x₂ : (T3 H R 32).Idx → EReal) (h : Fin H) (r : Fin R) :
    Ideal.rsqrt (Ideal.div (∑ x, cat (fun k => xn (ix3 h r k)) (fun k => x₁ (ix3 h r k)) (fun k => x₂ (ix3 h r k)) x
        * cat (fun k => xn (ix3 h r k)) (fun k => x₁ (ix3 h r k)) (fun k => x₂ (ix3 h r k)) x) (Ideal.ofBits .f32 0x43400000#32)
      + Ideal.ofBits .f32 0x358637BD#32) = Ideal.rsqrt (ms xn x₁ x₂ h r) := by
  rw [cat_sq]
  rfl

end Cert.HeadNorm

namespace Cert.QNormIdeal.HeadNorm

open Idealize.ShloMosaic Idealize.ShloMosaic.TcCoe Cert.Prod Cert.Gate Cert.HeadNorm Cert.QNormIdeal.Gen

variable (m : (ℓ : Loc nD τ sig) → Buf (Elt Ideal) ℓ) (c : Dev nD)

theorem idx : ∀ t : Fin grid0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, 0] ∧ win0_6.index t = ![0, 0] ∧ win0_7.index t = ![0, 0] ∧ win0_8.index t = ![0, t.val, 0] ∧ win0_9.index t = ![0, t.val, 0] ∧ win0_10.index t = ![0, t.val, 0] := by decide +kernel

theorem off_zero₃ : (![0, 0, 0] : Fin 3 → Nat) = fun _ => 0 := funext fun a => by fin_cases a <;> rfl

variable (xn : Vec Ideal S16x256x128 .f32) (x₁ x₂ : Vec Ideal S16x256x32 .f32) (a b : Vec Ideal S256x32 .f32)
  (wn : Vec Ideal S1x128 .f32) (w₁ w₂ : Vec Ideal S1x32 .f32)

theorem payN (y : S16x256x128.Idx) : k0_pay1 xn wn (k0_pay4 xn x₁ x₂) y = part (H := 16) (R := 256) xn x₁ x₂ xn wn y := by
  pointwise [k0_pay1, k0_pay4]
  rfl

theorem payA (y : S16x256x32.Idx) : k0_pay2 a b (k0_pay5 xn x₁ x₂ w₁) (k0_pay6 xn x₁ x₂ w₂) y = rotA (H := 16) (R := 256) xn x₁ x₂ a b w₁ w₂ y := by
  pointwise [k0_pay2, k0_pay5, k0_pay6, k0_pay4]
  rfl

theorem payB (y : S16x256x32.Idx) : k0_pay3 a b (k0_pay5 xn x₁ x₂ w₁) (k0_pay6 xn x₁ x₂ w₂) y = rotB (H := 16) (R := 256) xn x₁ x₂ a b w₁ w₂ y := by
  pointwise [k0_pay3, k0_pay5, k0_pay6, k0_pay4]
  rfl

theorem finalN : (dats m 0 c).arrAt 8 cfg0.N
    = (part (H := 16) (R := 4096) (m ((c.tc : Thread nD τ).loc main_arg0)) (m ((c.tc : Thread nD τ).loc main_arg1)) (m ((c.tc : Thread nD τ).loc main_arg2)) (K := 128) (m ((c.tc : Thread nD τ).loc main_arg0)) (m ((c.tc : Thread nD τ).loc main_arg5)) : (T3 16 4096 128).Idx → EReal) := by
  refine (dats m 0 c).arrAt_eq_of_covers 8 _ (by decide +kernel) fun t hf y => ?_
  blk_simp
  rw [after0_8]
  unfold_out out0_8
  rw [View.canon_unit_zero off_zero₃]
  simp only [View.ld_unit_zero (S := S16x256x128) off_zero₃, View.ld_unit_zero (S := S16x256x32) off_zero₃, View.ld_unit_zero (S := S256x32) off_zero, View.ld_unit_zero (S := S1x128) off_zero, View.ld_unit_zero (S := S1x32) off_zero]
  refine (payN (iblk m c 0 t) (iblk m c 1 t) (iblk m c 2 t) (iblk m c 5 t) y).trans ?_
  have e : (y 2 : Fin 128) = (((cfg0.win 8).blk t).view.emb y) 2 := Fin.ext (by
    show (y 2).val = win0_8.index t (2 : Fin 3) * 128 + 1 * (y 2).val
    rw [(idx t).2.2.2.2.2.2.2.2.1]; simp)
  refine part_congr e (fun k => ?_) (fun k => ?_) (fun k => ?_) (fun k => ?_) (fun k => ?_) <;> blk_ext [iblk, V, idx t]

theorem finalA : (dats m 0 c).arrAt 9 cfg0.N
    = (rotA (H := 16) (R := 4096) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) : (T3 16 4096 32).Idx → EReal) := by
  refine (dats m 0 c).arrAt_eq_of_covers 9 _ (by decide +kernel) fun t hf y => ?_
  blk_simp
  rw [after0_9]
  unfold_out out0_9
  rw [View.canon_unit_zero off_zero₃]
  simp only [View.ld_unit_zero (S := S16x256x128) off_zero₃, View.ld_unit_zero (S := S16x256x32) off_zero₃, View.ld_unit_zero (S := S256x32) off_zero, View.ld_unit_zero (S := S1x128) off_zero, View.ld_unit_zero (S := S1x32) off_zero]
  refine (payA (iblk m c 0 t) (iblk m c 1 t) (iblk m c 2 t) (iblk m c 3 t) (iblk m c 4 t) (iblk m c 6 t) (iblk m c 7 t) y).trans ?_
  have e : (y 2 : Fin 32) = (((cfg0.win 9).blk t).view.emb y) 2 := Fin.ext (by
    show (y 2).val = win0_9.index t (2 : Fin 3) * 32 + 1 * (y 2).val
    rw [(idx t).2.2.2.2.2.2.2.2.2.1]; simp)
  refine rotA_congr e (fun k => ?_) (fun k => ?_) (fun k => ?_) (fun k => ?_) (fun k => ?_) (fun k => ?_) (fun k => ?_) <;> blk_ext [iblk, V, idx t]

theorem finalB : (dats m 0 c).arrAt 10 cfg0.N
    = (rotB (H := 16) (R := 4096) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) : (T3 16 4096 32).Idx → EReal) := by
  refine (dats m 0 c).arrAt_eq_of_covers 10 _ (by decide +kernel) fun t hf y => ?_
  blk_simp
  rw [after0_10]
  unfold_out out0_10
  rw [View.canon_unit_zero off_zero₃]
  simp only [View.ld_unit_zero (S := S16x256x128) off_zero₃, View.ld_unit_zero (S := S16x256x32) off_zero₃, View.ld_unit_zero (S := S256x32) off_zero, View.ld_unit_zero (S := S1x128) off_zero, View.ld_unit_zero (S := S1x32) off_zero]
  refine (payB (iblk m c 0 t) (iblk m c 1 t) (iblk m c 2 t) (iblk m c 3 t) (iblk m c 4 t) (iblk m c 6 t) (iblk m c 7 t) y).trans ?_
  have e : (y 2 : Fin 32) = (((cfg0.win 10).blk t).view.emb y) 2 := Fin.ext (by
    show (y 2).val = win0_10.index t (2 : Fin 3) * 32 + 1 * (y 2).val
    rw [(idx t).2.2.2.2.2.2.2.2.2.2]; simp)
  refine rotB_congr e (fun k => ?_) (fun k => ?_) (fun k => ?_) (fun k => ?_) (fun k => ?_) (fun k => ?_) (fun k => ?_) <;> blk_ext [iblk, V, idx t]

end Cert.QNormIdeal.HeadNorm

namespace Cert.QNormRefIdeal.HeadNorm

open Idealize.ShloMosaic Idealize.ShloMosaic.TcCoe Cert.Prod Cert.HeadNorm

variable (m : (ℓ : Loc nD τ sig) → Buf (Elt Ideal) ℓ) (c : Dev nD)

set_option maxHeartbeats 1000000 in
theorem resA (i : (T3 16 4096 32).Idx) : Value.res_main_v33 m c i
    = rotA (H := 16) (R := 4096) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) i := by
  unfold Value.res_main_v33
  pointwise
  exact congrArg₂ (· - ·)
    (Ideal.mul_congr (Ideal.mul_congr (Ideal.mul_congr (rfl) (cat_ms (H := 16) (R := 4096) (m ((c.tc : Thread nD τ).loc main_arg0)) (m ((c.tc : Thread nD τ).loc main_arg1)) (m ((c.tc : Thread nD τ).loc main_arg2)) (i 0) (i 1))) rfl) rfl)
    (Ideal.mul_congr (Ideal.mul_congr (Ideal.mul_congr ((cat_last (fun k => (m ((c.tc : Thread nD τ).loc main_arg0)) (ix3 (i 0) (i 1) k)) (fun k => (m ((c.tc : Thread nD τ).loc main_arg1)) (ix3 (i 0) (i 1) k)) (fun k => (m ((c.tc : Thread nD τ).loc main_arg2)) (ix3 (i 0) (i 1) k)) (i 2)).trans (congrArg (m ((c.tc : Thread nD τ).loc main_arg2)) (eq_ix3 i).symm)) (cat_ms (H := 16) (R := 4096) (m ((c.tc : Thread nD τ).loc main_arg0)) (m ((c.tc : Thread nD τ).loc main_arg1)) (m ((c.tc : Thread nD τ).loc main_arg2)) (i 0) (i 1))) (cat_last (fun k => (m ((c.tc : Thread nD τ).loc main_arg5)) (ix2 0 k)) (fun k => (m ((c.tc : Thread nD τ).loc main_arg6)) (ix2 0 k)) (fun k => (m ((c.tc : Thread nD τ).loc main_arg7)) (ix2 0 k)) (i 2))) rfl)

set_option maxHeartbeats 1000000 in
theorem resB (i : (T3 16 4096 32).Idx) : Value.res_main_v34 m c i
    = rotB (H := 16) (R := 4096) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) i := by
  unfold Value.res_main_v34
  pointwise
  exact congrArg₂ (· + ·)
    (Ideal.mul_congr (Ideal.mul_congr (Ideal.mul_congr (rfl) (cat_ms (H := 16) (R := 4096) (m ((c.tc : Thread nD τ).loc main_arg0)) (m ((c.tc : Thread nD τ).loc main_arg1)) (m ((c.tc : Thread nD τ).loc main_arg2)) (i 0) (i 1))) rfl) rfl)
    (Ideal.mul_congr (Ideal.mul_congr (Ideal.mul_congr ((cat_last (fun k => (m ((c.tc : Thread nD τ).loc main_arg0)) (ix3 (i 0) (i 1) k)) (fun k => (m ((c.tc : Thread nD τ).loc main_arg1)) (ix3 (i 0) (i 1) k)) (fun k => (m ((c.tc : Thread nD τ).loc main_arg2)) (ix3 (i 0) (i 1) k)) (i 2)).trans (congrArg (m ((c.tc : Thread nD τ).loc main_arg2)) (eq_ix3 i).symm)) (cat_ms (H := 16) (R := 4096) (m ((c.tc : Thread nD τ).loc main_arg0)) (m ((c.tc : Thread nD τ).loc main_arg1)) (m ((c.tc : Thread nD τ).loc main_arg2)) (i 0) (i 1))) (cat_last (fun k => (m ((c.tc : Thread nD τ).loc main_arg5)) (ix2 0 k)) (fun k => (m ((c.tc : Thread nD τ).loc main_arg6)) (ix2 0 k)) (fun k => (m ((c.tc : Thread nD τ).loc main_arg7)) (ix2 0 k)) (i 2))) rfl)

end Cert.QNormRefIdeal.HeadNorm

namespace Cert.KNormIdeal.HeadNorm

open Idealize.ShloMosaic Idealize.ShloMosaic.TcCoe Cert.Prod Cert.Gate Cert.HeadNorm Cert.KNormIdeal.Gen

variable (m : (ℓ : Loc nD τ sig) → Buf (Elt Ideal) ℓ) (c : Dev nD)

theorem idx : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, t.val, 0] ∧ win0_9.index t = ![0, t.val, 0] ∧ win0_10.index t = ![0, t.val, 0] := by decide +kernel

theorem off_zero₃ : (![0, 0, 0] : Fin 3 → Nat) = fun _ => 0 := funext fun a => by fin_cases a <;> rfl

variable (xn : Vec Ideal S16x256x128 .f32) (x₁ x₂ : Vec Ideal S256x32 .f32) (a b : Vec Ideal S256x32 .f32)
  (wn : Vec Ideal S1x128 .f32) (w₁ w₂ : Vec Ideal S1x32 .f32)

theorem payN (y : S16x256x128.Idx) : k0_pay2 xn wn (k0_pay5 xn x₁ x₂) y = part (H := 16) (R := 256) xn (share x₁) (share x₂) xn wn y := by
  pointwise [k0_pay2, k0_pay5]
  rfl

theorem payA (y : S16x256x32.Idx) : k0_pay3 a b w₂ (k0_pay5 xn x₁ x₂) (k0_pay6 xn x₁ x₂ w₁) (k0_pay7 x₂) y = rotA (H := 16) (R := 256) xn (share x₁) (share x₂) a b w₁ w₂ y := by
  pointwise [k0_pay3, k0_pay1, k0_pay5, k0_pay6, k0_pay7]
  rfl

theorem payB (y : S16x256x32.Idx) : k0_pay4 a b w₂ (k0_pay5 xn x₁ x₂) (k0_pay6 xn x₁ x₂ w₁) (k0_pay7 x₂) y = rotB (H := 16) (R := 256) xn (share x₁) (share x₂) a b w₁ w₂ y := by
  pointwise [k0_pay4, k0_pay1, k0_pay5, k0_pay6, k0_pay7]
  rfl

theorem finalN : (dats m 0 c).arrAt 8 cfg0.N
    = (part (H := 16) (R := 4096) (m ((c.tc : Thread nD τ).loc main_arg0)) (share (m ((c.tc : Thread nD τ).loc main_arg1))) (share (m ((c.tc : Thread nD τ).loc main_arg2))) (K := 128) (m ((c.tc : Thread nD τ).loc main_arg0)) (m ((c.tc : Thread nD τ).loc main_arg5)) : (T3 16 4096 128).Idx → EReal) := by
  refine (dats m 0 c).arrAt_eq_of_covers 8 _ (by decide +kernel) fun t hf y => ?_
  blk_simp
  rw [after0_8]
  unfold_out out0_8
  rw [View.canon_unit_zero off_zero₃]
  simp only [View.ld_unit_zero (S := S16x256x128) off_zero₃, View.ld_unit_zero (S := S256x32) off_zero, View.ld_unit_zero (S := S1x128) off_zero, View.ld_unit_zero (S := S1x32) off_zero]
  refine (payN (iblk m c 0 t) (iblk m c 1 t) (iblk m c 2 t) (iblk m c 5 t) y).trans ?_
  have e : (y 2 : Fin 128) = (((cfg0.win 8).blk t).view.emb y) 2 := Fin.ext (by
    show (y 2).val = win0_8.index t (2 : Fin 3) * 128 + 1 * (y 2).val
    rw [(idx t).2.2.2.2.2.2.2.2.1]; simp)
  refine part_congr e (fun k => ?_) (fun k => ?_) (fun k => ?_) (fun k => ?_) (fun k => ?_) <;> (try unfold share; beta_reduce) <;> blk_ext [iblk, V, idx t]

theorem finalA : (dats m 0 c).arrAt 9 cfg0.N
    = (rotA (H := 16) (R := 4096) (m ((c.tc : Thread nD τ).loc main_arg0)) (share (m ((c.tc : Thread nD τ).loc main_arg1))) (share (m ((c.tc : Thread nD τ).loc main_arg2))) (m ((c.tc : Thread nD τ).loc main_arg3)) (m ((c.tc : Thread nD τ).loc main_arg4)) (m ((c.tc : Thread nD τ).loc main_arg6)) (m ((c.tc : Thread nD τ).loc main_arg7)) : (T3 16 4096 32).Idx → EReal) := by
  refine (dats m 0 c).arrAt_eq_of_covers 9 _ (by decide +kernel) fun t hf y => ?_
  blk_simp
  rw [after0_9]
  unfold_out out0_9
  rw [View.canon_unit_zero off_zero₃]
  simp only [View.ld_unit_zero (S := S16x256x128) off_zero₃, View.ld_unit_zero (S := S256x32) off_zero, View.ld_unit_zero (S := S1x128) off_zero, View.ld_unit_zero (S := S1x32) off_zero]
  refine (payA (iblk m c 0 t) (iblk m c 1 t) (iblk m c 2 t) (iblk m c 3 t) (iblk m c 4 t) (iblk m c 6 t) (iblk m c 7 t) y).trans ?_
  have e : (y 2 : Fin 32) = (((cfg0.win 9).blk t).view.emb y) 2 := Fin.ext (by
    show (y 2).val = win0_9.index t (2 : Fin 3) * 32 + 1 * (y 2).val
    rw [(idx t).2.2.2.2.2.2.2.2.2.1]; simp)
  refine rotA_congr e (fun k => ?_) (fun k => ?_) (fun k => ?_) (fun k => ?_) (fun k => ?_) (fun k => ?_) (fun k => ?_) <;> (try unfold share; beta_reduce) <;> blk_ext [iblk, V, idx t]

theorem finalB : (dats m 0 c).arrAt 10 cfg0.N
    = (rotB (H := 16) (R := 4096) (m ((c.tc : Thread nD τ).loc main_arg0)) (share (m ((c.tc : Thread nD τ).loc main_arg1))) (share (m ((c.tc : Thread nD τ).loc main_arg2))) (m ((c.tc : Thread nD τ).loc main_arg3)) (m ((c.tc : Thread nD τ).loc main_arg4)) (m ((c.tc : Thread nD τ).loc main_arg6)) (m ((c.tc : Thread nD τ).loc main_arg7)) : (T3 16 4096 32).Idx → EReal) := by
  refine (dats m 0 c).arrAt_eq_of_covers 10 _ (by decide +kernel) fun t hf y => ?_
  blk_simp
  rw [after0_10]
  unfold_out out0_10
  rw [View.canon_unit_zero off_zero₃]
  simp only [View.ld_unit_zero (S := S16x256x128) off_zero₃, View.ld_unit_zero (S := S256x32) off_zero, View.ld_unit_zero (S := S1x128) off_zero, View.ld_unit_zero (S := S1x32) off_zero]
  refine (payB (iblk m c 0 t) (iblk m c 1 t) (iblk m c 2 t) (iblk m c 3 t) (iblk m c 4 t) (iblk m c 6 t) (iblk m c 7 t) y).trans ?_
  have e : (y 2 : Fin 32) = (((cfg0.win 10).blk t).view.emb y) 2 := Fin.ext (by
    show (y 2).val = win0_10.index t (2 : Fin 3) * 32 + 1 * (y 2).val
    rw [(idx t).2.2.2.2.2.2.2.2.2.2]; simp)
  refine rotB_congr e (fun k => ?_) (fun k => ?_) (fun k => ?_) (fun k => ?_) (fun k => ?_) (fun k => ?_) (fun k => ?_) <;> (try unfold share; beta_reduce) <;> blk_ext [iblk, V, idx t]

end Cert.KNormIdeal.HeadNorm

namespace Cert.KNormRefIdeal.HeadNorm

open Idealize.ShloMosaic Idealize.ShloMosaic.TcCoe Cert.Prod Cert.HeadNorm

variable (m : (ℓ : Loc nD τ sig) → Buf (Elt Ideal) ℓ) (c : Dev nD)

set_option maxHeartbeats 1000000 in
theorem resA (i : (T3 16 4096 32).Idx) : Value.res_main_v37 m c i
    = rotA (H := 16) (R := 4096) (m ((c.tc : Thread nD τ).loc main_arg0)) (share (m ((c.tc : Thread nD τ).loc main_arg1))) (share (m ((c.tc : Thread nD τ).loc main_arg2))) (m ((c.tc : Thread nD τ).loc main_arg3)) (m ((c.tc : Thread nD τ).loc main_arg4)) (m ((c.tc : Thread nD τ).loc main_arg6)) (m ((c.tc : Thread nD τ).loc main_arg7)) i := by
  unfold Value.res_main_v37
  pointwise
  exact congrArg₂ (· - ·)
    (Ideal.mul_congr (Ideal.mul_congr (Ideal.mul_congr (rfl) (cat_ms (H := 16) (R := 4096) (m ((c.tc : Thread nD τ).loc main_arg0)) (share (m ((c.tc : Thread nD τ).loc main_arg1))) (share (m ((c.tc : Thread nD τ).loc main_arg2))) (i 0) (i 1))) rfl) rfl)
    (Ideal.mul_congr (Ideal.mul_congr (Ideal.mul_congr (cat_last (fun k => (m ((c.tc : Thread nD τ).loc main_arg0)) (ix3 (i 0) (i 1) k)) (fun k => (share (m ((c.tc : Thread nD τ).loc main_arg1))) (ix3 (i 0) (i 1) k)) (fun k => (share (m ((c.tc : Thread nD τ).loc main_arg2))) (ix3 (i 0) (i 1) k)) (i 2)) (cat_ms (H := 16) (R := 4096) (m ((c.tc : Thread nD τ).loc main_arg0)) (share (m ((c.tc : Thread nD τ).loc main_arg1))) (share (m ((c.tc : Thread nD τ).loc main_arg2))) (i 0) (i 1))) (cat_last (fun k => (m ((c.tc : Thread nD τ).loc main_arg5)) (ix2 0 k)) (fun k => (m ((c.tc : Thread nD τ).loc main_arg6)) (ix2 0 k)) (fun k => (m ((c.tc : Thread nD τ).loc main_arg7)) (ix2 0 k)) (i 2))) rfl)

set_option maxHeartbeats 1000000 in
theorem resB (i : (T3 16 4096 32).Idx) : Value.res_main_v38 m c i
    = rotB (H := 16) (R := 4096) (m ((c.tc : Thread nD τ).loc main_arg0)) (share (m ((c.tc : Thread nD τ).loc main_arg1))) (share (m ((c.tc : Thread nD τ).loc main_arg2))) (m ((c.tc : Thread nD τ).loc main_arg3)) (m ((c.tc : Thread nD τ).loc main_arg4)) (m ((c.tc : Thread nD τ).loc main_arg6)) (m ((c.tc : Thread nD τ).loc main_arg7)) i := by
  unfold Value.res_main_v38
  pointwise
  exact congrArg₂ (· + ·)
    (Ideal.mul_congr (Ideal.mul_congr (Ideal.mul_congr (rfl) (cat_ms (H := 16) (R := 4096) (m ((c.tc : Thread nD τ).loc main_arg0)) (share (m ((c.tc : Thread nD τ).loc main_arg1))) (share (m ((c.tc : Thread nD τ).loc main_arg2))) (i 0) (i 1))) rfl) rfl)
    (Ideal.mul_congr (Ideal.mul_congr (Ideal.mul_congr (cat_last (fun k => (m ((c.tc : Thread nD τ).loc main_arg0)) (ix3 (i 0) (i 1) k)) (fun k => (share (m ((c.tc : Thread nD τ).loc main_arg1))) (ix3 (i 0) (i 1) k)) (fun k => (share (m ((c.tc : Thread nD τ).loc main_arg2))) (ix3 (i 0) (i 1) k)) (i 2)) (cat_ms (H := 16) (R := 4096) (m ((c.tc : Thread nD τ).loc main_arg0)) (share (m ((c.tc : Thread nD τ).loc main_arg1))) (share (m ((c.tc : Thread nD τ).loc main_arg2))) (i 0) (i 1))) (cat_last (fun k => (m ((c.tc : Thread nD τ).loc main_arg5)) (ix2 0 k)) (fun k => (m ((c.tc : Thread nD τ).loc main_arg6)) (ix2 0 k)) (fun k => (m ((c.tc : Thread nD τ).loc main_arg7)) (ix2 0 k)) (i 2))) rfl)

end Cert.KNormRefIdeal.HeadNorm

namespace Cert.QNormProof

open Idealize.ShloMosaic Idealize.ShloMosaic.TcCoe Cert.Prod Cert.HeadNorm

theorem bodies_eq : Cert.QNorm.defs₀ (F := Bits) = Cert.QNormIdeal.defs₀ := by
  unfold Cert.QNorm.defs₀ Cert.QNormIdeal.defs₀
  exact congrArg Defs.onTc (funext fun l => match l with | 0 => funext fun ⟨_, _⟩ => rfl)

theorem frame_kernel : Cert.quiescent_QNorm := fun m ρ _ => by
  have h := Cert.QNormIdeal.Gen.frame (F := Bits) m ρ
  rw [← show Cert.QNorm.defs (F := Bits) = Cert.QNormIdeal.defs from congrArg (Pipeline.defs _) bodies_eq] at h
  exact h

theorem frame_ideal : Cert.quiescent_QNormIdeal := fun m ρ _ => Cert.QNormIdeal.Gen.frame (F := Ideal) m ρ

theorem frame_ref : Cert.quiescent_QNormRefIdeal := fun m ρ _ =>
  (θ_run Cert.QNormRefIdeal.defs _ _).mono (fun r h => ⟨fun c => (h c).2.2.2, sem_eq_zero_of_no_sems (by decide) r.2⟩)
    (Cert.QNormRefIdeal.Value.run (F := Ideal) m ρ)

set_option maxHeartbeats 1000000 in
theorem algebraic : Cert.algebraic_QNormIdeal_QNormRefIdeal := fun m ρ m' ρ' _ hagree =>
  ⟨fun c => part (H := 16) (R := 4096) (m ((c.tc : Thread QNormIdeal.nD QNormIdeal.τ).loc QNormIdeal.main_arg0)) (m ((c.tc : Thread QNormIdeal.nD QNormIdeal.τ).loc QNormIdeal.main_arg1)) (m ((c.tc : Thread QNormIdeal.nD QNormIdeal.τ).loc QNormIdeal.main_arg2)) (K := 128) (m ((c.tc : Thread QNormIdeal.nD QNormIdeal.τ).loc QNormIdeal.main_arg0)) (m ((c.tc : Thread QNormIdeal.nD QNormIdeal.τ).loc QNormIdeal.main_arg5)),
    fun c => rotA (H := 16) (R := 4096) (m ((c.tc : Thread QNormIdeal.nD QNormIdeal.τ).loc QNormIdeal.main_arg0)) (m ((c.tc : Thread QNormIdeal.nD QNormIdeal.τ).loc QNormIdeal.main_arg1)) (m ((c.tc : Thread QNormIdeal.nD QNormIdeal.τ).loc QNormIdeal.main_arg2)) (m ((c.tc : Thread QNormIdeal.nD QNormIdeal.τ).loc QNormIdeal.main_arg3)) (m ((c.tc : Thread QNormIdeal.nD QNormIdeal.τ).loc QNormIdeal.main_arg4)) (m ((c.tc : Thread QNormIdeal.nD QNormIdeal.τ).loc QNormIdeal.main_arg6)) (m ((c.tc : Thread QNormIdeal.nD QNormIdeal.τ).loc QNormIdeal.main_arg7)),
    fun c => rotB (H := 16) (R := 4096) (m ((c.tc : Thread QNormIdeal.nD QNormIdeal.τ).loc QNormIdeal.main_arg0)) (m ((c.tc : Thread QNormIdeal.nD QNormIdeal.τ).loc QNormIdeal.main_arg1)) (m ((c.tc : Thread QNormIdeal.nD QNormIdeal.τ).loc QNormIdeal.main_arg2)) (m ((c.tc : Thread QNormIdeal.nD QNormIdeal.τ).loc QNormIdeal.main_arg3)) (m ((c.tc : Thread QNormIdeal.nD QNormIdeal.τ).loc QNormIdeal.main_arg4)) (m ((c.tc : Thread QNormIdeal.nD QNormIdeal.τ).loc QNormIdeal.main_arg6)) (m ((c.tc : Thread QNormIdeal.nD QNormIdeal.τ).loc QNormIdeal.main_arg7)),
    (θ_run QNormIdeal.defs _ _).mono (fun r h c => ⟨(h c).1.trans (QNormIdeal.HeadNorm.finalN m c),
        (h c).2.1.trans (QNormIdeal.HeadNorm.finalA m c), (h c).2.2.1.trans (QNormIdeal.HeadNorm.finalB m c), (h c).2.2.2⟩)
      (QNormIdeal.Value.run_blocks (F := Ideal) m ρ),
    (θ_run QNormRefIdeal.defs _ _).mono (fun r h c => ⟨(h c).1.trans (by
          rw [(hagree c).1, (hagree c).2.1, (hagree c).2.2.1, (hagree c).2.2.2.2.2.1]
          funext i
          pointwise
          exact Ideal.mul_congr (Ideal.mul_congr (rfl) (cat_ms (H := 16) (R := 4096) (m ((c.tc : Thread QNormIdeal.nD QNormIdeal.τ).loc QNormIdeal.main_arg0)) (m ((c.tc : Thread QNormIdeal.nD QNormIdeal.τ).loc QNormIdeal.main_arg1)) (m ((c.tc : Thread QNormIdeal.nD QNormIdeal.τ).loc QNormIdeal.main_arg2)) (i 0) (i 1))) rfl),
        (h c).2.1.trans ((funext fun i => QNormRefIdeal.HeadNorm.resA m' c i).trans (by rw [(hagree c).1, (hagree c).2.1, (hagree c).2.2.1, (hagree c).2.2.2.1, (hagree c).2.2.2.2.1, (hagree c).2.2.2.2.2.2.1, (hagree c).2.2.2.2.2.2.2])),
        (h c).2.2.1.trans ((funext fun i => QNormRefIdeal.HeadNorm.resB m' c i).trans (by rw [(hagree c).1, (hagree c).2.1, (hagree c).2.2.1, (hagree c).2.2.2.1, (hagree c).2.2.2.2.1, (hagree c).2.2.2.2.2.2.1, (hagree c).2.2.2.2.2.2.2])), (h c).2.2.2⟩)
      (QNormRefIdeal.Value.run (F := Ideal) m' ρ')⟩

end Cert.QNormProof

namespace Cert.KNormProof

open Idealize.ShloMosaic Idealize.ShloMosaic.TcCoe Cert.Prod Cert.HeadNorm

theorem bodies_eq : Cert.KNorm.defs₀ (F := Bits) = Cert.KNormIdeal.defs₀ := by
  unfold Cert.KNorm.defs₀ Cert.KNormIdeal.defs₀
  exact congrArg Defs.onTc (funext fun l => match l with | 0 => funext fun ⟨_, _⟩ => rfl)

theorem frame_kernel : Cert.quiescent_KNorm := fun m ρ _ => by
  have h := Cert.KNormIdeal.Gen.frame (F := Bits) m ρ
  rw [← show Cert.KNorm.defs (F := Bits) = Cert.KNormIdeal.defs from congrArg (Pipeline.defs _) bodies_eq] at h
  exact h

theorem frame_ideal : Cert.quiescent_KNormIdeal := fun m ρ _ => Cert.KNormIdeal.Gen.frame (F := Ideal) m ρ

theorem frame_ref : Cert.quiescent_KNormRefIdeal := fun m ρ _ =>
  (θ_run Cert.KNormRefIdeal.defs _ _).mono (fun r h => ⟨fun c => (h c).2.2.2, sem_eq_zero_of_no_sems (by decide) r.2⟩)
    (Cert.KNormRefIdeal.Value.run (F := Ideal) m ρ)

set_option maxHeartbeats 1000000 in
theorem algebraic : Cert.algebraic_KNormIdeal_KNormRefIdeal := fun m ρ m' ρ' _ hagree =>
  ⟨fun c => part (H := 16) (R := 4096) (m ((c.tc : Thread KNormIdeal.nD KNormIdeal.τ).loc KNormIdeal.main_arg0)) (share (m ((c.tc : Thread KNormIdeal.nD KNormIdeal.τ).loc KNormIdeal.main_arg1))) (share (m ((c.tc : Thread KNormIdeal.nD KNormIdeal.τ).loc KNormIdeal.main_arg2))) (K := 128) (m ((c.tc : Thread KNormIdeal.nD KNormIdeal.τ).loc KNormIdeal.main_arg0)) (m ((c.tc : Thread KNormIdeal.nD KNormIdeal.τ).loc KNormIdeal.main_arg5)),
    fun c => rotA (H := 16) (R := 4096) (m ((c.tc : Thread KNormIdeal.nD KNormIdeal.τ).loc KNormIdeal.main_arg0)) (share (m ((c.tc : Thread KNormIdeal.nD KNormIdeal.τ).loc KNormIdeal.main_arg1))) (share (m ((c.tc : Thread KNormIdeal.nD KNormIdeal.τ).loc KNormIdeal.main_arg2))) (m ((c.tc : Thread KNormIdeal.nD KNormIdeal.τ).loc KNormIdeal.main_arg3)) (m ((c.tc : Thread KNormIdeal.nD KNormIdeal.τ).loc KNormIdeal.main_arg4)) (m ((c.tc : Thread KNormIdeal.nD KNormIdeal.τ).loc KNormIdeal.main_arg6)) (m ((c.tc : Thread KNormIdeal.nD KNormIdeal.τ).loc KNormIdeal.main_arg7)),
    fun c => rotB (H := 16) (R := 4096) (m ((c.tc : Thread KNormIdeal.nD KNormIdeal.τ).loc KNormIdeal.main_arg0)) (share (m ((c.tc : Thread KNormIdeal.nD KNormIdeal.τ).loc KNormIdeal.main_arg1))) (share (m ((c.tc : Thread KNormIdeal.nD KNormIdeal.τ).loc KNormIdeal.main_arg2))) (m ((c.tc : Thread KNormIdeal.nD KNormIdeal.τ).loc KNormIdeal.main_arg3)) (m ((c.tc : Thread KNormIdeal.nD KNormIdeal.τ).loc KNormIdeal.main_arg4)) (m ((c.tc : Thread KNormIdeal.nD KNormIdeal.τ).loc KNormIdeal.main_arg6)) (m ((c.tc : Thread KNormIdeal.nD KNormIdeal.τ).loc KNormIdeal.main_arg7)),
    (θ_run KNormIdeal.defs _ _).mono (fun r h c => ⟨(h c).1.trans (KNormIdeal.HeadNorm.finalN m c),
        (h c).2.1.trans (KNormIdeal.HeadNorm.finalA m c), (h c).2.2.1.trans (KNormIdeal.HeadNorm.finalB m c), (h c).2.2.2⟩)
      (KNormIdeal.Value.run_blocks (F := Ideal) m ρ),
    (θ_run KNormRefIdeal.defs _ _).mono (fun r h c => ⟨(h c).1.trans (by
          rw [(hagree c).1, (hagree c).2.1, (hagree c).2.2.1, (hagree c).2.2.2.2.2.1]
          funext i
          pointwise
          exact Ideal.mul_congr (Ideal.mul_congr (rfl) (cat_ms (H := 16) (R := 4096) (m ((c.tc : Thread KNormIdeal.nD KNormIdeal.τ).loc KNormIdeal.main_arg0)) (share (m ((c.tc : Thread KNormIdeal.nD KNormIdeal.τ).loc KNormIdeal.main_arg1))) (share (m ((c.tc : Thread KNormIdeal.nD KNormIdeal.τ).loc KNormIdeal.main_arg2))) (i 0) (i 1))) rfl),
        (h c).2.1.trans ((funext fun i => KNormRefIdeal.HeadNorm.resA m' c i).trans (by rw [(hagree c).1, (hagree c).2.1, (hagree c).2.2.1, (hagree c).2.2.2.1, (hagree c).2.2.2.2.1, (hagree c).2.2.2.2.2.2.1, (hagree c).2.2.2.2.2.2.2])),
        (h c).2.2.1.trans ((funext fun i => KNormRefIdeal.HeadNorm.resB m' c i).trans (by rw [(hagree c).1, (hagree c).2.1, (hagree c).2.2.1, (hagree c).2.2.2.1, (hagree c).2.2.2.2.1, (hagree c).2.2.2.2.2.2.1, (hagree c).2.2.2.2.2.2.2])), (h c).2.2.2⟩)
      (KNormRefIdeal.Value.run (F := Ideal) m' ρ')⟩

end Cert.KNormProof
-- ==== Proof.lean ====
module

public import proofs.«01_k».proof.Defs
public import proofs.«01_k».proof.Proof.Attn
public import proofs.«01_k».proof.Proof.InProj
public import proofs.«01_k».proof.Proof.Up
public import proofs.«01_k».proof.Proof.UpDw
public import proofs.«01_k».proof.Proof.UpDx
public import proofs.«01_k».proof.Proof.Down
public import proofs.«01_k».proof.Proof.Ssm
public import proofs.«01_k».proof.Proof.SsmDx
public import proofs.«01_k».proof.Proof.Square
public import proofs.«01_k».proof.Proof.FwdProof
public import proofs.«01_k».proof.Proof.Latent
public import proofs.«01_k».proof.Proof.Rest
public import proofs.«01_k».proof.Proof.Gates
public import proofs.«01_k».proof.Proof.GateGrad
public import proofs.«01_k».proof.Proof.Norms
public import proofs.«01_k».proof.Proof.Latents
public import proofs.«01_k».proof.Proof.GroupNorm
public import proofs.«01_k».proof.Proof.Convs
public import proofs.«01_k».proof.Proof.Head
public import proofs.«01_k».proof.Proof.Tables
public import proofs.«01_k».proof.Proof.HeadNorm

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.InDw.Gen.facts, Cert.InDwIdeal.Gen.facts, Cert.InDwRefIdeal.Gen.facts,
  Cert.InDx.Gen.facts, Cert.InDxIdeal.Gen.facts, Cert.InDxRefIdeal.Gen.facts,
  Cert.SsmDw.Gen.facts, Cert.SsmDwIdeal.Gen.facts, Cert.SsmDwRefIdeal.Gen.facts,
  Cert.SsmDx.Gen.facts, Cert.SsmDxIdeal.Gen.facts, Cert.SsmDxRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.In.Gen.facts, Cert.InIdeal.Gen.facts, Cert.InRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Ssm.Gen.facts, Cert.SsmIdeal.Gen.facts, Cert.SsmRefIdeal.Gen.facts,
  Cert.Gate.Gen.facts, Cert.GateIdeal.Gen.facts, Cert.GateRefIdeal.Gen.facts,
  Cert.AttnFwd.Gen.facts, Cert.AttnFwdIdeal.Gen.facts, Cert.AttnFwdRefIdeal.Gen.facts,
  Cert.Uq.Gen.facts, Cert.UqIdeal.Gen.facts, Cert.UqRefIdeal.Gen.facts,
  Cert.UqDw.Gen.facts, Cert.UqDwIdeal.Gen.facts, Cert.UqDwRefIdeal.Gen.facts,
  Cert.UqDx.Gen.facts, Cert.UqDxIdeal.Gen.facts, Cert.UqDxRefIdeal.Gen.facts,
  Cert.Ukv.Gen.facts, Cert.UkvIdeal.Gen.facts, Cert.UkvRefIdeal.Gen.facts,
  Cert.UkvDw.Gen.facts, Cert.UkvDwIdeal.Gen.facts, Cert.UkvDwRefIdeal.Gen.facts,
  Cert.UkvDx.Gen.facts, Cert.UkvDxIdeal.Gen.facts, Cert.UkvDxRefIdeal.Gen.facts,
  Cert.MlaDx.Gen.facts, Cert.MlaDxIdeal.Gen.facts, Cert.MlaDxRefIdeal.Gen.facts,
  Cert.Out.Gen.facts, Cert.OutIdeal.Gen.facts, Cert.OutRefIdeal.Gen.facts,
  Cert.Ple.Gen.facts, Cert.PleIdeal.Gen.facts, Cert.PleRefIdeal.Gen.facts,
  Cert.PleDw.Gen.facts, Cert.PleDwIdeal.Gen.facts, Cert.PleDwRefIdeal.Gen.facts,
  Cert.Relu.Gen.facts, Cert.ReluIdeal.Gen.facts, Cert.ReluRefIdeal.Gen.facts,
  Cert.ReluBwd.Gen.facts, Cert.ReluBwdIdeal.Gen.facts, Cert.ReluBwdRefIdeal.Gen.facts,
  Cert.Merge.Gen.facts, Cert.MergeIdeal.Gen.facts, Cert.MergeRefIdeal.Gen.facts,
  Cert.MergeBwd.Gen.facts, Cert.MergeBwdIdeal.Gen.facts, Cert.MergeBwdRefIdeal.Gen.facts,
  Cert.PleMerge.Gen.facts, Cert.PleMergeIdeal.Gen.facts, Cert.PleMergeRefIdeal.Gen.facts,
  Cert.PleMergeBwd.Gen.facts, Cert.PleMergeBwdIdeal.Gen.facts, Cert.PleMergeBwdRefIdeal.Gen.facts,
  Cert.Norm.Gen.facts, Cert.NormIdeal.Gen.facts, Cert.NormRefIdeal.Gen.facts,
  Cert.NormBwd.Gen.facts, Cert.NormBwdIdeal.Gen.facts, Cert.NormBwdRefIdeal.Gen.facts,
  Cert.Latent.Gen.facts, Cert.LatentIdeal.Gen.facts, Cert.LatentRefIdeal.Gen.facts,
  Cert.LatentBwd.Gen.facts, Cert.LatentBwdIdeal.Gen.facts, Cert.LatentBwdRefIdeal.Gen.facts,
  Cert.GatedNorm.Gen.facts, Cert.GatedNormIdeal.Gen.facts, Cert.GatedNormRefIdeal.Gen.facts,
  Cert.GatedNormBwd.Gen.facts, Cert.GatedNormBwdIdeal.Gen.facts, Cert.GatedNormBwdRefIdeal.Gen.facts,
  Cert.Conv.Gen.facts, Cert.ConvIdeal.Gen.facts, Cert.ConvRefIdeal.Gen.facts,
  Cert.Loss.Gen.facts, Cert.LossIdeal.Gen.facts, Cert.LossRefIdeal.Gen.facts,
  Cert.Rope.Gen.facts, Cert.RopeIdeal.Gen.facts, Cert.RopeRefIdeal.Gen.facts,
  Cert.Dt.Gen.facts, Cert.DtIdeal.Gen.facts, Cert.DtRefIdeal.Gen.facts,
  Cert.QNorm.Gen.facts, Cert.QNormIdeal.Gen.facts, Cert.QNormRefIdeal.Gen.facts,
  Cert.KNorm.Gen.facts, Cert.KNormIdeal.Gen.facts, Cert.KNormRefIdeal.Gen.facts,
  Cert.AttnProof.facts_finite, Cert.AttnFwdProof.facts_finite,
  Cert.AttnProof.frame_kernel, Cert.AttnProof.frame_ideal, fun m ρ _ => Cert.AttnProof.frame_ideal m ρ trivial,
  Cert.AttnProof.frame_ref, fun m ρ _ => Cert.AttnProof.frame_ref m ρ trivial,
  Cert.UpDwProof.frame_kernel, Cert.UpDwProof.frame_ideal, Cert.UpDwProof.frame_ref,
  Cert.UpDxProof.frame_kernel, Cert.UpDxProof.frame_ideal, Cert.UpDxProof.frame_ref,
  Cert.DownDwProof.frame_kernel, Cert.DownDwProof.frame_ideal, Cert.DownDwProof.frame_ref,
  Cert.DownDxProof.frame_kernel, Cert.DownDxProof.frame_ideal, Cert.DownDxProof.frame_ref,
  Cert.InDwProof.frame_kernel, Cert.InDwProof.frame_ideal, Cert.InDwProof.frame_ref,
  Cert.InDxProof.frame_kernel, Cert.InDxProof.frame_ideal, Cert.InDxProof.frame_ref,
  Cert.SsmDwProof.frame_kernel, Cert.SsmDwProof.frame_ideal, Cert.SsmDwProof.frame_ref,
  Cert.SsmDxProof.frame_kernel, Cert.SsmDxProof.frame_ideal, Cert.SsmDxProof.frame_ref,
  Cert.OutDwProof.frame_kernel, Cert.OutDwProof.frame_ideal, Cert.OutDwProof.frame_ref,
  Cert.OutDxProof.frame_kernel, Cert.OutDxProof.frame_ideal, Cert.OutDxProof.frame_ref,
  Cert.InProof.frame_kernel, Cert.InProof.frame_ideal, Cert.InProof.frame_ref,
  Cert.UpProof.frame_kernel, Cert.UpProof.frame_ideal, Cert.UpProof.frame_ref,
  Cert.DownProof.frame_kernel, Cert.DownProof.frame_ideal, Cert.DownProof.frame_ref,
  Cert.SsmProof.frame_kernel, Cert.SsmProof.frame_ideal, Cert.SsmProof.frame_ref,
  Cert.GateProof.frame_kernel, Cert.GateProof.frame_ideal, Cert.GateProof.frame_ref,
  Cert.AttnFwdProof.frame_kernel, Cert.AttnFwdProof.frame_ideal, fun m ρ _ => Cert.AttnFwdProof.frame_ideal m ρ trivial,
  Cert.AttnFwdProof.frame_ref, fun m ρ _ => Cert.AttnFwdProof.frame_ref m ρ trivial,
  Cert.UqProof.frame_kernel, Cert.UqProof.frame_ideal, Cert.UqProof.frame_ref,
  Cert.UqDwProof.frame_kernel, Cert.UqDwProof.frame_ideal, Cert.UqDwProof.frame_ref,
  Cert.UqDxProof.frame_kernel, Cert.UqDxProof.frame_ideal, Cert.UqDxProof.frame_ref,
  Cert.UkvProof.frame_kernel, Cert.UkvProof.frame_ideal, Cert.UkvProof.frame_ref,
  Cert.UkvDwProof.frame_kernel, Cert.UkvDwProof.frame_ideal, Cert.UkvDwProof.frame_ref,
  Cert.UkvDxProof.frame_kernel, Cert.UkvDxProof.frame_ideal, Cert.UkvDxProof.frame_ref,
  Cert.MlaDxProof.frame_kernel, Cert.MlaDxProof.frame_ideal, Cert.MlaDxProof.frame_ref,
  Cert.OutProof.frame_kernel, Cert.OutProof.frame_ideal, Cert.OutProof.frame_ref,
  Cert.PleProof.frame_kernel, Cert.PleProof.frame_ideal, Cert.PleProof.frame_ref,
  Cert.PleDwProof.frame_kernel, Cert.PleDwProof.frame_ideal, Cert.PleDwProof.frame_ref,
  Cert.ReluProof.frame_kernel, Cert.ReluProof.frame_ideal, Cert.ReluProof.frame_ref,
  Cert.ReluBwdProof.frame_kernel, Cert.ReluBwdProof.frame_ideal, Cert.ReluBwdProof.frame_ref,
  Cert.MergeProof.frame_kernel, Cert.MergeProof.frame_ideal, Cert.MergeProof.frame_ref,
  Cert.MergeBwdProof.frame_kernel, Cert.MergeBwdProof.frame_ideal, Cert.MergeBwdProof.frame_ref,
  Cert.PleMergeProof.frame_kernel, Cert.PleMergeProof.frame_ideal, Cert.PleMergeProof.frame_ref,
  Cert.PleMergeBwdProof.frame_kernel, Cert.PleMergeBwdProof.frame_ideal, Cert.PleMergeBwdProof.frame_ref,
  Cert.NormProof.frame_kernel, Cert.NormProof.frame_ideal, Cert.NormProof.frame_ref,
  Cert.NormBwdProof.frame_kernel, Cert.NormBwdProof.frame_ideal, Cert.NormBwdProof.frame_ref,
  Cert.LatentProof.frame_kernel, Cert.LatentProof.frame_ideal, Cert.LatentProof.frame_ref,
  Cert.LatentBwdProof.frame_kernel, Cert.LatentBwdProof.frame_ideal, Cert.LatentBwdProof.frame_ref,
  Cert.GatedNormProof.frame_kernel, Cert.GatedNormProof.frame_ideal, Cert.GatedNormProof.frame_ref,
  Cert.GatedNormBwdProof.frame_kernel, Cert.GatedNormBwdProof.frame_ideal, Cert.GatedNormBwdProof.frame_ref,
  Cert.ConvProof.frame_kernel, Cert.ConvProof.frame_ideal, Cert.ConvProof.frame_ref,
  Cert.LossProof.frame_kernel, Cert.LossProof.frame_ideal, Cert.LossProof.frame_ref,
  Cert.RopeProof.frame_kernel, Cert.RopeProof.frame_ideal, Cert.RopeProof.frame_ref,
  Cert.DtProof.frame_kernel, Cert.DtProof.frame_ideal, Cert.DtProof.frame_ref,
  Cert.QNormProof.frame_kernel, Cert.QNormProof.frame_ideal, Cert.QNormProof.frame_ref,
  Cert.KNormProof.frame_kernel, Cert.KNormProof.frame_ideal, Cert.KNormProof.frame_ref,
  trivial, Cert.AttnProof.algebraic,
  trivial, Cert.UpDwProof.algebraic, trivial, Cert.UpDxProof.algebraic,
  trivial, Cert.DownDwProof.algebraic, trivial, Cert.DownDxProof.algebraic,
  trivial, Cert.InDwProof.algebraic, trivial, Cert.InDxProof.algebraic,
  trivial, Cert.SsmDwProof.algebraic, trivial, Cert.SsmDxProof.algebraic,
  trivial, Cert.OutDwProof.algebraic, trivial, Cert.OutDxProof.algebraic,
  trivial, Cert.InProof.algebraic, trivial, Cert.UpProof.algebraic,
  trivial, Cert.DownProof.algebraic, trivial, Cert.SsmProof.algebraic, trivial, Cert.GateProof.algebraic,
  trivial, Cert.AttnFwdProof.algebraic,
  trivial, Cert.UqProof.algebraic, trivial, Cert.UqDwProof.algebraic,
  trivial, Cert.UqDxProof.algebraic, trivial, Cert.UkvProof.algebraic,
  trivial, Cert.UkvDwProof.algebraic, trivial, Cert.UkvDxProof.algebraic,
  trivial, Cert.MlaDxProof.algebraic, trivial, Cert.OutProof.algebraic,
  trivial, Cert.PleProof.algebraic, trivial, Cert.PleDwProof.algebraic,
  trivial, Cert.ReluProof.algebraic, trivial, Cert.ReluBwdProof.algebraic,
  trivial, Cert.MergeProof.algebraic, trivial, Cert.MergeBwdProof.algebraic,
  trivial, Cert.PleMergeProof.algebraic, trivial, Cert.PleMergeBwdProof.algebraic,
  trivial, Cert.NormProof.algebraic, trivial, Cert.NormBwdProof.algebraic,
  trivial, Cert.LatentProof.algebraic, trivial, Cert.LatentBwdProof.algebraic,
  trivial, Cert.GatedNormProof.algebraic, trivial, Cert.GatedNormBwdProof.algebraic,
  trivial, Cert.ConvProof.algebraic, trivial, Cert.LossProof.algebraic,
  trivial, Cert.RopeProof.algebraic, trivial, Cert.DtProof.algebraic,
  trivial, Cert.QNormProof.algebraic, trivial, Cert.KNormProof.algebraic⟩

end Cert.Proof

end
